-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v9_0)) (v1 : (c : Dev Cert.EvenInIdeal.nD) → Buf (Elt Ideal) ((c.tc : Thread Cert.EvenInIdeal.nD Cert.EvenInIdeal.τ).loc Cert.EvenInIdeal.main_v9_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v9_0) = v0 c
          ∧ r.2.mem ((c.tc : Thread Cert.EvenInIdeal.nD Cert.EvenInIdeal.τ).loc Cert.EvenInIdeal.main_v9_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v22) = v0 c
          ∧ r.2.mem ((c.tc : Thread Cert.EvenInRefIdeal.nD Cert.EvenInRefIdeal.τ).loc Cert.EvenInRefIdeal.main_v24) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v9_0)) (v1 : (c : Dev Cert.OddInIdeal.nD) → Buf (Elt Ideal) ((c.tc : Thread Cert.OddInIdeal.nD Cert.OddInIdeal.τ).loc Cert.OddInIdeal.main_v9_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v9_0) = v0 c
          ∧ r.2.mem ((c.tc : Thread Cert.OddInIdeal.nD Cert.OddInIdeal.τ).loc Cert.OddInIdeal.main_v9_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v22) = v0 c
          ∧ r.2.mem ((c.tc : Thread Cert.OddInRefIdeal.nD Cert.OddInRefIdeal.τ).loc Cert.OddInRefIdeal.main_v24) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v4)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v4) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v7) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v6) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v6)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v6) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v75) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v23_0)) (v1 : (c : Dev Cert.PrepIdeal.nD) → Buf (Elt Ideal) ((c.tc : Thread Cert.PrepIdeal.nD Cert.PrepIdeal.τ).loc Cert.PrepIdeal.main_v23_1)) (v2 : (c : Dev Cert.PrepIdeal.nD) → Buf (Elt Ideal) ((c.tc : Thread Cert.PrepIdeal.nD Cert.PrepIdeal.τ).loc Cert.PrepIdeal.main_v23_2)) (v3 : (c : Dev Cert.PrepIdeal.nD) → Buf (Elt Ideal) ((c.tc : Thread Cert.PrepIdeal.nD Cert.PrepIdeal.τ).loc Cert.PrepIdeal.main_v23_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v23_0) = v0 c
          ∧ r.2.mem ((c.tc : Thread Cert.PrepIdeal.nD Cert.PrepIdeal.τ).loc Cert.PrepIdeal.main_v23_1) = v1 c
          ∧ r.2.mem ((c.tc : Thread Cert.PrepIdeal.nD Cert.PrepIdeal.τ).loc Cert.PrepIdeal.main_v23_2) = v2 c
          ∧ r.2.mem ((c.tc : Thread Cert.PrepIdeal.nD Cert.PrepIdeal.τ).loc Cert.PrepIdeal.main_v23_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v48) = v0 c
          ∧ r.2.mem ((c.tc : Thread Cert.PrepRefIdeal.nD Cert.PrepRefIdeal.τ).loc Cert.PrepRefIdeal.main_v50) = v1 c
          ∧ r.2.mem ((c.tc : Thread Cert.PrepRefIdeal.nD Cert.PrepRefIdeal.τ).loc Cert.PrepRefIdeal.main_v53) = v2 c
          ∧ r.2.mem ((c.tc : Thread Cert.PrepRefIdeal.nD Cert.PrepRefIdeal.τ).loc Cert.PrepRefIdeal.main_v54) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hAda : Cert.Ada.Facts) (hAdaIdeal : Cert.AdaIdeal.Facts) (hAdaRefIdeal : Cert.AdaRefIdeal.Facts) (hGla : Cert.Gla.Facts) (hGlaIdeal : Cert.GlaIdeal.Facts) (hGlaRefIdeal : Cert.GlaRefIdeal.Facts) (hPrep : Cert.Prep.Facts) (hPrepIdeal : Cert.PrepIdeal.Facts) (hPrepRefIdeal : Cert.PrepRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Ada (hAda := hAda)
    ∧ quiescent_AdaIdeal (hAdaIdeal := hAdaIdeal)
    ∧ quiescent_AdaRefIdeal (hAdaRefIdeal := hAdaRefIdeal)
    ∧ quiescent_Gla (hGla := hGla)
    ∧ quiescent_GlaIdeal (hGlaIdeal := hGlaIdeal)
    ∧ quiescent_GlaRefIdeal (hGlaRefIdeal := hGlaRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Ada_AdaIdeal
    ∧ algebraic_AdaIdeal_AdaRefIdeal (hAdaIdeal := hAdaIdeal) (hAdaRefIdeal := hAdaRefIdeal)
    ∧ preserves_Gla_GlaIdeal
    ∧ algebraic_GlaIdeal_GlaRefIdeal (hGlaIdeal := hGlaIdeal) (hGlaRefIdeal := hGlaRefIdeal)
    ∧ preserves_Prep_PrepIdeal
    ∧ algebraic_PrepIdeal_PrepRefIdeal (hPrepIdeal := hPrepIdeal) (hPrepRefIdeal := hPrepRefIdeal)
-- ==== Pre_finite.lean ====
abbrev S8x16x512x256 : Shape := ⟨4, ![8, 16, 512, 256]⟩
abbrev S32768x512 : Shape := ⟨2, ![32768, 512]⟩
abbrev S32768x128 : Shape := ⟨2, ![32768, 128]⟩
abbrev S_ : Shape := ⟨0, ![]⟩
abbrev S32768x8 : Shape := ⟨2, ![32768, 8]⟩

class Facts : Prop where
  bitsLt_bf16_f32 : FTy.bits .bf16 < FTy.bits .f32
  bcast_S_S8x16x512x256 : S_.BroadcastsInDim S8x16x512x256 (![] : Fin 0 → Fin S8x16x512x256.rank)
  bcast_S_S32768x512 : S_.BroadcastsInDim S32768x512 (![] : Fin 0 → Fin S32768x512.rank)
  slices_S32768x128_S32768x8_0_0 : S32768x128.Slices ![0, 0] S32768x8
  bcast_S_S32768x8 : S_.BroadcastsInDim S32768x8 (![] : Fin 0 → Fin S32768x8.rank)

variable [Facts]

def fn {F : FTy → Type} [FloatOps F] (main_arg0 : FVec F S8x16x512x256 .bf16) (main_arg1 : FVec F S32768x512 .bf16) (main_arg2 : FVec F S8x16x512x256 .bf16) (main_arg3 : FVec F S32768x128 .f32) : IVec S8x16x512x256 1 × IVec S32768x512 1 × IVec S32768x8 1 :=
  let main_v0 : FVec F S8x16x512x256 .f32 := (extf .f32 · bitsLt_bf16_f32) main_arg0
  let main_v1 : FVec F S8x16x512x256 .f32 := Host.absf main_v0
  let main_cst : FVec F S_ .f32 := constant S_ .f32 0x7F800000#32
  let main_v2 : FVec F S8x16x512x256 .f32 := broadcastInDim S8x16x512x256 ![] bcast_S_S8x16x512x256 main_cst
  let main_v3 : IVec S8x16x512x256 1 := cmpf .olt main_v1 main_v2
  let main_v4 : FVec F S32768x512 .f32 := (extf .f32 · bitsLt_bf16_f32) main_arg1
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  let main_v8 : FVec F S32768x8 .f32 := (extractStridedSlice S32768x8 ![0, 0] · slices_S32768x128_S32768x8_0_0) main_arg3
  let main_v9 : FVec F S32768x8 .f32 := Host.absf main_v8
  let main_cst_1 : FVec F S_ .f32 := constant S_ .f32 0x7F800000#32
  let main_v10 : FVec F S32768x8 .f32 := broadcastInDim S32768x8 ![] bcast_S_S32768x8 main_cst_1
  let main_v11 : IVec S32768x8 1 := cmpf .olt main_v9 main_v10
  (main_v3, main_v7, main_v11)
-- ==== Kernel.lean ====
abbrev S8x16x512x256 : Shape := ⟨4, ![8, 16, 512, 256]⟩
abbrev S32768x512 : Shape := ⟨2, ![32768, 512]⟩
abbrev S32768x128 : Shape := ⟨2, ![32768, 128]⟩
abbrev S1x1x512x256 : Shape := ⟨4, ![1, 1, 512, 256]⟩
abbrev S4096x512 : Shape := ⟨2, ![4096, 512]⟩
abbrev S1x16x512x256 : Shape := ⟨4, ![1, 16, 512, 256]⟩
abbrev S4096x128 : Shape := ⟨2, ![4096, 128]⟩
abbrev S256x512 : Shape := ⟨2, ![256, 512]⟩
abbrev S8x128x256 : Shape := ⟨3, ![8, 128, 256]⟩
abbrev S8x256x256 : Shape := ⟨3, ![8, 256, 256]⟩
abbrev S8x8x256 : Shape := ⟨3, ![8, 8, 256]⟩
abbrev S8x64x256 : Shape := ⟨3, ![8, 64, 256]⟩
abbrev S128x256 : Shape := ⟨2, ![128, 256]⟩
abbrev S256x256 : Shape := ⟨2, ![256, 256]⟩
abbrev S1x1x128x256 : Shape := ⟨4, ![1, 1, 128, 256]⟩
abbrev S1x128x256 : Shape := ⟨3, ![1, 128, 256]⟩
abbrev S256x128 : Shape := ⟨2, ![256, 128]⟩
abbrev S1x256x256 : Shape := ⟨3, ![1, 256, 256]⟩
abbrev S1x1x64x256 : Shape := ⟨4, ![1, 1, 64, 256]⟩
abbrev S64x256 : Shape := ⟨2, ![64, 256]⟩
abbrev S256x1 : Shape := ⟨2, ![256, 1]⟩
abbrev S1x8x256 : Shape := ⟨3, ![1, 8, 256]⟩
abbrev S8x256 : Shape := ⟨2, ![8, 256]⟩
abbrev S1x256 : Shape := ⟨2, ![1, 256]⟩
abbrev S256 : Shape := ⟨1, ![256]⟩
abbrev S1x64x256 : Shape := ⟨3, ![1, 64, 256]⟩

abbrev nBuf : Space → Nat
  | .hbm => 5
  | .vmem => 15
  | .smem => 0
  | _ => 0

abbrev bufTy : (tb : Table) → Fin (tcTables nBuf tb) → BufTy
  | .hbm, ⟨0, _⟩ => ⟨S8x16x512x256, .bf16⟩
  | .hbm, ⟨1, _⟩ => ⟨S32768x512, .bf16⟩
  | .hbm, ⟨2, _⟩ => ⟨S8x16x512x256, .bf16⟩
  | .hbm, ⟨3, _⟩ => ⟨S32768x128, .f32⟩
  | .hbm, ⟨4, _⟩ => ⟨S32768x512, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S4096x512, .bf16⟩
  | .local _ .vmem, ⟨3, _⟩ => ⟨S4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S4096x128, .f32⟩
  | .local _ .vmem, ⟨7, _⟩ => ⟨S4096x128, .f32⟩
  | .local _ .vmem, ⟨8, _⟩ => ⟨S256x512, .bf16⟩
  | .local _ .vmem, ⟨9, _⟩ => ⟨S256x512, .bf16⟩
  | .local _ .vmem, ⟨10, _⟩ => ⟨S8x128x256, .bf16⟩
  | .local _ .vmem, ⟨11, _⟩ => ⟨S8x256x256, .f32⟩
  | .local _ .vmem, ⟨12, _⟩ => ⟨S8x8x256, .f32⟩
  | .local _ .vmem, ⟨13, _⟩ => ⟨S8x8x256, .f32⟩
  | .local _ .vmem, ⟨14, _⟩ => ⟨S8x64x256, .f32⟩
  | _, _ => ⟨S8x16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_79 : BitVec 32 := 1#32
  ⟨c0_i32_78, v115, c1_i32_79⟩
def k0_mult1 (i : grid0.Coords) (k0_t1 : Fin (k0_t1_loop i).trips) : BitVec 32 :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  v648
def k0_off1 (i : grid0.Coords) (k0_t1 : Fin (k0_t1_loop i).trips) : Fin 2 → Nat :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  let v649 : BitVec 32 := v648
  let v650 : Index := Scalar.indexCast v649
  let c0_423 : Index := 0#32
  ![v650.toNat, 0]
def k0_off2 (i : grid0.Coords) (k0_t1 : Fin (k0_t1_loop i).trips) : Fin 2 → Nat :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  let v649 : BitVec 32 := v648
  let v652 : Index := Scalar.indexCast v649
  let c0_424 : Index := 0#32
  ![v652.toNat, 0]
def k0_off3 (i : grid0.Coords) (k0_t1 : Fin (k0_t1_loop i).trips) : Fin 2 → Nat :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  let v649 : BitVec 32 := v648
  let v668 : Index := Scalar.indexCast v649
  let c128_440 : Index := 128#32
  ![v668.toNat, 128]
def k0_off4 (i : grid0.Coords) (k0_t1 : Fin (k0_t1_loop i).trips) : Fin 2 → Nat :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  let v649 : BitVec 32 := v648
  let v684 : Index := Scalar.indexCast v649
  let c256_456 : Index := 256#32
  ![v684.toNat, 256]
def k0_off5 (i : grid0.Coords) (k0_t1 : Fin (k0_t1_loop i).trips) : Fin 2 → Nat :=
  let c0_i32_78 : BitVec 32 := 0#32
  let c1_i32_79 : BitVec 32 := 1#32
  let arg12 : BitVec 32 := Scf.iv c0_i32_78 c1_i32_79 k0_t1
  let c256_i32_422 : BitVec 32 := 256#32
  let v648 : BitVec 32 := Scalar.muli arg12 c256_i32_422
  let v649 : BitVec 32 := v648
  let v700 : Index := Scalar.indexCast v649
  let c384_472 : Index := 384#32
  ![v700.toNat, 384]
def k0_off6 (i : grid0.Coords) (k0_t1 : Fin (k0_t1_loop i).trips) : Fin 4 → Nat :=
  let c0_488 : Index := 0#32
  let c0_i32_78 : BitVec 32 := 0#32
  let c1_i32_79 : BitVec 32 := 1#32
  let arg12 : BitVec 32 := Scf.iv c0_i32_78 c1_i32_79 k0_t1
  let v716 : Index := Scalar.indexCast arg12
  let c0_489 : Index := 0#32
  let c0_490 : Index := 0#32
  ![0, v716.toNat, 0, 0]
def k0_off7 (i : grid0.Coords) (k0_t1 : Fin (k0_t1_loop i).trips) : Fin 4 → Nat :=
  let c0_515 : Index := 0#32
  let c0_i32_78 : BitVec 32 := 0#32
  let c1_i32_79 : BitVec 32 := 1#32
  let arg12 : BitVec 32 := Scf.iv c0_i32_78 c1_i32_79 k0_t1
  let v762 : Index := Scalar.indexCast arg12
  let c64_516 : Index := 64#32
  let c0_517 : Index := 0#32
  ![0, v762.toNat, 64, 0]
def k0_off8 (i : grid0.Coords) (k0_t1 : Fin (k0_t1_loop i).trips) : Fin 4 → Nat :=
  let c0_542 : Index := 0#32
  let c0_i32_78 : BitVec 32 := 0#32
  let c1_i32_79 : BitVec 32 := 1#32
  let arg12 : BitVec 32 := Scf.iv c0_i32_78 c1_i32_79 k0_t1
  let v808 : Index := Scalar.indexCast arg12
  let c128_543 : Index := 128#32
  let c0_544 : Index := 0#32
  ![0, v808.toNat, 128, 0]
def k0_off9 (i : grid0.Coords) (k0_t1 : Fin (k0_t1_loop i).trips) : Fin 4 → Nat :=
  let c0_569 : Index := 0#32
  let c0_i32_78 : BitVec 32 := 0#32
  let c1_i32_79 : BitVec 32 := 1#32
  let arg12 : BitVec 32 := Scf.iv c0_i32_78 c1_i32_79 k0_t1
  let v854 : Index := Scalar.indexCast arg12
  let c192_570 : Index := 192#32
  let c0_571 : Index := 0#32
  ![0, v854.toNat, 192, 0]
def k0_off10 (i : grid0.Coords) (k0_t1 : Fin (k0_t1_loop i).trips) : Fin 4 → Nat :=
  let c0_596 : Index := 0#32
  let c0_i32_78 : BitVec 32 := 0#32
  let c1_i32_79 : BitVec 32 := 1#32
  let arg12 : BitVec 32 := Scf.iv c0_i32_78 c1_i32_79 k0_t1
  let v900 : Index := Scalar.indexCast arg12
  let c256_597 : Index := 256#32
  let c0_598 : Index := 0#32
  ![0, v900.toNat, 256, 0]
def k0_off11 (i : grid0.Coords) (k0_t1 : Fin (k0_t1_loop i).trips) : Fin 4 → Nat :=
  let c0_623 : Index := 0#32
  let c0_i32_78 : BitVec 32 := 0#32
  let c1_i32_79 : BitVec 32 := 1#32
  let arg12 : BitVec 32 := Scf.iv c0_i32_78 c1_i32_79 k0_t1
  let v946 : Index := Scalar.indexCast arg12
  let c320_624 : Index := 320#32
  let c0_625 : Index := 0#32
  ![0, v946.toNat, 320, 0]
def k0_off12 (i : grid0.Coords) (k0_t1 : Fin (k0_t1_loop i).trips) : Fin 4 → Nat :=
  let c0_650 : Index := 0#32
  let c0_i32_78 : BitVec 32 := 0#32
  let c1_i32_79 : BitVec 32 := 1#32
  let arg12 : BitVec 32 := Scf.iv c0_i32_78 c1_i32_79 k0_t1
  let v992 : Index := Scalar.indexCast arg12
  let c384_651 : Index := 384#32
  let c0_652 : Index := 0#32
  ![0, v992.toNat, 384, 0]
def k0_off13 (i : grid0.Coords) (k0_t1 : Fin (k0_t1_loop i).trips) : Fin 4 → Nat :=
  let c0_677 : Index := 0#32
  let c0_i32_78 : BitVec 32 := 0#32
  let c1_i32_79 : BitVec 32 := 1#32
  let arg12 : BitVec 32 := Scf.iv c0_i32_78 c1_i32_79 k0_t1
  let v1038 : Index := Scalar.indexCast arg12
  let c448_678 : Index := 448#32
  let c0_679 : Index := 0#32
  ![0, v1038.toNat, 448, 0]
@[reducible] def k0_t2_loop (i : grid0.Coords) : Scf.Loop 32 :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let v112 : BitVec 32 := Scalar.addi c0_i32_78 v111
  let c1_i32_80 : BitVec 32 := 1#32
  ⟨v115, v112, c1_i32_80⟩
def k0_mult2 (i : grid0.Coords) (k0_t2 : Fin (k0_t2_loop i).trips) : BitVec 32 :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  v648
def k0_off14 (i : grid0.Coords) (k0_t2 : Fin (k0_t2_loop i).trips) : Fin 2 → Nat :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  let v649 : BitVec 32 := v648
  let v650 : Index := Scalar.indexCast v649
  let c0_423 : Index := 0#32
  ![v650.toNat, 0]
def k0_off15 (i : grid0.Coords) (k0_t2 : Fin (k0_t2_loop i).trips) : Fin 2 → Nat :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  let v649 : BitVec 32 := v648
  let v652 : Index := Scalar.indexCast v649
  let c0_424 : Index := 0#32
  ![v652.toNat, 0]
def k0_off16 (i : grid0.Coords) (k0_t2 : Fin (k0_t2_loop i).trips) : Fin 2 → Nat :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  let v649 : BitVec 32 := v648
  let v668 : Index := Scalar.indexCast v649
  let c128_440 : Index := 128#32
  ![v668.toNat, 128]
def k0_off17 (i : grid0.Coords) (k0_t2 : Fin (k0_t2_loop i).trips) : Fin 2 → Nat :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  let v649 : BitVec 32 := v648
  let v684 : Index := Scalar.indexCast v649
  let c256_456 : Index := 256#32
  ![v684.toNat, 256]
def k0_off18 (i : grid0.Coords) (k0_t2 : Fin (k0_t2_loop i).trips) : Fin 2 → Nat :=
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let c256_i32_422 : BitVec 32 := 256#32
  let v648 : BitVec 32 := Scalar.muli arg12 c256_i32_422
  let v649 : BitVec 32 := v648
  let v700 : Index := Scalar.indexCast v649
  let c384_472 : Index := 384#32
  ![v700.toNat, 384]
def k0_off19 (i : grid0.Coords) (k0_t2 : Fin (k0_t2_loop i).trips) : Fin 4 → Nat :=
  let c0_488 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v716 : Index := Scalar.indexCast arg12
  let c0_489 : Index := 0#32
  let c0_490 : Index := 0#32
  ![0, v716.toNat, 0, 0]
def k0_off20 (i : grid0.Coords) (k0_t2 : Fin (k0_t2_loop i).trips) : Fin 4 → Nat :=
  let c0_515 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v762 : Index := Scalar.indexCast arg12
  let c64_516 : Index := 64#32
  let c0_517 : Index := 0#32
  ![0, v762.toNat, 64, 0]
def k0_off21 (i : grid0.Coords) (k0_t2 : Fin (k0_t2_loop i).trips) : Fin 4 → Nat :=
  let c0_542 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v808 : Index := Scalar.indexCast arg12
  let c128_543 : Index := 128#32
  let c0_544 : Index := 0#32
  ![0, v808.toNat, 128, 0]
def k0_off22 (i : grid0.Coords) (k0_t2 : Fin (k0_t2_loop i).trips) : Fin 4 → Nat :=
  let c0_569 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v854 : Index := Scalar.indexCast arg12
  let c192_570 : Index := 192#32
  let c0_571 : Index := 0#32
  ![0, v854.toNat, 192, 0]
def k0_off23 (i : grid0.Coords) (k0_t2 : Fin (k0_t2_loop i).trips) : Fin 4 → Nat :=
  let c0_596 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v900 : Index := Scalar.indexCast arg12
  let c256_597 : Index := 256#32
  let c0_598 : Index := 0#32
  ![0, v900.toNat, 256, 0]
def k0_off24 (i : grid0.Coords) (k0_t2 : Fin (k0_t2_loop i).trips) : Fin 4 → Nat :=
  let c0_623 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v946 : Index := Scalar.indexCast arg12
  let c320_624 : Index := 320#32
  let c0_625 : Index := 0#32
  ![0, v946.toNat, 320, 0]
def k0_off25 (i : grid0.Coords) (k0_t2 : Fin (k0_t2_loop i).trips) : Fin 4 → Nat :=
  let c0_650 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v992 : Index := Scalar.indexCast arg12
  let c384_651 : Index := 384#32
  let c0_652 : Index := 0#32
  ![0, v992.toNat, 384, 0]
def k0_off26 (i : grid0.Coords) (k0_t2 : Fin (k0_t2_loop i).trips) : Fin 4 → Nat :=
  let c0_677 : Index := 0#32
  let c0_i32_78 : BitVec 32 := 0#32
  let arg1 : BitVec 32 := BitVec.ofNat 32 (i 1).val
  let v111 : BitVec 32 := Scalar.subi arg1 c0_i32_78
  let c1_i32 : BitVec 32 := 1#32
  let v113 : BitVec 32 := Scalar.divsi v111 c1_i32
  let v114 : BitVec 32 := Scalar.muli v113 c1_i32
  let v115 : BitVec 32 := Scalar.addi c0_i32_78 v114
  let c1_i32_80 : BitVec 32 := 1#32
  let arg12 : BitVec 32 := Scf.iv v115 c1_i32_80 k0_t2
  let v1038 : Index := Scalar.indexCast arg12
  let c448_678 : Index := 448#32
  let c0_679 : Index := 0#32
  ![0, v1038.toNat, 448, 0]
def k0_mult3 (i : grid0.Coords) : BitVec 32 :=
  let arg1 : BitVec 32 := BitVec.ofNat 32 (i 1).val
  let c256_i32 : BitVec 32 := 256#32
  let v116 : BitVec 32 := Scalar.muli arg1 c256_i32
  v116
def k0_off27 (i : grid0.Coords) : Fin 2 → Nat :=
  let arg1 : BitVec 32 := BitVec.ofNat 32 (i 1).val
  let c256_i32 : BitVec 32 := 256#32
  let v116 : BitVec 32 := Scalar.muli arg1 c256_i32
  let v117 : BitVec 32 := v116
  let v118 : Index := Scalar.indexCast v117
  let c0_81 : Index := 0#32
  ![v118.toNat, 0]
def k0_off28 (i : grid0.Coords) : Fin 2 → Nat :=
  let arg1 : BitVec 32 := BitVec.ofNat 32 (i 1).val
  let c256_i32 : BitVec 32 := 256#32
  let v116 : BitVec 32 := Scalar.muli arg1 c256_i32
  let v117 : BitVec 32 := v116
  let v120 : Index := Scalar.indexCast v117
  let c0_82 : Index := 0#32
  ![v120.toNat, 0]
def k0_off29 (i : grid0.Coords) : Fin 2 → Nat :=
  let arg1 : BitVec 32 := BitVec.ofNat 32 (i 1).val
  let c256_i32 : BitVec 32 := 256#32
  let v116 : BitVec 32 := Scalar.muli arg1 c256_i32
  let v117 : BitVec 32 := v116
  let v136 : Index := Scalar.indexCast v117
  let c128_98 : Index := 128#32
  ![v136.toNat, 128]
def k0_off30 (i : grid0.Coords) : Fin 2 → Nat :=
  let arg1 : BitVec 32 := BitVec.ofNat 32 (i 1).val
  let c256_i32 : BitVec 32 := 256#32
  let v116 : BitVec 32 := Scalar.muli arg1 c256_i32
  let v117 : BitVec 32 := v116
  let v152 : Index := Scalar.indexCast v117
  let c256_114 : Index := 256#32
  ![v152.toNat, 256]
def k0_off31 (i : grid0.Coords) : Fin 2 → Nat :=
  let arg1 : BitVec 32 := BitVec.ofNat 32 (i 1).val
  let c256_i32 : BitVec 32 := 256#32
  let v116 : BitVec 32 := Scalar.muli arg1 c256_i32
  let v117 : BitVec 32 := v116
  let v168 : Index := Scalar.indexCast v117
  let c384_130 : Index := 384#32
  ![v168.toNat, 384]
def k0_off32 (i : grid0.Coords) : Fin 4 → Nat :=
  let c0_146 : Index := 0#32
  let arg1 : BitVec 32 := BitVec.ofNat 32 (i 1).val
  let v184 : Index := Scalar.indexCast arg1
  let c0_147 : Index := 0#32
  let c0_148 : Index := 0#32
  ![0, v184.toNat, 0, 0]
def k0_off33 (i : grid0.Coords) : Fin 4 → Nat :=
  let c0_174 : Index := 0#32
  let arg1 : BitVec 32 := BitVec.ofNat 32 (i 1).val
  let v233 : Index := Scalar.indexCast arg1
  let c64 : Index := 64#32
  let c0_175 : Index := 0#32
  ![0, v233.toNat, 64, 0]
def k0_off34 (i : grid0.Coords) : Fin 4 → Nat :=
  let c0_201 : Index := 0#32
  let arg1 : BitVec 32 := BitVec.ofNat 32 (i 1).val
  let v282 : Index := Scalar.indexCast arg1
  let c128_202 : Index := 128#32
  let c0_203 : Index := 0#32
  ![0, v282.toNat, 128, 0]
def k0_off35 (i : grid0.Coords) : Fin 4 → Nat :=
  let c0_229 : Index := 0#32
  let arg1 : BitVec 32 := BitVec.ofNat 32 (i 1).val
  let v331 : Index := Scalar.indexCast arg1
  let c192 : Index := 192#32
  let c0_230 : Index := 0#32
  ![0, v331.toNat, 192, 0]
def k0_off36 (i : grid0.Coords) : Fin 4 → Nat :=
  let c0_256 : Index := 0#32
  let arg1 : BitVec 32 := BitVec.ofNat 32 (i 1).val
  let v380 : Index := Scalar.indexCast arg1
  let c256_257 : Index := 256#32
  let c0_258 : Index := 0#32
  ![0, v380.toNat, 256, 0]
def k0_off37 (i : grid0.Coords) : Fin 4 → Nat :=
  let c0_284 : Index := 0#32
  let arg1 : BitVec 32 := BitVec.ofNat 32 (i 1).val
  let v429 : Index := Scalar.indexCast arg1
  let c320 : Index := 320#32
  let c0_285 : Index := 0#32
  ![0, v429.toNat, 320, 0]
def k0_off38 (i : grid0.Coords) : Fin 4 → Nat :=
  let c0_311 : Index := 0#32
  let arg1 : BitVec 32 := BitVec.ofNat 32 (i 1).val
  let v478 : Index := Scalar.indexCast arg1
  let c384_312 : Index := 384#32
  let c0_313 : Index := 0#32
  ![0, v478.toNat, 384, 0]
def k0_off39 (i : grid0.Coords) : Fin 4 → Nat :=
  let c0_339 : Index := 0#32
  let arg1 : BitVec 32 := BitVec.ofNat 32 (i 1).val
  let v527 : Index := Scalar.indexCast arg1
  let c448 : Index := 448#32
  let c0_340 : Index := 0#32
  ![0, v527.toNat, 448, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16x512x256 : Shape := ⟨4, ![8, 16, 512, 256]⟩
abbrev S32768x512 : Shape := ⟨2, ![32768, 512]⟩
abbrev S32768x128 : Shape := ⟨2, ![32768, 128]⟩
abbrev S8x16x8x64x256 : Shape := ⟨5, ![8, 16, 8, 64, 256]⟩
abbrev S8x8x16x256x64 : Shape := ⟨5, ![8, 8, 16, 256, 64]⟩
abbrev S8x8x4096x64 : Shape := ⟨4, ![8, 8, 4096, 64]⟩
abbrev S8x4096x8x64 : Shape := ⟨4, ![8, 4096, 8, 64]⟩
abbrev S32768x8 : Shape := ⟨2, ![32768, 8]⟩
abbrev S8x4096x8 : Shape := ⟨3, ![8, 4096, 8]⟩
abbrev S8x8x4096 : Shape := ⟨3, ![8, 8, 4096]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096x4096 : Shape := ⟨2, ![4096, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x16x512x256, .bf16⟩
  | .hbm, ⟨1, _⟩ => ⟨S32768x512, .bf16⟩
  | .hbm, ⟨2, _⟩ => ⟨S8x16x512x256, .bf16⟩
  | .hbm, ⟨3, _⟩ => ⟨S32768x128, .f32⟩
  | .hbm, ⟨4, _⟩ => ⟨S8x16x512x256, .f32⟩
  | .hbm, ⟨5, _⟩ => ⟨S8x16x8x64x256, .f32⟩
  | .hbm, ⟨6, _⟩ => ⟨S8x8x16x256x64, .f32⟩
  | .hbm, ⟨7, _⟩ => ⟨S8x8x4096x64, .f32⟩
  | .hbm, ⟨8, _⟩ => ⟨S8x16x512x256, .f32⟩
  | .hbm, ⟨9, _⟩ => ⟨S8x16x8x64x256, .f32⟩
  | .hbm, ⟨10, _⟩ => ⟨S8x8x16x256x64, .f32⟩
  | .hbm, ⟨11, _⟩ => ⟨S8x8x4096x64, .f32⟩
  | .hbm, ⟨12, _⟩ => ⟨S32768x512, .f32⟩
  | .hbm, ⟨13, _⟩ => ⟨S8x4096x8x64, .f32⟩
  | .hbm, ⟨14, _⟩ => ⟨S8x8x4096x64, .f32⟩
  | .hbm, ⟨15, _⟩ => ⟨S32768x8, .f32⟩
  | .hbm, ⟨16, _⟩ => ⟨S8x4096x8, .f32⟩
  | .hbm, ⟨17, _⟩ => ⟨S8x8x4096, .f32⟩
  | .hbm, ⟨18, _⟩ => ⟨S8x8x4096x4096, .f32⟩
  | .hbm, ⟨19, _⟩ => ⟨S8x8x4096x1, .f32⟩
  | .hbm, ⟨20, _⟩ => ⟨S8x8x1x4096, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x8x4096x4096, .i1⟩
  | .hbm, ⟨31, _⟩ => ⟨S8x8x4096x4096, .f32⟩
  | .hbm, ⟨32, _⟩ => ⟨S8x8x4096x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8x4096, .f32⟩
  | .hbm, ⟨37, _⟩ => ⟨S8x8x4096x1, .f32⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S8x8x4096, .f32⟩
  | .hbm, ⟨45, _⟩ => ⟨S8x8x4096x1, .f32⟩
  | .hbm, ⟨46, _⟩ => ⟨S8x8x4096x4096, .f32⟩
  | .hbm, ⟨47, _⟩ => ⟨S8x8x4096x4096, .f32⟩
  | .hbm, ⟨48, _⟩ => ⟨S8x8x4096x64, .f32⟩
  | .hbm, ⟨49, _⟩ => ⟨S8x4096x8x64, .f32⟩
  | .hbm, ⟨50, _⟩ => ⟨S32768x512, .f32⟩
  | .hbm, ⟨51, _⟩ => ⟨S32768x512, .bf16⟩
  | _, _ => ⟨S8x16x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== EvenIn.lean ====
abbrev S8x4096x1024 : Shape := ⟨3, ![8, 4096, 1024]⟩
abbrev S1024 : Shape := ⟨1, ![1024]⟩
abbrev S8x1x1024 : Shape := ⟨3, ![8, 1, 1024]⟩
abbrev S1024x2568 : Shape := ⟨2, ![1024, 2568]⟩
abbrev S32768x1024 : Shape := ⟨2, ![32768, 1024]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x1024 : Shape := ⟨2, ![1, 1024]⟩
abbrev S1024x2560 : Shape := ⟨2, ![1024, 2560]⟩
abbrev S32768x2560 : Shape := ⟨2, ![32768, 2560]⟩
abbrev S32768x128 : Shape := ⟨2, ![32768, 128]⟩
abbrev S512x1024 : Shape := ⟨2, ![512, 1024]⟩
abbrev S1x1x1024 : Shape := ⟨3, ![1, 1, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 18
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2568, .f32⟩
  | .hbm, ⟨5, _⟩ => ⟨S32768x1024, .f32⟩
  | .hbm, ⟨6, _⟩ => ⟨S_, .f32⟩
  | .hbm, ⟨7, _⟩ => ⟨S1024x128, .f32⟩
  | .hbm, ⟨8, _⟩ => ⟨S1024x8, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S1024x2560, .f32⟩
  | .hbm, ⟨15, _⟩ => ⟨S1024x2560, .bf16⟩
  | .hbm, ⟨16, _⟩ => ⟨S32768x2560, .bf16⟩
  | .hbm, ⟨17, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1024x128, .bf16⟩
  | .local _ .vmem, ⟨9, _⟩ => ⟨S512x2560, .bf16⟩
  | .local _ .vmem, ⟨10, _⟩ => ⟨S512x2560, .bf16⟩
  | .local _ .vmem, ⟨11, _⟩ => ⟨S512x128, .f32⟩
  | .local _ .vmem, ⟨12, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenInRefIdeal.lean ====
abbrev S8x4096x1024 : Shape := ⟨3, ![8, 4096, 1024]⟩
abbrev S1024 : Shape := ⟨1, ![1024]⟩
abbrev S8x1x1024 : Shape := ⟨3, ![8, 1, 1024]⟩
abbrev S1024x2568 : Shape := ⟨2, ![1024, 2568]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2568 : Shape := ⟨3, ![8, 4096, 2568]⟩
abbrev S32768x2568 : Shape := ⟨2, ![32768, 2568]⟩
abbrev S32768x2560 : Shape := ⟨2, ![32768, 2560]⟩
abbrev S32768x8 : Shape := ⟨2, ![32768, 8]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2568, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x2568, .f32⟩
  | .hbm, ⟨29, _⟩ => ⟨S32768x2568, .f32⟩
  | .hbm, ⟨30, _⟩ => ⟨S32768x2560, .f32⟩
  | .hbm, ⟨31, _⟩ => ⟨S32768x2560, .bf16⟩
  | .hbm, ⟨32, _⟩ => ⟨S32768x8, .f32⟩
  | .hbm, ⟨33, _⟩ => ⟨S_, .i32⟩
  | .hbm, ⟨34, _⟩ => ⟨S_, .f32⟩
  | .hbm, ⟨35, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== OddIn.lean ====
abbrev S8x4096x1024 : Shape := ⟨3, ![8, 4096, 1024]⟩
abbrev S1024 : Shape := ⟨1, ![1024]⟩
abbrev S8x1x1024 : Shape := ⟨3, ![8, 1, 1024]⟩
abbrev S1024x3088 : Shape := ⟨2, ![1024, 3088]⟩
abbrev S32768x1024 : Shape := ⟨2, ![32768, 1024]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x1024 : Shape := ⟨2, ![1, 1024]⟩
abbrev S1024x3072 : Shape := ⟨2, ![1024, 3072]⟩
abbrev S32768x3072 : Shape := ⟨2, ![32768, 3072]⟩
abbrev S32768x128 : Shape := ⟨2, ![32768, 128]⟩
abbrev S512x1024 : Shape := ⟨2, ![512, 1024]⟩
abbrev S1x1x1024 : Shape := ⟨3, ![1, 1, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 18
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3088, .f32⟩
  | .hbm, ⟨5, _⟩ => ⟨S32768x1024, .f32⟩
  | .hbm, ⟨6, _⟩ => ⟨S_, .f32⟩
  | .hbm, ⟨7, _⟩ => ⟨S1024x128, .f32⟩
  | .hbm, ⟨8, _⟩ => ⟨S1024x16, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S32768x3072, .bf16⟩
  | .hbm, ⟨17, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x128, .bf16⟩
  | .local _ .vmem, ⟨9, _⟩ => ⟨S512x3072, .bf16⟩
  | .local _ .vmem, ⟨10, _⟩ => ⟨S512x3072, .bf16⟩
  | .local _ .vmem, ⟨11, _⟩ => ⟨S512x128, .f32⟩
  | .local _ .vmem, ⟨12, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddInRefIdeal.lean ====
abbrev S8x4096x1024 : Shape := ⟨3, ![8, 4096, 1024]⟩
abbrev S1024 : Shape := ⟨1, ![1024]⟩
abbrev S8x1x1024 : Shape := ⟨3, ![8, 1, 1024]⟩
abbrev S1024x3088 : Shape := ⟨2, ![1024, 3088]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3088 : Shape := ⟨3, ![8, 4096, 3088]⟩
abbrev S32768x3088 : Shape := ⟨2, ![32768, 3088]⟩
abbrev S32768x3072 : Shape := ⟨2, ![32768, 3072]⟩
abbrev S32768x16 : Shape := ⟨2, ![32768, 16]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3088, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x3088, .f32⟩
  | .hbm, ⟨29, _⟩ => ⟨S32768x3088, .f32⟩
  | .hbm, ⟨30, _⟩ => ⟨S32768x3072, .f32⟩
  | .hbm, ⟨31, _⟩ => ⟨S32768x3072, .bf16⟩
  | .hbm, ⟨32, _⟩ => ⟨S32768x16, .f32⟩
  | .hbm, ⟨33, _⟩ => ⟨S_, .i32⟩
  | .hbm, ⟨34, _⟩ => ⟨S_, .f32⟩
  | .hbm, ⟨35, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== EvenOut.lean ====
abbrev S32768x512 : Shape := ⟨2, ![32768, 512]⟩
abbrev S8x4096x1024 : Shape := ⟨3, ![8, 4096, 1024]⟩
abbrev S8x1x1024 : Shape := ⟨3, ![8, 1, 1024]⟩
abbrev S1024x1024 : Shape := ⟨2, ![1024, 1024]⟩
abbrev S512x1024 : Shape := ⟨2, ![512, 1024]⟩
abbrev S32768x1024 : Shape := ⟨2, ![32768, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S8x4096x1024, .f32⟩
  | .hbm, ⟨3, _⟩ => ⟨S8x1x1024, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S32768x1024, .f32⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenOutRefIdeal.lean ====
abbrev S32768x512 : Shape := ⟨2, ![32768, 512]⟩
abbrev S8x4096x1024 : Shape := ⟨3, ![8, 4096, 1024]⟩
abbrev S8x1x1024 : Shape := ⟨3, ![8, 1, 1024]⟩
abbrev S1024x1024 : Shape := ⟨2, ![1024, 1024]⟩
abbrev S32768x1024 : Shape := ⟨2, ![32768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S8x4096x1024, .f32⟩
  | .hbm, ⟨3, _⟩ => ⟨S8x1x1024, .f32⟩
  | .hbm, ⟨4, _⟩ => ⟨S1024x1024, .f32⟩
  | .hbm, ⟨5, _⟩ => ⟨S32768x1024, .bf16⟩
  | .hbm, ⟨6, _⟩ => ⟨S32768x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OddOut.lean ====
abbrev S32768x1024 : Shape := ⟨2, ![32768, 1024]⟩
abbrev S8x4096x1024 : Shape := ⟨3, ![8, 4096, 1024]⟩
abbrev S8x1x1024 : Shape := ⟨3, ![8, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S8x4096x1024, .f32⟩
  | .hbm, ⟨2, _⟩ => ⟨S8x1x1024, .f32⟩
  | .hbm, ⟨3, _⟩ => ⟨S1024x1024, .f32⟩
  | .hbm, ⟨4, _⟩ => ⟨S1024x1024, .bf16⟩
  | .hbm, ⟨5, _⟩ => ⟨S32768x1024, .f32⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddOutRefIdeal.lean ====
abbrev S32768x1024 : Shape := ⟨2, ![32768, 1024]⟩
abbrev S8x4096x1024 : Shape := ⟨3, ![8, 4096, 1024]⟩
abbrev S8x1x1024 : Shape := ⟨3, ![8, 1, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S8x4096x1024, .f32⟩
  | .hbm, ⟨2, _⟩ => ⟨S8x1x1024, .f32⟩
  | .hbm, ⟨3, _⟩ => ⟨S1024x1024, .f32⟩
  | .hbm, ⟨4, _⟩ => ⟨S32768x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ada.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Gla.lean ====
abbrev S32768x3072 : Shape := ⟨2, ![32768, 3072]⟩
abbrev S32768x128 : Shape := ⟨2, ![32768, 128]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1 : Shape := ⟨1, ![1]⟩
abbrev S1x512 : Shape := ⟨2, ![1, 512]⟩
abbrev S1x256 : Shape := ⟨2, ![1, 256]⟩
abbrev S32768x1024 : Shape := ⟨2, ![32768, 1024]⟩
abbrev S256x512 : Shape := ⟨2, ![256, 512]⟩
abbrev S256x1024 : Shape := ⟨2, ![256, 1024]⟩
abbrev S256x128 : Shape := ⟨2, ![256, 128]⟩
abbrev S4x256x128 : Shape := ⟨3, ![4, 256, 128]⟩
abbrev S64x64 : Shape := ⟨2, ![64, 64]⟩
abbrev S64x128 : Shape := ⟨2, ![64, 128]⟩
abbrev S1x128 : Shape := ⟨2, ![1, 128]⟩
abbrev S64x256 : Shape := ⟨2, ![64, 256]⟩
abbrev S1x256x128 : Shape := ⟨3, ![1, 256, 128]⟩
abbrev S64 : Shape := ⟨1, ![64]⟩
abbrev S64x1 : Shape := ⟨2, ![64, 1]⟩

abbrev nBuf : Space → Nat
  | .hbm => 14
  | .vmem => 16
  | .smem => 0
  | _ => 0

abbrev bufTy : (tb : Table) → Fin (tcTables nBuf tb) → BufTy
  | .hbm, ⟨0, _⟩ => ⟨S32768x3072, .bf16⟩
  | .hbm, ⟨1, _⟩ => ⟨S32768x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .f32⟩
  | .hbm, ⟨6, _⟩ => ⟨S128x512, .f32⟩
  | .hbm, ⟨7, _⟩ => ⟨S_, .i32⟩
  | .hbm, ⟨8, _⟩ => ⟨S1, .i32⟩
  | .hbm, ⟨9, _⟩ => ⟨S128x512, .f32⟩
  | .hbm, ⟨10, _⟩ => ⟨S128x512, .bf16⟩
  | .hbm, ⟨11, _⟩ => ⟨S1x512, .f32⟩
  | .hbm, ⟨12, _⟩ => ⟨S1x256, .f32⟩
  | .hbm, ⟨13, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S4x256x128, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S32768x3072 : Shape := ⟨2, ![32768, 3072]⟩
abbrev S32768x128 : Shape := ⟨2, ![32768, 128]⟩
abbrev S16x512 : Shape := ⟨2, ![16, 512]⟩
abbrev S512 : Shape := ⟨1, ![512]⟩
abbrev S256 : Shape := ⟨1, ![256]⟩
abbrev S8x4096x3072 : Shape := ⟨3, ![8, 4096, 3072]⟩
abbrev S8x4096x512 : Shape := ⟨3, ![8, 4096, 512]⟩
abbrev S8x4096x1024 : Shape := ⟨3, ![8, 4096, 1024]⟩
abbrev S32768x16 : Shape := ⟨2, ![32768, 16]⟩
abbrev S8x4096x16 : Shape := ⟨3, ![8, 4096, 16]⟩
abbrev S1x1x512 : Shape := ⟨3, ![1, 1, 512]⟩
abbrev S_ : Shape := ⟨0, ![]⟩
abbrev S8x4096x4x128 : Shape := ⟨4, ![8, 4096, 4, 128]⟩
abbrev S8x4x4096x128 : Shape := ⟨4, ![8, 4, 4096, 128]⟩
abbrev S8x4096x4x256 : Shape := ⟨4, ![8, 4096, 4, 256]⟩
abbrev S8x4x4096x256 : Shape := ⟨4, ![8, 4, 4096, 256]⟩
abbrev S8x4x64x64x128 : Shape := ⟨5, ![8, 4, 64, 64, 128]⟩
abbrev S8x4x64x64x256 : Shape := ⟨5, ![8, 4, 64, 64, 256]⟩
abbrev S8x4x64x1x128 : Shape := ⟨5, ![8, 4, 64, 1, 128]⟩
abbrev S64x64 : Shape := ⟨2, ![64, 64]⟩
abbrev S8x4x64x64x64 : Shape := ⟨5, ![8, 4, 64, 64, 64]⟩
abbrev S8x4x64x128x256 : Shape := ⟨5, ![8, 4, 64, 128, 256]⟩
abbrev S8x4x64x128 : Shape := ⟨4, ![8, 4, 64, 128]⟩
abbrev S8x4x128x256 : Shape := ⟨4, ![8, 4, 128, 256]⟩
abbrev S64x8x4x128 : Shape := ⟨4, ![64, 8, 4, 128]⟩
abbrev S64x8x4x128x256 : Shape := ⟨5, ![64, 8, 4, 128, 256]⟩
abbrev S1x8x4x128 : Shape := ⟨4, ![1, 8, 4, 128]⟩
abbrev S8x4x128 : Shape := ⟨3, ![8, 4, 128]⟩
abbrev S1x8x4x128x256 : Shape := ⟨5, ![1, 8, 4, 128, 256]⟩
abbrev S8x4x128x1 : Shape := ⟨4, ![8, 4, 128, 1]⟩
abbrev S8x4x4096 : Shape := ⟨3, ![8, 4, 4096]⟩
abbrev S8x4x4096x1 : Shape := ⟨4, ![8, 4, 4096, 1]⟩
abbrev S1x1x1x256 : Shape := ⟨4, ![1, 1, 1, 256]⟩
abbrev S32768x1024 : Shape := ⟨2, ![32768, 1024]⟩

abbrev nBuf : Space → Nat
  | .hbm => 156
  | .vmem => 0
  | .smem => 0
  | _ => 0

abbrev hbmTy0_0 (i : Nat) : BufTy := match i % 128 with
  | 0 => ⟨S32768x3072, .bf16⟩
  | 1 => ⟨S32768x128, .f32⟩
  | 2 => ⟨S16x512, .f32⟩
  | 3 => ⟨S512, .f32⟩
  | 4 => ⟨S256, .f32⟩
  | 5 => ⟨S32768x3072, .f32⟩
  | 6 => ⟨S8x4096x3072, .f32⟩
  | 7 => ⟨S8x4096x512, .f32⟩
  | 8 => ⟨S8x4096x512, .f32⟩
  | 9 => ⟨S8x4096x1024, .f32⟩
  | 10 => ⟨S8x4096x1024, .f32⟩
  | 11 => ⟨S32768x16, .f32⟩
  | 12 => ⟨S8x4096x16, .f32⟩
  | 13 => ⟨S8x4096x512, .f32⟩
  | 14 => ⟨S1x1x512, .f32⟩
  | 15 => ⟨S8x4096x512, .f32⟩
  | 16 => ⟨S8x4096x512, .f32⟩
  | 17 => ⟨S8x4096x512, .f32⟩
  | 18 => ⟨S_, .f32⟩
  | 19 => ⟨S8x4096x512, .f32⟩
  | 20 => ⟨S8x4096x512, .f32⟩
  | 21 => ⟨S8x4096x512, .f32⟩
  | 22 => ⟨S8x4096x512, .f32⟩
  | 23 => ⟨S8x4096x512, .i1⟩
  | 24 => ⟨S8x4096x512, .f32⟩
  | 25 => ⟨S8x4096x512, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S8x4096x4x128, .f32⟩
  | 37 => ⟨S8x4x4096x128, .f32⟩
  | 38 => ⟨S8x4096x4x128, .f32⟩
  | 39 => ⟨S8x4x4096x128, .f32⟩
  | 40 => ⟨S8x4096x4x256, .f32⟩
  | 41 => ⟨S8x4x4096x256, .f32⟩
  | 42 => ⟨S8x4096x4x128, .f32⟩
  | 43 => ⟨S8x4x4096x128, .f32⟩
  | 44 => ⟨S8x4x64x64x128, .f32⟩
  | 45 => ⟨S_, .f32⟩
  | 46 => ⟨S8x4x64x64x128, .f32⟩
  | 47 => ⟨S8x4x64x64x128, .f32⟩
  | 48 => ⟨S8x4x64x64x128, .f32⟩
  | 49 => ⟨S8x4x64x64x256, .f32⟩
  | 50 => ⟨S8x4x64x64x128, .f32⟩
  | 51 => ⟨S_, .f32⟩
  | 52 => ⟨S_, .f32⟩
  | 53 => ⟨S8x4x64x64x128, .f32⟩
  | 54 => ⟨S8x4x64x1x128, .f32⟩
  | 55 => ⟨S8x4x64x64x128, .f32⟩
  | 56 => ⟨S8x4x64x64x128, .f32⟩
  | 57 => ⟨S8x4x64x64x128, .f32⟩
  | 58 => ⟨S8x4x64x64x128, .f32⟩
  | 59 => ⟨S8x4x64x64x128, .f32⟩
  | 60 => ⟨S8x4x64x64x128, .f32⟩
  | 61 => ⟨S8x4x64x64x128, .f32⟩
  | 62 => ⟨S8x4x64x64x128, .f32⟩
  | 63 => ⟨S8x4x64x64x128, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S8x4x64x64x64, .f32⟩
  | 76 => ⟨S_, .f32⟩
  | 77 => ⟨S_, .f32⟩
  | 78 => ⟨S8x4x64x64x64, .i1⟩
  | 79 => ⟨S8x4x64x64x64, .f32⟩
  | 80 => ⟨S8x4x64x64x64, .f32⟩
  | 81 => ⟨S8x4x64x64x256, .f32⟩
  | 82 => ⟨S8x4x64x128x256, .f32⟩
  | 83 => ⟨S8x4x64x128, .f32⟩
  | 84 => ⟨S8x4x64x128, .f32⟩
  | 85 => ⟨S_, .f32⟩
  | 86 => ⟨S8x4x128x256, .f32⟩
  | 87 => ⟨S64x8x4x128, .f32⟩
  | 88 => ⟨S64x8x4x128x256, .f32⟩
  | 89 => ⟨S_, .f32⟩
  | 90 => ⟨S64x8x4x128x256, .f32⟩
  | 91 => ⟨S_, .i32⟩
  | 92 => ⟨S64x8x4x128, .f32⟩
  | 93 => ⟨S64x8x4x128x256, .f32⟩
  | 94 => ⟨S_, .i32⟩
  | 95 => ⟨S8x4x128x256, .f32⟩
  | 96 => ⟨S64x8x4x128x256, .f32⟩
  | 97 => ⟨S_, .i32⟩
  | 98 => ⟨S_, .i1⟩
  | 99 => ⟨S_, .i32⟩
  | 100 => ⟨S_, .i32⟩
  | 101 => ⟨S_, .i32⟩
  | 102 => ⟨S1x8x4x128, .f32⟩
  | 103 => ⟨S8x4x128, .f32⟩
  | 104 => ⟨S_, .i32⟩
  | 105 => ⟨S_, .i32⟩
  | 106 => ⟨S_, .i32⟩
  | 107 => ⟨S_, .i32⟩
  | 108 => ⟨S1x8x4x128x256, .f32⟩
  | 109 => ⟨S8x4x128x256, .f32⟩
  | 110 => ⟨S8x4x128x1, .f32⟩
  | 111 => ⟨S8x4x128x256, .f32⟩
  | 112 => ⟨S8x4x128x256, .f32⟩
  | 113 => ⟨S8x4x128x256, .f32⟩
  | 114 => ⟨S1x8x4x128x256, .f32⟩
  | 115 => ⟨S_, .i32⟩
  | 116 => ⟨S_, .i32⟩
  | 117 => ⟨S_, .i32⟩
  | 118 => ⟨S_, .i32⟩
  | 119 => ⟨S64x8x4x128x256, .f32⟩
  | 120 => ⟨S_, .i32⟩
  | 121 => ⟨S_, .i32⟩
  | 122 => ⟨S8x4x64x128x256, .f32⟩
  | 123 => ⟨S8x4x64x64x256, .f32⟩
  | 124 => ⟨S8x4x64x64x256, .f32⟩
  | 125 => ⟨S8x4x4096x256, .f32⟩
  | 126 => ⟨S8x4x4096x256, .f32⟩
  | 127 => ⟨S_, .f32⟩
  | _ => ⟨S32768x3072, .bf16⟩

abbrev hbmTy0_1 (i : Nat) : BufTy := match i % 128 with
  | 0 => ⟨S8x4x4096, .f32⟩
  | 1 => ⟨S8x4x4096x1, .f32⟩
  | 2 => ⟨S_, .f32⟩
  | 3 => ⟨S8x4x4096x1, .f32⟩
  | 4 => ⟨S8x4x4096x1, .f32⟩
  | 5 => ⟨S_, .f32⟩
  | 6 => ⟨S8x4x4096x1, .f32⟩
  | 7 => ⟨S8x4x4096x1, .f32⟩
  | 8 => ⟨S8x4x4096x1, .f32⟩
  | 9 => ⟨S8x4x4096x256, .f32⟩
  | 10 => ⟨S8x4x4096x256, .f32⟩
  | 11 => ⟨S1x1x1x256, .f32⟩
  | 12 => ⟨S8x4x4096x256, .f32⟩
  | 13 => ⟨S8x4x4096x256, .f32⟩
  | 14 => ⟨S8x4096x4x256, .f32⟩
  | 15 => ⟨S8x4096x1024, .f32⟩
  | 16 => ⟨S8x4096x1024, .f32⟩
  | 17 => ⟨S8x4096x1024, .f32⟩
  | 18 => ⟨S_, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S8x4096x1024, .f32⟩
  | 25 => ⟨S8x4096x1024, .f32⟩
  | 26 => ⟨S32768x1024, .f32⟩
  | 27 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_call0_cst : Ref sig .tc := ⟨.hbm, 51, rfl⟩
abbrev main_call1_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c : Ref sig .tc := ⟨.hbm, 64, rfl⟩
abbrev main_v40 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_2 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_3 : Ref sig .tc := ⟨.hbm, 89, rfl⟩
abbrev main_v51 : Ref sig .tc := ⟨.hbm, 90, rfl⟩
abbrev main_c_4 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev main_v52_3 : Ref sig .tc := ⟨.hbm, 95, rfl⟩
abbrev main_v52_4 : Ref sig .tc := ⟨.hbm, 96, rfl⟩
abbrev main_while0c_c_12 : Ref sig .tc := ⟨.hbm, 97, rfl⟩
abbrev main_while0c_v76 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_v0 : Ref sig .tc := ⟨.hbm, 102, rfl⟩
abbrev main_while0b_v76 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_v82 : Ref sig .tc := ⟨.hbm, 119, rfl⟩
abbrev main_while0b_c_12 : Ref sig .tc := ⟨.hbm, 120, rfl⟩
abbrev main_while0b_v83 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_5 : Ref sig .tc := ⟨.hbm, 127, rfl⟩
abbrev main_v58 : Ref sig .tc := ⟨.hbm, 128, rfl⟩
abbrev main_v59 : Ref sig .tc := ⟨.hbm, 129, rfl⟩
abbrev main_cst_6 : Ref sig .tc := ⟨.hbm, 130, rfl⟩
abbrev main_v60 : Ref sig .tc := ⟨.hbm, 131, rfl⟩
abbrev main_v61 : Ref sig .tc := ⟨.hbm, 132, rfl⟩
abbrev main_cst_7 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩

abbrev nD : Nat := 1
abbrev τ : Topo := Topo.v7x

variable {F : FTy → Type} [FloatOps F]

abbrev main_while0_count : Scf.Loop 32 := ⟨0#32, 64#32, 1#32⟩
-- ==== Prep.lean ====
abbrev S32768x2560 : Shape := ⟨2, ![32768, 2560]⟩
abbrev S32768x128 : Shape := ⟨2, ![32768, 128]⟩
abbrev S8 : Shape := ⟨1, ![8]⟩
abbrev S64 : Shape := ⟨1, ![64]⟩
abbrev S_ : Shape := ⟨0, ![]⟩
abbrev S1x128 : Shape := ⟨2, ![1, 128]⟩
abbrev S1 : Shape := ⟨1, ![1]⟩
abbrev S2 : Shape := ⟨1, ![2]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x16x512x256 : Shape := ⟨4, ![8, 16, 512, 256]⟩
abbrev S32768x512 : Shape := ⟨2, ![32768, 512]⟩
abbrev S256x512 : Shape := ⟨2, ![256, 512]⟩
abbrev S256x128 : Shape := ⟨2, ![256, 128]⟩
abbrev S1x1x512x256 : Shape := ⟨4, ![1, 1, 512, 256]⟩
abbrev S512x256 : Shape := ⟨2, ![512, 256]⟩

abbrev nBuf : Space → Nat
  | .hbm => 53
  | .vmem => 21
  | .smem => 0
  | _ => 0

abbrev bufTy : (tb : Table) → Fin (tcTables nBuf tb) → BufTy
  | .hbm, ⟨0, _⟩ => ⟨S32768x2560, .bf16⟩
  | .hbm, ⟨1, _⟩ => ⟨S32768x128, .f32⟩
  | .hbm, ⟨2, _⟩ => ⟨S8, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S1x512, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S512x512, .bf16⟩
  | .hbm, ⟨46, _⟩ => ⟨S_, .bf16⟩
  | .hbm, ⟨47, _⟩ => ⟨S512x512, .bf16⟩
  | .hbm, ⟨48, _⟩ => ⟨S512x512, .bf16⟩
  | .hbm, ⟨49, _⟩ => ⟨S8x16x512x256, .bf16⟩
  | .hbm, ⟨50, _⟩ => ⟨S32768x512, .bf16⟩
  | .hbm, ⟨51, _⟩ => ⟨S8x16x512x256, .bf16⟩
  | .hbm, ⟨52, _⟩ => ⟨S32768x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S1x1x512x256, .bf16⟩
  | .local _ .vmem, ⟨13, _⟩ => ⟨S1x1x512x256, .bf16⟩
  | .local _ .vmem, ⟨14, _⟩ => ⟨S256x512, .bf16⟩
  | .local _ .vmem, ⟨15, _⟩ => ⟨S256x512, .bf16⟩
  | .local _ .vmem, ⟨16, _⟩ => ⟨S1x1x512x256, .bf16⟩
  | .local _ .vmem, ⟨17, _⟩ => ⟨S1x1x512x256, .bf16⟩
  | .local _ .vmem, ⟨18, _⟩ => ⟨S256x128, .f32⟩
  | .local _ .vmem, ⟨19, _⟩ => ⟨S256x128, .f32⟩
  | .local _ .vmem, ⟨20, _⟩ => ⟨S1x128, .f32⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23_0 : Ref sig .tc := ⟨.hbm, 49, rfl⟩
abbrev main_v23_1 : Ref sig .tc := ⟨.hbm, 50, rfl⟩
abbrev main_v23_2 : Ref sig .tc := ⟨.hbm, 51, rfl⟩
abbrev main_v23_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PrepRefIdeal.lean ====
abbrev S32768x2560 : Shape := ⟨2, ![32768, 2560]⟩
abbrev S32768x128 : Shape := ⟨2, ![32768, 128]⟩
abbrev S8 : Shape := ⟨1, ![8]⟩
abbrev S64 : Shape := ⟨1, ![64]⟩
abbrev S8x4096x2560 : Shape := ⟨3, ![8, 4096, 2560]⟩
abbrev S8x4096x512 : Shape := ⟨3, ![8, 4096, 512]⟩
abbrev S8x4096x8x64 : Shape := ⟨4, ![8, 4096, 8, 64]⟩
abbrev S_ : Shape := ⟨0, ![]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x128 : Shape := ⟨3, ![8, 4096, 128]⟩
abbrev S128 : Shape := ⟨1, ![128]⟩
abbrev S1x1x128 : Shape := ⟨3, ![1, 1, 128]⟩
abbrev S8x16x256x512 : Shape := ⟨4, ![8, 16, 256, 512]⟩
abbrev S8x16x512x256 : Shape := ⟨4, ![8, 16, 512, 256]⟩
abbrev S32768x512 : Shape := ⟨2, ![32768, 512]⟩

abbrev nBuf : Space → Nat
  | .hbm => 87
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S32768x128, .f32⟩
  | .hbm, ⟨2, _⟩ => ⟨S8, .f32⟩
  | .hbm, ⟨3, _⟩ => ⟨S64, .f32⟩
  | .hbm, ⟨4, _⟩ => ⟨S64, .f32⟩
  | .hbm, ⟨5, _⟩ => ⟨S32768x2560, .f32⟩
  | .hbm, ⟨6, _⟩ => ⟨S8x4096x2560, .f32⟩
  | .hbm, ⟨7, _⟩ => ⟨S8x4096x512, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x8x64, .f32⟩
  | .hbm, ⟨13, _⟩ => ⟨S8x4096x8x64, .f32⟩
  | .hbm, ⟨14, _⟩ => ⟨S_, .f32⟩
  | .hbm, ⟨15, _⟩ => ⟨S8x4096x8, .f32⟩
  | .hbm, ⟨16, _⟩ => ⟨S8x4096x8x1, .f32⟩
  | .hbm, ⟨17, _⟩ => ⟨S_, .f32⟩
  | .hbm, ⟨18, _⟩ => ⟨S8x4096x8x1, .f32⟩
  | .hbm, ⟨19, _⟩ => ⟨S8x4096x8x1, .f32⟩
  | .hbm, ⟨20, _⟩ => ⟨S_, .f32⟩
  | .hbm, ⟨21, _⟩ => ⟨S8x4096x8x1, .f32⟩
  | .hbm, ⟨22, _⟩ => ⟨S8x4096x8x1, .f32⟩
  | .hbm, ⟨23, _⟩ => ⟨S8x4096x8x1, .f32⟩
  | .hbm, ⟨24, _⟩ => ⟨S8x4096x8x64, .f32⟩
  | .hbm, ⟨25, _⟩ => ⟨S8x4096x8x64, .f32⟩
  | .hbm, ⟨26, _⟩ => ⟨S1x1x1x64, .f32⟩
  | .hbm, ⟨27, _⟩ => ⟨S8x4096x8x64, .f32⟩
  | .hbm, ⟨28, _⟩ => ⟨S8x4096x8x64, .f32⟩
  | .hbm, ⟨29, _⟩ => ⟨S_, .f32⟩
  | .hbm, ⟨30, _⟩ => ⟨S8x4096x8x64, .f32⟩
  | .hbm, ⟨31, _⟩ => ⟨S8x4096x8x64, .f32⟩
  | .hbm, ⟨32, _⟩ => ⟨S8x4096x8x64, .f32⟩
  | .hbm, ⟨33, _⟩ => ⟨S8x4096x8x64, .f32⟩
  | .hbm, ⟨34, _⟩ => ⟨S_, .f32⟩
  | .hbm, ⟨35, _⟩ => ⟨S8x4096x8, .f32⟩
  | .hbm, ⟨36, _⟩ => ⟨S8x4096x8x1, .f32⟩
  | .hbm, ⟨37, _⟩ => ⟨S_, .f32⟩
  | .hbm, ⟨38, _⟩ => ⟨S8x4096x8x1, .f32⟩
  | .hbm, ⟨39, _⟩ => ⟨S8x4096x8x1, .f32⟩
  | .hbm, ⟨40, _⟩ => ⟨S_, .f32⟩
  | .hbm, ⟨41, _⟩ => ⟨S8x4096x8x1, .f32⟩
  | .hbm, ⟨42, _⟩ => ⟨S8x4096x8x1, .f32⟩
  | .hbm, ⟨43, _⟩ => ⟨S8x4096x8x1, .f32⟩
  | .hbm, ⟨44, _⟩ => ⟨S8x4096x8x64, .f32⟩
  | .hbm, ⟨45, _⟩ => ⟨S8x4096x8x64, .f32⟩
  | .hbm, ⟨46, _⟩ => ⟨S1x1x1x64, .f32⟩
  | .hbm, ⟨47, _⟩ => ⟨S8x4096x8x64, .f32⟩
  | .hbm, ⟨48, _⟩ => ⟨S8x4096x8x64, .f32⟩
  | .hbm, ⟨49, _⟩ => ⟨S8x4096x128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S8x4096x128, .f32⟩
  | .hbm, ⟨55, _⟩ => ⟨S8x4096x128, .f32⟩
  | .hbm, ⟨56, _⟩ => ⟨S8x4096x128, .f32⟩
  | .hbm, ⟨57, _⟩ => ⟨S_, .f32⟩
  | .hbm, ⟨58, _⟩ => ⟨S8x4096x128, .f32⟩
  | .hbm, ⟨59, _⟩ => ⟨S8x4096x128, .f32⟩
  | .hbm, ⟨60, _⟩ => ⟨S8x4096x128, .f32⟩
  | .hbm, ⟨61, _⟩ => ⟨S8x4096x128, .f32⟩
  | .hbm, ⟨62, _⟩ => ⟨S8x4096x128, .i1⟩
  | .hbm, ⟨63, _⟩ => ⟨S8x4096x128, .f32⟩
  | .hbm, ⟨64, _⟩ => ⟨S8x4096x128, .f32⟩
  | .hbm, ⟨65, _⟩ => ⟨S8x4096x128, .f32⟩
  | .hbm, ⟨66, _⟩ => ⟨S8x4096x128, .f32⟩
  | .hbm, ⟨67, _⟩ => ⟨S8x4096x128, .f32⟩
  | .hbm, ⟨68, _⟩ => ⟨S8x4096x128, .f32⟩
  | .hbm, ⟨69, _⟩ => ⟨S8x4096x128, .f32⟩
  | .hbm, ⟨70, _⟩ => ⟨S8x4096x128, .f32⟩
  | .hbm, ⟨71, _⟩ => ⟨S8x4096x128, .f32⟩
  | .hbm, ⟨72, _⟩ => ⟨S_, .f32⟩
  | .hbm, ⟨73, _⟩ => ⟨S8x4096x128, .f32⟩
  | .hbm, ⟨74, _⟩ => ⟨S8x4096x128, .f32⟩
  | .hbm, ⟨75, _⟩ => ⟨S_, .f32⟩
  | .hbm, ⟨76, _⟩ => ⟨S_, .f32⟩
  | .hbm, ⟨77, _⟩ => ⟨S8x4096x128, .f32⟩
  | .hbm, ⟨78, _⟩ => ⟨S8x16x256x512, .f32⟩
  | .hbm, ⟨79, _⟩ => ⟨S8x16x512x256, .f32⟩
  | .hbm, ⟨80, _⟩ => ⟨S8x16x512x256, .bf16⟩
  | .hbm, ⟨81, _⟩ => ⟨S32768x512, .f32⟩
  | .hbm, ⟨82, _⟩ => ⟨S32768x512, .bf16⟩
  | .hbm, ⟨83, _⟩ => ⟨S8x16x256x512, .f32⟩
  | .hbm, ⟨84, _⟩ => ⟨S8x16x512x256, .f32⟩
  | .hbm, ⟨85, _⟩ => ⟨S8x16x512x256, .bf16⟩
  | .hbm, ⟨86, _⟩ => ⟨S32768x128, .f32⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_call1_call0_cst : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_call0_v2 : Ref sig .tc := ⟨.hbm, 60, rfl⟩
abbrev main_call1_call0_v3 : Ref sig .tc := ⟨.hbm, 61, rfl⟩
abbrev main_call1_call0_v4 : Ref sig .tc := ⟨.hbm, 62, rfl⟩
abbrev main_call1_call0_v5 : Ref sig .tc := ⟨.hbm, 63, rfl⟩
abbrev main_call1_call0_v6 : Ref sig .tc := ⟨.hbm, 64, rfl⟩
abbrev main_call1_call0_v7 : Ref sig .tc := ⟨.hbm, 65, rfl⟩
abbrev main_call1_call0_v8 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_v1 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_call2_call0_cst : Ref sig .tc := ⟨.hbm, 75, rfl⟩
abbrev main_call2_call0_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Proof.Tile.lean ====
/-
The online-softmax step of one head on one key tile, as functions of the blocks it reads:
the running maximum, the running sum and the running value product of the head, each as the
scratch block that holds it.
-/
module

public import proofs.«01_k».proof.Proof.Gen.KernelIdeal.Frame.Runs
public import Idealize.ShloMosaic.Lib.ValueIdx
public import Idealize.ShloMosaic.Lib.WritesUnit

@[expose] public section

set_option maxRecDepth 16384

noncomputable section

namespace Cert.KernelIdeal.Fox

open Idealize.ShloMosaic Idealize.ShloMosaic.TcCoe Idealize.SL.Sem Cert.KernelIdeal.Gen Idealize.ShloMosaic.ValueIdx

variable {F : FTy → Type} [FloatOps F] [Named F]

/-! ## Reads of a block after writes -/

section reads
variable {sig' : RefSig} {kk : Kind} {sp : Space} {e : EltTy} {Val : EltTy → Type}

theorem rd_hit {s : Shape} (v : View sig' kk sp s e) (f : v.ty.Contents Val) {off size : Fin s.rank → ℕ}
    (inb inb' : ∀ a, off a + size a ≤ s.size a) (w : (Rect.unit off size inb).shape.Idx → Val e) (L : List (View.Piece Val s e)) :
    v.readAt Val (Rect.unit off size inb').toLoadRect (v.writes Val f (⟨Rect.unit off size inb, w⟩ :: L)) = w := by
  funext x
  rw [View.readAt_apply]
  refine View.read_writes_cons_unit_of_mem v f inb w L _ x rfl fun a => ?_
  simp [LoadRect.idx, Rect.toLoadRect, Rect.unit]

theorem rd_skip {d : Fin 3 → ℕ} (v : View sig' kk sp (⟨3, d⟩ : Shape) e) (f : v.ty.Contents Val) {o h : ℕ} {sz sz' : Fin 3 → ℕ}
    (inb : ∀ a : Fin 3, (![o, 0, 0] : Fin 3 → ℕ) a + sz a ≤ d a) (inb' : ∀ a : Fin 3, (![h, 0, 0] : Fin 3 → ℕ) a + sz' a ≤ d a)
    (w : (Rect.unit (s := ⟨3, d⟩) ![o, 0, 0] sz inb).shape.Idx → Val e) (L : List (View.Piece Val (⟨3, d⟩ : Shape) e))
    (h1 : sz 0 = 1) (h2 : sz' 0 = 1) (hne : o ≠ h) :
    v.readAt Val (Rect.unit (s := ⟨3, d⟩) ![h, 0, 0] sz' inb').toLoadRect (v.writes Val f (⟨Rect.unit ![o, 0, 0] sz inb, w⟩ :: L))
      = v.readAt Val (Rect.unit (s := ⟨3, d⟩) ![h, 0, 0] sz' inb').toLoadRect (v.writes Val f L) := by
  funext x
  rw [View.readAt_apply, View.readAt_apply]
  refine View.read_writes_cons_unit_of_not_mem v f inb w L _ rfl (0 : Fin 3) ?_
  have hx : (x (0 : Fin 3)).val < 1 := lt_of_lt_of_eq (x (0 : Fin 3)).isLt h2
  have e0 : ((Rect.unit (s := ⟨3, d⟩) ![h, 0, 0] sz' inb').toLoadRect.idx x (0 : Fin 3)).val = h + (x (0 : Fin 3)).val := by
    simp [LoadRect.idx, Rect.toLoadRect, Rect.unit]
  rw [e0]
  show _ < o ∨ o + sz 0 ≤ _
  rw [h1]
  omega

end reads

/-! ## One head's step -/

theorem sl_h (h : Fin 8) : S256x128.Slices ![0, h.val] S256x1 := by
  revert h; decide

/-- A head's row of the running maximum or sum, out of its block of eight equal rows. -/
abbrev row (b : Vec F S1x8x256 .f32) : FVec F S1x256 .f32 :=
  extractStridedSlice S1x256 ![0, 0] (shapeCast S8x256 b Facts₀.shapeCasts_S1x8x256_S8x256) Facts₀.slices_S8x256_o0_0_S1x256

/-- The block of eight equal rows that holds a row. -/
abbrev rows (r : FVec F S1x256 .f32) : FVec F S1x8x256 .f32 :=
  shapeCast S1x8x256 (broadcastTo S8x256 (shapeCast S1x256 r Facts₀.shapeCasts_S1x256_S1x256) Facts₀.broadcasts_S1x256_S8x256) Facts₀.shapeCasts_S8x256_S1x8x256

/-- The products of a key tile with the head's masked queries. -/
abbrev prod (kt : Vec F S256x128 .bf16) (q : Vec F S1x128x256 .bf16) : FVec F S256x256 .f32 :=
  matmul dot_S256x128_S128x256_S256x256_1_0_0_1_n_n none kt (shapeCast S128x256 q Facts₀.shapeCasts_S1x128x256_S128x256) (constant S256x256 .f32 0x00000000#32)

/-- The products as the scratch block that holds them. -/
abbrev prodB (kt : Vec F S256x128 .bf16) (q : Vec F S1x128x256 .bf16) : Vec F S1x256x256 .f32 :=
  shapeCast S1x256x256 (prod kt q) Facts₀.shapeCasts_S256x256_S1x256x256

/-- The logits of a head on a key tile: products less the keys' forgetting sums. -/
abbrev lgt (h : Fin 8) (pb : Vec F S1x256x256 .f32) (r : Vec F S256x128 .f32) : FVec F S256x256 .f32 :=
  subf (shapeCast S256x256 pb Facts₀.shapeCasts_S1x256x256_S256x256)
    (broadcastTo S256x256 (extractStridedSlice S256x1 ![0, h.val] r (sl_h h)) Facts₀.broadcasts_S256x1_S256x256)

/-- The logits of the diagonal tile: keys after the query are out. -/
abbrev mskd (lg : FVec F S256x256 .f32) : FVec F S256x256 .f32 :=
  select (cmpi .sle (iota .tc S256x256 32 [0] Facts₀.iota_S256x256_d0_w32) (iota .tc S256x256 32 [1] Facts₀.iota_S256x256_d1_w32)) lg
    (broadcast S256x256 (Named.named κ "mask" 0xF149F2CA#32))

/-- The new running maximum. -/
abbrev mNew (lg : FVec F S256x256 .f32) (b9 : Vec F S1x8x256 .f32) : FVec F S1x256 .f32 :=
  maximumf (row b9) (shapeCast S1x256 (multiReduction .maximumf [0] S256 lg 0xFF800000#32 Facts₀.reduces_S256x256_S256 (.inl rfl) rfl) Facts₀.shapeCasts_S256_S1x256)

/-- The factor that rescales what the earlier tiles left. -/
abbrev alph (lg : FVec F S256x256 .f32) (b9 : Vec F S1x8x256 .f32) : FVec F S1x256 .f32 :=
  exp2 (subf (row b9) (mNew lg b9))

/-- The tile's weights. -/
abbrev wts (lg : FVec F S256x256 .f32) (b9 : Vec F S1x8x256 .f32) : FVec F S256x256 .f32 :=
  exp2 (subf lg (broadcastTo S256x256 (mNew lg b9) Facts₀.broadcasts_S1x256_S256x256))

/-- The new running sum. -/
abbrev lNew (lg : FVec F S256x256 .f32) (b9 b10 : Vec F S1x8x256 .f32) : FVec F S1x256 .f32 :=
  addf (mulf (alph lg b9) (row b10))
    (shapeCast S1x256 (multiReduction .add [0] S256 (wts lg b9) 0x00000000#32 Facts₀.reduces_S256x256_S256 (.inl rfl) rfl) Facts₀.shapeCasts_S256_S1x256)

/-- The new running value product. -/
abbrev aNew (lg : FVec F S256x256 .f32) (vt : Vec F S1x1x64x256 .bf16) (b9 : Vec F S1x8x256 .f32) (b11 : Vec F S1x64x256 .f32) : FVec F S64x256 .f32 :=
  addf (mulf (broadcastTo S64x256 (alph lg b9) Facts₀.broadcasts_S1x256_S64x256) (shapeCast S64x256 b11 Facts₀.shapeCasts_S1x64x256_S64x256))
    (matmul dot_S64x256_S256x256_S64x256_1_0_0_1_n_n none (shapeCast S64x256 vt Facts₀.shapeCasts_S1x1x64x256_S64x256)
      (truncf .bf16 (wts lg b9) Facts₀.bitsLt_bf16_f32) (constant S64x256 .f32 0x00000000#32))

def stM (lg : FVec F S256x256 .f32) (b9 : Vec F S1x8x256 .f32) : Vec F S1x8x256 .f32 := rows (mNew lg b9)
def stL (lg : FVec F S256x256 .f32) (b9 b10 : Vec F S1x8x256 .f32) : Vec F S1x8x256 .f32 := rows (lNew lg b9 b10)
def stA (lg : FVec F S256x256 .f32) (vt : Vec F S1x1x64x256 .bf16) (b9 : Vec F S1x8x256 .f32) (b11 : Vec F S1x64x256 .f32) : Vec F S1x64x256 .f32 :=
  shapeCast S1x64x256 (aNew lg vt b9 b11) Facts₀.shapeCasts_S64x256_S1x64x256

/-- The output columns of two heads. -/
def outP (a0 : Vec F S1x64x256 .f32) (l0 : Vec F S1x8x256 .f32) (a1 : Vec F S1x64x256 .f32) (l1 : Vec F S1x8x256 .f32) : FVec F S256x128 .bf16 :=
  truncf .bf16 (transpose S256x128 [1, 0]
    (concatenate S128x256 0
      [⟨S64x256, divf (shapeCast S64x256 a0 Facts₀.shapeCasts_S1x64x256_S64x256) (broadcastTo S64x256 (row l0) Facts₀.broadcasts_S1x256_S64x256)⟩,
       ⟨S64x256, divf (shapeCast S64x256 a1 Facts₀.shapeCasts_S1x64x256_S64x256) (broadcastTo S64x256 (row l1) Facts₀.broadcasts_S1x256_S64x256)⟩]
      Facts₀.concatenates_S64x256_S64x256_S128x256_d0) Facts₀.transposes_S128x256_p1_0_S256x128) Facts₀.bitsLt_bf16_f32

/-! ## Blocks of the scratch -/

theorem in7 (h : Fin 8) : ∀ a, (![h.val, 0, 0] : Fin 3 → ℕ) a + S1x128x256.size a ≤ S8x128x256.size a := by revert h; decide
theorem in9 (h : Fin 8) : ∀ a, (![h.val, 0, 0] : Fin 3 → ℕ) a + S1x8x256.size a ≤ S8x8x256.size a := by revert h; decide
theorem in11 (h : Fin 8) : ∀ a, (![h.val, 0, 0] : Fin 3 → ℕ) a + S1x64x256.size a ≤ S8x64x256.size a := by revert h; decide

abbrev b7 (r : Memref sig .tc .vmem S8x128x256 .bf16) (f : BufTy.Contents (Elt F) r.view.ty) (h : Fin 8) : Vec F S1x128x256 .bf16 :=
  r.view.readAt (Elt F) (Rect.unit (s := S8x128x256) ![h.val, 0, 0] S1x128x256.size (in7 h)).toLoadRect f
abbrev b9 (r : Memref sig .tc .vmem S8x8x256 .f32) (f : BufTy.Contents (Elt F) r.view.ty) (h : Fin 8) : Vec F S1x8x256 .f32 :=
  r.view.readAt (Elt F) (Rect.unit (s := S8x8x256) ![h.val, 0, 0] S1x8x256.size (in9 h)).toLoadRect f
abbrev b11 (r : Memref sig .tc .vmem S8x64x256 .f32) (f : BufTy.Contents (Elt F) r.view.ty) (h : Fin 8) : Vec F S1x64x256 .f32 :=
  r.view.readAt (Elt F) (Rect.unit (s := S8x64x256) ![h.val, 0, 0] S1x64x256.size (in11 h)).toLoadRect f

/-! ## The tiles of the operands -/

def ktT (x1 : Vec F S4096x512 .bf16) (j : ℕ) (p : ℕ) : Vec F S256x128 .bf16 := fun y =>
  x1 (ix2 (⟨(256 * j + (y (0 : Fin 2)).val) % 4096, Nat.mod_lt _ (by norm_num)⟩ : Fin 4096) (⟨(128 * p + (y (1 : Fin 2)).val) % 512, Nat.mod_lt _ (by norm_num)⟩ : Fin 512))
def frT (x3 : Vec F S4096x128 .f32) (j : ℕ) : Vec F S256x128 .f32 := fun y =>
  x3 (ix2 (⟨(256 * j + (y (0 : Fin 2)).val) % 4096, Nat.mod_lt _ (by norm_num)⟩ : Fin 4096) (⟨(y (1 : Fin 2)).val % 128, Nat.mod_lt _ (by norm_num)⟩ : Fin 128))
def vtT (x2 : Vec F S1x16x512x256 .bf16) (j h : ℕ) : Vec F S1x1x64x256 .bf16 := fun y =>
  x2 (ix4 (0 : Fin 1) (⟨j % 16, Nat.mod_lt _ (by norm_num)⟩ : Fin 16) (⟨(64 * h + (y (2 : Fin 4)).val) % 512, Nat.mod_lt _ (by norm_num)⟩ : Fin 512)
    (⟨(y (3 : Fin 4)).val % 256, Nat.mod_lt _ (by norm_num)⟩ : Fin 256))

/-- A read of a key tile. -/
theorem kt_eq (r : Memref sig .tc .vmem S4096x512 .bf16) (f : BufTy.Contents (Elt F) r.view.ty) {off : Fin 2 → ℕ} (inb) (j p : ℕ)
    (h : off = ![256 * j, 128 * p]) :
    r.view.readAt (Elt F) (Rect.unit (s := S4096x512) off S256x128.size inb).toLoadRect f = ktT (r.view.read (Elt F) f) j p := by
  subst h
  funext y
  rw [View.readAt_apply]
  unfold ktT
  congr 1
  have i0 := inb 0
  have i1 := inb 1
  have y0 := (y (0 : Fin 2)).isLt
  have y1 := (y (1 : Fin 2)).isLt
  simp [S256x128, S4096x512, LoadRect.shape, Rect.toLoadRect, Rect.unit] at i0 i1 y0 y1
  funext a
  match a with
  | ⟨0, _⟩ => apply Fin.ext; simp [LoadRect.idx, Rect.toLoadRect, Rect.unit, ix2]; omega
  | ⟨1, _⟩ => apply Fin.ext; simp [LoadRect.idx, Rect.toLoadRect, Rect.unit, ix2]; omega

/-- A read of a tile of forgetting sums. -/
theorem fr_eq (r : Memref sig .tc .vmem S4096x128 .f32) (f : BufTy.Contents (Elt F) r.view.ty) {off : Fin 2 → ℕ} (inb) (j : ℕ)
    (h : off = ![256 * j, 0]) :
    r.view.readAt (Elt F) (Rect.unit (s := S4096x128) off S256x128.size inb).toLoadRect f = frT (r.view.read (Elt F) f) j := by
  subst h
  funext y
  rw [View.readAt_apply]
  unfold frT
  congr 1
  have i0 := inb 0
  have y0 := (y (0 : Fin 2)).isLt
  have y1 := (y (1 : Fin 2)).isLt
  simp [S256x128, S4096x128, LoadRect.shape, Rect.toLoadRect, Rect.unit] at i0 y0 y1
  funext a
  match a with
  | ⟨0, _⟩ => apply Fin.ext; simp [LoadRect.idx, Rect.toLoadRect, Rect.unit, ix2]; omega
  | ⟨1, _⟩ => apply Fin.ext; simp [LoadRect.idx, Rect.toLoadRect, Rect.unit, ix2]; omega

/-- A read of a head's value tile. -/
theorem vt_eq (r : Memref sig .tc .vmem S1x16x512x256 .bf16) (f : BufTy.Contents (Elt F) r.view.ty) {off : Fin 4 → ℕ} (inb) (j h : ℕ)
    (hh : off = ![0, j, 64 * h, 0]) :
    r.view.readAt (Elt F) (Rect.unit (s := S1x16x512x256) off S1x1x64x256.size inb).toLoadRect f = vtT (r.view.read (Elt F) f) j h := by
  subst hh
  funext y
  rw [View.readAt_apply]
  unfold vtT
  congr 1
  have i1 := inb 1
  have i2 := inb 2
  have y0 := (y (0 : Fin 4)).isLt
  have y1 := (y (1 : Fin 4)).isLt
  have y2 := (y (2 : Fin 4)).isLt
  have y3 := (y (3 : Fin 4)).isLt
  simp [S1x1x64x256, S1x16x512x256, LoadRect.shape, Rect.toLoadRect, Rect.unit] at i1 i2 y0 y1 y2 y3
  funext a
  match a with
  | ⟨0, _⟩ => apply Fin.ext; simp [LoadRect.idx, Rect.toLoadRect, Rect.unit, ix4] <;> omega
  | ⟨1, _⟩ => apply Fin.ext; simp [LoadRect.idx, Rect.toLoadRect, Rect.unit, ix4] <;> omega
  | ⟨2, _⟩ => apply Fin.ext; simp [LoadRect.idx, Rect.toLoadRect, Rect.unit, ix4] <;> omega
  | ⟨3, _⟩ => apply Fin.ext; simp [LoadRect.idx, Rect.toLoadRect, Rect.unit, ix4] <;> omega

end Cert.KernelIdeal.Fox

end
-- ==== Proof.Offs.lean ====
/-
The offsets of the unmasked tiles, and how many there are.
-/
module

public import proofs.«01_k».proof.Proof.Tile

@[expose] public section

set_option maxRecDepth 16384

noncomputable section

namespace Cert.KernelIdeal.Fox

open Idealize.ShloMosaic Idealize.ShloMosaic.TcCoe Idealize.SL.Sem Cert.KernelIdeal.Gen Idealize.ShloMosaic.ValueIdx

variable {F : FTy → Type} [FloatOps F] [Named F]

theorem iv256 (n : ℕ) (h : n < 16) : (Scalar.indexCast (Scalar.muli (Scf.iv (0#32 : BitVec 32) 1#32 n) 256#32) : Index).toNat = 256 * n := by
  interval_cases n <;> rfl

theorem iv1 (n : ℕ) (h : n < 16) : (Scalar.indexCast (Scf.iv (0#32 : BitVec 32) 1#32 n) : Index).toNat = n := by
  interval_cases n <;> rfl

theorem aux_trips : ∀ a : Fin 16, (⟨0#32, Scalar.addi 0#32 (Scalar.muli (Scalar.divsi (Scalar.subi (BitVec.ofNat 32 a.val) 0#32) 1#32) 1#32), 1#32⟩ : Scf.Loop 32).trips = a.val := by
  decide +kernel

theorem trips_t1 (i : grid0.Coords) : (k0_t1_loop i).trips = (i 1).val := aux_trips (i 1)

theorem trip_lt (i : grid0.Coords) (k : Fin (k0_t1_loop i).trips) : k.val < 16 :=
  lt_trans (lt_of_lt_of_eq k.isLt (trips_t1 i)) (i 1).isLt

theorem off1 (i : grid0.Coords) (k : Fin (k0_t1_loop i).trips) : k0_off1 i k = ![256 * k.val, 0] := by
  show ![_, 0] = _
  rw [← iv256 k.val (trip_lt i k)]
theorem off2 (i : grid0.Coords) (k : Fin (k0_t1_loop i).trips) : k0_off2 i k = ![256 * k.val, 128 * 0] := by
  show ![_, 0] = _
  rw [← iv256 k.val (trip_lt i k)]
theorem off3 (i : grid0.Coords) (k : Fin (k0_t1_loop i).trips) : k0_off3 i k = ![256 * k.val, 128 * 1] := by
  show ![_, 128] = _
  rw [← iv256 k.val (trip_lt i k)]
theorem off4 (i : grid0.Coords) (k : Fin (k0_t1_loop i).trips) : k0_off4 i k = ![256 * k.val, 128 * 2] := by
  show ![_, 256] = _
  rw [← iv256 k.val (trip_lt i k)]
theorem off5 (i : grid0.Coords) (k : Fin (k0_t1_loop i).trips) : k0_off5 i k = ![256 * k.val, 128 * 3] := by
  show ![_, 384] = _
  rw [← iv256 k.val (trip_lt i k)]
theorem off6 (i : grid0.Coords) (k : Fin (k0_t1_loop i).trips) : k0_off6 i k = ![0, k.val, 64 * 0, 0] := by
  have e := iv1 k.val (trip_lt i k)
  show ![0, _, 0, 0] = _
  exact congrArg (fun z : ℕ => (![0, z, 0, 0] : Fin 4 → ℕ)) e
theorem off7 (i : grid0.Coords) (k : Fin (k0_t1_loop i).trips) : k0_off7 i k = ![0, k.val, 64 * 1, 0] := by
  have e := iv1 k.val (trip_lt i k)
  show ![0, _, 64, 0] = _
  exact congrArg (fun z : ℕ => (![0, z, 64, 0] : Fin 4 → ℕ)) e
theorem off8 (i : grid0.Coords) (k : Fin (k0_t1_loop i).trips) : k0_off8 i k = ![0, k.val, 64 * 2, 0] := by
  have e := iv1 k.val (trip_lt i k)
  show ![0, _, 128, 0] = _
  exact congrArg (fun z : ℕ => (![0, z, 128, 0] : Fin 4 → ℕ)) e
theorem off9 (i : grid0.Coords) (k : Fin (k0_t1_loop i).trips) : k0_off9 i k = ![0, k.val, 64 * 3, 0] := by
  have e := iv1 k.val (trip_lt i k)
  show ![0, _, 192, 0] = _
  exact congrArg (fun z : ℕ => (![0, z, 192, 0] : Fin 4 → ℕ)) e
theorem off10 (i : grid0.Coords) (k : Fin (k0_t1_loop i).trips) : k0_off10 i k = ![0, k.val, 64 * 4, 0] := by
  have e := iv1 k.val (trip_lt i k)
  show ![0, _, 256, 0] = _
  exact congrArg (fun z : ℕ => (![0, z, 256, 0] : Fin 4 → ℕ)) e
theorem off11 (i : grid0.Coords) (k : Fin (k0_t1_loop i).trips) : k0_off11 i k = ![0, k.val, 64 * 5, 0] := by
  have e := iv1 k.val (trip_lt i k)
  show ![0, _, 320, 0] = _
  exact congrArg (fun z : ℕ => (![0, z, 320, 0] : Fin 4 → ℕ)) e
theorem off12 (i : grid0.Coords) (k : Fin (k0_t1_loop i).trips) : k0_off12 i k = ![0, k.val, 64 * 6, 0] := by
  have e := iv1 k.val (trip_lt i k)
  show ![0, _, 384, 0] = _
  exact congrArg (fun z : ℕ => (![0, z, 384, 0] : Fin 4 → ℕ)) e
theorem off13 (i : grid0.Coords) (k : Fin (k0_t1_loop i).trips) : k0_off13 i k = ![0, k.val, 64 * 7, 0] := by
  have e := iv1 k.val (trip_lt i k)
  show ![0, _, 448, 0] = _
  exact congrArg (fun z : ℕ => (![0, z, 448, 0] : Fin 4 → ℕ)) e

theorem aux_trips2 : ∀ a : Fin 16, (⟨Scalar.addi 0#32 (Scalar.muli (Scalar.divsi (Scalar.subi (BitVec.ofNat 32 a.val) 0#32) 1#32) 1#32), Scalar.addi 0#32 (Scalar.subi (BitVec.ofNat 32 a.val) 0#32), 1#32⟩ : Scf.Loop 32).trips = 0 := by
  decide +kernel

theorem trips_t2 (i : grid0.Coords) : (k0_t2_loop i).trips = 0 := aux_trips2 (i 1)

theorem aux256 : ∀ a : Fin 16, (Scalar.indexCast (Scalar.muli (BitVec.ofNat 32 a.val) 256#32) : Index).toNat = 256 * a.val := by decide +kernel
theorem aux1 : ∀ a : Fin 16, (Scalar.indexCast (BitVec.ofNat 32 a.val) : Index).toNat = a.val := by decide +kernel

theorem off27 (i : grid0.Coords) : k0_off27 i = ![256 * (i 1).val, 0] := by
  have e := aux256 (i 1)
  show ![_, 0] = _
  exact congrArg (fun z : ℕ => (![z, 0] : Fin 2 → ℕ)) e
theorem off28 (i : grid0.Coords) : k0_off28 i = ![256 * (i 1).val, 128 * 0] := by
  have e := aux256 (i 1)
  show ![_, 0] = _
  exact congrArg (fun z : ℕ => (![z, 0] : Fin 2 → ℕ)) e
theorem off29 (i : grid0.Coords) : k0_off29 i = ![256 * (i 1).val, 128 * 1] := by
  have e := aux256 (i 1)
  show ![_, 128] = _
  exact congrArg (fun z : ℕ => (![z, 128] : Fin 2 → ℕ)) e
theorem off30 (i : grid0.Coords) : k0_off30 i = ![256 * (i 1).val, 128 * 2] := by
  have e := aux256 (i 1)
  show ![_, 256] = _
  exact congrArg (fun z : ℕ => (![z, 256] : Fin 2 → ℕ)) e
theorem off31 (i : grid0.Coords) : k0_off31 i = ![256 * (i 1).val, 128 * 3] := by
  have e := aux256 (i 1)
  show ![_, 384] = _
  exact congrArg (fun z : ℕ => (![z, 384] : Fin 2 → ℕ)) e
theorem off32 (i : grid0.Coords) : k0_off32 i = ![0, (i 1).val, 64 * 0, 0] := by
  have e := aux1 (i 1)
  show ![0, _, 0, 0] = _
  exact congrArg (fun z : ℕ => (![0, z, 0, 0] : Fin 4 → ℕ)) e
theorem off33 (i : grid0.Coords) : k0_off33 i = ![0, (i 1).val, 64 * 1, 0] := by
  have e := aux1 (i 1)
  show ![0, _, 64, 0] = _
  exact congrArg (fun z : ℕ => (![0, z, 64, 0] : Fin 4 → ℕ)) e
theorem off34 (i : grid0.Coords) : k0_off34 i = ![0, (i 1).val, 64 * 2, 0] := by
  have e := aux1 (i 1)
  show ![0, _, 128, 0] = _
  exact congrArg (fun z : ℕ => (![0, z, 128, 0] : Fin 4 → ℕ)) e
theorem off35 (i : grid0.Coords) : k0_off35 i = ![0, (i 1).val, 64 * 3, 0] := by
  have e := aux1 (i 1)
  show ![0, _, 192, 0] = _
  exact congrArg (fun z : ℕ => (![0, z, 192, 0] : Fin 4 → ℕ)) e
theorem off36 (i : grid0.Coords) : k0_off36 i = ![0, (i 1).val, 64 * 4, 0] := by
  have e := aux1 (i 1)
  show ![0, _, 256, 0] = _
  exact congrArg (fun z : ℕ => (![0, z, 256, 0] : Fin 4 → ℕ)) e
theorem off37 (i : grid0.Coords) : k0_off37 i = ![0, (i 1).val, 64 * 5, 0] := by
  have e := aux1 (i 1)
  show ![0, _, 320, 0] = _
  exact congrArg (fun z : ℕ => (![0, z, 320, 0] : Fin 4 → ℕ)) e
theorem off38 (i : grid0.Coords) : k0_off38 i = ![0, (i 1).val, 64 * 6, 0] := by
  have e := aux1 (i 1)
  show ![0, _, 384, 0] = _
  exact congrArg (fun z : ℕ => (![0, z, 384, 0] : Fin 4 → ℕ)) e
theorem off39 (i : grid0.Coords) : k0_off39 i = ![0, (i 1).val, 64 * 7, 0] := by
  have e := aux1 (i 1)
  show ![0, _, 448, 0] = _
  exact congrArg (fun z : ℕ => (![0, z, 448, 0] : Fin 4 → ℕ)) e

end Cert.KernelIdeal.Fox

end
-- ==== Proof.Trip.lean ====
/-
What one trip of the unmasked loop leaves in each head's scratch blocks.
-/
module

public import proofs.«01_k».proof.Proof.Offs

@[expose] public section

set_option maxRecDepth 16384

noncomputable section

namespace Cert.KernelIdeal.Fox

open Idealize.ShloMosaic Idealize.ShloMosaic.TcCoe Idealize.SL.Sem Cert.KernelIdeal.Gen Idealize.ShloMosaic.ValueIdx

variable {F : FTy → Type} [FloatOps F] [Named F]

theorem trip_m0 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 0 = stM (lgt 0 (prodB (ktT (arg3.view.read (Elt F) X_arg3) k.val 0) (b7 arg7 X_arg7 0)) (frT (arg5.view.read (Elt F) X_arg5) k.val)) (b9 arg9 f_arg9 0) := by
  rw [← kt_eq arg3 X_arg3 (k0_off2_inb i k) k.val 0 (off2 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stM (lgt 0 z (arg5.view.readAt (Elt F) (Rect.unit (s := S4096x128) (k0_off1 i k) S256x128.size (k0_off1_inb i k)).toLoadRect X_arg5)) (b9 arg9 f_arg9 0)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_l0 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 0 = stL (lgt 0 (prodB (ktT (arg3.view.read (Elt F) X_arg3) k.val 0) (b7 arg7 X_arg7 0)) (frT (arg5.view.read (Elt F) X_arg5) k.val)) (b9 arg9 f_arg9 0) (b9 arg10 f_arg10 0) := by
  rw [← kt_eq arg3 X_arg3 (k0_off2_inb i k) k.val 0 (off2 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stL (lgt 0 z (arg5.view.readAt (Elt F) (Rect.unit (s := S4096x128) (k0_off1 i k) S256x128.size (k0_off1_inb i k)).toLoadRect X_arg5)) (b9 arg9 f_arg9 0) (b9 arg10 f_arg10 0)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_a0 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 0 = stA (lgt 0 (prodB (ktT (arg3.view.read (Elt F) X_arg3) k.val 0) (b7 arg7 X_arg7 0)) (frT (arg5.view.read (Elt F) X_arg5) k.val)) (vtT (arg4.view.read (Elt F) X_arg4) k.val 0) (b9 arg9 f_arg9 0) (b11 arg11 f_arg11 0) := by
  rw [← kt_eq arg3 X_arg3 (k0_off2_inb i k) k.val 0 (off2 i k), ← fr_eq arg5 X_arg5 (k0_off1_inb i k) k.val (off1 i k), ← vt_eq arg4 X_arg4 (k0_off6_inb i k) k.val 0 (off6 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stA (lgt 0 z (arg5.view.readAt (Elt F) (Rect.unit (s := S4096x128) (k0_off1 i k) S256x128.size (k0_off1_inb i k)).toLoadRect X_arg5)) (arg4.view.readAt (Elt F) (Rect.unit (s := S1x16x512x256) (k0_off6 i k) S1x1x64x256.size (k0_off6_inb i k)).toLoadRect X_arg4) (b9 arg9 f_arg9 0) (b11 arg11 f_arg11 0)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_m1 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 1 = stM (lgt 1 (prodB (ktT (arg3.view.read (Elt F) X_arg3) k.val 0) (b7 arg7 X_arg7 1)) (frT (arg5.view.read (Elt F) X_arg5) k.val)) (b9 arg9 f_arg9 1) := by
  rw [← kt_eq arg3 X_arg3 (k0_off2_inb i k) k.val 0 (off2 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stM (lgt 1 z (arg5.view.readAt (Elt F) (Rect.unit (s := S4096x128) (k0_off1 i k) S256x128.size (k0_off1_inb i k)).toLoadRect X_arg5)) (b9 arg9 f_arg9 1)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_l1 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 1 = stL (lgt 1 (prodB (ktT (arg3.view.read (Elt F) X_arg3) k.val 0) (b7 arg7 X_arg7 1)) (frT (arg5.view.read (Elt F) X_arg5) k.val)) (b9 arg9 f_arg9 1) (b9 arg10 f_arg10 1) := by
  rw [← kt_eq arg3 X_arg3 (k0_off2_inb i k) k.val 0 (off2 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stL (lgt 1 z (arg5.view.readAt (Elt F) (Rect.unit (s := S4096x128) (k0_off1 i k) S256x128.size (k0_off1_inb i k)).toLoadRect X_arg5)) (b9 arg9 f_arg9 1) (b9 arg10 f_arg10 1)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_a1 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 1 = stA (lgt 1 (prodB (ktT (arg3.view.read (Elt F) X_arg3) k.val 0) (b7 arg7 X_arg7 1)) (frT (arg5.view.read (Elt F) X_arg5) k.val)) (vtT (arg4.view.read (Elt F) X_arg4) k.val 1) (b9 arg9 f_arg9 1) (b11 arg11 f_arg11 1) := by
  rw [← kt_eq arg3 X_arg3 (k0_off2_inb i k) k.val 0 (off2 i k), ← fr_eq arg5 X_arg5 (k0_off1_inb i k) k.val (off1 i k), ← vt_eq arg4 X_arg4 (k0_off7_inb i k) k.val 1 (off7 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stA (lgt 1 z (arg5.view.readAt (Elt F) (Rect.unit (s := S4096x128) (k0_off1 i k) S256x128.size (k0_off1_inb i k)).toLoadRect X_arg5)) (arg4.view.readAt (Elt F) (Rect.unit (s := S1x16x512x256) (k0_off7 i k) S1x1x64x256.size (k0_off7_inb i k)).toLoadRect X_arg4) (b9 arg9 f_arg9 1) (b11 arg11 f_arg11 1)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_m2 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 2 = stM (lgt 2 (prodB (ktT (arg3.view.read (Elt F) X_arg3) k.val 1) (b7 arg7 X_arg7 2)) (frT (arg5.view.read (Elt F) X_arg5) k.val)) (b9 arg9 f_arg9 2) := by
  rw [← kt_eq arg3 X_arg3 (k0_off3_inb i k) k.val 1 (off3 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stM (lgt 2 z (arg5.view.readAt (Elt F) (Rect.unit (s := S4096x128) (k0_off1 i k) S256x128.size (k0_off1_inb i k)).toLoadRect X_arg5)) (b9 arg9 f_arg9 2)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_l2 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 2 = stL (lgt 2 (prodB (ktT (arg3.view.read (Elt F) X_arg3) k.val 1) (b7 arg7 X_arg7 2)) (frT (arg5.view.read (Elt F) X_arg5) k.val)) (b9 arg9 f_arg9 2) (b9 arg10 f_arg10 2) := by
  rw [← kt_eq arg3 X_arg3 (k0_off3_inb i k) k.val 1 (off3 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stL (lgt 2 z (arg5.view.readAt (Elt F) (Rect.unit (s := S4096x128) (k0_off1 i k) S256x128.size (k0_off1_inb i k)).toLoadRect X_arg5)) (b9 arg9 f_arg9 2) (b9 arg10 f_arg10 2)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_a2 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 2 = stA (lgt 2 (prodB (ktT (arg3.view.read (Elt F) X_arg3) k.val 1) (b7 arg7 X_arg7 2)) (frT (arg5.view.read (Elt F) X_arg5) k.val)) (vtT (arg4.view.read (Elt F) X_arg4) k.val 2) (b9 arg9 f_arg9 2) (b11 arg11 f_arg11 2) := by
  rw [← kt_eq arg3 X_arg3 (k0_off3_inb i k) k.val 1 (off3 i k), ← fr_eq arg5 X_arg5 (k0_off1_inb i k) k.val (off1 i k), ← vt_eq arg4 X_arg4 (k0_off8_inb i k) k.val 2 (off8 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stA (lgt 2 z (arg5.view.readAt (Elt F) (Rect.unit (s := S4096x128) (k0_off1 i k) S256x128.size (k0_off1_inb i k)).toLoadRect X_arg5)) (arg4.view.readAt (Elt F) (Rect.unit (s := S1x16x512x256) (k0_off8 i k) S1x1x64x256.size (k0_off8_inb i k)).toLoadRect X_arg4) (b9 arg9 f_arg9 2) (b11 arg11 f_arg11 2)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_m3 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 3 = stM (lgt 3 (prodB (ktT (arg3.view.read (Elt F) X_arg3) k.val 1) (b7 arg7 X_arg7 3)) (frT (arg5.view.read (Elt F) X_arg5) k.val)) (b9 arg9 f_arg9 3) := by
  rw [← kt_eq arg3 X_arg3 (k0_off3_inb i k) k.val 1 (off3 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stM (lgt 3 z (arg5.view.readAt (Elt F) (Rect.unit (s := S4096x128) (k0_off1 i k) S256x128.size (k0_off1_inb i k)).toLoadRect X_arg5)) (b9 arg9 f_arg9 3)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_l3 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 3 = stL (lgt 3 (prodB (ktT (arg3.view.read (Elt F) X_arg3) k.val 1) (b7 arg7 X_arg7 3)) (frT (arg5.view.read (Elt F) X_arg5) k.val)) (b9 arg9 f_arg9 3) (b9 arg10 f_arg10 3) := by
  rw [← kt_eq arg3 X_arg3 (k0_off3_inb i k) k.val 1 (off3 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stL (lgt 3 z (arg5.view.readAt (Elt F) (Rect.unit (s := S4096x128) (k0_off1 i k) S256x128.size (k0_off1_inb i k)).toLoadRect X_arg5)) (b9 arg9 f_arg9 3) (b9 arg10 f_arg10 3)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_a3 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 3 = stA (lgt 3 (prodB (ktT (arg3.view.read (Elt F) X_arg3) k.val 1) (b7 arg7 X_arg7 3)) (frT (arg5.view.read (Elt F) X_arg5) k.val)) (vtT (arg4.view.read (Elt F) X_arg4) k.val 3) (b9 arg9 f_arg9 3) (b11 arg11 f_arg11 3) := by
  rw [← kt_eq arg3 X_arg3 (k0_off3_inb i k) k.val 1 (off3 i k), ← fr_eq arg5 X_arg5 (k0_off1_inb i k) k.val (off1 i k), ← vt_eq arg4 X_arg4 (k0_off9_inb i k) k.val 3 (off9 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stA (lgt 3 z (arg5.view.readAt (Elt F) (Rect.unit (s := S4096x128) (k0_off1 i k) S256x128.size (k0_off1_inb i k)).toLoadRect X_arg5)) (arg4.view.readAt (Elt F) (Rect.unit (s := S1x16x512x256) (k0_off9 i k) S1x1x64x256.size (k0_off9_inb i k)).toLoadRect X_arg4) (b9 arg9 f_arg9 3) (b11 arg11 f_arg11 3)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_m4 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 4 = stM (lgt 4 (prodB (ktT (arg3.view.read (Elt F) X_arg3) k.val 2) (b7 arg7 X_arg7 4)) (frT (arg5.view.read (Elt F) X_arg5) k.val)) (b9 arg9 f_arg9 4) := by
  rw [← kt_eq arg3 X_arg3 (k0_off4_inb i k) k.val 2 (off4 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stM (lgt 4 z (arg5.view.readAt (Elt F) (Rect.unit (s := S4096x128) (k0_off1 i k) S256x128.size (k0_off1_inb i k)).toLoadRect X_arg5)) (b9 arg9 f_arg9 4)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_l4 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 4 = stL (lgt 4 (prodB (ktT (arg3.view.read (Elt F) X_arg3) k.val 2) (b7 arg7 X_arg7 4)) (frT (arg5.view.read (Elt F) X_arg5) k.val)) (b9 arg9 f_arg9 4) (b9 arg10 f_arg10 4) := by
  rw [← kt_eq arg3 X_arg3 (k0_off4_inb i k) k.val 2 (off4 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stL (lgt 4 z (arg5.view.readAt (Elt F) (Rect.unit (s := S4096x128) (k0_off1 i k) S256x128.size (k0_off1_inb i k)).toLoadRect X_arg5)) (b9 arg9 f_arg9 4) (b9 arg10 f_arg10 4)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_a4 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 4 = stA (lgt 4 (prodB (ktT (arg3.view.read (Elt F) X_arg3) k.val 2) (b7 arg7 X_arg7 4)) (frT (arg5.view.read (Elt F) X_arg5) k.val)) (vtT (arg4.view.read (Elt F) X_arg4) k.val 4) (b9 arg9 f_arg9 4) (b11 arg11 f_arg11 4) := by
  rw [← kt_eq arg3 X_arg3 (k0_off4_inb i k) k.val 2 (off4 i k), ← fr_eq arg5 X_arg5 (k0_off1_inb i k) k.val (off1 i k), ← vt_eq arg4 X_arg4 (k0_off10_inb i k) k.val 4 (off10 i k)]
  unfold tripL_k0_t1; unfold trip_k0_t1; dsimp only
  refine (rd_skip _ _ _ _ _ _ rfl rfl (by decide)).trans ?_
  refine (rd_skip _ _ _ _ _ _ rfl rfl (by decide)).trans ?_
  refine (rd_skip _ _ _ _ _ _ rfl rfl (by decide)).trans ?_
  refine (rd_hit _ _ _ _ _ _).trans (congrArg (fun z => stA (lgt 4 z (arg5.view.readAt (Elt F) (Rect.unit (s := S4096x128) (k0_off1 i k) S256x128.size (k0_off1_inb i k)).toLoadRect X_arg5)) (arg4.view.readAt (Elt F) (Rect.unit (s := S1x16x512x256) (k0_off10 i k) S1x1x64x256.size (k0_off10_inb i k)).toLoadRect X_arg4) (b9 arg9 f_arg9 4) (b11 arg11 f_arg11 4)) ?_)
  refine (rd_skip _ _ _ _ _ _ rfl rfl (by decide)).trans ?_
  refine (rd_skip _ _ _ _ _ _ rfl rfl (by decide)).trans ?_
  refine (rd_skip _ _ _ _ _ _ rfl rfl (by decide)).trans ?_
  exact rd_hit _ _ _ _ _ _

theorem trip_m5 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 5 = stM (lgt 5 (prodB (ktT (arg3.view.read (Elt F) X_arg3) k.val 2) (b7 arg7 X_arg7 5)) (frT (arg5.view.read (Elt F) X_arg5) k.val)) (b9 arg9 f_arg9 5) := by
  rw [← kt_eq arg3 X_arg3 (k0_off4_inb i k) k.val 2 (off4 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_hit _ _ _ _ _ _).trans (congrArg (fun z => stM (lgt 5 z (arg5.view.readAt (Elt F) (Rect.unit (s := S4096x128) (k0_off1 i k) S256x128.size (k0_off1_inb i k)).toLoadRect X_arg5)) (b9 arg9 f_arg9 5)) ?_)
  refine (rd_skip _ _ _ _ _ _ rfl rfl (by decide)).trans ?_
  refine (rd_skip _ _ _ _ _ _ rfl rfl (by decide)).trans ?_
  exact rd_hit _ _ _ _ _ _

theorem trip_l5 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 5 = stL (lgt 5 (prodB (ktT (arg3.view.read (Elt F) X_arg3) k.val 2) (b7 arg7 X_arg7 5)) (frT (arg5.view.read (Elt F) X_arg5) k.val)) (b9 arg9 f_arg9 5) (b9 arg10 f_arg10 5) := by
  rw [← kt_eq arg3 X_arg3 (k0_off4_inb i k) k.val 2 (off4 i k), ← fr_eq arg5 X_arg5 (k0_off1_inb i k) k.val (off1 i k)]
  unfold tripL_k0_t1; unfold trip_k0_t1; dsimp only
  refine (rd_skip _ _ _ _ _ _ rfl rfl (by decide)).trans ?_
  refine (rd_skip _ _ _ _ _ _ rfl rfl (by decide)).trans ?_
  refine (rd_hit _ _ _ _ _ _).trans (congrArg (fun z => stL (lgt 5 z (arg5.view.readAt (Elt F) (Rect.unit (s := S4096x128) (k0_off1 i k) S256x128.size (k0_off1_inb i k)).toLoadRect X_arg5)) (b9 arg9 f_arg9 5) (b9 arg10 f_arg10 5)) ?_)
  refine (rd_skip _ _ _ _ _ _ rfl rfl (by decide)).trans ?_
  refine (rd_skip _ _ _ _ _ _ rfl rfl (by decide)).trans ?_
  exact rd_hit _ _ _ _ _ _

theorem trip_a5 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 5 = stA (lgt 5 (prodB (ktT (arg3.view.read (Elt F) X_arg3) k.val 2) (b7 arg7 X_arg7 5)) (frT (arg5.view.read (Elt F) X_arg5) k.val)) (vtT (arg4.view.read (Elt F) X_arg4) k.val 5) (b9 arg9 f_arg9 5) (b11 arg11 f_arg11 5) := by
  rw [← kt_eq arg3 X_arg3 (k0_off4_inb i k) k.val 2 (off4 i k), ← fr_eq arg5 X_arg5 (k0_off1_inb i k) k.val (off1 i k), ← vt_eq arg4 X_arg4 (k0_off11_inb i k) k.val 5 (off11 i k)]
  unfold tripL_k0_t1; unfold trip_k0_t1; dsimp only
  refine (rd_skip _ _ _ _ _ _ rfl rfl (by decide)).trans ?_
  refine (rd_skip _ _ _ _ _ _ rfl rfl (by decide)).trans ?_
  refine (rd_hit _ _ _ _ _ _).trans (congrArg (fun z => stA (lgt 5 z (arg5.view.readAt (Elt F) (Rect.unit (s := S4096x128) (k0_off1 i k) S256x128.size (k0_off1_inb i k)).toLoadRect X_arg5)) (arg4.view.readAt (Elt F) (Rect.unit (s := S1x16x512x256) (k0_off11 i k) S1x1x64x256.size (k0_off11_inb i k)).toLoadRect X_arg4) (b9 arg9 f_arg9 5) (b11 arg11 f_arg11 5)) ?_)
  refine (rd_skip _ _ _ _ _ _ rfl rfl (by decide)).trans ?_
  refine (rd_skip _ _ _ _ _ _ rfl rfl (by decide)).trans ?_
  exact rd_hit _ _ _ _ _ _

theorem trip_m6 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 6 = stM (lgt 6 (prodB (ktT (arg3.view.read (Elt F) X_arg3) k.val 3) (b7 arg7 X_arg7 6)) (frT (arg5.view.read (Elt F) X_arg5) k.val)) (b9 arg9 f_arg9 6) := by
  rw [← kt_eq arg3 X_arg3 (k0_off5_inb i k) k.val 3 (off5 i k), ← fr_eq arg5 X_arg5 (k0_off1_inb i k) k.val (off1 i k)]
  unfold tripL_k0_t1; unfold trip_k0_t1; dsimp only
  refine (rd_skip _ _ _ _ _ _ rfl rfl (by decide)).trans ?_
  refine (rd_hit _ _ _ _ _ _).trans (congrArg (fun z => stM (lgt 6 z (arg5.view.readAt (Elt F) (Rect.unit (s := S4096x128) (k0_off1 i k) S256x128.size (k0_off1_inb i k)).toLoadRect X_arg5)) (b9 arg9 f_arg9 6)) ?_)
  refine (rd_skip _ _ _ _ _ _ rfl rfl (by decide)).trans ?_
  exact rd_hit _ _ _ _ _ _

theorem trip_l6 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 6 = stL (lgt 6 (prodB (ktT (arg3.view.read (Elt F) X_arg3) k.val 3) (b7 arg7 X_arg7 6)) (frT (arg5.view.read (Elt F) X_arg5) k.val)) (b9 arg9 f_arg9 6) (b9 arg10 f_arg10 6) := by
  rw [← kt_eq arg3 X_arg3 (k0_off5_inb i k) k.val 3 (off5 i k), ← fr_eq arg5 X_arg5 (k0_off1_inb i k) k.val (off1 i k)]
  unfold tripL_k0_t1; unfold trip_k0_t1; dsimp only
  refine (rd_skip _ _ _ _ _ _ rfl rfl (by decide)).trans ?_
  refine (rd_hit _ _ _ _ _ _).trans (congrArg (fun z => stL (lgt 6 z (arg5.view.readAt (Elt F) (Rect.unit (s := S4096x128) (k0_off1 i k) S256x128.size (k0_off1_inb i k)).toLoadRect X_arg5)) (b9 arg9 f_arg9 6) (b9 arg10 f_arg10 6)) ?_)
  refine (rd_skip _ _ _ _ _ _ rfl rfl (by decide)).trans ?_
  exact rd_hit _ _ _ _ _ _

theorem trip_a6 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 6 = stA (lgt 6 (prodB (ktT (arg3.view.read (Elt F) X_arg3) k.val 3) (b7 arg7 X_arg7 6)) (frT (arg5.view.read (Elt F) X_arg5) k.val)) (vtT (arg4.view.read (Elt F) X_arg4) k.val 6) (b9 arg9 f_arg9 6) (b11 arg11 f_arg11 6) := by
  rw [← kt_eq arg3 X_arg3 (k0_off5_inb i k) k.val 3 (off5 i k), ← fr_eq arg5 X_arg5 (k0_off1_inb i k) k.val (off1 i k), ← vt_eq arg4 X_arg4 (k0_off12_inb i k) k.val 6 (off12 i k)]
  unfold tripL_k0_t1; unfold trip_k0_t1; dsimp only
  refine (rd_skip _ _ _ _ _ _ rfl rfl (by decide)).trans ?_
  refine (rd_hit _ _ _ _ _ _).trans (congrArg (fun z => stA (lgt 6 z (arg5.view.readAt (Elt F) (Rect.unit (s := S4096x128) (k0_off1 i k) S256x128.size (k0_off1_inb i k)).toLoadRect X_arg5)) (arg4.view.readAt (Elt F) (Rect.unit (s := S1x16x512x256) (k0_off12 i k) S1x1x64x256.size (k0_off12_inb i k)).toLoadRect X_arg4) (b9 arg9 f_arg9 6) (b11 arg11 f_arg11 6)) ?_)
  refine (rd_skip _ _ _ _ _ _ rfl rfl (by decide)).trans ?_
  exact rd_hit _ _ _ _ _ _

theorem trip_m7 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) 7 = stM (lgt 7 (prodB (ktT (arg3.view.read (Elt F) X_arg3) k.val 3) (b7 arg7 X_arg7 7)) (frT (arg5.view.read (Elt F) X_arg5) k.val)) (b9 arg9 f_arg9 7) := by
  rw [← kt_eq arg3 X_arg3 (k0_off5_inb i k) k.val 3 (off5 i k), ← fr_eq arg5 X_arg5 (k0_off1_inb i k) k.val (off1 i k)]
  unfold tripL_k0_t1; unfold trip_k0_t1; dsimp only
  refine (rd_hit _ _ _ _ _ _).trans (congrArg (fun z => stM (lgt 7 z (arg5.view.readAt (Elt F) (Rect.unit (s := S4096x128) (k0_off1 i k) S256x128.size (k0_off1_inb i k)).toLoadRect X_arg5)) (b9 arg9 f_arg9 7)) ?_)
  exact rd_hit _ _ _ _ _ _

theorem trip_l7 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) 7 = stL (lgt 7 (prodB (ktT (arg3.view.read (Elt F) X_arg3) k.val 3) (b7 arg7 X_arg7 7)) (frT (arg5.view.read (Elt F) X_arg5) k.val)) (b9 arg9 f_arg9 7) (b9 arg10 f_arg10 7) := by
  rw [← kt_eq arg3 X_arg3 (k0_off5_inb i k) k.val 3 (off5 i k), ← fr_eq arg5 X_arg5 (k0_off1_inb i k) k.val (off1 i k)]
  unfold tripL_k0_t1; unfold trip_k0_t1; dsimp only
  refine (rd_hit _ _ _ _ _ _).trans (congrArg (fun z => stL (lgt 7 z (arg5.view.readAt (Elt F) (Rect.unit (s := S4096x128) (k0_off1 i k) S256x128.size (k0_off1_inb i k)).toLoadRect X_arg5)) (b9 arg9 f_arg9 7) (b9 arg10 f_arg10 7)) ?_)
  exact rd_hit _ _ _ _ _ _

theorem trip_a7 (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) 7 = stA (lgt 7 (prodB (ktT (arg3.view.read (Elt F) X_arg3) k.val 3) (b7 arg7 X_arg7 7)) (frT (arg5.view.read (Elt F) X_arg5) k.val)) (vtT (arg4.view.read (Elt F) X_arg4) k.val 7) (b9 arg9 f_arg9 7) (b11 arg11 f_arg11 7) := by
  rw [← kt_eq arg3 X_arg3 (k0_off5_inb i k) k.val 3 (off5 i k), ← fr_eq arg5 X_arg5 (k0_off1_inb i k) k.val (off1 i k), ← vt_eq arg4 X_arg4 (k0_off13_inb i k) k.val 7 (off13 i k)]
  unfold tripL_k0_t1; unfold trip_k0_t1; dsimp only
  refine (rd_hit _ _ _ _ _ _).trans (congrArg (fun z => stA (lgt 7 z (arg5.view.readAt (Elt F) (Rect.unit (s := S4096x128) (k0_off1 i k) S256x128.size (k0_off1_inb i k)).toLoadRect X_arg5)) (arg4.view.readAt (Elt F) (Rect.unit (s := S1x16x512x256) (k0_off13 i k) S1x1x64x256.size (k0_off13_inb i k)).toLoadRect X_arg4) (b9 arg9 f_arg9 7) (b11 arg11 f_arg11 7)) ?_)
  exact rd_hit _ _ _ _ _ _

end Cert.KernelIdeal.Fox

end
-- ==== Proof.State.lean ====
/-
The state of a head after any number of unmasked tiles, and what the loop's scratch holds.
-/
module

public import proofs.«01_k».proof.Proof.Trip

@[expose] public section

set_option maxRecDepth 16384

noncomputable section

namespace Cert.KernelIdeal.Fox

open Idealize.ShloMosaic Idealize.ShloMosaic.TcCoe Idealize.SL.Sem Cert.KernelIdeal.Gen Idealize.ShloMosaic.ValueIdx

variable {F : FTy → Type} [FloatOps F] [Named F]

/-- The queries of a head among the 128 features of its pair: the other head's features are zero. -/
def qmT (x0 : Vec F S1x1x512x256 .bf16) (h : ℕ) : Vec F S1x128x256 .bf16 := fun y =>
  if 64 * (h % 2) ≤ (y (1 : Fin 3)).val ∧ (y (1 : Fin 3)).val < 64 * (h % 2) + 64 then
    x0 (ix4 (0 : Fin 1) (0 : Fin 1) (⟨(128 * (h / 2) + (y (1 : Fin 3)).val) % 512, Nat.mod_lt _ (by norm_num)⟩ : Fin 512)
      (⟨(y (2 : Fin 3)).val % 256, Nat.mod_lt _ (by norm_num)⟩ : Fin 256))
  else Scalar.ofBits .bf16 0x0000#16

/-- The masked queries as the kernel prepares them, between two feature bounds. -/
abbrev mskq (lo hi : BitVec 32) (q : Vec F S1x1x128x256 .bf16) : FVec F S1x128x256 .bf16 :=
  shapeCast S1x128x256 (select (andi (cmpi .sge (iota .tc S128x256 32 [0] Facts₀.iota_S128x256_d0_w32) (broadcast S128x256 lo))
      (cmpi .slt (iota .tc S128x256 32 [0] Facts₀.iota_S128x256_d0_w32) (broadcast S128x256 hi)))
    (shapeCast S128x256 q Facts₀.shapeCasts_S1x1x128x256_S128x256) (broadcast S128x256 (Scalar.ofBits .bf16 0x0000#16 : F .bf16))) Facts₀.shapeCasts_S128x256_S1x128x256

def ini9 : Vec F S1x8x256 .f32 := fun _ => Named.named κ "mask" 0xF149F2CA#32
def ini10 : Vec F S1x8x256 .f32 := fun _ => Scalar.ofBits .f32 0x00000000#32
def ini11 : Vec F S1x64x256 .f32 := fun _ => Scalar.ofBits .f32 0x00000000#32

section
variable (x0 : Vec F S1x1x512x256 .bf16) (x1 : Vec F S4096x512 .bf16) (x2 : Vec F S1x16x512x256 .bf16) (x3 : Vec F S4096x128 .f32)

/-- A head's logits on key tile `j`. -/
def lgS (j : ℕ) (h : Fin 8) : FVec F S256x256 .f32 := lgt h (prodB (ktT x1 j (h.val / 2)) (qmT x0 h.val)) (frT x3 j)

/-- A head's running maximum, sum and value product after `n` unmasked tiles. -/
def stp (h : Fin 8) : ℕ → Vec F S1x8x256 .f32 × Vec F S1x8x256 .f32 × Vec F S1x64x256 .f32
  | 0 => (ini9, ini10, ini11)
  | n + 1 => (stM (lgS x0 x1 x3 n h) (stp h n).1, stL (lgS x0 x1 x3 n h) (stp h n).1 (stp h n).2.1,
      stA (lgS x0 x1 x3 n h) (vtT x2 n h.val) (stp h n).1 (stp h n).2.2)

/-- The running sum and value product after the diagonal tile. -/
def finL (i : ℕ) (h : Fin 8) : Vec F S1x8x256 .f32 := stL (mskd (lgS x0 x1 x3 i h)) (stp x0 x1 x2 x3 h i).1 (stp x0 x1 x2 x3 h i).2.1
def finA (i : ℕ) (h : Fin 8) : Vec F S1x64x256 .f32 := stA (mskd (lgS x0 x1 x3 i h)) (vtT x2 i h.val) (stp x0 x1 x2 x3 h i).1 (stp x0 x1 x2 x3 h i).2.2

/-- The output columns of a pair of heads. -/
def outQ (i : ℕ) (h0 h1 : Fin 8) : FVec F S256x128 .bf16 :=
  outP (finA x0 x1 x2 x3 i h0) (finL x0 x1 x2 x3 i h0) (finA x0 x1 x2 x3 i h1) (finL x0 x1 x2 x3 i h1)

/-- The output block of query tile `i`. -/
def outBlk (i : ℕ) : Vec F S256x512 .bf16 := fun y =>
  outQ x0 x1 x2 x3 i (⟨(2 * ((y (1 : Fin 2)).val / 128)) % 8, Nat.mod_lt _ (by norm_num)⟩) (⟨(2 * ((y (1 : Fin 2)).val / 128) + 1) % 8, Nat.mod_lt _ (by norm_num)⟩)
    (ix2 (⟨(y (0 : Fin 2)).val % 256, Nat.mod_lt _ (by norm_num)⟩ : Fin 256) (⟨(y (1 : Fin 2)).val % 128, Nat.mod_lt _ (by norm_num)⟩ : Fin 128))
end

/-! ## The loop -/

theorem fin8 : ∀ h : Fin 8, h = 0 ∨ h = 1 ∨ h = 2 ∨ h = 3 ∨ h = 4 ∨ h = 5 ∨ h = 6 ∨ h = 7 := by decide

theorem trip_m (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (h : Fin 8) :
    b9 arg9 (arg9.view.writes (Elt F) f_arg9 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.1) h = stM (lgt h (prodB (ktT (arg3.view.read (Elt F) X_arg3) k.val (h.val / 2)) (b7 arg7 X_arg7 h)) (frT (arg5.view.read (Elt F) X_arg5) k.val)) (b9 arg9 f_arg9 h) := by
  rcases fin8 h with rfl | rfl | rfl | rfl | rfl | rfl | rfl | rfl
  · rw [show (0 : Fin 8).val / 2 = 0 from rfl]
    exact trip_m0 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (1 : Fin 8).val / 2 = 0 from rfl]
    exact trip_m1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (2 : Fin 8).val / 2 = 1 from rfl]
    exact trip_m2 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (3 : Fin 8).val / 2 = 1 from rfl]
    exact trip_m3 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (4 : Fin 8).val / 2 = 2 from rfl]
    exact trip_m4 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (5 : Fin 8).val / 2 = 2 from rfl]
    exact trip_m5 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (6 : Fin 8).val / 2 = 3 from rfl]
    exact trip_m6 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (7 : Fin 8).val / 2 = 3 from rfl]
    exact trip_m7 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11

theorem trip_l (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (h : Fin 8) :
    b9 arg10 (arg10.view.writes (Elt F) f_arg10 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.1) h = stL (lgt h (prodB (ktT (arg3.view.read (Elt F) X_arg3) k.val (h.val / 2)) (b7 arg7 X_arg7 h)) (frT (arg5.view.read (Elt F) X_arg5) k.val)) (b9 arg9 f_arg9 h) (b9 arg10 f_arg10 h) := by
  rcases fin8 h with rfl | rfl | rfl | rfl | rfl | rfl | rfl | rfl
  · rw [show (0 : Fin 8).val / 2 = 0 from rfl]
    exact trip_l0 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (1 : Fin 8).val / 2 = 0 from rfl]
    exact trip_l1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (2 : Fin 8).val / 2 = 1 from rfl]
    exact trip_l2 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (3 : Fin 8).val / 2 = 1 from rfl]
    exact trip_l3 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (4 : Fin 8).val / 2 = 2 from rfl]
    exact trip_l4 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (5 : Fin 8).val / 2 = 2 from rfl]
    exact trip_l5 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (6 : Fin 8).val / 2 = 3 from rfl]
    exact trip_l6 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (7 : Fin 8).val / 2 = 3 from rfl]
    exact trip_l7 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11

theorem trip_a (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i).trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (h : Fin 8) :
    b11 arg11 (arg11.view.writes (Elt F) f_arg11 (tripL_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11).2.2.2) h = stA (lgt h (prodB (ktT (arg3.view.read (Elt F) X_arg3) k.val (h.val / 2)) (b7 arg7 X_arg7 h)) (frT (arg5.view.read (Elt F) X_arg5) k.val)) (vtT (arg4.view.read (Elt F) X_arg4) k.val h.val) (b9 arg9 f_arg9 h) (b11 arg11 f_arg11 h) := by
  rcases fin8 h with rfl | rfl | rfl | rfl | rfl | rfl | rfl | rfl
  · rw [show (0 : Fin 8).val / 2 = 0 from rfl, show (0 : Fin 8).val = 0 from rfl]
    exact trip_a0 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (1 : Fin 8).val / 2 = 0 from rfl, show (1 : Fin 8).val = 1 from rfl]
    exact trip_a1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (2 : Fin 8).val / 2 = 1 from rfl, show (2 : Fin 8).val = 2 from rfl]
    exact trip_a2 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (3 : Fin 8).val / 2 = 1 from rfl, show (3 : Fin 8).val = 3 from rfl]
    exact trip_a3 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (4 : Fin 8).val / 2 = 2 from rfl, show (4 : Fin 8).val = 4 from rfl]
    exact trip_a4 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (5 : Fin 8).val / 2 = 2 from rfl, show (5 : Fin 8).val = 5 from rfl]
    exact trip_a5 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (6 : Fin 8).val / 2 = 3 from rfl, show (6 : Fin 8).val = 6 from rfl]
    exact trip_a6 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11
  · rw [show (7 : Fin 8).val / 2 = 3 from rfl, show (7 : Fin 8).val = 7 from rfl]
    exact trip_a7 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 k f_arg8 f_arg9 f_arg10 f_arg11

/-- What the scratch holds before each trip. -/
theorem pb_reads (𝒱 : Variants) (c : Dev nD) (bd : Option 𝒱.V) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole) (arg1 : BitVec 32) (v88 : FVec F S128x256 .bf16) (v93 : IVec S128x256 1) (cst_62 : F .bf16) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (x0 : Vec F S1x1x512x256 .bf16)
    (hq : ∀ h : Fin 8, b7 arg7 X_arg7 h = qmT x0 h.val) (h9 : ∀ h, b9 arg9 G_arg9 h = ini9) (h10 : ∀ h, b9 arg10 G_arg10 h = ini10) (h11 : ∀ h, b11 arg11 G_arg11 h = ini11)
    (n : ℕ) (hn : n ≤ (k0_t1_loop i).trips) (h : Fin 8) :
    b9 arg9 (arg9.view.writes (Elt F) G_arg9 (pb_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 G_arg8 G_arg9 G_arg10 G_arg11 n).2.1) h = (stp x0 (arg3.view.read (Elt F) X_arg3) (arg4.view.read (Elt F) X_arg4) (arg5.view.read (Elt F) X_arg5) h n).1
    ∧ b9 arg10 (arg10.view.writes (Elt F) G_arg10 (pb_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 G_arg8 G_arg9 G_arg10 G_arg11 n).2.2.1) h = (stp x0 (arg3.view.read (Elt F) X_arg3) (arg4.view.read (Elt F) X_arg4) (arg5.view.read (Elt F) X_arg5) h n).2.1
    ∧ b11 arg11 (arg11.view.writes (Elt F) G_arg11 (pb_k0_t1 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 G_arg8 G_arg9 G_arg10 G_arg11 n).2.2.2) h = (stp x0 (arg3.view.read (Elt F) X_arg3) (arg4.view.read (Elt F) X_arg4) (arg5.view.read (Elt F) X_arg5) h n).2.2 := by
  induction n with
  | zero => exact ⟨h9 h, h10 h, h11 h⟩
  | succ n ih =>
    obtain ⟨i1, i2, i3⟩ := ih (Nat.le_of_succ_le hn)
    have e := pb_k0_t1_succ 𝒱 c bd i arg2 harg2 arg3 harg3 arg4 harg4 arg5 harg5 arg6 harg6 arg7 harg7 arg8 harg8 arg9 harg9 arg10 harg10 arg11 harg11 arg1 v88 v93 cst_62 X_arg3 X_arg4 X_arg5 X_arg7 G_arg8 G_arg9 G_arg10 G_arg11 ⟨n, hn⟩
    rw [show (⟨n, hn⟩ : Fin (k0_t1_loop i).trips).val + 1 = n + 1 from rfl] at e
    rw [e]
    dsimp only
    rw [View.writes_append, View.writes_append, View.writes_append, trip_m, trip_l, trip_a, i1, i2, i3, hq]
    exact ⟨rfl, rfl, rfl⟩

end Cert.KernelIdeal.Fox

end
-- ==== Proof.Init.lean ====
/-
The masked queries at an index, and the output block from its four column pieces.
-/
module

public import proofs.«01_k».proof.Proof.State
public import Idealize.ShloMosaic.Lib.Pointwise
public import Idealize.ShloMosaic.Lib.WordCmp

@[expose] public section

set_option maxRecDepth 16384

noncomputable section

namespace Cert.KernelIdeal.Fox

open Idealize.ShloMosaic Idealize.ShloMosaic.TcCoe Idealize.SL.Sem Cert.KernelIdeal.Gen Idealize.ShloMosaic.ValueIdx
variable {F : FTy → Type} [FloatOps F] [Named F]

theorem mskq_apply (lo hi : BitVec 32) (a b : ℕ) (ha : a < 2 ^ 31) (hb : b < 2 ^ 31) (hlo : lo = BitVec.ofNat 32 a) (hhi : hi = BitVec.ofNat 32 b)
    (q : Vec F S1x1x128x256 .bf16) (y : S1x128x256.Idx) :
    mskq lo hi q y = if a ≤ (y (1 : Fin 3)).val ∧ (y (1 : Fin 3)).val < b then q (ValueIdx.ix4 (0 : Fin 1) (0 : Fin 1) (y (1 : Fin 3) : Fin 128) (y (2 : Fin 3) : Fin 256)) else Scalar.ofBits .bf16 0x0000#16 := by
  subst hlo hhi
  have hy : (y (1 : Fin 3)).val < 128 := (y (1 : Fin 3)).isLt
  pointwise
  rw [WordCmp.cmpi_sge_ofNat (by omega) (by omega), WordCmp.cmpi_slt_ofNat (by omega) (by omega)]
  by_cases h1 : a ≤ (y (1 : Fin 3)).val <;> by_cases h2 : (y (1 : Fin 3)).val < b <;> simp [h1, h2, IntOp.andi, Scalar.select] <;>
    exact congrArg q (Idealize.ShloMosaic.ix4_eq_valueIdx (n0 := 1) (n1 := 1) (n2 := 128) (n3 := 256) 0 0 (y (1 : Fin 3)) (y (2 : Fin 3)))

/-- The masked queries of head `2 * p + s`. -/
theorem mskq_eq (r : Memref sig .tc .vmem S1x1x512x256 .bf16) (f : BufTy.Contents (Elt F) r.view.ty) (p s h : ℕ) (hp : p < 4) (hh : h = 2 * p + s) (hs : s < 2)
    (lo hi : BitVec 32) (hlo : lo = BitVec.ofNat 32 (64 * s)) (hhi : hi = BitVec.ofNat 32 (64 * s + 64)) {off : Fin 4 → ℕ} (inb) (ho : off = ![0, 0, 128 * p, 0]) :
    mskq lo hi (r.view.readAt (Elt F) (Rect.unit (s := S1x1x512x256) off S1x1x128x256.size inb).toLoadRect f) = qmT (r.view.read (Elt F) f) h := by
  subst ho hh
  funext y
  have hy : (y (1 : Fin 3)).val < 128 := (y (1 : Fin 3)).isLt
  have hy2 : (y (2 : Fin 3)).val < 256 := (y (2 : Fin 3)).isLt
  rw [mskq_apply lo hi (64 * s) (64 * s + 64) (by omega) (by omega) hlo hhi]
  unfold qmT
  rw [show (2 * p + s) % 2 = s by omega]
  have hd : (2 * p + s) / 2 = p := by omega
  refine if_congr Iff.rfl ?_ rfl
  rw [View.readAt_apply]
  congr 1
  funext a
  apply Fin.ext
  match a with
  | ⟨0, _⟩ => simp [LoadRect.idx, Rect.toLoadRect, Rect.unit]
  | ⟨1, _⟩ => simp [LoadRect.idx, Rect.toLoadRect, Rect.unit]
  | ⟨2, _⟩ =>
    show 128 * p + 1 * (y (1 : Fin 3)).val = (128 * ((2 * p + s) / 2) + (y (1 : Fin 3)).val) % 512
    rw [hd]
    omega
  | ⟨3, _⟩ =>
    show 0 + 1 * (y (2 : Fin 3)).val = (y (2 : Fin 3)).val % 256
    omega

/-- A block of a buffer filled with one value. -/
theorem rd_whole {sig' : RefSig} {kk : Kind} {sp : Space} {e : EltTy} {Val : EltTy → Type} {d : Fin 3 → ℕ}
    (v : View sig' kk sp (⟨3, d⟩ : Shape) e) (f : v.ty.Contents Val) {off o' : Fin 3 → ℕ} {sz' : Fin 3 → ℕ} (ho : off = ![0, 0, 0])
    (inb : ∀ a : Fin 3, off a + d a ≤ d a) (inb' : ∀ a : Fin 3, o' a + sz' a ≤ d a)
    (w : (Rect.unit (s := ⟨3, d⟩) off d inb).shape.Idx → Val e) (L : List (View.Piece Val (⟨3, d⟩ : Shape) e)) (c : Val e) (hw : ∀ x, w x = c) :
    v.readAt Val (Rect.unit (s := ⟨3, d⟩) o' sz' inb').toLoadRect (v.writes Val f (⟨Rect.unit off d inb, w⟩ :: L)) = fun _ => c := by
  subst ho
  funext x
  rw [View.readAt_apply]
  refine (View.read_writes_cons_unit_of_mem v f inb w L _ ((Rect.unit (s := ⟨3, d⟩) o' sz' inb').toLoadRect.idx x) rfl fun a => ?_).trans (hw _)
  fin_cases a <;> simp

theorem rd_fill9 (r : Memref sig .tc .vmem S8x8x256 .f32) (f : BufTy.Contents (Elt F) r.view.ty) (inb) (w : Vec F S8x8x256 .f32) (c : F .f32) (hw : w = fun _ => c) (h : Fin 8) :
    b9 r (r.view.writes (Elt F) f [⟨Rect.unit (s := S8x8x256) ![0, 0, 0] S8x8x256.size inb, w⟩]) h = fun _ => c :=
  rd_whole r.view f rfl inb _ w [] c (fun x => congrFun hw x)

theorem rd_fill11 (r : Memref sig .tc .vmem S8x64x256 .f32) (f : BufTy.Contents (Elt F) r.view.ty) (inb) (w : Vec F S8x64x256 .f32) (c : F .f32) (hw : w = fun _ => c) (h : Fin 8) :
    b11 r (r.view.writes (Elt F) f [⟨Rect.unit (s := S8x64x256) ![0, 0, 0] S8x64x256.size inb, w⟩]) h = fun _ => c :=
  rd_whole r.view f rfl inb _ w [] c (fun x => congrFun hw x)

theorem fill185 : (k0_pay185 : FVec F S8x8x256 .f32) = fun _ => Named.named κ "mask" 0xF149F2CA#32 := rfl
theorem fill186 : (k0_pay186 : FVec F S8x8x256 .f32) = fun _ => Scalar.ofBits .f32 0x00000000#32 := rfl
theorem fill187 : (k0_pay187 : FVec F S8x64x256 .f32) = fun _ => Scalar.ofBits .f32 0x00000000#32 := rfl

/-- The output block is its four column pieces. -/
theorem out_read (r : Memref sig .tc .vmem S256x512 .bf16) (f : BufTy.Contents (Elt F) r.view.ty)
    (x0 : Vec F S1x1x512x256 .bf16) (x1 : Vec F S4096x512 .bf16) (x2 : Vec F S1x16x512x256 .bf16) (x3 : Vec F S4096x128 .f32) (i : ℕ)
    (i0) (i1) (i2) (i3) (w0 w1 w2 w3 : FVec F S256x128 .bf16)
    (h0 : w0 = outQ x0 x1 x2 x3 i 0 1) (h1 : w1 = outQ x0 x1 x2 x3 i 2 3) (h2 : w2 = outQ x0 x1 x2 x3 i 4 5) (h3 : w3 = outQ x0 x1 x2 x3 i 6 7) :
    r.view.read (Elt F) (r.view.writes (Elt F) f [⟨Rect.unit (s := S256x512) ![0, 384] ![256, 128] i3, w3⟩,
      ⟨Rect.unit (s := S256x512) ![0, 256] ![256, 128] i2, w2⟩, ⟨Rect.unit (s := S256x512) ![0, 128] ![256, 128] i1, w1⟩,
      ⟨Rect.unit (s := S256x512) ![0, 0] ![256, 128] i0, w0⟩]) = outBlk x0 x1 x2 x3 i := by
  subst h0 h1 h2 h3
  funext y
  have hy0 : (y (0 : Fin 2)).val < 256 := (y (0 : Fin 2)).isLt
  have hy1 : (y (1 : Fin 2)).val < 512 := (y (1 : Fin 2)).isLt
  have e0 : (y (0 : Fin 2)).val = 0 + (y (0 : Fin 2)).val % 256 := by omega
  unfold outBlk
  have key : ∀ (p : ℕ) (hp : (y (1 : Fin 2)).val / 128 = p), (y (1 : Fin 2)).val = 128 * p + (y (1 : Fin 2)).val % 128 := by intro p hp; omega
  have hc : (y (1 : Fin 2)).val / 128 = 0 ∨ (y (1 : Fin 2)).val / 128 = 1 ∨ (y (1 : Fin 2)).val / 128 = 2 ∨ (y (1 : Fin 2)).val / 128 = 3 := by omega
  rcases hc with hc | hc | hc | hc
  · refine (View.read_writes_cons_unit_of_not_mem r.view f i3 _ _ _ rfl (1 : Fin 2) (Or.inl (by simp; omega))).trans ?_
    refine (View.read_writes_cons_unit_of_not_mem r.view f i2 _ _ _ rfl (1 : Fin 2) (Or.inl (by simp; omega))).trans ?_
    refine (View.read_writes_cons_unit_of_not_mem r.view f i1 _ _ _ rfl (1 : Fin 2) (Or.inl (by simp; omega))).trans ?_
    refine (View.read_writes_cons_unit_of_mem r.view f i0 _ _ _ (ValueIdx.ix2 (⟨(y (0 : Fin 2)).val % 256, Nat.mod_lt _ (by norm_num)⟩ : Fin 256) (⟨(y (1 : Fin 2)).val % 128, Nat.mod_lt _ (by norm_num)⟩ : Fin 128)) rfl fun a => ?_).trans ?_
    · match a with
      | ⟨0, _⟩ => exact e0
      | ⟨1, _⟩ => exact key _ hc
    · simp only [hc]; rfl
  · refine (View.read_writes_cons_unit_of_not_mem r.view f i3 _ _ _ rfl (1 : Fin 2) (Or.inl (by simp; omega))).trans ?_
    refine (View.read_writes_cons_unit_of_not_mem r.view f i2 _ _ _ rfl (1 : Fin 2) (Or.inl (by simp; omega))).trans ?_
    refine (View.read_writes_cons_unit_of_mem r.view f i1 _ _ _ (ValueIdx.ix2 (⟨(y (0 : Fin 2)).val % 256, Nat.mod_lt _ (by norm_num)⟩ : Fin 256) (⟨(y (1 : Fin 2)).val % 128, Nat.mod_lt _ (by norm_num)⟩ : Fin 128)) rfl fun a => ?_).trans ?_
    · match a with
      | ⟨0, _⟩ => exact e0
      | ⟨1, _⟩ => exact key _ hc
    · simp only [hc]; rfl
  · refine (View.read_writes_cons_unit_of_not_mem r.view f i3 _ _ _ rfl (1 : Fin 2) (Or.inl (by simp; omega))).trans ?_
    refine (View.read_writes_cons_unit_of_mem r.view f i2 _ _ _ (ValueIdx.ix2 (⟨(y (0 : Fin 2)).val % 256, Nat.mod_lt _ (by norm_num)⟩ : Fin 256) (⟨(y (1 : Fin 2)).val % 128, Nat.mod_lt _ (by norm_num)⟩ : Fin 128)) rfl fun a => ?_).trans ?_
    · match a with
      | ⟨0, _⟩ => exact e0
      | ⟨1, _⟩ => exact key _ hc
    · simp only [hc]; rfl
  · refine (View.read_writes_cons_unit_of_mem r.view f i3 _ _ _ (ValueIdx.ix2 (⟨(y (0 : Fin 2)).val % 256, Nat.mod_lt _ (by norm_num)⟩ : Fin 256) (⟨(y (1 : Fin 2)).val % 128, Nat.mod_lt _ (by norm_num)⟩ : Fin 128)) rfl fun a => ?_).trans ?_
    · match a with
      | ⟨0, _⟩ => exact e0
      | ⟨1, _⟩ => exact key _ hc
    · simp only [hc]; rfl

end Cert.KernelIdeal.Fox

end
-- ==== Proof.AttnRun.lean ====
/-
The body of the kernel, run: what its output block holds.
-/
module

public import proofs.«01_k».proof.Proof.Init

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F] [Named F]

local notation "𝕄" => MT nD τ sig Unit (Elt F) ℕ (UR sig nD τ) ℕ

/-- What a run of stores leaves, where the last of three lists is empty. -/
theorem peel {sig' : RefSig} {kk : Kind} {sp : Space} {e : EltTy} {Val : EltTy → Type} {s : Shape} (v : View sig' kk sp s e) (f : v.ty.Contents Val)
    (A B C : List (View.Piece Val s e)) (hA : A = []) : v.writes Val f (A ++ (B ++ C)) = v.writes Val (v.writes Val f C) B := by
  subst hA
  rw [List.nil_append, View.writes_append]

/-- The contents of a buffer, by a name. -/
theorem hide (c : Thread nD τ) {sp : Space} {sh : Shape} {e : EltTy} (r : Memref sig c.2.kind sp sh e) (q : PosShare TreeShare)
    (f : BufTy.Contents (Elt F) r.view.ty) :
    (r.view.loc c ↦[r.view.set]{q} f : sProp 𝕄) ⊢ iprop(∃ g, ⌜f = g⌝ ∗ (r.view.loc c ↦[r.view.set]{q} g)) := by
  iintro H
  iexists _
  isplitr
  swap
  · iexact H
  ipureintro
  rfl

set_option maxHeartbeats 4000000 in
/-- The body's triple. -/
theorem body_run (c : Dev nD) (i : grid0.Coords) (arg2 : Memref sig .tc .vmem S1x1x512x256 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S4096x128 .f32) (harg5 : arg5.IsWhole) (arg6 : Memref sig .tc .vmem S256x512 .bf16) (harg6 : arg6.IsWhole) (arg7 : Memref sig .tc .vmem S8x128x256 .bf16) (harg7 : arg7.IsWhole) (arg8 : Memref sig .tc .vmem S8x256x256 .f32) (harg8 : arg8.IsWhole) (arg9 : Memref sig .tc .vmem S8x8x256 .f32) (harg9 : arg9.IsWhole) (arg10 : Memref sig .tc .vmem S8x8x256 .f32) (harg10 : arg10.IsWhole) (arg11 : Memref sig .tc .vmem S8x64x256 .f32) (harg11 : arg11.IsWhole)
    (x0 : Vec F S1x1x512x256 .bf16) (x1 : Vec F S4096x512 .bf16) (x2 : Vec F S1x16x512x256 .bf16) (x3 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk x0 x1 x2 x3 (i 1).val) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
    intro E K
    simp only [cc0_fox_attn_eq_skeleton]; unfold cc0_fox_attn_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    set_option sl_exec.stopBefore "k0_part29" in sl_exec
    ihave G0 := hide c arg7 fullShare _ $$ HS0
    icases G0 with ⟨%g7, %e7, HS0⟩
    ihave G1 := hide c arg8 fullShare _ $$ HS1
    icases G1 with ⟨%g8, %e8, HS1⟩
    ihave G2 := hide c arg9 fullShare _ $$ HS2
    icases G2 with ⟨%g9, %e9, HS2⟩
    ihave G3 := hide c arg10 fullShare _ $$ HS3
    icases G3 with ⟨%g10, %e10, HS3⟩
    ihave G4 := hide c arg11 fullShare _ $$ HS4
    icases G4 with ⟨%g11, %e11, HS4⟩
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      have z2 : Scf.trips (k0_t2_loop i).lb (k0_t2_loop i).ub (k0_t2_loop i).st = 0 := trips_t2 i
      have z1 : Scf.trips (k0_t1_loop i).lb (k0_t1_loop i).ub (k0_t1_loop i).st = (i 1).val := trips_t1 i
      have hq' : ∀ h : Fin 8, b7 arg7 (arg7.view.writes (Elt F) arg7.view.junk (body_run.sl.HS0_8 c arg2 harg2 x0)) h = qmT x0 h.val := by
        intro h
        rcases fin8 h with rfl | rfl | rfl | rfl | rfl | rfl | rfl | rfl
        · refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 0 0 0 (by norm_num) rfl (by norm_num) 0#32 64#32 rfl rfl inb_S1x1x512x256_S1x1x128x256_0_0_0_0 rfl).trans (congrArg (fun q => qmT q 0) hf0))
          rfl
        · refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 0 1 1 (by norm_num) rfl (by norm_num) 64#32 128#32 rfl rfl inb_S1x1x512x256_S1x1x128x256_0_0_0_0 rfl).trans (congrArg (fun q => qmT q 1) hf0))
          rfl
        · refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 1 0 2 (by norm_num) rfl (by norm_num) 0#32 64#32 rfl rfl inb_S1x1x512x256_S1x1x128x256_0_0_128_0 rfl).trans (congrArg (fun q => qmT q 2) hf0))
          rfl
        · refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 1 1 3 (by norm_num) rfl (by norm_num) 64#32 128#32 rfl rfl inb_S1x1x512x256_S1x1x128x256_0_0_128_0 rfl).trans (congrArg (fun q => qmT q 3) hf0))
          rfl
        · refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 2 0 4 (by norm_num) rfl (by norm_num) 0#32 64#32 rfl rfl inb_S1x1x512x256_S1x1x128x256_0_0_256_0 rfl).trans (congrArg (fun q => qmT q 4) hf0))
          rfl
        · refine (rd_skip _ _ _ _ _ _ rfl rfl (by decide)).trans ?_
          refine (rd_skip _ _ _ _ _ _ rfl rfl (by decide)).trans ?_
          refine (rd_hit _ _ _ _ _ _).trans ?_
          refine Eq.trans ?_ ((mskq_eq arg2 (harg2.unread x0) 2 1 5 (by norm_num) rfl (by norm_num) 64#32 128#32 rfl rfl inb_S1x1x512x256_S1x1x128x256_0_0_256_0 rfl).trans (congrArg (fun q => qmT q 5) hf0))
          rfl
        · refine (rd_skip _ _ _ _ _ _ rfl rfl (by decide)).trans ?_
          refine (rd_hit _ _ _ _ _ _).trans ?_
          refine Eq.trans ?_ ((mskq_eq arg2 (harg2.unread x0) 3 0 6 (by norm_num) rfl (by norm_num) 0#32 64#32 rfl rfl inb_S1x1x512x256_S1x1x128x256_0_0_384_0 rfl).trans (congrArg (fun q => qmT q 6) hf0))
          rfl
        · refine (rd_hit _ _ _ _ _ _).trans ?_
          refine Eq.trans ?_ ((mskq_eq arg2 (harg2.unread x0) 3 1 7 (by norm_num) rfl (by norm_num) 64#32 128#32 rfl rfl inb_S1x1x512x256_S1x1x128x256_0_0_384_0 rfl).trans (congrArg (fun q => qmT q 7) hf0))
          rfl
      have hq : ∀ h : Fin 8, b7 arg7 g7 h = qmT x0 h.val := fun h => (congrArg (fun f => b7 arg7 f h) e7.symm).trans (hq' h)
      have e9' := (peel arg9.view _ _ _ _ (by rw [z2]; rfl)).symm.trans e9
      have e10' := (peel arg10.view _ _ _ _ (by rw [z2]; rfl)).symm.trans e10
      have e11' := (peel arg11.view _ _ _ _ (by rw [z2]; rfl)).symm.trans e11
      have h9 : ∀ h : Fin 8, b9 arg9 (arg9.view.writes (Elt F) arg9.view.junk body_run.sl.HS2_1) h = ini9 := by
        intro h
        unfold body_run.sl.HS2_1
        exact rd_fill9 arg9 _ _ _ _ fill185 h
      have h10 : ∀ h : Fin 8, b9 arg10 (arg10.view.writes (Elt F) arg10.view.junk body_run.sl.HS3_1) h = ini10 := by
        intro h
        unfold body_run.sl.HS3_1
        exact rd_fill9 arg10 _ _ _ _ fill186 h
      have h11 : ∀ h : Fin 8, b11 arg11 (arg11.view.writes (Elt F) arg11.view.junk body_run.sl.HS4_1) h = ini11 := by
        intro h
        unfold body_run.sl.HS4_1
        exact rd_fill11 arg11 _ _ _ _ fill187 h
      have P := fun h : Fin 8 => pb_reads Variants.none c none i arg2 harg2 arg3 harg3 arg4 harg4 arg5 harg5 arg6 harg6 arg7 harg7 arg8 harg8 arg9 harg9 arg10 harg10 arg11 harg11 (BitVec.ofNat 32 ↑(i 1)) (body_run.sl.r_1 c arg2 harg2 x0) (k0_pay183 body_run.sl.v0) body_run.sl.cst_62 (harg3.unread x1) (harg4.unread x2) (harg5.unread x3) (arg7.view.writes (Elt F) arg7.view.junk (body_run.sl.HS0_8 c arg2 harg2 x0)) fs1 (arg9.view.writes (Elt F) arg9.view.junk body_run.sl.HS2_1) (arg10.view.writes (Elt F) arg10.view.junk body_run.sl.HS3_1) (arg11.view.writes (Elt F) arg11.view.junk body_run.sl.HS4_1) x0 hq' h9 h10 h11 _ le_rfl h
      have hs : ∀ h : Fin 8, b9 arg9 g9 h = (stp x0 x1 x2 x3 h (i 1).val).1 ∧ b9 arg10 g10 h = (stp x0 x1 x2 x3 h (i 1).val).2.1 ∧ b11 arg11 g11 h = (stp x0 x1 x2 x3 h (i 1).val).2.2 := by
        intro h
        have p := P h
        rw [hf1, hf2, hf3] at p
        rw [← z1, ← e9', ← e10', ← e11']
        exact p
      clear P e7 e8 e9 e10 e11 e9' e10' e11' hq'
      have hk0 : arg3.view.readAt (Elt F) (Rect.unit (s := S4096x512) (k0_off28 i) S256x128.size (k0_off28_inb i)).toLoadRect (harg3.unread x1) = ktT x1 (i 1).val 0 := (kt_eq arg3 _ _ (i 1).val 0 (off28 i)).trans (congrArg (fun q => ktT q (i 1).val 0) hf1)
      have hk1 : arg3.view.readAt (Elt F) (Rect.unit (s := S4096x512) (k0_off29 i) S256x128.size (k0_off29_inb i)).toLoadRect (harg3.unread x1) = ktT x1 (i 1).val 1 := (kt_eq arg3 _ _ (i 1).val 1 (off29 i)).trans (congrArg (fun q => ktT q (i 1).val 1) hf1)
      have hk2 : arg3.view.readAt (Elt F) (Rect.unit (s := S4096x512) (k0_off30 i) S256x128.size (k0_off30_inb i)).toLoadRect (harg3.unread x1) = ktT x1 (i 1).val 2 := (kt_eq arg3 _ _ (i 1).val 2 (off30 i)).trans (congrArg (fun q => ktT q (i 1).val 2) hf1)
      have hk3 : arg3.view.readAt (Elt F) (Rect.unit (s := S4096x512) (k0_off31 i) S256x128.size (k0_off31_inb i)).toLoadRect (harg3.unread x1) = ktT x1 (i 1).val 3 := (kt_eq arg3 _ _ (i 1).val 3 (off31 i)).trans (congrArg (fun q => ktT q (i 1).val 3) hf1)
      have hv0 : arg4.view.readAt (Elt F) (Rect.unit (s := S1x16x512x256) (k0_off32 i) S1x1x64x256.size (k0_off32_inb i)).toLoadRect (harg4.unread x2) = vtT x2 (i 1).val 0 := (vt_eq arg4 _ _ (i 1).val 0 (off32 i)).trans (congrArg (fun q => vtT q (i 1).val 0) hf2)
      have hv1 : arg4.view.readAt (Elt F) (Rect.unit (s := S1x16x512x256) (k0_off33 i) S1x1x64x256.size (k0_off33_inb i)).toLoadRect (harg4.unread x2) = vtT x2 (i 1).val 1 := (vt_eq arg4 _ _ (i 1).val 1 (off33 i)).trans (congrArg (fun q => vtT q (i 1).val 1) hf2)
      have hv2 : arg4.view.readAt (Elt F) (Rect.unit (s := S1x16x512x256) (k0_off34 i) S1x1x64x256.size (k0_off34_inb i)).toLoadRect (harg4.unread x2) = vtT x2 (i 1).val 2 := (vt_eq arg4 _ _ (i 1).val 2 (off34 i)).trans (congrArg (fun q => vtT q (i 1).val 2) hf2)
      have hv3 : arg4.view.readAt (Elt F) (Rect.unit (s := S1x16x512x256) (k0_off35 i) S1x1x64x256.size (k0_off35_inb i)).toLoadRect (harg4.unread x2) = vtT x2 (i 1).val 3 := (vt_eq arg4 _ _ (i 1).val 3 (off35 i)).trans (congrArg (fun q => vtT q (i 1).val 3) hf2)
      have hv4 : arg4.view.readAt (Elt F) (Rect.unit (s := S1x16x512x256) (k0_off36 i) S1x1x64x256.size (k0_off36_inb i)).toLoadRect (harg4.unread x2) = vtT x2 (i 1).val 4 := (vt_eq arg4 _ _ (i 1).val 4 (off36 i)).trans (congrArg (fun q => vtT q (i 1).val 4) hf2)
      have hv5 : arg4.view.readAt (Elt F) (Rect.unit (s := S1x16x512x256) (k0_off37 i) S1x1x64x256.size (k0_off37_inb i)).toLoadRect (harg4.unread x2) = vtT x2 (i 1).val 5 := (vt_eq arg4 _ _ (i 1).val 5 (off37 i)).trans (congrArg (fun q => vtT q (i 1).val 5) hf2)
      have hv6 : arg4.view.readAt (Elt F) (Rect.unit (s := S1x16x512x256) (k0_off38 i) S1x1x64x256.size (k0_off38_inb i)).toLoadRect (harg4.unread x2) = vtT x2 (i 1).val 6 := (vt_eq arg4 _ _ (i 1).val 6 (off38 i)).trans (congrArg (fun q => vtT q (i 1).val 6) hf2)
      have hv7 : arg4.view.readAt (Elt F) (Rect.unit (s := S1x16x512x256) (k0_off39 i) S1x1x64x256.size (k0_off39_inb i)).toLoadRect (harg4.unread x2) = vtT x2 (i 1).val 7 := (vt_eq arg4 _ _ (i 1).val 7 (off39 i)).trans (congrArg (fun q => vtT q (i 1).val 7) hf2)
      have hr : (arg5.view.readAt (Elt F) (Rect.unit (s := S4096x128) (k0_off27 i) S256x128.size (k0_off27_inb i)).toLoadRect (harg5.unread x3)) = frT x3 (i 1).val := (fr_eq arg5 _ _ (i 1).val (off27 i)).trans (congrArg (fun q => frT q (i 1).val) hf3)
      have key : ∀ (h0 h1 : Fin 8) (a0 l0 a1 l1) , a0 = finA x0 x1 x2 x3 (i 1).val h0 → l0 = finL x0 x1 x2 x3 (i 1).val h0 → a1 = finA x0 x1 x2 x3 (i 1).val h1 → l1 = finL x0 x1 x2 x3 (i 1).val h1 → outP a0 l0 a1 l1 = outQ x0 x1 x2 x3 (i 1).val h0 h1 := by rintro h0 h1 _ _ _ _ rfl rfl rfl rfl; rfl
      refine out_read arg6 f4 x0 x1 x2 x3 _ _ _ _ _ _ _ _ _ ?_ ?_ ?_ ?_
      · refine key 0 1 (body_run.sl.v576 c i arg3 harg3 arg4 harg4 arg5 harg5 arg7 arg8 arg9 arg11 x1 x2 x3 g7 g9 g11) (body_run.sl.v578 c i arg3 harg3 arg5 harg5 arg7 arg8 arg9 arg10 x1 x3 g7 g9 g10) (body_run.sl.v583 c i arg3 harg3 arg4 harg4 arg5 harg5 arg7 arg8 arg9 arg11 x1 x2 x3 g7 g9 g11) (body_run.sl.v585 c i arg3 harg3 arg5 harg5 arg7 arg8 arg9 arg10 x1 x3 g7 g9 g10) ?_ ?_ ?_ ?_
        · have ee : finA x0 x1 x2 x3 (i 1).val 0 = stA (mskd (lgt 0 (prodB (arg3.view.readAt (Elt F) (Rect.unit (s := S4096x512) (k0_off28 i) S256x128.size (k0_off28_inb i)).toLoadRect (harg3.unread x1)) (b7 arg7 g7 0)) (arg5.view.readAt (Elt F) (Rect.unit (s := S4096x128) (k0_off27 i) S256x128.size (k0_off27_inb i)).toLoadRect (harg5.unread x3)))) (arg4.view.readAt (Elt F) (Rect.unit (s := S1x16x512x256) (k0_off32 i) S1x1x64x256.size (k0_off32_inb i)).toLoadRect (harg4.unread x2)) (b9 arg9 g9 0) (b11 arg11 g11 0) := by
            rw [hk0, hv0, hr, hq 0, (hs 0).1, (hs 0).2.2]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stA (mskd (lgt 0 z (arg5.view.readAt (Elt F) (Rect.unit (s := S4096x128) (k0_off27 i) S256x128.size (k0_off27_inb i)).toLoadRect (harg5.unread x3)))) (arg4.view.readAt (Elt F) (Rect.unit (s := S1x16x512x256) (k0_off32 i) S1x1x64x256.size (k0_off32_inb i)).toLoadRect (harg4.unread x2)) (b9 arg9 g9 0) (b11 arg11 g11 0)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 0 = stL (mskd (lgt 0 (prodB (arg3.view.readAt (Elt F) (Rect.unit (s := S4096x512) (k0_off28 i) S256x128.size (k0_off28_inb i)).toLoadRect (harg3.unread x1)) (b7 arg7 g7 0)) (arg5.view.readAt (Elt F) (Rect.unit (s := S4096x128) (k0_off27 i) S256x128.size (k0_off27_inb i)).toLoadRect (harg5.unread x3)))) (b9 arg9 g9 0) (b9 arg10 g10 0) := by
            rw [hk0, hr, hq 0, (hs 0).1, (hs 0).2.1]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stL (mskd (lgt 0 z (arg5.view.readAt (Elt F) (Rect.unit (s := S4096x128) (k0_off27 i) S256x128.size (k0_off27_inb i)).toLoadRect (harg5.unread x3)))) (b9 arg9 g9 0) (b9 arg10 g10 0)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finA x0 x1 x2 x3 (i 1).val 1 = stA (mskd (lgt 1 (prodB (arg3.view.readAt (Elt F) (Rect.unit (s := S4096x512) (k0_off28 i) S256x128.size (k0_off28_inb i)).toLoadRect (harg3.unread x1)) (b7 arg7 g7 1)) (arg5.view.readAt (Elt F) (Rect.unit (s := S4096x128) (k0_off27 i) S256x128.size (k0_off27_inb i)).toLoadRect (harg5.unread x3)))) (arg4.view.readAt (Elt F) (Rect.unit (s := S1x16x512x256) (k0_off33 i) S1x1x64x256.size (k0_off33_inb i)).toLoadRect (harg4.unread x2)) (b9 arg9 g9 1) (b11 arg11 g11 1) := by
            rw [hk0, hv1, hr, hq 1, (hs 1).1, (hs 1).2.2]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stA (mskd (lgt 1 z (arg5.view.readAt (Elt F) (Rect.unit (s := S4096x128) (k0_off27 i) S256x128.size (k0_off27_inb i)).toLoadRect (harg5.unread x3)))) (arg4.view.readAt (Elt F) (Rect.unit (s := S1x16x512x256) (k0_off33 i) S1x1x64x256.size (k0_off33_inb i)).toLoadRect (harg4.unread x2)) (b9 arg9 g9 1) (b11 arg11 g11 1)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 1 = stL (mskd (lgt 1 (prodB (arg3.view.readAt (Elt F) (Rect.unit (s := S4096x512) (k0_off28 i) S256x128.size (k0_off28_inb i)).toLoadRect (harg3.unread x1)) (b7 arg7 g7 1)) (arg5.view.readAt (Elt F) (Rect.unit (s := S4096x128) (k0_off27 i) S256x128.size (k0_off27_inb i)).toLoadRect (harg5.unread x3)))) (b9 arg9 g9 1) (b9 arg10 g10 1) := by
            rw [hk0, hr, hq 1, (hs 1).1, (hs 1).2.1]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stL (mskd (lgt 1 z (arg5.view.readAt (Elt F) (Rect.unit (s := S4096x128) (k0_off27 i) S256x128.size (k0_off27_inb i)).toLoadRect (harg5.unread x3)))) (b9 arg9 g9 1) (b9 arg10 g10 1)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
      · refine key 2 3 _ _ _ _ ?_ ?_ ?_ ?_
        · have ee : finA x0 x1 x2 x3 (i 1).val 2 = stA (mskd (lgt 2 (prodB (arg3.view.readAt (Elt F) (Rect.unit (s := S4096x512) (k0_off29 i) S256x128.size (k0_off29_inb i)).toLoadRect (harg3.unread x1)) (b7 arg7 g7 2)) (arg5.view.readAt (Elt F) (Rect.unit (s := S4096x128) (k0_off27 i) S256x128.size (k0_off27_inb i)).toLoadRect (harg5.unread x3)))) (arg4.view.readAt (Elt F) (Rect.unit (s := S1x16x512x256) (k0_off34 i) S1x1x64x256.size (k0_off34_inb i)).toLoadRect (harg4.unread x2)) (b9 arg9 g9 2) (b11 arg11 g11 2) := by
            rw [hk1, hv2, hr, hq 2, (hs 2).1, (hs 2).2.2]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stA (mskd (lgt 2 z (arg5.view.readAt (Elt F) (Rect.unit (s := S4096x128) (k0_off27 i) S256x128.size (k0_off27_inb i)).toLoadRect (harg5.unread x3)))) (arg4.view.readAt (Elt F) (Rect.unit (s := S1x16x512x256) (k0_off34 i) S1x1x64x256.size (k0_off34_inb i)).toLoadRect (harg4.unread x2)) (b9 arg9 g9 2) (b11 arg11 g11 2)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 2 = stL (mskd (lgt 2 (prodB (arg3.view.readAt (Elt F) (Rect.unit (s := S4096x512) (k0_off29 i) S256x128.size (k0_off29_inb i)).toLoadRect (harg3.unread x1)) (b7 arg7 g7 2)) (arg5.view.readAt (Elt F) (Rect.unit (s := S4096x128) (k0_off27 i) S256x128.size (k0_off27_inb i)).toLoadRect (harg5.unread x3)))) (b9 arg9 g9 2) (b9 arg10 g10 2) := by
            rw [hk1, hr, hq 2, (hs 2).1, (hs 2).2.1]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stL (mskd (lgt 2 z (arg5.view.readAt (Elt F) (Rect.unit (s := S4096x128) (k0_off27 i) S256x128.size (k0_off27_inb i)).toLoadRect (harg5.unread x3)))) (b9 arg9 g9 2) (b9 arg10 g10 2)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finA x0 x1 x2 x3 (i 1).val 3 = stA (mskd (lgt 3 (prodB (arg3.view.readAt (Elt F) (Rect.unit (s := S4096x512) (k0_off29 i) S256x128.size (k0_off29_inb i)).toLoadRect (harg3.unread x1)) (b7 arg7 g7 3)) (arg5.view.readAt (Elt F) (Rect.unit (s := S4096x128) (k0_off27 i) S256x128.size (k0_off27_inb i)).toLoadRect (harg5.unread x3)))) (arg4.view.readAt (Elt F) (Rect.unit (s := S1x16x512x256) (k0_off35 i) S1x1x64x256.size (k0_off35_inb i)).toLoadRect (harg4.unread x2)) (b9 arg9 g9 3) (b11 arg11 g11 3) := by
            rw [hk1, hv3, hr, hq 3, (hs 3).1, (hs 3).2.2]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stA (mskd (lgt 3 z (arg5.view.readAt (Elt F) (Rect.unit (s := S4096x128) (k0_off27 i) S256x128.size (k0_off27_inb i)).toLoadRect (harg5.unread x3)))) (arg4.view.readAt (Elt F) (Rect.unit (s := S1x16x512x256) (k0_off35 i) S1x1x64x256.size (k0_off35_inb i)).toLoadRect (harg4.unread x2)) (b9 arg9 g9 3) (b11 arg11 g11 3)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 3 = stL (mskd (lgt 3 (prodB (arg3.view.readAt (Elt F) (Rect.unit (s := S4096x512) (k0_off29 i) S256x128.size (k0_off29_inb i)).toLoadRect (harg3.unread x1)) (b7 arg7 g7 3)) (arg5.view.readAt (Elt F) (Rect.unit (s := S4096x128) (k0_off27 i) S256x128.size (k0_off27_inb i)).toLoadRect (harg5.unread x3)))) (b9 arg9 g9 3) (b9 arg10 g10 3) := by
            rw [hk1, hr, hq 3, (hs 3).1, (hs 3).2.1]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stL (mskd (lgt 3 z (arg5.view.readAt (Elt F) (Rect.unit (s := S4096x128) (k0_off27 i) S256x128.size (k0_off27_inb i)).toLoadRect (harg5.unread x3)))) (b9 arg9 g9 3) (b9 arg10 g10 3)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
      · refine key 4 5 _ _ _ _ ?_ ?_ ?_ ?_
        · have ee : finA x0 x1 x2 x3 (i 1).val 4 = stA (mskd (lgt 4 (prodB (arg3.view.readAt (Elt F) (Rect.unit (s := S4096x512) (k0_off30 i) S256x128.size (k0_off30_inb i)).toLoadRect (harg3.unread x1)) (b7 arg7 g7 4)) (arg5.view.readAt (Elt F) (Rect.unit (s := S4096x128) (k0_off27 i) S256x128.size (k0_off27_inb i)).toLoadRect (harg5.unread x3)))) (arg4.view.readAt (Elt F) (Rect.unit (s := S1x16x512x256) (k0_off36 i) S1x1x64x256.size (k0_off36_inb i)).toLoadRect (harg4.unread x2)) (b9 arg9 g9 4) (b11 arg11 g11 4) := by
            rw [hk2, hv4, hr, hq 4, (hs 4).1, (hs 4).2.2]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stA (mskd (lgt 4 z (arg5.view.readAt (Elt F) (Rect.unit (s := S4096x128) (k0_off27 i) S256x128.size (k0_off27_inb i)).toLoadRect (harg5.unread x3)))) (arg4.view.readAt (Elt F) (Rect.unit (s := S1x16x512x256) (k0_off36 i) S1x1x64x256.size (k0_off36_inb i)).toLoadRect (harg4.unread x2)) (b9 arg9 g9 4) (b11 arg11 g11 4)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 4 = stL (mskd (lgt 4 (prodB (arg3.view.readAt (Elt F) (Rect.unit (s := S4096x512) (k0_off30 i) S256x128.size (k0_off30_inb i)).toLoadRect (harg3.unread x1)) (b7 arg7 g7 4)) (arg5.view.readAt (Elt F) (Rect.unit (s := S4096x128) (k0_off27 i) S256x128.size (k0_off27_inb i)).toLoadRect (harg5.unread x3)))) (b9 arg9 g9 4) (b9 arg10 g10 4) := by
            rw [hk2, hr, hq 4, (hs 4).1, (hs 4).2.1]; rfl
          rw [ee]; clear ee
          refine (rd_skip _ _ _ _ _ _ rfl rfl (by decide)).trans ?_
          refine (rd_skip _ _ _ _ _ _ rfl rfl (by decide)).trans ?_
          refine (rd_skip _ _ _ _ _ _ rfl rfl (by decide)).trans ?_
          refine (rd_hit _ _ _ _ _ _).trans (congrArg (fun z => stL (mskd (lgt 4 z (arg5.view.readAt (Elt F) (Rect.unit (s := S4096x128) (k0_off27 i) S256x128.size (k0_off27_inb i)).toLoadRect (harg5.unread x3)))) (b9 arg9 g9 4) (b9 arg10 g10 4)) ?_)
          refine (rd_skip _ _ _ _ _ _ rfl rfl (by decide)).trans ?_
          refine (rd_skip _ _ _ _ _ _ rfl rfl (by decide)).trans ?_
          refine (rd_skip _ _ _ _ _ _ rfl rfl (by decide)).trans ?_
          exact rd_hit _ _ _ _ _ _
        · have ee : finA x0 x1 x2 x3 (i 1).val 5 = stA (mskd (lgt 5 (prodB (arg3.view.readAt (Elt F) (Rect.unit (s := S4096x512) (k0_off30 i) S256x128.size (k0_off30_inb i)).toLoadRect (harg3.unread x1)) (b7 arg7 g7 5)) (arg5.view.readAt (Elt F) (Rect.unit (s := S4096x128) (k0_off27 i) S256x128.size (k0_off27_inb i)).toLoadRect (harg5.unread x3)))) (arg4.view.readAt (Elt F) (Rect.unit (s := S1x16x512x256) (k0_off37 i) S1x1x64x256.size (k0_off37_inb i)).toLoadRect (harg4.unread x2)) (b9 arg9 g9 5) (b11 arg11 g11 5) := by
            rw [hk2, hv5, hr, hq 5, (hs 5).1, (hs 5).2.2]; rfl
          rw [ee]; clear ee
          refine (rd_skip _ _ _ _ _ _ rfl rfl (by decide)).trans ?_
          refine (rd_skip _ _ _ _ _ _ rfl rfl (by decide)).trans ?_
          refine (rd_hit _ _ _ _ _ _).trans (congrArg (fun z => stA (mskd (lgt 5 z (arg5.view.readAt (Elt F) (Rect.unit (s := S4096x128) (k0_off27 i) S256x128.size (k0_off27_inb i)).toLoadRect (harg5.unread x3)))) (arg4.view.readAt (Elt F) (Rect.unit (s := S1x16x512x256) (k0_off37 i) S1x1x64x256.size (k0_off37_inb i)).toLoadRect (harg4.unread x2)) (b9 arg9 g9 5) (b11 arg11 g11 5)) ?_)
          refine (rd_skip _ _ _ _ _ _ rfl rfl (by decide)).trans ?_
          refine (rd_skip _ _ _ _ _ _ rfl rfl (by decide)).trans ?_
          exact rd_hit _ _ _ _ _ _
        · have ee : finL x0 x1 x2 x3 (i 1).val 5 = stL (mskd (lgt 5 (prodB (arg3.view.readAt (Elt F) (Rect.unit (s := S4096x512) (k0_off30 i) S256x128.size (k0_off30_inb i)).toLoadRect (harg3.unread x1)) (b7 arg7 g7 5)) (arg5.view.readAt (Elt F) (Rect.unit (s := S4096x128) (k0_off27 i) S256x128.size (k0_off27_inb i)).toLoadRect (harg5.unread x3)))) (b9 arg9 g9 5) (b9 arg10 g10 5) := by
            rw [hk2, hr, hq 5, (hs 5).1, (hs 5).2.1]; rfl
          rw [ee]; clear ee
          refine (rd_skip _ _ _ _ _ _ rfl rfl (by decide)).trans ?_
          refine (rd_skip _ _ _ _ _ _ rfl rfl (by decide)).trans ?_
          refine (rd_hit _ _ _ _ _ _).trans (congrArg (fun z => stL (mskd (lgt 5 z (arg5.view.readAt (Elt F) (Rect.unit (s := S4096x128) (k0_off27 i) S256x128.size (k0_off27_inb i)).toLoadRect (harg5.unread x3)))) (b9 arg9 g9 5) (b9 arg10 g10 5)) ?_)
          refine (rd_skip _ _ _ _ _ _ rfl rfl (by decide)).trans ?_
          refine (rd_skip _ _ _ _ _ _ rfl rfl (by decide)).trans ?_
          exact rd_hit _ _ _ _ _ _
      · refine key 6 7 _ _ _ _ ?_ ?_ ?_ ?_
        · have ee : finA x0 x1 x2 x3 (i 1).val 6 = stA (mskd (lgt 6 (prodB (arg3.view.readAt (Elt F) (Rect.unit (s := S4096x512) (k0_off31 i) S256x128.size (k0_off31_inb i)).toLoadRect (harg3.unread x1)) (b7 arg7 g7 6)) (arg5.view.readAt (Elt F) (Rect.unit (s := S4096x128) (k0_off27 i) S256x128.size (k0_off27_inb i)).toLoadRect (harg5.unread x3)))) (arg4.view.readAt (Elt F) (Rect.unit (s := S1x16x512x256) (k0_off38 i) S1x1x64x256.size (k0_off38_inb i)).toLoadRect (harg4.unread x2)) (b9 arg9 g9 6) (b11 arg11 g11 6) := by
            rw [hk3, hv6, hr, hq 6, (hs 6).1, (hs 6).2.2]; rfl
          rw [ee]; clear ee
          refine (rd_skip _ _ _ _ _ _ rfl rfl (by decide)).trans ?_
          refine (rd_hit _ _ _ _ _ _).trans (congrArg (fun z => stA (mskd (lgt 6 z (arg5.view.readAt (Elt F) (Rect.unit (s := S4096x128) (k0_off27 i) S256x128.size (k0_off27_inb i)).toLoadRect (harg5.unread x3)))) (arg4.view.readAt (Elt F) (Rect.unit (s := S1x16x512x256) (k0_off38 i) S1x1x64x256.size (k0_off38_inb i)).toLoadRect (harg4.unread x2)) (b9 arg9 g9 6) (b11 arg11 g11 6)) ?_)
          refine (rd_skip _ _ _ _ _ _ rfl rfl (by decide)).trans ?_
          exact rd_hit _ _ _ _ _ _
        · have ee : finL x0 x1 x2 x3 (i 1).val 6 = stL (mskd (lgt 6 (prodB (arg3.view.readAt (Elt F) (Rect.unit (s := S4096x512) (k0_off31 i) S256x128.size (k0_off31_inb i)).toLoadRect (harg3.unread x1)) (b7 arg7 g7 6)) (arg5.view.readAt (Elt F) (Rect.unit (s := S4096x128) (k0_off27 i) S256x128.size (k0_off27_inb i)).toLoadRect (harg5.unread x3)))) (b9 arg9 g9 6) (b9 arg10 g10 6) := by
            rw [hk3, hr, hq 6, (hs 6).1, (hs 6).2.1]; rfl
          rw [ee]; clear ee
          refine (rd_skip _ _ _ _ _ _ rfl rfl (by decide)).trans ?_
          refine (rd_hit _ _ _ _ _ _).trans (congrArg (fun z => stL (mskd (lgt 6 z (arg5.view.readAt (Elt F) (Rect.unit (s := S4096x128) (k0_off27 i) S256x128.size (k0_off27_inb i)).toLoadRect (harg5.unread x3)))) (b9 arg9 g9 6) (b9 arg10 g10 6)) ?_)
          refine (rd_skip _ _ _ _ _ _ rfl rfl (by decide)).trans ?_
          exact rd_hit _ _ _ _ _ _
        · have ee : finA x0 x1 x2 x3 (i 1).val 7 = stA (mskd (lgt 7 (prodB (arg3.view.readAt (Elt F) (Rect.unit (s := S4096x512) (k0_off31 i) S256x128.size (k0_off31_inb i)).toLoadRect (harg3.unread x1)) (b7 arg7 g7 7)) (arg5.view.readAt (Elt F) (Rect.unit (s := S4096x128) (k0_off27 i) S256x128.size (k0_off27_inb i)).toLoadRect (harg5.unread x3)))) (arg4.view.readAt (Elt F) (Rect.unit (s := S1x16x512x256) (k0_off39 i) S1x1x64x256.size (k0_off39_inb i)).toLoadRect (harg4.unread x2)) (b9 arg9 g9 7) (b11 arg11 g11 7) := by
            rw [hk3, hv7, hr, hq 7, (hs 7).1, (hs 7).2.2]; rfl
          rw [ee]; clear ee
          refine (rd_hit _ _ _ _ _ _).trans (congrArg (fun z => stA (mskd (lgt 7 z (arg5.view.readAt (Elt F) (Rect.unit (s := S4096x128) (k0_off27 i) S256x128.size (k0_off27_inb i)).toLoadRect (harg5.unread x3)))) (arg4.view.readAt (Elt F) (Rect.unit (s := S1x16x512x256) (k0_off39 i) S1x1x64x256.size (k0_off39_inb i)).toLoadRect (harg4.unread x2)) (b9 arg9 g9 7) (b11 arg11 g11 7)) ?_)
          exact rd_hit _ _ _ _ _ _
        · have ee : finL x0 x1 x2 x3 (i 1).val 7 = stL (mskd (lgt 7 (prodB (arg3.view.readAt (Elt F) (Rect.unit (s := S4096x512) (k0_off31 i) S256x128.size (k0_off31_inb i)).toLoadRect (harg3.unread x1)) (b7 arg7 g7 7)) (arg5.view.readAt (Elt F) (Rect.unit (s := S4096x128) (k0_off27 i) S256x128.size (k0_off27_inb i)).toLoadRect (harg5.unread x3)))) (b9 arg9 g9 7) (b9 arg10 g10 7) := by
            rw [hk3, hr, hq 7, (hs 7).1, (hs 7).2.1]; rfl
          rw [ee]; clear ee
          refine (rd_hit _ _ _ _ _ _).trans (congrArg (fun z => stL (mskd (lgt 7 z (arg5.view.readAt (Elt F) (Rect.unit (s := S4096x128) (k0_off27 i) S256x128.size (k0_off27_inb i)).toLoadRect (harg5.unread x3)))) (b9 arg9 g9 7) (b9 arg10 g10 7)) ?_)
          exact rd_hit _ _ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Fox

end
-- ==== Proof.AttnFrame.lean ====
/-
The frame of the kernel's exact program, with the output array named block by block.
-/
module

public import proofs.«01_k».proof.Proof.AttnRun
public import Idealize.ShloMosaic.Lib.Claim
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in its output block at a grid point. -/
def outB (c : Dev nD) (t : Fin cfg0.N) : Vec F S256x512 .bf16 :=
  outBlk (iblk m c 0 t) (iblk m c 1 t) (iblk m c 2 t) (iblk m c 3 t) (grid0.coords t 1).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩⟩
  iapply ((body_run c (grid0.coords t) _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  unfold outB
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

theorem flushed4 (c : Dev nD) (t : Fin cfg0.N) :
    (dats m 0 c).flushed 4 t = (cfg0.win 4).cut (grid0.coords t) (outB m c t) := by
  show (cfg0.win 4).cut (grid0.coords t) ((dats m 0 c).after 4 t) = _
  rw [after0_4]

/-- Distinct grid points write distinct blocks. -/
theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- A block of the final array is what its grid point wrote. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- The run, with the output array named. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Fox

end
-- ==== Proof.StepIdeal.lean ====
/-
One head's step at exact arithmetic, read at a query.
-/
module

public import proofs.«01_k».proof.Proof.Init

@[expose] public section

set_option maxRecDepth 16384

noncomputable section

namespace Cert.KernelIdeal.Fox

open Idealize.ShloMosaic Idealize.ShloMosaic.TcCoe Idealize.SL.Sem Cert.KernelIdeal.Gen

/-- The word of minus infinity. -/
theorem ofBits_ninf : Ideal.ofBits FTy.f32 4286578688#32 = (⊥ : EReal) := by
  simp [Ideal.ofBits, Ideal.ieee]

/-- The masking literal stands for minus infinity. -/
theorem mask_eq : (Named.named κ "mask" 4048155338#32 : Ideal FTy.f32) = (⊥ : EReal) := rfl

/-- The new running maximum. -/
def nM (lg : Fin 256 → EReal) (b : EReal) : EReal := max b (Finset.fold max ⊥ lg Finset.univ)

theorem stM_apply (lg : FVec Ideal S256x256 .f32) (b : Vec Ideal S1x8x256 .f32) (a : Fin 8) (q : Fin 256) :
    stM lg b (ix3 0 a q) = nM (fun x => lg (ix2 x q)) (b (ix3 0 0 q)) := by
  unfold nM
  rw [← ofBits_ninf]
  pointwise [stM, mNew, row, rows]

theorem stL_apply (lg : FVec Ideal S256x256 .f32) (b l : Vec Ideal S1x8x256 .f32) (a : Fin 8) (q : Fin 256) :
    stL lg b l (ix3 0 a q) = (Ideal.exp2 (b (ix3 0 0 q) - nM (fun x => lg (ix2 x q)) (b (ix3 0 0 q))) * l (ix3 0 0 q) + ∑ x, Ideal.exp2 (lg (ix2 x q) - nM (fun x => lg (ix2 x q)) (b (ix3 0 0 q))) : EReal) := by
  unfold nM
  rw [← ofBits_ninf]
  pointwise [stL, lNew, alph, wts, mNew, row, rows]
  rfl

theorem stA_apply (lg : FVec Ideal S256x256 .f32) (vt : Vec Ideal S1x1x64x256 .bf16) (b : Vec Ideal S1x8x256 .f32) (ac : Vec Ideal S1x64x256 .f32) (d : Fin 64) (q : Fin 256) :
    stA lg vt b ac (ix3 0 d q) = (Ideal.exp2 (b (ix3 0 0 q) - nM (fun x => lg (ix2 x q)) (b (ix3 0 0 q))) * ac (ix3 0 d q) + ∑ x, vt (ix4 0 0 d x) * Ideal.exp2 (lg (ix2 x q) - nM (fun x => lg (ix2 x q)) (b (ix3 0 0 q))) : EReal) := by
  unfold nM
  rw [← ofBits_ninf]
  pointwise [stA, aNew, alph, wts, mNew, row, rows]
  rfl

theorem lgt_apply (h : Fin 8) (kt : Vec Ideal S256x128 .bf16) (qm : Vec Ideal S1x128x256 .bf16) (fr : Vec Ideal S256x128 .f32) (r q : Fin 256) :
    lgt h (prodB kt qm) fr (ix2 r q) = ((∑ x, kt (ix2 r x) * qm (ix3 0 x q)) - fr (ix2 r ⟨h.val, by omega⟩) : EReal) := by
  pointwise [lgt, prodB, prod]

theorem mskd_apply (lg : FVec Ideal S256x256 .f32) (r q : Fin 256) :
    mskd lg (ix2 r q) = (if r.val ≤ q.val then lg (ix2 r q) else ⊥ : EReal) := by
  have e : IntOp.cmpi .sle (BitVec.ofNat 32 r.val) (BitVec.ofNat 32 q.val) = BitVec.ofBool (decide (r.val ≤ q.val)) :=
    WordCmp.cmpi_sle_ofNat (by have := r.isLt; omega) (by have := q.isLt; omega)
  pointwise [mskd]
  rw [e, mask_eq]
  by_cases hr : r.val ≤ q.val
  · rw [if_pos hr, decide_eq_true hr]; rfl
  · rw [if_neg hr, decide_eq_false hr]; rfl

theorem outP_apply0 (a0 : Vec Ideal S1x64x256 .f32) (l0 : Vec Ideal S1x8x256 .f32) (a1 : Vec Ideal S1x64x256 .f32) (l1 : Vec Ideal S1x8x256 .f32) (q : Fin 256) (d : Fin 64) :
    outP a0 l0 a1 l1 (ix2 q (⟨d.val, by omega⟩ : Fin 128)) = Ideal.div (a0 (ix3 0 d q)) (l0 (ix3 0 0 q)) := by
  pointwise [outP, row]

theorem outP_apply1 (a0 : Vec Ideal S1x64x256 .f32) (l0 : Vec Ideal S1x8x256 .f32) (a1 : Vec Ideal S1x64x256 .f32) (l1 : Vec Ideal S1x8x256 .f32) (q : Fin 256) (d : Fin 64) :
    outP a0 l0 a1 l1 (ix2 q (⟨64 + d.val, by omega⟩ : Fin 128)) = Ideal.div (a1 (ix3 0 d q)) (l1 (ix3 0 0 q)) := by
  pointwise [outP, row]

end Cert.KernelIdeal.Fox

end
-- ==== Proof.Softmax.lean ====
/-
The running softmax over tiles of 256 keys, against the softmax of the whole row.
-/
module

public import Idealize.ShloMosaic.Lib.Pointwise
public import Idealize.ShloMosaic.PureOps.Ideal

@[expose] public section

noncomputable section

namespace Cert.Softmax

open Idealize.ShloMosaic

/-- A nonnegative finite factor goes through a sum. -/
theorem mul_sum_nonneg {ι : Type*} (s : Finset ι) (c : EReal) (h0 : 0 ≤ c) (h1 : c ≠ ⊤) (f : ι → EReal) :
    c * ∑ x ∈ s, f x = ∑ x ∈ s, c * f x := by
  classical
  induction s using Finset.induction_on with
  | empty => simp
  | insert x s hx ih =>
    rw [Finset.sum_insert hx, Finset.sum_insert hx, EReal.left_distrib_of_nonneg_of_ne_top h0 h1, ih]

/-- A sum of reals is real. -/
theorem coe_sum {ι : Type*} (s : Finset ι) (f : ι → ℝ) :
    (∑ x ∈ s, ((f x : ℝ) : EReal)) = ((∑ x ∈ s, f x : ℝ) : EReal) := by
  classical
  induction s using Finset.induction_on with
  | empty => simp
  | insert x s hx ih => rw [Finset.sum_insert hx, Finset.sum_insert hx, ih, EReal.coe_add]

/-- The logit of key `s` for the query at `t`: minus infinity after the query. -/
def lgv (a : ℕ → ℝ) (t s : ℕ) : EReal := if s ≤ t then ((a s : ℝ) : EReal) else ⊥

/-- The weight of key `s` relative to the level `μ`. -/
def wt (a : ℕ → ℝ) (t : ℕ) (μ : ℝ) (s : ℕ) : ℝ := if s ≤ t then Real.rpow 2 (a s - μ) else 0

theorem wt_nonneg (a : ℕ → ℝ) (t : ℕ) (μ : ℝ) (s : ℕ) : 0 ≤ wt a t μ s := by
  unfold wt
  split
  · exact Real.rpow_nonneg (by norm_num) _
  · exact le_refl _

theorem wt_shift (a : ℕ → ℝ) (t : ℕ) (μ ν : ℝ) (s : ℕ) : wt a t ν s = Real.rpow 2 (μ - ν) * wt a t μ s := by
  unfold wt
  split
  · have := Real.rpow_add (x := 2) (by norm_num) (μ - ν) (a s - μ)
    rw [show μ - ν + (a s - μ) = a s - ν by ring] at this
    exact this
  · simp

theorem exp2_lgv (a : ℕ → ℝ) (t : ℕ) (μ : ℝ) (s : ℕ) :
    Ideal.exp2 (lgv a t s - (μ : EReal)) = ((wt a t μ s : ℝ) : EReal) := by
  unfold lgv wt
  split
  · rw [← EReal.coe_sub]; rfl
  · rw [EReal.bot_sub]; rfl

theorem exp_lgv (a : ℕ → ℝ) (t : ℕ) (μ : ℝ) (s : ℕ) :
    Ideal.exp (((Real.log 2 : ℝ) : EReal) * (lgv a t s - (μ : EReal))) = ((wt a t μ s : ℝ) : EReal) := by
  unfold lgv wt
  split
  · rw [← EReal.coe_sub, ← EReal.coe_mul, Ideal.exp_coe]
    congr 1
    exact (Real.rpow_def_of_pos (by norm_num) _).symm
  · rw [EReal.bot_sub, EReal.coe_mul_bot_of_pos (Real.log_pos (by norm_num))]
    rfl

/-- The maximum of logits one of which is seen is real. -/
theorem fold_real {n : ℕ} (b : EReal) (hb : b ≠ ⊤) (f : Fin n → EReal) (hf : ∀ x, f x ≠ ⊤) (h : ∃ x, f x ≠ ⊥) :
    ∃ μ : ℝ, max b (Finset.fold max ⊥ f Finset.univ) = (μ : EReal) := by
  have h1 : max b (Finset.fold max ⊥ f Finset.univ) ≠ ⊤ := by
    apply ne_of_lt
    rw [max_lt_iff, Finset.fold_max_lt]
    exact ⟨lt_top_iff_ne_top.mpr hb, bot_lt_top, fun x _ => lt_top_iff_ne_top.mpr (hf x)⟩
  have h2 : max b (Finset.fold max ⊥ f Finset.univ) ≠ ⊥ := by
    obtain ⟨x, hx⟩ := h
    intro e
    apply hx
    have := (Finset.le_fold_max (s := Finset.univ) (b := (⊥ : EReal)) (f := f) (f x)).mpr (Or.inr ⟨x, Finset.mem_univ _, le_refl _⟩)
    exact le_bot_iff.mp ((this.trans (le_max_right b _)).trans (le_of_eq e))
  exact ⟨_, (EReal.coe_toReal h1 h2).symm⟩

theorem lgv_ne_top (a : ℕ → ℝ) (t s : ℕ) : lgv a t s ≠ ⊤ := by
  unfold lgv
  split
  · exact EReal.coe_ne_top _
  · exact bot_ne_top

/-- What the three running numbers hold after `n` tiles. -/
def Inv (a : ℕ → ℝ) (t : ℕ) (v : ℕ → EReal) (n : ℕ) (M L A : EReal) : Prop :=
  (n = 0 ∧ M = ⊥ ∧ L = 0 ∧ A = 0) ∨
  ∃ μ : ℝ, M = (μ : EReal) ∧ L = ∑ s ∈ Finset.range (256 * n), ((wt a t μ s : ℝ) : EReal)
    ∧ A = ∑ s ∈ Finset.range (256 * n), v s * ((wt a t μ s : ℝ) : EReal)

theorem tile_sum (n : ℕ) (f : ℕ → EReal) :
    ∑ s ∈ Finset.range (256 * (n + 1)), f s = ∑ s ∈ Finset.range (256 * n), f s + ∑ x : Fin 256, f (256 * n + x.val) := by
  rw [show 256 * (n + 1) = 256 * n + 256 by ring, Finset.sum_range_add, Finset.sum_range (fun x => f (256 * n + x))]

/-- One tile's update keeps the invariant. -/
theorem Inv.step {a : ℕ → ℝ} {t : ℕ} {v : ℕ → EReal} {n : ℕ} {M L A : EReal} (hi : Inv a t v n M L A)
    (ht : 256 * n ≤ t) (lg vt : Fin 256 → EReal) (hlg : ∀ x, lg x = lgv a t (256 * n + x.val)) (hv : ∀ x, vt x = v (256 * n + x.val))
    (M' : EReal) (hM : M' = max M (Finset.fold max ⊥ lg Finset.univ)) :
    Inv a t v (n + 1) M' (Ideal.exp2 (M - M') * L + ∑ x, Ideal.exp2 (lg x - M')) (Ideal.exp2 (M - M') * A + ∑ x, vt x * Ideal.exp2 (lg x - M')) := by
  have hr : ∃ ν : ℝ, M' = (ν : EReal) := by
    rw [hM]
    apply fold_real
    · rcases hi with ⟨_, h, _⟩ | ⟨μ, h, _⟩ <;> rw [h]
      · exact bot_ne_top
      · exact EReal.coe_ne_top _
    · intro x; rw [hlg]; exact lgv_ne_top _ _ _
    · refine ⟨⟨0, by norm_num⟩, ?_⟩
      rw [hlg]
      unfold lgv
      rw [if_pos (by simpa using ht)]
      exact EReal.coe_ne_bot _
  obtain ⟨ν, hν⟩ := hr
  clear hM
  subst hν
  have e1 : ∀ x, Ideal.exp2 (lg x - (ν : EReal)) = ((wt a t ν (256 * n + x.val) : ℝ) : EReal) := by
    intro x; rw [hlg, exp2_lgv]
  simp only [e1, hv]
  refine Or.inr ⟨ν, rfl, ?_, ?_⟩
  · rw [tile_sum]
    congr 1
    rcases hi with ⟨h0, h1, h2, h3⟩ | ⟨μ, h1, h2, h3⟩
    · subst h0; rw [h2]; simp
    · rw [h1, h2, ← EReal.coe_sub, Ideal.exp2_coe, coe_sum, coe_sum, ← EReal.coe_mul, Finset.mul_sum]
      congr 1
      exact Finset.sum_congr rfl fun s _ => (wt_shift a t μ ν s).symm
  · rw [tile_sum n fun s => v s * ((wt a t ν s : ℝ) : EReal)]
    congr 1
    rcases hi with ⟨h0, h1, h2, h3⟩ | ⟨μ, h1, h2, h3⟩
    · subst h0; rw [h3]; simp
    · have hc : (0 : EReal) ≤ ((Real.rpow 2 (μ - ν) : ℝ) : EReal) := EReal.coe_nonneg.mpr (Real.rpow_nonneg (by norm_num) _)
      rw [h1, h3, ← EReal.coe_sub, Ideal.exp2_coe, mul_sum_nonneg _ _ hc (EReal.coe_ne_top _)]
      refine Finset.sum_congr rfl fun s _ => ?_
      rw [mul_left_comm, ← EReal.coe_mul, ← wt_shift a t μ ν s]

/-- The quotient of the last sums is the row's softmax applied to the values. -/
theorem Inv.quot {a : ℕ → ℝ} {t : ℕ} {v : ℕ → EReal} {n : ℕ} {M L A : EReal} (hi : Inv a t v n M L A)
    (hn : t < 256 * n) (hN : 256 * n ≤ 4096) (F : ℝ) (lg : Fin 4096 → EReal) (hlg : ∀ s, lg s = lgv (fun s => a s + F) t s.val) :
    Ideal.div A L = ∑ s : Fin 4096, Ideal.div (Ideal.exp (((Real.log 2 : ℝ) : EReal) * (lg s - Finset.fold max ⊥ lg Finset.univ)))
      (∑ x : Fin 4096, Ideal.exp (((Real.log 2 : ℝ) : EReal) * (lg x - Finset.fold max ⊥ lg Finset.univ))) * v s.val := by
  have hr : ∃ ν : ℝ, Finset.fold max ⊥ lg Finset.univ = (ν : EReal) := by
    have := fold_real ⊥ bot_ne_top lg (fun x => by rw [hlg]; exact lgv_ne_top _ _ _) ⟨⟨0, by norm_num⟩, by
      rw [hlg]; unfold lgv; rw [if_pos (Nat.zero_le _)]; exact EReal.coe_ne_bot _⟩
    rwa [max_eq_right bot_le] at this
  obtain ⟨ν, hν⟩ := hr
  rw [hν]
  have e1 : ∀ s : Fin 4096, Ideal.exp (((Real.log 2 : ℝ) : EReal) * (lg s - (ν : EReal))) = ((wt a t (ν - F) s.val : ℝ) : EReal) := by
    intro s
    rw [hlg, exp_lgv]
    unfold wt
    rw [show a s.val - (ν - F) = a s.val + F - ν by ring]
  simp only [e1]
  rw [← Finset.sum_range (fun s => ((wt a t (ν - F) s : ℝ) : EReal)),
    ← Finset.sum_range (fun s => Ideal.div ((wt a t (ν - F) s : ℝ) : EReal) (∑ s ∈ Finset.range 4096, ((wt a t (ν - F) s : ℝ) : EReal)) * v s)]
  rcases hi with ⟨h0, _⟩ | ⟨μ, h1, h2, h3⟩
  · subst h0; omega
  have hsub : Finset.range (256 * n) ⊆ Finset.range 4096 := Finset.range_subset_range.mpr hN
  have hz : ∀ (ρ : ℝ) (s : ℕ), s ∉ Finset.range (256 * n) → wt a t ρ s = 0 := by
    intro ρ s hs
    unfold wt
    rw [if_neg]
    intro h
    exact hs (Finset.mem_range.mpr (by omega))
  have hL : L = ((∑ s ∈ Finset.range 4096, wt a t μ s : ℝ) : EReal) := by
    rw [h2, coe_sum]
    congr 1
    exact Finset.sum_subset hsub fun s _ hs => hz μ s hs
  have hA : A = ∑ s ∈ Finset.range 4096, v s * ((wt a t μ s : ℝ) : EReal) := by
    rw [h3]
    refine Finset.sum_subset hsub fun s _ hs => ?_
    rw [hz μ s hs]; simp
  have hpos : ∀ ρ : ℝ, 0 < ∑ s ∈ Finset.range 4096, wt a t ρ s := by
    intro ρ
    refine Finset.sum_pos' (fun s _ => wt_nonneg a t ρ s) ⟨0, Finset.mem_range.mpr (by norm_num), ?_⟩
    unfold wt
    rw [if_pos (Nat.zero_le _)]
    exact Real.rpow_pos_of_pos (by norm_num) _
  rw [hL, hA, coe_sum, Ideal.div_coe (hpos μ).ne', mul_comm,
    mul_sum_nonneg _ _ (EReal.coe_nonneg.mpr (one_div_nonneg.mpr (hpos μ).le)) (EReal.coe_ne_top _)]
  refine Finset.sum_congr rfl fun s _ => ?_
  rw [Ideal.div_coe (hpos (ν - F)).ne', mul_left_comm, mul_comm (v s), ← EReal.coe_mul, ← EReal.coe_mul]
  congr 2
  have hs : ∑ s ∈ Finset.range 4096, wt a t (ν - F) s = Real.rpow 2 (μ - (ν - F)) * ∑ s ∈ Finset.range 4096, wt a t μ s := by
    rw [Finset.mul_sum]
    exact Finset.sum_congr rfl fun s _ => wt_shift a t μ (ν - F) s
  rw [hs, wt_shift a t μ (ν - F) s]
  have hc : Real.rpow 2 (μ - (ν - F)) ≠ 0 := (Real.rpow_pos_of_pos (by norm_num) _).ne'
  have hp := (hpos μ).ne'
  field_simp

end Cert.Softmax

end
-- ==== Proof.Flash.lean ====
/-
The kernel's running numbers are the running softmax's.
-/
module

public import proofs.«01_k».proof.Proof.StepIdeal
public import proofs.«01_k».proof.Proof.Softmax

@[expose] public section

set_option maxRecDepth 16384

noncomputable section

namespace Cert.KernelIdeal.Fox

open Idealize.ShloMosaic Idealize.ShloMosaic.TcCoe Idealize.SL.Sem Cert.KernelIdeal.Gen Cert.Softmax

/-- Half of a pair's features are one head's. -/
theorem half_sum (g : ℕ → EReal) (e : ℕ) (he : e < 2) :
    ∑ x : Fin 128, (if 64 * e ≤ x.val ∧ x.val < 64 * e + 64 then g x.val else 0) = ∑ d : Fin 64, g (64 * e + d.val) := by
  rw [← Finset.sum_range (fun x => if 64 * e ≤ x ∧ x < 64 * e + 64 then g x else 0), show 128 = 64 + 64 from rfl, Finset.sum_range_add,
    ← Finset.sum_range (fun d => g (64 * e + d))]
  obtain rfl | rfl : e = 0 ∨ e = 1 := by omega
  · rw [Finset.sum_congr rfl (g := fun x => g x), Finset.sum_eq_zero (s := Finset.range 64) (f := fun x => if 64 * 0 ≤ 64 + x ∧ 64 + x < 64 * 0 + 64 then g (64 + x) else 0), add_zero]
    · exact Finset.sum_congr rfl fun x _ => by rw [show 64 * 0 + x = x by omega]
    · intro x hx; rw [if_neg (by omega)]
    · intro x hx; have := Finset.mem_range.mp hx; rw [if_pos (by omega)]
  · rw [Finset.sum_eq_zero (s := Finset.range 64) (f := fun x => if 64 * 1 ≤ x ∧ x < 64 * 1 + 64 then g x else 0), zero_add]
    · exact Finset.sum_congr rfl fun x hx => by
        have := Finset.mem_range.mp hx
        rw [if_pos (by omega)]
    · intro x hx; have := Finset.mem_range.mp hx; rw [if_neg (by omega)]

variable (x0 : Vec Ideal S1x1x512x256 .bf16) (x1 : Vec Ideal S4096x512 .bf16) (x2 : Vec Ideal S1x16x512x256 .bf16) (x3 : Vec Ideal S4096x128 .f32)

/-- The logit of key `s` for the query in column `q`, less the query's own running sum. -/
def logit (h : Fin 8) (q : Fin 256) (s : ℕ) : EReal :=
  (∑ d : Fin 64, x1 (ValueIdx.ix2 (⟨s % 4096, Nat.mod_lt _ (by norm_num)⟩ : Fin 4096) (⟨(64 * h.val + d.val) % 512, Nat.mod_lt _ (by norm_num)⟩ : Fin 512))
      * x0 (ValueIdx.ix4 (0 : Fin 1) (0 : Fin 1) (⟨(64 * h.val + d.val) % 512, Nat.mod_lt _ (by norm_num)⟩ : Fin 512) q))
    - x3 (ValueIdx.ix2 (⟨s % 4096, Nat.mod_lt _ (by norm_num)⟩ : Fin 4096) (⟨h.val, by omega⟩ : Fin 128))

/-- The value's feature `d` at key `s`. -/
def val (h : Fin 8) (d : Fin 64) (s : ℕ) : EReal :=
  x2 (ValueIdx.ix4 (0 : Fin 1) (⟨s / 256 % 16, Nat.mod_lt _ (by norm_num)⟩ : Fin 16) (⟨(64 * h.val + d.val) % 512, Nat.mod_lt _ (by norm_num)⟩ : Fin 512)
    (⟨s % 256, Nat.mod_lt _ (by norm_num)⟩ : Fin 256))

theorem ofBits_zero_bf16 : (Scalar.ofBits .bf16 0x0000#16 : Ideal .bf16) = (0 : EReal) := by
  show Ideal.ofBits .bf16 0x0000#16 = 0
  simp [Ideal.ofBits, Ideal.ieee]

theorem ofBits_zero_f32 : (Scalar.ofBits .f32 0x00000000#32 : Ideal .f32) = (0 : EReal) := by
  show Ideal.ofBits .f32 0x00000000#32 = 0
  simp [Ideal.ofBits, Ideal.ieee]

theorem lgS_apply (j : ℕ) (h : Fin 8) (r q : Fin 256) :
    lgS x0 x1 x3 j h (ix2 r q) = logit x0 x1 x3 h q (256 * j + r.val) := by
  unfold lgS logit
  rw [lgt_apply]
  obtain ⟨g, hg⟩ : ∃ g : ℕ → EReal, g = (fun y : ℕ => (x1 (ValueIdx.ix2 (⟨(256 * j + r.val) % 4096, Nat.mod_lt _ (by norm_num)⟩ : Fin 4096) (⟨(128 * (h.val / 2) + y) % 512, Nat.mod_lt _ (by norm_num)⟩ : Fin 512))
            * x0 (ValueIdx.ix4 (0 : Fin 1) (0 : Fin 1) (⟨(128 * (h.val / 2) + y) % 512, Nat.mod_lt _ (by norm_num)⟩ : Fin 512) q) : EReal)) := ⟨_, rfl⟩
  have e1 : ∀ x : Fin 128, (ktT x1 j (h.val / 2) (ix2 r x) * qmT x0 h.val (ix3 0 x q) : EReal)
      = if 64 * (h.val % 2) ≤ x.val ∧ x.val < 64 * (h.val % 2) + 64 then
          g x.val
        else 0 := by
    intro x
    show (_ * (if 64 * (h.val % 2) ≤ x.val ∧ x.val < 64 * (h.val % 2) + 64 then _ else _) : EReal) = _
    split
    · have hq : (⟨q.val % 256, Nat.mod_lt _ (by norm_num)⟩ : Fin 256) = q := Fin.ext (Nat.mod_eq_of_lt q.isLt)
      show (_ * x0 (ValueIdx.ix4 (0 : Fin 1) (0 : Fin 1) _ (⟨q.val % 256, _⟩ : Fin 256)) : EReal) = _
      rw [hq, hg]
      rfl
    · rw [ofBits_zero_bf16, mul_zero]
  rw [Finset.sum_congr rfl fun x _ => e1 x, half_sum g _ (Nat.mod_lt _ (by norm_num)), hg]
  have e2 : frT x3 j (ix2 r (⟨h.val, by omega⟩ : Fin 128)) = x3 (ValueIdx.ix2 (⟨(256 * j + r.val) % 4096, Nat.mod_lt _ (by norm_num)⟩ : Fin 4096) (⟨h.val, by omega⟩ : Fin 128)) := by
    have hh : (⟨h.val % 128, Nat.mod_lt _ (by norm_num)⟩ : Fin 128) = ⟨h.val, by omega⟩ := Fin.ext (Nat.mod_eq_of_lt (by omega))
    show x3 (ValueIdx.ix2 (⟨(256 * j + r.val) % 4096, _⟩ : Fin 4096) (⟨h.val % 128, _⟩ : Fin 128)) = _
    rw [hh]
  rw [e2]
  congr 1
  refine Finset.sum_congr rfl fun d _ => ?_
  have e3 : (⟨(128 * (h.val / 2) + (64 * (h.val % 2) + d.val)) % 512, Nat.mod_lt _ (by norm_num)⟩ : Fin 512) = ⟨(64 * h.val + d.val) % 512, Nat.mod_lt _ (by norm_num)⟩ :=
    Fin.ext (by show _ % 512 = _ % 512; congr 1; omega)
  show (x1 (ValueIdx.ix2 _ (⟨(128 * (h.val / 2) + (64 * (h.val % 2) + d.val)) % 512, _⟩ : Fin 512)) * x0 (ValueIdx.ix4 _ _ (⟨(128 * (h.val / 2) + (64 * (h.val % 2) + d.val)) % 512, _⟩ : Fin 512) q) : EReal) = _
  rw [e3]

theorem vtT_apply (j : ℕ) (h : Fin 8) (d : Fin 64) (x : Fin 256) :
    vtT x2 j h.val (ix4 0 0 d x) = val x2 h d (256 * j + x.val) := by
  have e1 : (⟨x.val % 256, Nat.mod_lt _ (by norm_num)⟩ : Fin 256) = ⟨(256 * j + x.val) % 256, Nat.mod_lt _ (by norm_num)⟩ := Fin.ext (by show _ % 256 = _ % 256; omega)
  have e2 : (⟨j % 16, Nat.mod_lt _ (by norm_num)⟩ : Fin 16) = ⟨(256 * j + x.val) / 256 % 16, Nat.mod_lt _ (by norm_num)⟩ :=
    Fin.ext (by have := x.isLt; show _ % 16 = _ % 16; congr 1; omega)
  show x2 (ValueIdx.ix4 (0 : Fin 1) (⟨j % 16, _⟩ : Fin 16) _ (⟨x.val % 256, _⟩ : Fin 256)) = _
  rw [e1, e2]
  rfl

/-- After `n` full tiles the scratch rows hold the running softmax of the seen keys. -/
theorem stp_inv (a : ℕ → ℝ) (h : Fin 8) (q : Fin 256) (d : Fin 64) (ha : ∀ s, logit x0 x1 x3 h q s = ((a s : ℝ) : EReal)) (i : ℕ) :
    ∀ n, n ≤ i → Inv a (256 * i + q.val) (val x2 h d) n ((stp x0 x1 x2 x3 h n).1 (ix3 0 0 q)) ((stp x0 x1 x2 x3 h n).2.1 (ix3 0 0 q)) ((stp x0 x1 x2 x3 h n).2.2 (ix3 0 d q)) := by
  intro n
  induction n with
  | zero => intro _; exact Or.inl ⟨rfl, mask_eq, ofBits_zero_f32, ofBits_zero_f32⟩
  | succ n ih =>
    intro hn
    have := (ih (by omega)).step (by omega) (fun x => lgS x0 x1 x3 n h (ix2 x q)) (fun x => vtT x2 n h.val (ix4 0 0 d x))
      (fun x => by rw [lgS_apply, ha]; unfold lgv; rw [if_pos (by have := x.isLt; omega)]) (fun x => vtT_apply x2 n h d x) _ rfl
    show Inv _ _ _ _ (stM (lgS x0 x1 x3 n h) (stp x0 x1 x2 x3 h n).1 (ix3 0 0 q)) (stL (lgS x0 x1 x3 n h) (stp x0 x1 x2 x3 h n).1 (stp x0 x1 x2 x3 h n).2.1 (ix3 0 0 q))
      (stA (lgS x0 x1 x3 n h) (vtT x2 n h.val) (stp x0 x1 x2 x3 h n).1 (stp x0 x1 x2 x3 h n).2.2 (ix3 0 d q))
    rw [stM_apply, stL_apply, stA_apply]
    exact this

/-- The diagonal tile closes the row. -/
theorem fin_inv (a : ℕ → ℝ) (h : Fin 8) (q : Fin 256) (d : Fin 64) (ha : ∀ s, logit x0 x1 x3 h q s = ((a s : ℝ) : EReal)) (i : ℕ) :
    ∃ M, Inv a (256 * i + q.val) (val x2 h d) (i + 1) M (finL x0 x1 x2 x3 i h (ix3 0 0 q)) (finA x0 x1 x2 x3 i h (ix3 0 d q)) := by
  have := (stp_inv x0 x1 x2 x3 a h q d ha i i le_rfl).step (by omega) (fun x => mskd (lgS x0 x1 x3 i h) (ix2 x q)) (fun x => vtT x2 i h.val (ix4 0 0 d x))
      (fun x => by
        rw [mskd_apply, lgS_apply, ha]; unfold lgv
        by_cases hx : x.val ≤ q.val
        · rw [if_pos hx, if_pos (by omega)]
        · rw [if_neg hx, if_neg (by omega)]) (fun x => vtT_apply x2 i h d x) _ rfl
  unfold finL finA
  rw [stL_apply, stA_apply]
  exact ⟨_, this⟩

/-- An element of the output block, by head and feature. -/
theorem outBlk_apply (i : ℕ) (q : Fin 256) (h : Fin 8) (d : Fin 64) :
    outBlk x0 x1 x2 x3 i (ix2 q (⟨64 * h.val + d.val, by omega⟩ : Fin 512)) = Ideal.div (finA x0 x1 x2 x3 i h (ix3 0 d q)) (finL x0 x1 x2 x3 i h (ix3 0 0 q)) := by
  have hd := d.isLt
  have hh := h.isLt
  have e0 : (⟨q.val % 256, Nat.mod_lt _ (by norm_num)⟩ : Fin 256) = q := Fin.ext (Nat.mod_eq_of_lt q.isLt)
  show outQ x0 x1 x2 x3 i (⟨(2 * ((64 * h.val + d.val) / 128)) % 8, Nat.mod_lt _ (by norm_num)⟩) (⟨(2 * ((64 * h.val + d.val) / 128) + 1) % 8, Nat.mod_lt _ (by norm_num)⟩)
    (ix2 (⟨q.val % 256, Nat.mod_lt _ (by norm_num)⟩ : Fin 256) (⟨(64 * h.val + d.val) % 128, Nat.mod_lt _ (by norm_num)⟩ : Fin 128)) = _
  rw [e0]
  rcases Nat.mod_two_eq_zero_or_one h.val with hp | hp
  · have e1 : (⟨(2 * ((64 * h.val + d.val) / 128)) % 8, Nat.mod_lt _ (by norm_num)⟩ : Fin 8) = h := Fin.ext (by show _ % 8 = _; omega)
    have e2 : (⟨(64 * h.val + d.val) % 128, Nat.mod_lt _ (by norm_num)⟩ : Fin 128) = ⟨d.val, by omega⟩ := Fin.ext (by show _ % 128 = d.val; omega)
    rw [e1, e2]
    exact outP_apply0 _ _ _ _ q d
  · have e1 : (⟨(2 * ((64 * h.val + d.val) / 128) + 1) % 8, Nat.mod_lt _ (by norm_num)⟩ : Fin 8) = h := Fin.ext (by show _ % 8 = _; omega)
    have e2 : (⟨(64 * h.val + d.val) % 128, Nat.mod_lt _ (by norm_num)⟩ : Fin 128) = ⟨64 + d.val, by omega⟩ := Fin.ext (by show _ % 128 = 64 + d.val; omega)
    rw [e1, e2]
    exact outP_apply1 _ _ _ _ q d

end Cert.KernelIdeal.Fox

end
-- ==== Proof.RefRead.lean ====
/-
The reference's result read at one element.
-/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Val

open Idealize.ShloMosaic Idealize.ShloMosaic.TcCoe Idealize.SL.Sem Cert.ReferenceIdeal Cert.ReferenceIdeal.Gen

/-- The queries by batch, head, position, feature; the values likewise. -/
def qR (x : FVec Ideal S8x16x512x256 .bf16) : FVec Ideal S8x8x4096x64 .f32 :=
  shapeCast _ (transpose S8x8x16x256x64 [0, 2, 1, 4, 3] (shapeCast _ (extf .f32 x bitsLt_bf16_f32) shapeCasts_S8x16x512x256_S8x16x8x64x256) transposes_S8x16x8x64x256_S8x8x16x256x64_0_2_1_4_3) shapeCasts_S8x8x16x256x64_S8x8x4096x64

/-- The keys by batch, head, position, feature. -/
def kR (x : FVec Ideal S32768x512 .bf16) : FVec Ideal S8x8x4096x64 .f32 :=
  transpose S8x8x4096x64 [0, 2, 1, 3] (shapeCast _ (extf .f32 x bitsLt_bf16_f32) shapeCasts_S32768x512_S8x4096x8x64) transposes_S8x4096x8x64_S8x8x4096x64_0_2_1_3

/-- The running sums by batch, head, position. -/
def fR (x : FVec Ideal S32768x128 .f32) : FVec Ideal S8x8x4096 .f32 :=
  transpose S8x8x4096 [0, 2, 1] (shapeCast _ (extractStridedSlice S32768x8 ![0, 0] x slices_S32768x128_S32768x8_0_0) shapeCasts_S32768x8_S8x4096x8) transposes_S8x4096x8_S8x8x4096_0_2_1

/-- The masked logits. -/
def lgR (x0 : FVec Ideal S8x16x512x256 .bf16) (x1 : FVec Ideal S32768x512 .bf16) (x3 : FVec Ideal S32768x128 .f32) : FVec Ideal S8x8x4096x4096 .f32 :=
  select (broadcastInDim S8x8x4096x4096 ![2, 3] bcast_S4096x4096_S8x8x4096x4096_2_3 (cmpi .sle (iotaInDim S4096x4096 32 1) (iotaInDim S4096x4096 32 0))) (addf (Host.dotGeneral dot_S8x8x4096x64_S8x8x4096x64_S8x8x4096x4096_3_3_2_2_01_01 none (qR x0) (kR x1)) (subf (broadcastInDim S8x8x4096x4096 ![0, 1, 2, 3] bcast_S8x8x4096x1_S8x8x4096x4096_0_1_2_3 (broadcastInDim S8x8x4096x1 ![0, 1, 2] bcast_S8x8x4096_S8x8x4096x1_0_1_2 (fR x3))) (broadcastInDim S8x8x4096x4096 ![0, 1, 2, 3] bcast_S8x8x1x4096_S8x8x4096x4096_0_1_2_3 (broadcastInDim S8x8x1x4096 ![0, 1, 3] bcast_S8x8x4096_S8x8x1x4096_0_1_3 (fR x3))))) (broadcastInDim S8x8x4096x4096 ![] bcast_S_S8x8x4096x4096 (id (constant S_ .f32 0xFF800000#32)))

/-- The weights before they are normalised. -/
def eR (lg : FVec Ideal S8x8x4096x4096 .f32) : FVec Ideal S8x8x4096x4096 .f32 :=
  Host.exp (mulf (broadcastInDim S8x8x4096x4096 ![] bcast_S_S8x8x4096x4096 (Host.log (constant S_ .f32 0x40000000#32))) (subf lg (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduce FloatOps.maximumf lg (constant S_ .f32 0xFF800000#32) reducesTo_S8x8x4096x4096_S8x8x4096_d3 h_S_)))))

/-- The normalised weights. -/
def pR (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd e (constant S_ .f32 0x00000000#32) reducesTo_S8x8x4096x4096_S8x8x4096_d3 h_S_)))

/-- The result of the weights and the values. -/
def oR (p : FVec Ideal S8x8x4096x4096 .f32) (v : FVec Ideal S8x8x4096x64 .f32) : FVec Ideal S32768x512 .bf16 :=
  truncf .bf16 (shapeCast _ (transpose S8x4096x8x64 [0, 2, 1, 3] (Host.dotGeneral dot_S8x8x4096x4096_S8x8x4096x64_S8x8x4096x64_3_2_2_3_01_01 none p v) transposes_S8x8x4096x64_S8x4096x8x64_0_2_1_3) shapeCasts_S8x4096x8x64_S32768x512) bitsLt_bf16_f32

theorem res_eq (m : (ℓ : Loc nD τ sig) → Buf (Elt Ideal) ℓ) (c : Dev nD) :
    Value.res_out0 m c = oR (pR (eR (lgR (m ((c.tc : Thread nD τ).loc main_arg0)) (m ((c.tc : Thread nD τ).loc main_arg1)) (m ((c.tc : Thread nD τ).loc main_arg3))))) (qR (m ((c.tc : Thread nD τ).loc main_arg2))) := rfl

theorem qR_apply (x : FVec Ideal S8x16x512x256 .bf16) (b h : Fin 8) (i : Fin 16) (t : Fin 256) (d : Fin 64) :
    qR x (ix4 b h (⟨256 * i.val + t.val, by omega⟩ : Fin 4096) d) = x (ix4 b i ⟨h.val * 64 + d.val, by omega⟩ t) := by
  pointwise [qR]

theorem kR_apply (x : FVec Ideal S32768x512 .bf16) (b h : Fin 8) (s : Fin 4096) (d : Fin 64) :
    kR x (ix4 b h s d) = x (ix2 ⟨b.val * 4096 + s.val, by omega⟩ ⟨h.val * 64 + d.val, by omega⟩) := by
  pointwise [kR]

theorem fR_apply (x : FVec Ideal S32768x128 .f32) (b h : Fin 8) (s : Fin 4096) :
    fR x (ix3 b h s) = x (ix2 ⟨b.val * 4096 + s.val, by omega⟩ ⟨h.val, by omega⟩) := by
  pointwise [fR]

/-- The word of minus infinity. -/
theorem ofBits_ninf : Ideal.ofBits FTy.f32 4286578688#32 = (⊥ : EReal) := by
  simp [Ideal.ofBits, Ideal.ieee]

/-- The word of two. -/
theorem ofBits_two : Ideal.ofBits FTy.f32 1073741824#32 = ((2 : ℝ) : EReal) := by
  simp [Ideal.ofBits, Ideal.ieee]
  rw [← EReal.coe_mul]
  norm_num

theorem log_two : Ideal.log (Ideal.ofBits FTy.f32 1073741824#32) = ((Real.log 2 : ℝ) : EReal) := by
  rw [ofBits_two, Ideal.log_coe, if_neg (by norm_num)]

theorem lgR_apply (x0 : FVec Ideal S8x16x512x256 .bf16) (x1 : FVec Ideal S32768x512 .bf16) (x3 : FVec Ideal S32768x128 .f32) (b h : Fin 8) (t s : Fin 4096) :
    lgR x0 x1 x3 (ix4 b h t s) = (if s.val ≤ t.val then (∑ x : Fin 64, qR x0 (ix4 b h t x) * kR x1 (ix4 b h s x)) + (fR x3 (ix3 b h t) - fR x3 (ix3 b h s)) else ⊥ : EReal) := by
  have e : IntOp.cmpi .sle (BitVec.ofNat 32 s.val) (BitVec.ofNat 32 t.val) = BitVec.ofBool (decide (s.val ≤ t.val)) :=
    WordCmp.cmpi_sle_ofNat (by have := s.isLt; omega) (by have := t.isLt; omega)
  rw [← ofBits_ninf]
  pointwise [lgR]
  rw [e]
  by_cases hr : s.val ≤ t.val
  · rw [if_pos hr, decide_eq_true hr]; rfl
  · rw [if_neg hr, decide_eq_false hr]; rfl

theorem eR_apply (lg : FVec Ideal S8x8x4096x4096 .f32) (b h : Fin 8) (t s : Fin 4096) :
    eR lg (ix4 b h t s) = Ideal.exp (((Real.log 2 : ℝ) : EReal) * (lg (ix4 b h t s) - Finset.fold max ⊥ (fun x => lg (ix4 b h t x)) Finset.univ)) := by
  rw [← log_two, ← ofBits_ninf]
  pointwise [eR]

theorem pR_apply (e : FVec Ideal S8x8x4096x4096 .f32) (b h : Fin 8) (t s : Fin 4096) :
    pR e (ix4 b h t s) = Ideal.div (e (ix4 b h t s)) (∑ x, e (ix4 b h t x) : EReal) := by
  pointwise [pR]

theorem oR_apply (p : FVec Ideal S8x8x4096x4096 .f32) (v : FVec Ideal S8x8x4096x64 .f32) (b h : Fin 8) (t : Fin 4096) (d : Fin 64) :
    oR p v (ix2 (⟨4096 * b.val + t.val, by omega⟩ : Fin 32768) (⟨64 * h.val + d.val, by omega⟩ : Fin 512)) = (∑ x, p (ix4 b h t x) * v (ix4 b h x d) : EReal) := by
  pointwise [oR]

/-- The reference's element: batch `b`, position `t`, head `h`, feature `d`. -/
theorem out_apply (x0 : FVec Ideal S8x16x512x256 .bf16) (x1 : FVec Ideal S32768x512 .bf16) (x2 : FVec Ideal S8x16x512x256 .bf16) (x3 : FVec Ideal S32768x128 .f32) (b h : Fin 8) (t : Fin 4096) (d : Fin 64) :
    oR (pR (eR (lgR x0 x1 x3))) (qR x2) (ix2 (⟨4096 * b.val + t.val, by omega⟩ : Fin 32768) (⟨64 * h.val + d.val, by omega⟩ : Fin 512))
      = (∑ s : Fin 4096, Ideal.div
          (Ideal.exp (((Real.log 2 : ℝ) : EReal) * (lgR x0 x1 x3 (ix4 b h t s) - Finset.fold max ⊥ (fun x => lgR x0 x1 x3 (ix4 b h t x)) Finset.univ)))
          (∑ y : Fin 4096, Ideal.exp (((Real.log 2 : ℝ) : EReal) * (lgR x0 x1 x3 (ix4 b h t y) - Finset.fold max ⊥ (fun x => lgR x0 x1 x3 (ix4 b h t x)) Finset.univ)))
          * qR x2 (ix4 b h s d) : EReal) := by
  rw [oR_apply]
  refine Finset.sum_congr rfl fun s _ => ?_
  rw [pR_apply, eR_apply]
  simp only [eR_apply]

end Cert.ReferenceIdeal.Val

end
-- ==== Proof.Meet.lean ====
/-
An element of the kernel's output block is the reference's element.
-/
module

public import proofs.«01_k».proof.Proof.Flash
public import proofs.«01_k».proof.Proof.RefRead

@[expose] public section

set_option maxRecDepth 16384

noncomputable section

namespace Cert.KernelIdeal.Fox

open Idealize.ShloMosaic Idealize.ShloMosaic.TcCoe Idealize.SL.Sem Cert.Softmax Cert.ReferenceIdeal.Val

theorem value (X0 : FVec Ideal S8x16x512x256 .bf16) (X1 : FVec Ideal S32768x512 .bf16) (X2 : FVec Ideal S8x16x512x256 .bf16) (X3 : FVec Ideal S32768x128 .f32)
    (x0 : Vec Ideal S1x1x512x256 .bf16) (x1 : Vec Ideal S4096x512 .bf16) (x2 : Vec Ideal S1x16x512x256 .bf16) (x3 : Vec Ideal S4096x128 .f32)
    (b : Fin 8) (i : Fin 16)
    (hx0 : ∀ (e : Fin 512) (q : Fin 256), x0 (ValueIdx.ix4 (0 : Fin 1) (0 : Fin 1) e q) = X0 (ix4 b i e q))
    (hx1 : ∀ (s : Fin 4096) (e : Fin 512), x1 (ValueIdx.ix2 s e) = X1 (ix2 (⟨b.val * 4096 + s.val, by omega⟩ : Fin 32768) e))
    (hx2 : ∀ (j : Fin 16) (e : Fin 512) (x : Fin 256), x2 (ValueIdx.ix4 (0 : Fin 1) j e x) = X2 (ix4 b j e x))
    (hx3 : ∀ (s : Fin 4096) (e : Fin 128), x3 (ValueIdx.ix2 s e) = X3 (ix2 (⟨b.val * 4096 + s.val, by omega⟩ : Fin 32768) e))
    (h0 : ∀ (b : Fin 8) (i : Fin 16) (e : Fin 512) (q : Fin 256), ∃ r : ℝ, X0 (ix4 b i e q) = (r : EReal))
    (h1 : ∀ (s : Fin 32768) (e : Fin 512), ∃ r : ℝ, X1 (ix2 s e) = (r : EReal))
    (h3 : ∀ (s : Fin 32768) (e : Fin 8), ∃ r : ℝ, X3 (ix2 s (⟨e.val, by omega⟩ : Fin 128)) = (r : EReal))
    (q : Fin 256) (h : Fin 8) (d : Fin 64) :
    outBlk x0 x1 x2 x3 i.val (ix2 q (⟨64 * h.val + d.val, by omega⟩ : Fin 512))
      = oR (pR (eR (lgR X0 X1 X3))) (qR X2) (ix2 (⟨4096 * b.val + (256 * i.val + q.val), by omega⟩ : Fin 32768) (⟨64 * h.val + d.val, by omega⟩ : Fin 512)) := by
  choose Q hQ using h0
  choose K hK using h1
  choose G hG using h3
  obtain ⟨a, hadef⟩ : ∃ a : ℕ → ℝ, a = fun s => (∑ d : Fin 64, K (⟨b.val * 4096 + s % 4096, by omega⟩ : Fin 32768) (⟨(64 * h.val + d.val) % 512, Nat.mod_lt _ (by norm_num)⟩ : Fin 512)
      * Q b i (⟨(64 * h.val + d.val) % 512, Nat.mod_lt _ (by norm_num)⟩ : Fin 512) q) - G (⟨b.val * 4096 + s % 4096, by omega⟩ : Fin 32768) h := ⟨_, rfl⟩
  have ha : ∀ s, logit x0 x1 x3 h q s = ((a s : ℝ) : EReal) := by
    intro s
    rw [hadef]
    unfold logit
    rw [hx3]
    have eS : (∑ d : Fin 64, x1 (ValueIdx.ix2 (⟨s % 4096, Nat.mod_lt _ (by norm_num)⟩ : Fin 4096) (⟨(64 * h.val + d.val) % 512, Nat.mod_lt _ (by norm_num)⟩ : Fin 512))
          * x0 (ValueIdx.ix4 (0 : Fin 1) (0 : Fin 1) (⟨(64 * h.val + d.val) % 512, Nat.mod_lt _ (by norm_num)⟩ : Fin 512) q) : EReal)
        = ((∑ d : Fin 64, K (⟨b.val * 4096 + s % 4096, by omega⟩ : Fin 32768) (⟨(64 * h.val + d.val) % 512, Nat.mod_lt _ (by norm_num)⟩ : Fin 512)
          * Q b i (⟨(64 * h.val + d.val) % 512, Nat.mod_lt _ (by norm_num)⟩ : Fin 512) q : ℝ) : EReal) := by
      rw [← coe_sum]
      refine Finset.sum_congr rfl fun d _ => ?_
      rw [hx1, hx0, hK, hQ, ← EReal.coe_mul]
    exact (congrArg₂ (fun x y : EReal => x - y) eS (hG _ h)).trans (EReal.coe_sub _ _).symm
  obtain ⟨M, hM⟩ := fin_inv x0 x1 x2 x3 a h q d ha i.val
  rw [outBlk_apply, out_apply X0 X1 X2 X3 b h (⟨256 * i.val + q.val, by omega⟩ : Fin 4096) d]
  rw [hM.quot (by have := q.isLt; omega) (by have := i.isLt; omega) (G (⟨b.val * 4096 + (256 * i.val + q.val), by omega⟩ : Fin 32768) h)
    (fun s => lgR X0 X1 X3 (ix4 b h (⟨256 * i.val + q.val, by omega⟩ : Fin 4096) s))]
  · refine Finset.sum_congr rfl fun s _ => ?_
    congr 1
    have hs := s.isLt
    have es : s = (⟨256 * (⟨s.val / 256, by omega⟩ : Fin 16).val + (⟨s.val % 256, by omega⟩ : Fin 256).val, by
        show 256 * (s.val / 256) + s.val % 256 < 4096; omega⟩ : Fin 4096) := Fin.ext (by show s.val = 256 * (s.val / 256) + s.val % 256; omega)
    refine Eq.trans ?_ (congrArg (fun z => qR X2 (ix4 b h z d)) es.symm)
    rw [qR_apply]
    unfold val
    rw [hx2]
    have e1 : (⟨s.val / 256 % 16, Nat.mod_lt _ (by norm_num)⟩ : Fin 16) = ⟨s.val / 256, by omega⟩ := Fin.ext (by show _ % 16 = s.val / 256; omega)
    have e2 : (⟨(64 * h.val + d.val) % 512, Nat.mod_lt _ (by norm_num)⟩ : Fin 512) = ⟨h.val * 64 + d.val, by omega⟩ := Fin.ext (by show _ % 512 = h.val * 64 + d.val; omega)
    rw [e1, e2]
  · intro s
    have hs := s.isLt
    show lgR X0 X1 X3 (ix4 b h (⟨256 * i.val + q.val, by omega⟩ : Fin 4096) s) = _
    rw [lgR_apply]
    unfold lgv
    by_cases hc : s.val ≤ 256 * i.val + q.val
    · rw [if_pos hc, if_pos hc, fR_apply, fR_apply]
      have eS : (∑ x : Fin 64, qR X0 (ix4 b h (⟨256 * i.val + q.val, by omega⟩ : Fin 4096) x) * kR X1 (ix4 b h s x) : EReal)
          = ((∑ x : Fin 64, Q b i (⟨h.val * 64 + x.val, by omega⟩ : Fin 512) q * K (⟨b.val * 4096 + s.val, by omega⟩ : Fin 32768) (⟨h.val * 64 + x.val, by omega⟩ : Fin 512) : ℝ) : EReal) := by
        rw [← coe_sum]
        refine Finset.sum_congr rfl fun x _ => ?_
        rw [qR_apply, kR_apply, hK, hQ, ← EReal.coe_mul]
      refine (congrArg₂ (fun x y : EReal => x + y) eS (congrArg₂ (fun x y : EReal => x - y) (hG _ h) (hG _ h))).trans ?_
      · show _ + (_ - _) = _
        rw [← EReal.coe_sub, ← EReal.coe_add]
        congr 1
        rw [hadef]
        have e0 : (⟨b.val * 4096 + s.val % 4096, by omega⟩ : Fin 32768) = ⟨b.val * 4096 + s.val, by omega⟩ := Fin.ext (by show _ + s.val % 4096 = b.val * 4096 + s.val; omega)
        have e2 : ∀ d : Fin 64, (⟨(64 * h.val + d.val) % 512, Nat.mod_lt _ (by norm_num)⟩ : Fin 512) = ⟨h.val * 64 + d.val, by omega⟩ := fun d => Fin.ext (by show _ % 512 = h.val * 64 + d.val; omega)
        have eT : (∑ d : Fin 64, K (⟨b.val * 4096 + s.val % 4096, by omega⟩ : Fin 32768) (⟨(64 * h.val + d.val) % 512, Nat.mod_lt _ (by norm_num)⟩ : Fin 512)
              * Q b i (⟨(64 * h.val + d.val) % 512, Nat.mod_lt _ (by norm_num)⟩ : Fin 512) q)
            = ∑ x : Fin 64, Q b i (⟨h.val * 64 + x.val, by omega⟩ : Fin 512) q * K (⟨b.val * 4096 + s.val, by omega⟩ : Fin 32768) (⟨h.val * 64 + x.val, by omega⟩ : Fin 512) := by
          refine Finset.sum_congr rfl fun d _ => ?_
          rw [e0, e2, mul_comm]
        refine Eq.trans ?_ (congrArg₂ (fun x y : ℝ => x - y + G (⟨b.val * 4096 + (256 * i.val + q.val), by omega⟩ : Fin 32768) h) eT (congrArg (fun z => G z h) e0)).symm
        show _ + (_ - _) = _ - _ + _
        ring
    · rw [if_neg hc, if_neg hc]

end Cert.KernelIdeal.Fox

end
-- ==== Proof.Final.lean ====
/-
The kernel's output array is the reference's array.
-/
module

public import proofs.«01_k».proof.Proof.AttnFrame
public import proofs.«01_k».proof.Proof.Meet
public import Idealize.ShloMosaic.Lib.Pipeline.ValueKit

@[expose] public section

set_option maxRecDepth 16384

noncomputable section

namespace Cert.KernelIdeal.Fox

open Idealize.ShloMosaic Idealize.ShloMosaic.TcCoe Idealize.SL.Sem Idealize.ShloMosaic.Pipeline Cert.KernelIdeal.Gen Cert.ReferenceIdeal.Val

variable (m : (ℓ : Loc nD τ sig) → Buf (Elt Ideal) ℓ)

theorem index0 : ∀ t : Fin cfg0.N, win0_0.index t = ![(grid0.coords t 0).val, (grid0.coords t 1).val, 0, 0] :=
  (by decide +kernel : ∀ t : Fin grid0.N, win0_0.index t = ![(grid0.coords t 0).val, (grid0.coords t 1).val, 0, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 0, 0, 0] :=
  (by decide +kernel : ∀ t : Fin grid0.N, win0_2.index t = ![(grid0.coords t 0).val, 0, 0, 0])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![(grid0.coords t 0).val * 16 + (grid0.coords t 1).val, 0] :=
  (by decide +kernel : ∀ t : Fin grid0.N, win0_4.index t = ![(grid0.coords t 0).val * 16 + (grid0.coords t 1).val, 0])

theorem blk0 (c : Dev nD) (t : Fin cfg0.N) (e : Fin 512) (q : Fin 256) :
    iblk m c 0 t (ValueIdx.ix4 (0 : Fin 1) (0 : Fin 1) e q) = m ((c : Thread nD τ).loc main_arg0) (ix4 (⟨(grid0.coords t 0).val, (grid0.coords t 0).isLt⟩ : Fin 8) (⟨(grid0.coords t 1).val, (grid0.coords t 1).isLt⟩ : Fin 16) e q) := by
  blk_simp [iblk]
  refine congrArg (m ((c : Thread nD τ).loc main_arg0)) ?_
  rw [ix4_eq_valueIdx]
  blk_ext [index0]

theorem blk1 (c : Dev nD) (t : Fin cfg0.N) (s : Fin 4096) (e : Fin 512) :
    iblk m c 1 t (ValueIdx.ix2 s e) = m ((c : Thread nD τ).loc main_arg1) (ix2 (⟨(⟨(grid0.coords t 0).val, (grid0.coords t 0).isLt⟩ : Fin 8).val * 4096 + s.val, by have := (grid0.coords t 0).isLt; change _ < 8 at this; show (grid0.coords t 0).val * 4096 + s.val < 32768; omega⟩ : Fin 32768) e) := by
  blk_simp [iblk]
  refine congrArg (m ((c : Thread nD τ).loc main_arg1)) ?_
  rw [ix2_eq_valueIdx]
  blk_ext [index1]

theorem blk2 (c : Dev nD) (t : Fin cfg0.N) (j : Fin 16) (e : Fin 512) (q : Fin 256) :
    iblk m c 2 t (ValueIdx.ix4 (0 : Fin 1) j e q) = m ((c : Thread nD τ).loc main_arg2) (ix4 (⟨(grid0.coords t 0).val, (grid0.coords t 0).isLt⟩ : Fin 8) j e q) := by
  blk_simp [iblk]
  refine congrArg (m ((c : Thread nD τ).loc main_arg2)) ?_
  rw [ix4_eq_valueIdx]
  blk_ext [index2]

theorem blk3 (c : Dev nD) (t : Fin cfg0.N) (s : Fin 4096) (e : Fin 128) :
    iblk m c 3 t (ValueIdx.ix2 s e) = m ((c : Thread nD τ).loc main_arg3) (ix2 (⟨(⟨(grid0.coords t 0).val, (grid0.coords t 0).isLt⟩ : Fin 8).val * 4096 + s.val, by have := (grid0.coords t 0).isLt; change _ < 8 at this; show (grid0.coords t 0).val * 4096 + s.val < 32768; omega⟩ : Fin 32768) e) := by
  blk_simp [iblk]
  refine congrArg (m ((c : Thread nD τ).loc main_arg3)) ?_
  rw [ix2_eq_valueIdx]
  blk_ext [index3]

theorem final (c : Dev nD) (G : FVec Ideal S32768x512 .bf16)
    (hG : ∀ (t : Fin cfg0.N) (q : Fin 256) (e : Fin 512), outBlk (iblk m c 0 t) (iblk m c 1 t) (iblk m c 2 t) (iblk m c 3 t) (grid0.coords t 1).val (ix2 q e)
      = G (ix2 (⟨4096 * (grid0.coords t 0).val + (256 * (grid0.coords t 1).val + q.val), by
          have h1 := (grid0.coords t 0).isLt; have h2 := (grid0.coords t 1).isLt; change _ < 8 at h1; change _ < 16 at h2; omega⟩ : Fin 32768) e)) :
    (dats m 0 c).arrAt 4 cfg0.N = G := by
  refine (dats m 0 c).arrAt_eq_of_covers 4 _ (by decide +kernel) fun t hf y => ?_
  blk_simp
  rw [after0_4]
  unfold outB
  have hy : y = ix2 (⟨(y 0).val, (y 0).isLt⟩ : Fin 256) (⟨(y 1).val, (y 1).isLt⟩ : Fin 512) := by
    rw [ix2_eq_valueIdx]
    blk_ext
  refine (congrArg (outBlk (iblk m c 0 t) (iblk m c 1 t) (iblk m c 2 t) (iblk m c 3 t) (grid0.coords t 1).val) hy).trans ((hG t _ _).trans (congrArg G ?_))
  rw [ix2_eq_valueIdx]
  blk_ext [index4]

/-- The output array under finite arguments. -/
theorem final_eq (c : Dev nD)
    (h0 : ∀ (b : Fin 8) (i : Fin 16) (e : Fin 512) (q : Fin 256), ∃ r : ℝ, m ((c : Thread nD τ).loc main_arg0) (ix4 b i e q) = (r : EReal))
    (h1 : ∀ (s : Fin 32768) (e : Fin 512), ∃ r : ℝ, m ((c : Thread nD τ).loc main_arg1) (ix2 s e) = (r : EReal))
    (h3 : ∀ (s : Fin 32768) (e : Fin 8), ∃ r : ℝ, m ((c : Thread nD τ).loc main_arg3) (ix2 s (⟨e.val, by omega⟩ : Fin 128)) = (r : EReal)) :
    (dats m 0 c).arrAt 4 cfg0.N = oR (pR (eR (lgR (m ((c : Thread nD τ).loc main_arg0)) (m ((c : Thread nD τ).loc main_arg1)) (m ((c : Thread nD τ).loc main_arg3))))) (qR (m ((c : Thread nD τ).loc main_arg2))) := by
  refine final m c _ fun t q e => ?_
  have he := e.isLt
  have ee : e = (⟨64 * (⟨e.val / 64, by omega⟩ : Fin 8).val + (⟨e.val % 64, by omega⟩ : Fin 64).val, by
    show 64 * (e.val / 64) + e.val % 64 < 512; omega⟩ : Fin 512) := Fin.ext (by show e.val = 64 * (e.val / 64) + e.val % 64; omega)
  rw [ee]
  exact value _ _ _ _ _ _ _ _ (⟨(grid0.coords t 0).val, (grid0.coords t 0).isLt⟩ : Fin 8) (⟨(grid0.coords t 1).val, (grid0.coords t 1).isLt⟩ : Fin 16) (blk0 m c t) (blk1 m c t) (blk2 m c t) (blk3 m c t) h0 h1 h3 q _ _

end Cert.KernelIdeal.Fox

end
-- ==== Proof.BitsFrame.lean ====
/-
The compiled attention's frame, from the run of the ideal print: the two programs differ only in
how they name the mask's constant, and the run is proved over any float values.
-/
module

public import proofs.«01_k».proof.Defs
public import proofs.«01_k».proof.Proof.Gen.Kernel
public import proofs.«01_k».proof.Proof.Final

@[expose] public section

set_option maxRecDepth 65536

noncomputable section

namespace Cert.AttnBits

open Idealize.ShloMosaic Idealize.ShloMosaic.TcCoe Idealize.SL.Sem

/-- On bit patterns a named constant is its pattern. -/
@[reducible] def plain : Named Bits where
  named _ _ {φ} b := Scalar.ofBits φ b

instance : Named Bits := plain

instance : Cert.Kernel.Facts := Cert.Kernel.Gen.facts
instance : Cert.KernelIdeal.Facts := Cert.KernelIdeal.Gen.facts

theorem body_eq : Cert.Kernel.cc0_fox_attn (F := Bits) = Cert.KernelIdeal.cc0_fox_attn (F := Bits) := rfl

theorem bodies_eq : Cert.Kernel.defs₀ (F := Bits) = Cert.KernelIdeal.defs₀ (F := Bits) := by
  refine congrArg Defs.onTc ?_
  funext l x
  match l, x with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) bodies_eq

theorem frame : Cert.quiescent_Kernel (hKernel := Cert.Kernel.Gen.facts) := fun m g _ => by
  have h := Cert.KernelIdeal.Fox.frame (F := Bits) m g
  rw [← defs_eq] at h
  exact h

end Cert.AttnBits

end
-- ==== Proof.Claims.lean ====
/-
The attention's claims, from the runs of the kernel and of the reference.
-/
module

public import proofs.«01_k».proof.Defs
public import proofs.«01_k».proof.Proof.Final
public import proofs.«01_k».proof.Proof.BitsFrame
public import Idealize.ShloMosaic.Adequacy
public import Idealize.ShloMosaic.Init
public import Idealize.ShloMosaic.Lib.Quiescent

@[expose] public section

set_option maxRecDepth 16384

noncomputable section

namespace Cert.AttnClaims

open Idealize.ShloMosaic Idealize.ShloMosaic.TcCoe Idealize.SL.Sem

theorem pre_facts : Cert.Pre_finite.Facts where
  bitsLt_bf16_f32 := by decide
  bcast_S_S8x16x512x256 := by decide
  bcast_S_S32768x512 := by decide
  slices_S32768x128_S32768x8_0_0 := by decide
  bcast_S_S32768x8 := by decide

instance : Cert.Pre_finite.Facts := pre_facts

theorem frame_p : Cert.quiescent_Kernel (hKernel := Cert.Kernel.Gen.facts) := Cert.AttnBits.frame

theorem frame_pi : Cert.quiescent_KernelIdeal (hKernelIdeal := Cert.KernelIdeal.Gen.facts) := fun m g _ => Cert.KernelIdeal.Fox.frame m g

theorem frame_pi_pre : Cert.quiescent_KernelIdeal_pre_finite (hKernelIdeal := Cert.KernelIdeal.Gen.facts) (hPre_finite := pre_facts) :=
  fun m g _ => Cert.KernelIdeal.Fox.frame m g

theorem frame_ri : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem frame_ri_pre : Cert.quiescent_ReferenceIdeal_pre_finite (hReferenceIdeal := Cert.ReferenceIdeal.Gen.facts) (hPre_finite := pre_facts) := fun m g _ =>
  (θ_run _ _ _).mono (fun r h => ⟨fun c => (h c).2, sem_eq_zero_of_no_sems rfl r.2⟩) (Cert.ReferenceIdeal.Value.run m g)

theorem preserves : Cert.preserves_Kernel_KernelIdeal :=
  IdealRules.named_const.statement Cert.KernelIdeal.κ "mask" .f32 0xF149F2CA#32 ⊥ rfl

/-- The word of plus infinity. -/
theorem ofBits_inf : Ideal.ofBits FTy.f32 0x7F800000#32 = (⊤ : EReal) := by
  simp [Ideal.ofBits, Ideal.ieee]

/-- A number whose absolute value is below plus infinity is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

open Cert.KernelIdeal in
theorem pre0 (m : (ℓ : Loc nD τ sig) → Buf (Elt Ideal) ℓ) (h : Cert.Pre_KernelIdeal_finite (hPre_finite := pre_facts) m) (c : Dev nD)
    (b : Fin 8) (i : Fin 16) (e : Fin 512) (q : Fin 256) : ∃ r : ℝ, m ((c.tc : Thread nD τ).loc main_arg0) (ix4 b i e q) = (r : EReal) :=
  real_of_lt _ (congrFun (h c).1 (ix4 b i e q))

open Cert.KernelIdeal in
theorem pre1 (m : (ℓ : Loc nD τ sig) → Buf (Elt Ideal) ℓ) (h : Cert.Pre_KernelIdeal_finite (hPre_finite := pre_facts) m) (c : Dev nD)
    (s : Fin 32768) (e : Fin 512) : ∃ r : ℝ, m ((c.tc : Thread nD τ).loc main_arg1) (ix2 s e) = (r : EReal) :=
  real_of_lt _ (congrFun (h c).2.1 (ix2 s e))

theorem slice_apply (x : FVec Ideal Cert.Pre_finite.S32768x128 .f32) (s : Fin 32768) (e : Fin 8) :
    extractStridedSlice Cert.Pre_finite.S32768x8 ![0, 0] x pre_facts.slices_S32768x128_S32768x8_0_0 (ix2 s e) = x (ix2 s (⟨e.val, by omega⟩ : Fin 128)) := by
  pointwise

open Cert.KernelIdeal in
theorem pre3 (m : (ℓ : Loc nD τ sig) → Buf (Elt Ideal) ℓ) (h : Cert.Pre_KernelIdeal_finite (hPre_finite := pre_facts) m) (c : Dev nD)
    (s : Fin 32768) (e : Fin 8) : ∃ r : ℝ, m ((c.tc : Thread nD τ).loc main_arg3) (ix2 s (⟨e.val, by omega⟩ : Fin 128)) = (r : EReal) := by
  have := real_of_lt _ (congrFun (h c).2.2 (ix2 s e))
  exact this.imp fun r hr => (slice_apply (m ((c.tc : Thread nD τ).loc main_arg3)) s e).symm.trans hr

theorem algebraic : Cert.algebraic_KernelIdeal_ReferenceIdeal_pre_finite (hKernelIdeal := Cert.KernelIdeal.Gen.facts) (hReferenceIdeal := Cert.ReferenceIdeal.Gen.facts) (hPre_finite := pre_facts) := by
  intro m g m' g' hpre hargs
  refine ⟨fun c => (Cert.KernelIdeal.Fox.dats m 0 c).arrAt 4 Cert.KernelIdeal.cfg0.N, Cert.KernelIdeal.Fox.run_blocks m g, ?_⟩
  refine (θ_run _ _ _).mono (fun r h c => ⟨(h c).1.trans ?_, (h c).2⟩) (Cert.ReferenceIdeal.Value.run m' g')
  obtain ⟨e0, e1, e2, e3⟩ := hargs c
  refine (Cert.ReferenceIdeal.Val.res_eq m' c).trans (Eq.trans ?_ (Cert.KernelIdeal.Fox.final_eq m c (pre0 m hpre c) (pre1 m hpre c) (pre3 m hpre c)).symm)
  rw [e0, e1, e2, e3]

end Cert.AttnClaims

end
-- ==== Proof.OddOut.lean ====
/-
The odd layer's output projection: the kernel's array is the reference's.
-/
module

public import proofs.«01_k».proof.Defs
public import proofs.«01_k».proof.Proof.Gen.OddOut.Frame
public import proofs.«01_k».proof.Proof.Gen.OddOutIdeal.Value
public import proofs.«01_k».proof.Proof.Gen.OddOutRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.OddOutVal

open Idealize.ShloMosaic Idealize.ShloMosaic.TcCoe Idealize.SL.Sem Idealize.ShloMosaic.Pipeline Cert.OddOutIdeal Cert.OddOutIdeal.Gen
open Idealize.ShloMosaic.StableHlo

/-- The reference's array of its arguments. -/
def res (y : FVec Ideal S32768x1024 .bf16) (x : FVec Ideal S8x4096x1024 .f32) (g : FVec Ideal S8x1x1024 .f32) (w : FVec Ideal S1024x1024 .f32) : FVec Ideal S32768x1024 .f32 :=
  shapeCast _ (addf x (mulf (broadcastInDim S8x4096x1024 ![0, 1, 2] Cert.OddOutRefIdeal.Gen.facts.bcast_S8x1x1024_S8x4096x1024_0_1_2 g) (Host.dotGeneral Cert.OddOutRefIdeal.dot_S8x4096x1024_S1024x1024_S8x4096x1024_2_0_01_1_n_n none (shapeCast _ (extf .f32 y Cert.OddOutRefIdeal.Gen.facts.bitsLt_bf16_f32) Cert.OddOutRefIdeal.Gen.facts.shapeCasts_S32768x1024_S8x4096x1024) w))) Cert.OddOutRefIdeal.Gen.facts.shapeCasts_S8x4096x1024_S32768x1024

theorem res_apply (y : FVec Ideal S32768x1024 .bf16) (x : FVec Ideal S8x4096x1024 .f32) (g : FVec Ideal S8x1x1024 .f32) (w : FVec Ideal S1024x1024 .f32)
    (b : Fin 8) (s : Fin 4096) (n : Fin 1024) :
    res y x g w (ix2 (⟨4096 * b.val + s.val, by omega⟩ : Fin 32768) n)
      = (x (ix3 b s n) + g (ix3 b 0 n) * ∑ k, y (ix2 (⟨b.val * 4096 + s.val, by omega⟩ : Fin 32768) k) * w (ix2 k n) : EReal) := by
  pointwise [res]

theorem pay_apply (y : FVec Ideal S512x1024 .bf16) (w : FVec Ideal S1024x1024 .bf16) (x : FVec Ideal S512x1024 .f32) (g : FVec Ideal S1x1x1024 .f32)
    (q : Fin 512) (n : Fin 1024) :
    k0_pay1 y w x g (ix2 q n) = (x (ix2 q n) + g (ix3 0 0 n) * ∑ k, y (ix2 q k) * w (ix2 k n) : EReal) := by
  pointwise [k0_pay1]

variable (m : (ℓ : Loc nD τ sig) → Buf (Elt Ideal) ℓ)

theorem entry_w (c : Dev nD) : V m c main_v0 = (truncf .bf16 (m ((c : Thread nD τ).loc main_arg3) : FVec Ideal S1024x1024 .f32) facts.bitsLt_bf16_f32 : FVec Ideal S1024x1024 .bf16) := by
  dsimp only [V, hostOps0]
  after_results <;> rfl

theorem entry_x (c : Dev nD) : V m c main_v1 = (shapeCast S32768x1024 (m ((c : Thread nD τ).loc main_arg1) : FVec Ideal S8x4096x1024 .f32) facts.shapeCasts_S8x4096x1024_S32768x1024 : FVec Ideal S32768x1024 .f32) := by
  dsimp only [V, hostOps0]
  after_results <;> rfl

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val / 8, 0, 0] := (by decide +kernel : ∀ t : Fin grid0.N, win0_3.index t = ![t.val / 8, 0, 0])
theorem index4 : ∀ t : Fin cfg0.N, win0_4.index t = ![t.val, 0] := (by decide +kernel : ∀ t : Fin grid0.N, win0_4.index t = ![t.val, 0])

theorem point_lt (t : Fin cfg0.N) : t.val < 64 := t.isLt

/-- A flattened row's entry of the residual stream. -/
theorem flat_apply (x : FVec Ideal S8x4096x1024 .f32) (b : Fin 8) (s : Fin 4096) (n : Fin 1024) :
    shapeCast S32768x1024 x facts.shapeCasts_S8x4096x1024_S32768x1024 (ix2 (⟨4096 * b.val + s.val, by omega⟩ : Fin 32768) n) = x (ix3 b s n) := by
  pointwise

theorem blk0 (c : Dev nD) (t : Fin cfg0.N) (q : Fin 512) (k : Fin 1024) :
    iblk m c 0 t (ix2 q k) = m ((c : Thread nD τ).loc main_arg0) (ix2 (⟨t.val * 512 + q.val, by have := point_lt t; omega⟩ : Fin 32768) k) := by
  rw [ix2_eq_valueIdx, ix2_eq_valueIdx]
  blk_simp [iblk]
  refine (congrFun (V_main_arg0 m c) _).trans (congrArg (m ((c : Thread nD τ).loc main_arg0)) ?_)
  blk_ext [index0]

theorem blk1 (c : Dev nD) (t : Fin cfg0.N) (k n : Fin 1024) :
    iblk m c 1 t (ix2 k n) = m ((c : Thread nD τ).loc main_arg3) (ix2 k n) := by
  rw [ix2_eq_valueIdx]
  blk_simp [iblk]
  refine (congrFun (entry_w m c) _).trans (congrArg (m ((c : Thread nD τ).loc main_arg3)) ?_)
  blk_ext [index1]

theorem blk2 (c : Dev nD) (t : Fin cfg0.N) (q : Fin 512) (n : Fin 1024) :
    iblk m c 2 t (ix2 q n) = m ((c : Thread nD τ).loc main_arg1) (ix3 (⟨t.val / 8, by have := point_lt t; omega⟩ : Fin 8) (⟨t.val % 8 * 512 + q.val, by omega⟩ : Fin 4096) n) := by
  have ht := point_lt t
  refine Eq.trans ?_ (flat_apply (m ((c : Thread nD τ).loc main_arg1)) _ _ n)
  rw [ix2_eq_valueIdx, ix2_eq_valueIdx]
  blk_simp [iblk]
  refine (congrFun (entry_x m c) _).trans (congrArg (shapeCast S32768x1024 (m ((c : Thread nD τ).loc main_arg1) : FVec Ideal S8x4096x1024 .f32) facts.shapeCasts_S8x4096x1024_S32768x1024) ?_)
  blk_ext [index2]
  show t.val * 512 + q.val = 4096 * (t.val / 8) + (t.val % 8 * 512 + q.val)
  omega

theorem blk3 (c : Dev nD) (t : Fin cfg0.N) (n : Fin 1024) :
    iblk m c 3 t (ix3 0 0 n) = m ((c : Thread nD τ).loc main_arg2) (ix3 (⟨t.val / 8, by have := point_lt t; omega⟩ : Fin 8) 0 n) := by
  rw [ix3_eq_valueIdx, ix3_eq_valueIdx]
  blk_simp [iblk]
  refine (congrFun (V_main_arg2 m c) _).trans (congrArg (m ((c : Thread nD τ).loc main_arg2)) ?_)
  blk_ext [index3]

theorem final (c : Dev nD) : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : y = ix2 (⟨(y 0).val, (y 0).isLt⟩ : Fin 512) (⟨(y 1).val, (y 1).isLt⟩ : Fin 1024) := by
    rw [ix2_eq_valueIdx]
    blk_ext
  obtain ⟨q, n, rfl⟩ : ∃ (q : Fin 512) (n : Fin 1024), y = ix2 q n := ⟨_, _, hy⟩
  have ht := point_lt t
  refine (pay_apply _ _ _ _ q n).trans ?_
  rw [blk2, blk3]
  have e := res_apply (m ((c : Thread nD τ).loc main_arg0)) (m ((c : Thread nD τ).loc main_arg1)) (m ((c : Thread nD τ).loc main_arg2)) (m ((c : Thread nD τ).loc main_arg3))
    (⟨t.val / 8, by omega⟩ : Fin 8) (⟨t.val % 8 * 512 + q.val, by omega⟩ : Fin 4096) n
  refine Eq.trans ?_ (e.symm.trans (congrArg (res _ _ _ _) ?_))
  · congr 2
    refine Finset.sum_congr rfl fun k _ => ?_
    rw [blk0, blk1]
    have er : (⟨t.val * 512 + q.val, by omega⟩ : Fin 32768) = ⟨t.val / 8 * 4096 + (t.val % 8 * 512 + q.val), by omega⟩ := Fin.ext (by
      show t.val * 512 + q.val = t.val / 8 * 4096 + (t.val % 8 * 512 + q.val)
      omega)
    rw [er]
  · rw [ix2_eq_valueIdx, ix2_eq_valueIdx]
    blk_ext [index4]
    show 4096 * (t.val / 8) + (t.val % 8 * 512 + q.val) = t.val * 512 + q.val
    omega

theorem frame_p : Cert.quiescent_OddOut (hOddOut := Cert.OddOut.Gen.facts) :=
  fun m g _ => Cert.OddOut.Gen.frame m g

theorem frame_pi : Cert.quiescent_OddOutIdeal (hOddOutIdeal := Cert.OddOutIdeal.Gen.facts) :=
  fun m g _ => Cert.OddOutIdeal.Gen.frame m g

theorem frame_ri : Cert.quiescent_OddOutRefIdeal (hOddOutRefIdeal := Cert.OddOutRefIdeal.Gen.facts) :=
  fun m g _ => (θ_run _ _ _).mono (fun r h => ⟨fun c => (h c).2, sem_eq_zero_of_no_sems rfl r.2⟩) (Cert.OddOutRefIdeal.Value.run m g)

theorem algebraic : Cert.algebraic_OddOutIdeal_OddOutRefIdeal (hOddOutIdeal := Cert.OddOutIdeal.Gen.facts) (hOddOutRefIdeal := Cert.OddOutRefIdeal.Gen.facts) := by
  intro m g m' g' hpre hargs
  refine ⟨fun c => (dats m 0 c).arrAt 4 cfg0.N, Cert.OddOutIdeal.Value.run_blocks m g, ?_⟩
  refine (θ_run _ _ _).mono (fun r h c => ⟨(h c).1.trans ?_, (h c).2⟩) (Cert.OddOutRefIdeal.Value.run m' g')
  obtain ⟨e0, e1, e2, e3⟩ := hargs c
  refine Eq.trans ?_ (final m c).symm
  rw [e0, e1, e2, e3]
  rfl

end Cert.OddOutVal

end
-- ==== Proof.EvenOut.lean ====
/-
The even layer's output projection: the kernel's array is the reference's.
-/
module

public import proofs.«01_k».proof.Defs
public import proofs.«01_k».proof.Proof.Gen.EvenOut.Frame
public import proofs.«01_k».proof.Proof.Gen.EvenOutIdeal.Value
public import proofs.«01_k».proof.Proof.Gen.EvenOutRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.EvenOutVal

open Idealize.ShloMosaic Idealize.ShloMosaic.TcCoe Idealize.SL.Sem Idealize.ShloMosaic.Pipeline Cert.EvenOutIdeal Cert.EvenOutIdeal.Gen
open Idealize.ShloMosaic.StableHlo

/-- A sum over two halves. -/
theorem sum_halves (f : Fin 1024 → EReal) :
    (∑ k, f k) = (∑ k : Fin 512, f (⟨k.val, by omega⟩ : Fin 1024)) + ∑ k : Fin 512, f (⟨512 + k.val, by omega⟩ : Fin 1024) :=
  Fin.sum_univ_add (M := EReal) (a := 512) (b := 512) f

/-- The two head groups side by side. -/
def cat (y z : FVec Ideal S32768x512 .bf16) : FVec Ideal S32768x1024 .bf16 :=
  concatenate S32768x1024 1 [⟨S32768x512, y⟩, ⟨S32768x512, z⟩] Cert.EvenOutRefIdeal.Gen.facts.concatenates_S32768x512_S32768x512_S32768x1024_d1

theorem cat_left (y z : FVec Ideal S32768x512 .bf16) (r : Fin 32768) (k : Fin 512) :
    cat y z (ix2 r (⟨k.val, by omega⟩ : Fin 1024)) = y (ix2 r k) := by
  pointwise [cat]

theorem cat_right (y z : FVec Ideal S32768x512 .bf16) (r : Fin 32768) (k : Fin 512) :
    cat y z (ix2 r (⟨512 + k.val, by omega⟩ : Fin 1024)) = z (ix2 r k) := by
  pointwise [cat]

/-- The reference's array of its arguments. -/
def res (y : FVec Ideal S32768x1024 .bf16) (x : FVec Ideal S8x4096x1024 .f32) (g : FVec Ideal S8x1x1024 .f32) (w : FVec Ideal S1024x1024 .f32) : FVec Ideal S32768x1024 .f32 :=
  shapeCast _ (addf x (mulf (broadcastInDim S8x4096x1024 ![0, 1, 2] Cert.EvenOutRefIdeal.Gen.facts.bcast_S8x1x1024_S8x4096x1024_0_1_2 g) (Host.dotGeneral Cert.EvenOutRefIdeal.dot_S8x4096x1024_S1024x1024_S8x4096x1024_2_0_01_1_n_n none (shapeCast _ (extf .f32 y Cert.EvenOutRefIdeal.Gen.facts.bitsLt_bf16_f32) Cert.EvenOutRefIdeal.Gen.facts.shapeCasts_S32768x1024_S8x4096x1024) w))) Cert.EvenOutRefIdeal.Gen.facts.shapeCasts_S8x4096x1024_S32768x1024

theorem res_apply (y : FVec Ideal S32768x1024 .bf16) (x : FVec Ideal S8x4096x1024 .f32) (g : FVec Ideal S8x1x1024 .f32) (w : FVec Ideal S1024x1024 .f32)
    (b : Fin 8) (s : Fin 4096) (n : Fin 1024) :
    res y x g w (ix2 (⟨4096 * b.val + s.val, by omega⟩ : Fin 32768) n)
      = (x (ix3 b s n) + g (ix3 b 0 n) * ∑ k, y (ix2 (⟨b.val * 4096 + s.val, by omega⟩ : Fin 32768) k) * w (ix2 k n) : EReal) := by
  pointwise [res]

theorem pay_apply (y : FVec Ideal S512x512 .bf16) (w : FVec Ideal S512x1024 .bf16) (z : FVec Ideal S512x512 .bf16) (u : FVec Ideal S512x1024 .bf16) (x : FVec Ideal S512x1024 .f32) (g : FVec Ideal S1x1x1024 .f32)
    (q : Fin 512) (n : Fin 1024) :
    k0_pay1 y w z u x g (ix2 q n) = (x (ix2 q n) + g (ix3 0 0 n) * ((∑ k, y (ix2 q k) * w (ix2 k n)) + ∑ k, z (ix2 q k) * u (ix2 k n)) : EReal) := by
  pointwise [k0_pay1]

variable (m : (ℓ : Loc nD τ sig) → Buf (Elt Ideal) ℓ)

/-- The weight's upper and lower half, as the call takes them. -/
def top (w : FVec Ideal S1024x1024 .f32) : FVec Ideal S512x1024 .bf16 :=
  extractStridedSlice S512x1024 ![0, 0] (truncf .bf16 w facts.bitsLt_bf16_f32) facts.slices_S1024x1024_S512x1024_0_0
def low (w : FVec Ideal S1024x1024 .f32) : FVec Ideal S512x1024 .bf16 :=
  extractStridedSlice S512x1024 ![512, 0] (truncf .bf16 w facts.bitsLt_bf16_f32) facts.slices_S1024x1024_S512x1024_512_0

theorem top_apply (w : FVec Ideal S1024x1024 .f32) (k : Fin 512) (n : Fin 1024) : top w (ix2 k n) = w (ix2 (⟨k.val, by omega⟩ : Fin 1024) n) := by
  pointwise [top]
theorem low_apply (w : FVec Ideal S1024x1024 .f32) (k : Fin 512) (n : Fin 1024) : low w (ix2 k n) = w (ix2 (⟨512 + k.val, by omega⟩ : Fin 1024) n) := by
  pointwise [low]

theorem entry_top (c : Dev nD) : V m c main_v1 = top (m ((c : Thread nD τ).loc main_arg4)) := by
  dsimp only [V, hostOps0]
  after_results <;> rfl

theorem entry_low (c : Dev nD) : V m c main_v2 = low (m ((c : Thread nD τ).loc main_arg4)) := by
  dsimp only [V, hostOps0]
  after_results <;> rfl

theorem entry_x (c : Dev nD) : V m c main_v3 = (shapeCast S32768x1024 (m ((c : Thread nD τ).loc main_arg2) : FVec Ideal S8x4096x1024 .f32) facts.shapeCasts_S8x4096x1024_S32768x1024 : FVec Ideal S32768x1024 .f32) := by
  dsimp only [V, hostOps0]
  after_results <;> rfl

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val / 8, 0, 0] := (by decide +kernel : ∀ t : Fin grid0.N, win0_5.index t = ![t.val / 8, 0, 0])
theorem index6 : ∀ t : Fin cfg0.N, win0_6.index t = ![t.val, 0] := (by decide +kernel : ∀ t : Fin grid0.N, win0_6.index t = ![t.val, 0])

theorem point_lt (t : Fin cfg0.N) : t.val < 64 := t.isLt

/-- A flattened row's entry of the residual stream. -/
theorem flat_apply (x : FVec Ideal S8x4096x1024 .f32) (b : Fin 8) (s : Fin 4096) (n : Fin 1024) :
    shapeCast S32768x1024 x facts.shapeCasts_S8x4096x1024_S32768x1024 (ix2 (⟨4096 * b.val + s.val, by omega⟩ : Fin 32768) n) = x (ix3 b s n) := by
  pointwise

theorem blk0 (c : Dev nD) (t : Fin cfg0.N) (q : Fin 512) (k : Fin 512) :
    iblk m c 0 t (ix2 q k) = m ((c : Thread nD τ).loc main_arg0) (ix2 (⟨t.val * 512 + q.val, by have := point_lt t; omega⟩ : Fin 32768) k) := by
  rw [ix2_eq_valueIdx, ix2_eq_valueIdx]
  blk_simp [iblk]
  refine (congrFun (V_main_arg0 m c) _).trans (congrArg (m ((c : Thread nD τ).loc main_arg0)) ?_)
  blk_ext [index0]

theorem blk1 (c : Dev nD) (t : Fin cfg0.N) (q : Fin 512) (k : Fin 512) :
    iblk m c 1 t (ix2 q k) = m ((c : Thread nD τ).loc main_arg1) (ix2 (⟨t.val * 512 + q.val, by have := point_lt t; omega⟩ : Fin 32768) k) := by
  rw [ix2_eq_valueIdx, ix2_eq_valueIdx]
  blk_simp [iblk]
  refine (congrFun (V_main_arg1 m c) _).trans (congrArg (m ((c : Thread nD τ).loc main_arg1)) ?_)
  blk_ext [index1]

theorem blk2 (c : Dev nD) (t : Fin cfg0.N) (k : Fin 512) (n : Fin 1024) :
    iblk m c 2 t (ix2 k n) = m ((c : Thread nD τ).loc main_arg4) (ix2 (⟨k.val, by omega⟩ : Fin 1024) n) := by
  refine Eq.trans ?_ (top_apply (m ((c : Thread nD τ).loc main_arg4)) k n)
  rw [ix2_eq_valueIdx]
  blk_simp [iblk]
  refine (congrFun (entry_top m c) _).trans (congrArg (top (m ((c : Thread nD τ).loc main_arg4))) ?_)
  blk_ext [index2]

theorem blk3 (c : Dev nD) (t : Fin cfg0.N) (k : Fin 512) (n : Fin 1024) :
    iblk m c 3 t (ix2 k n) = m ((c : Thread nD τ).loc main_arg4) (ix2 (⟨512 + k.val, by omega⟩ : Fin 1024) n) := by
  refine Eq.trans ?_ (low_apply (m ((c : Thread nD τ).loc main_arg4)) k n)
  rw [ix2_eq_valueIdx]
  blk_simp [iblk]
  refine (congrFun (entry_low m c) _).trans (congrArg (low (m ((c : Thread nD τ).loc main_arg4))) ?_)
  blk_ext [index3]

theorem blk4 (c : Dev nD) (t : Fin cfg0.N) (q : Fin 512) (n : Fin 1024) :
    iblk m c 4 t (ix2 q n) = m ((c : Thread nD τ).loc main_arg2) (ix3 (⟨t.val / 8, by have := point_lt t; omega⟩ : Fin 8) (⟨t.val % 8 * 512 + q.val, by omega⟩ : Fin 4096) n) := by
  have ht := point_lt t
  refine Eq.trans ?_ (flat_apply (m ((c : Thread nD τ).loc main_arg2)) _ _ n)
  rw [ix2_eq_valueIdx, ix2_eq_valueIdx]
  blk_simp [iblk]
  refine (congrFun (entry_x m c) _).trans (congrArg (shapeCast S32768x1024 (m ((c : Thread nD τ).loc main_arg2) : FVec Ideal S8x4096x1024 .f32) facts.shapeCasts_S8x4096x1024_S32768x1024) ?_)
  blk_ext [index4]
  show t.val * 512 + q.val = 4096 * (t.val / 8) + (t.val % 8 * 512 + q.val)
  omega

theorem blk5 (c : Dev nD) (t : Fin cfg0.N) (n : Fin 1024) :
    iblk m c 5 t (ix3 0 0 n) = m ((c : Thread nD τ).loc main_arg3) (ix3 (⟨t.val / 8, by have := point_lt t; omega⟩ : Fin 8) 0 n) := by
  rw [ix3_eq_valueIdx, ix3_eq_valueIdx]
  blk_simp [iblk]
  refine (congrFun (V_main_arg3 m c) _).trans (congrArg (m ((c : Thread nD τ).loc main_arg3)) ?_)
  blk_ext [index5]

theorem final (c : Dev nD) : (dats m 0 c).arrAt 6 cfg0.N
    = res (cat (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  have hy : y = ix2 (⟨(y 0).val, (y 0).isLt⟩ : Fin 512) (⟨(y 1).val, (y 1).isLt⟩ : Fin 1024) := by
    rw [ix2_eq_valueIdx]
    blk_ext
  obtain ⟨q, n, rfl⟩ : ∃ (q : Fin 512) (n : Fin 1024), y = ix2 q n := ⟨_, _, hy⟩
  have ht := point_lt t
  refine (pay_apply _ _ _ _ _ _ q n).trans ?_
  rw [blk4, blk5]
  have e := res_apply (cat (m ((c : Thread nD τ).loc main_arg0)) (m ((c : Thread nD τ).loc main_arg1))) (m ((c : Thread nD τ).loc main_arg2)) (m ((c : Thread nD τ).loc main_arg3)) (m ((c : Thread nD τ).loc main_arg4))
    (⟨t.val / 8, by omega⟩ : Fin 8) (⟨t.val % 8 * 512 + q.val, by omega⟩ : Fin 4096) n
  rw [sum_halves] at e
  have er : (⟨t.val * 512 + q.val, by omega⟩ : Fin 32768) = ⟨t.val / 8 * 4096 + (t.val % 8 * 512 + q.val), by omega⟩ := Fin.ext (by
    show t.val * 512 + q.val = t.val / 8 * 4096 + (t.val % 8 * 512 + q.val)
    omega)
  refine Eq.trans ?_ (e.symm.trans (congrArg (res _ _ _ _) ?_))
  · congr 2
    refine congrArg₂ (fun a b : EReal => a + b) ?_ ?_
    · refine Finset.sum_congr rfl fun k _ => ?_
      rw [blk0, blk2, cat_left, er]
    · refine Finset.sum_congr rfl fun k _ => ?_
      rw [blk1, blk3, cat_right, er]
  · rw [ix2_eq_valueIdx, ix2_eq_valueIdx]
    blk_ext [index6]
    show 4096 * (t.val / 8) + (t.val % 8 * 512 + q.val) = t.val * 512 + q.val
    omega

theorem frame_p : Cert.quiescent_EvenOut (hEvenOut := Cert.EvenOut.Gen.facts) :=
  fun m g _ => Cert.EvenOut.Gen.frame m g

theorem frame_pi : Cert.quiescent_EvenOutIdeal (hEvenOutIdeal := Cert.EvenOutIdeal.Gen.facts) :=
  fun m g _ => Cert.EvenOutIdeal.Gen.frame m g

theorem frame_ri : Cert.quiescent_EvenOutRefIdeal (hEvenOutRefIdeal := Cert.EvenOutRefIdeal.Gen.facts) :=
  fun m g _ => (θ_run _ _ _).mono (fun r h => ⟨fun c => (h c).2, sem_eq_zero_of_no_sems rfl r.2⟩) (Cert.EvenOutRefIdeal.Value.run m g)

theorem algebraic : Cert.algebraic_EvenOutIdeal_EvenOutRefIdeal (hEvenOutIdeal := Cert.EvenOutIdeal.Gen.facts) (hEvenOutRefIdeal := Cert.EvenOutRefIdeal.Gen.facts) := by
  intro m g m' g' hpre hargs
  refine ⟨fun c => (dats m 0 c).arrAt 6 cfg0.N, Cert.EvenOutIdeal.Value.run_blocks m g, ?_⟩
  refine (θ_run _ _ _).mono (fun r h c => ⟨(h c).1.trans ?_, (h c).2⟩) (Cert.EvenOutRefIdeal.Value.run m' g')
  obtain ⟨e0, e1, e2, e3, e4⟩ := hargs c
  refine Eq.trans ?_ (final m c).symm
  rw [e0, e1, e2, e3, e4]
  rfl

end Cert.EvenOutVal

end
-- ==== Proof.Proj.lean ====
/-
What the two input projections share: a normed, scaled and shifted row, and a narrow matrix written into the first columns of a wider one.
-/
module

public import Idealize.ShloMosaic.Adequacy
public import Idealize.ShloMosaic.Lib.Pointwise
public import Idealize.ShloMosaic.Lib.Routing.OpsSet
public import Idealize.ShloMosaic.Lib.Routing.OpsPair

@[expose] public section

noncomputable section

namespace Cert.Proj

open Idealize.ShloMosaic Idealize.ShloMosaic.Routing

/-- Entry `k` of the row `x` divided by its root mean square, times the gain, scaled by `1 + sc` and shifted by `sh`. -/
def row (x g sc sh : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

/-- An update of a block at row or column 0 lands where it says. -/
theorem lands {R C U T : Nat} (d : ScatterDims (shape2 R C) (shape1 1) (shape2 U T)) (huw : d.updateWindowDims = [0, 1]) (hiw : d.insertedWindowDims = [])
    (idx : IVec (shape1 1) 32) (h0 : ∀ i, idx i = 0#32) (k : (shape2 U T).Idx) (r : Fin R) (c : Fin C) :
    d.resultIdx? k idx = some (ValueIdx.ix2 r c) ↔ (k 0).val = r.val ∧ (k 1).val = c.val := by
  have hk : d.sKept = [0, 1] := by
    show (shape2 R C).kept d.insertedWindowDims = _
    rw [hiw]
    rfl
  have hs : ∀ a, d.start k idx a = 0 := fun a => by
    unfold ScatterDims.start
    split
    · rw [h0]; rfl
    · rfl
  have hw0 : d.window k 0 = (k 0).val := by
    unfold ScatterDims.window
    rw [dif_pos (by rw [hk]; simp)]
    refine congrArg (fun t => (k t).val) ?_
    simp [hk, huw]
  have hw1 : d.window k 1 = (k 1).val := by
    unfold ScatterDims.window
    rw [dif_pos (by rw [hk]; simp)]
    refine congrArg (fun t => (k t).val) ?_
    simp [hk, huw]
  rw [resultIdx?_ix2, hs, hs, hw0, hw1]
  omega

/-- A narrow matrix written at column 0 of a wider one: its own columns first, then what was there. -/
theorem written {α : Type} {R C U : Nat} (d : ScatterDims (shape2 R C) (shape1 1) (shape2 R U)) (huw : d.updateWindowDims = [0, 1]) (hiw : d.insertedWindowDims = [])
    (hsd : d.scatterDimsToOperandDims = [1]) (idx : IVec (shape1 1) 32) (h0 : ∀ i, idx i = 0#32) (x : (shape2 R C).Idx → α) (u : (shape2 R U).Idx → α) (r : Fin R) (c : Fin C) :
    Host.scatter d (fun _ b => b) x idx u (ValueIdx.ix2 r c) = if h : c.val < U then u (ValueIdx.ix2 r ⟨c.val, h⟩) else x (ValueIdx.ix2 r c) := by
  by_cases h : c.val < U
  · rw [dif_pos h]
    refine scatter_set_hit d x idx u _ _ (fun k hk => ?_) (ValueIdx.ix2 r ⟨c.val, h⟩) ((lands d huw hiw idx h0 _ r c).2 ⟨rfl, rfl⟩)
    obtain ⟨q0, q1⟩ := (lands d huw hiw idx h0 k r c).1 hk
    rw [ValueIdx.eq_ix2 k]
    exact congrArg₂ (fun a b => u (ValueIdx.ix2 a b)) (Fin.ext q0) (Fin.ext q1)
  · rw [dif_neg h]
    refine scatter_set_miss d x idx u _ fun k hk => h ?_
    have q1 := ((lands d huw hiw idx h0 k r c).1 hk).2
    have : (k 1).val < U := (k 1).isLt
    omega

/-- A short matrix written at row 0 of a taller one: its own rows first, then what was there. -/
theorem written_rows {α : Type} {R C U : Nat} (d : ScatterDims (shape2 R C) (shape1 1) (shape2 U C)) (huw : d.updateWindowDims = [0, 1]) (hiw : d.insertedWindowDims = [])
    (idx : IVec (shape1 1) 32) (h0 : ∀ i, idx i = 0#32) (x : (shape2 R C).Idx → α) (u : (shape2 U C).Idx → α) (r : Fin R) (c : Fin C) :
    Host.scatter d (fun _ b => b) x idx u (ValueIdx.ix2 r c) = if h : r.val < U then u (ValueIdx.ix2 ⟨r.val, h⟩ c) else x (ValueIdx.ix2 r c) := by
  by_cases h : r.val < U
  · rw [dif_pos h]
    refine scatter_set_hit d x idx u _ _ (fun k hk => ?_) (ValueIdx.ix2 ⟨r.val, h⟩ c) ((lands d huw hiw idx h0 _ r c).2 ⟨rfl, rfl⟩)
    obtain ⟨q0, q1⟩ := (lands d huw hiw idx h0 k r c).1 hk
    rw [ValueIdx.eq_ix2 k]
    exact congrArg₂ (fun a b => u (ValueIdx.ix2 a b)) (Fin.ext q0) (Fin.ext q1)
  · rw [dif_neg h]
    refine scatter_set_miss d x idx u _ fun k hk => h ?_
    have q0 := ((lands d huw hiw idx h0 k r c).1 hk).1
    have : (k 0).val < U := (k 0).isLt
    omega

end Cert.Proj

end
-- ==== Proof.OddIn.lean ====
/-
The odd layer's input projection: the kernel's two arrays are the reference's.
-/
module

public import proofs.«01_k».proof.Defs
public import proofs.«01_k».proof.Proof.Gen.OddIn.Frame
public import proofs.«01_k».proof.Proof.Gen.OddInIdeal.Value
public import proofs.«01_k».proof.Proof.Gen.OddInRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit
public import proofs.«01_k».proof.Proof.Proj

@[expose] public section

set_option maxRecDepth 16384

noncomputable section

namespace Cert.OddInVal

open Idealize.ShloMosaic Idealize.ShloMosaic.TcCoe Idealize.SL.Sem Idealize.ShloMosaic.Pipeline Cert.OddInIdeal Cert.OddInIdeal.Gen
open Idealize.ShloMosaic.StableHlo

open Cert.Proj

/-- The reference's normed, scaled and shifted rows. -/
def h (x : FVec Ideal S8x4096x1024 .f32) (g : FVec Ideal S1024 .f32) (sc sh : FVec Ideal S8x1x1024 .f32) : FVec Ideal S8x4096x1024 .f32 :=
  addf (mulf (mulf (mulf x (broadcastInDim S8x4096x1024 ![0, 1, 2] Cert.OddInRefIdeal.Gen.facts.bcast_S8x4096x1_S8x4096x1024_0_1_2 (Host.rsqrt (addf (Host.divf (broadcastInDim Cert.OddInRefIdeal.S8x4096x1 ![0, 1] Cert.OddInRefIdeal.Gen.facts.bcast_S8x4096_S8x4096x1_0_1 (Host.reduceAdd (mulf x x) (constant Cert.OddInRefIdeal.S_ .f32 0x00000000#32) Cert.OddInRefIdeal.Gen.facts.reducesTo_S8x4096x1024_S8x4096_d2 Cert.OddInRefIdeal.Gen.facts.h_S_)) (broadcastInDim Cert.OddInRefIdeal.S8x4096x1 ![] Cert.OddInRefIdeal.Gen.facts.bcast_S_S8x4096x1 (constant Cert.OddInRefIdeal.S_ .f32 0x44800000#32))) (broadcastInDim Cert.OddInRefIdeal.S8x4096x1 ![] Cert.OddInRefIdeal.Gen.facts.bcast_S_S8x4096x1 (constant Cert.OddInRefIdeal.S_ .f32 0x358637BD#32)))))) (broadcastInDim S8x4096x1024 ![0, 1, 2] Cert.OddInRefIdeal.Gen.facts.bcast_S1x1x1024_S8x4096x1024_0_1_2 (broadcastInDim Cert.OddInRefIdeal.S1x1x1024 ![2] Cert.OddInRefIdeal.Gen.facts.bcast_S1024_S1x1x1024_2 g))) (broadcastInDim S8x4096x1024 ![0, 1, 2] Cert.OddInRefIdeal.Gen.facts.bcast_S8x1x1024_S8x4096x1024_0_1_2 (addf (broadcastInDim Cert.OddInRefIdeal.S8x1x1024 ![] Cert.OddInRefIdeal.Gen.facts.bcast_S_S8x1x1024 (constant Cert.OddInRefIdeal.S_ .f32 0x3F800000#32)) sc))) (broadcastInDim S8x4096x1024 ![0, 1, 2] Cert.OddInRefIdeal.Gen.facts.bcast_S8x1x1024_S8x4096x1024_0_1_2 sh)

theorem h_apply (x : FVec Ideal S8x4096x1024 .f32) (g : FVec Ideal S1024 .f32) (sc sh : FVec Ideal S8x1x1024 .f32) (b : Fin 8) (s : Fin 4096) (k : Fin 1024) :
    h x g sc sh (ix3 b s k) = row (fun k => x (ix3 b s k)) (fun k => g (ix1 k)) (fun k => sc (ix3 b 0 k)) (fun k => sh (ix3 b 0 k)) k := by
  unfold row
  pointwise [h]

/-- The kernel's rows of one block. -/
theorem row_apply (x : FVec Ideal S512x1024 .f32) (g : FVec Ideal S1x1024 .f32) (sc sh : FVec Ideal S1x1x1024 .f32) (q : Fin 512) (k : Fin 1024) :
    k0_pay6 (F := Ideal) x g sc sh (ix2 q k) = (row (fun k => x (ix2 q k)) (fun k => g (ix2 0 k)) (fun k => sc (ix3 0 0 k)) (fun k => sh (ix3 0 0 k)) k : EReal) := by
  unfold row
  pointwise [k0_pay6]

/-- The reference's product with the whole weight. -/
def prod (h : FVec Ideal S8x4096x1024 .f32) (w : FVec Ideal S1024x3088 .f32) : FVec Ideal Cert.OddInRefIdeal.S32768x3088 .f32 :=
  shapeCast _ (Host.dotGeneral Cert.OddInRefIdeal.dot_S8x4096x1024_S1024x3088_S8x4096x3088_2_0_01_1_n_n none h w) Cert.OddInRefIdeal.Gen.facts.shapeCasts_S8x4096x3088_S32768x3088

theorem prod_apply (h : FVec Ideal S8x4096x1024 .f32) (w : FVec Ideal S1024x3088 .f32) (b : Fin 8) (s : Fin 4096) (n : Fin 3088) :
    prod h w (ix2 (⟨4096 * b.val + s.val, by omega⟩ : Fin 32768) n) = (∑ k, h (ix3 b s k) * w (ix2 k n) : EReal) := by
  pointwise [prod]

/-- The reference's first array: the product's first columns. -/
def main6 (p : FVec Ideal Cert.OddInRefIdeal.S32768x3088 .f32) : FVec Ideal S32768x3072 .bf16 :=
  truncf .bf16 (extractStridedSlice Cert.OddInRefIdeal.S32768x3072 ![0, 0] p Cert.OddInRefIdeal.Gen.facts.slices_S32768x3088_S32768x3072_0_0) Cert.OddInRefIdeal.Gen.facts.bitsLt_bf16_f32

theorem main6_apply (p : FVec Ideal Cert.OddInRefIdeal.S32768x3088 .f32) (r : Fin 32768) (n : Fin 3072) :
    main6 p (ix2 r n) = p (ix2 r (⟨n.val, by omega⟩ : Fin 3088)) := by
  pointwise [main6]

/-- The product's last columns. -/
def tail (p : FVec Ideal Cert.OddInRefIdeal.S32768x3088 .f32) : FVec Ideal Cert.OddInRefIdeal.S32768x16 .f32 :=
  extractStridedSlice Cert.OddInRefIdeal.S32768x16 ![0, 3072] p Cert.OddInRefIdeal.Gen.facts.slices_S32768x3088_S32768x16_0_3072

theorem tail_apply (p : FVec Ideal Cert.OddInRefIdeal.S32768x3088 .f32) (r : Fin 32768) (n : Fin 16) :
    tail p (ix2 r n) = p (ix2 r (⟨3072 + n.val, by omega⟩ : Fin 3088)) := by
  pointwise [tail]

/-- The reference's second array: the product's last columns, in lanes of their own. -/
def main7 (p : FVec Ideal Cert.OddInRefIdeal.S32768x16 .f32) : FVec Ideal S32768x128 .f32 :=
  pad Cert.OddInRefIdeal.S32768x128 ![0, 0] ![0, 112] ![0, 0] p (sitofp .f32 (constantI Cert.OddInRefIdeal.S_ 32 0#32)) Cert.OddInRefIdeal.Gen.facts.pads_S32768x16_S32768x128_000_01120 Cert.OddInRefIdeal.Gen.facts.h_S_

theorem main7_apply (p : FVec Ideal Cert.OddInRefIdeal.S32768x16 .f32) (r : Fin 32768) (n : Fin 128) :
    main7 p (ix2 r n) = if h : n.val < 16 then p (ix2 r ⟨n.val, h⟩) else (0 : EReal) := by
  by_cases h : n.val < 16
  · rw [dif_pos h]
    pointwise [main7]
    rw [dif_pos h]
  · rw [dif_neg h]
    pointwise [main7]
    rw [dif_neg h]
    show (((0#32 : BitVec 32).toInt : ℝ) : EReal) = 0
    simp

theorem chunk_apply (v : FVec Ideal S512x1024 .bf16) (w : FVec Ideal S1024x512 .bf16) (q : Fin 512) (n : Fin 512) :
    k0_pay1 v w (ix2 q n) = (∑ k, v (ix2 q k) * w (ix2 k n) : EReal) := by
  pointwise [k0_pay1]

theorem narrow_apply (v : FVec Ideal S512x1024 .bf16) (w : FVec Ideal S1024x128 .bf16) (q : Fin 512) (n : Fin 128) :
    k0_pay5 v w (ix2 q n) = (∑ k, v (ix2 q k) * w (ix2 k n) : EReal) := by
  pointwise [k0_pay5]

/-- One chunk of 512 columns. -/
theorem piece (v : FVec Ideal S512x1024 .bf16) (x4 : Vec Ideal S1024x3072 .bf16) (o : Nat) (inb : ∀ a, (![0, o] : Fin 2 → Nat) a + S1024x512.size a ≤ S1024x3072.size a)
    (q : Fin 512) (n : Fin 3072) (x : S512x512.Idx) (h0 : q.val = (x 0).val) (h1 : n.val = o + (x 1).val) :
    k0_pay1 v (View.ld x4 (Rect.unit (s := S1024x3072) ![0, o] S1024x512.size inb)) x = (∑ k, v (ix2 q k) * x4 (ix2 k n) : EReal) := by
  obtain ⟨a, b, rfl⟩ : ∃ (a : Fin 512) (b : Fin 512), x = ix2 a b := ⟨_, _, (by rw [ix2_eq_valueIdx]; blk_ext : x = ix2 (⟨(x 0).val, (x 0).isLt⟩ : Fin 512) (⟨(x 1).val, (x 1).isLt⟩ : Fin 512))⟩
  obtain rfl : q = a := Fin.ext h0
  refine (chunk_apply _ _ q b).trans (Finset.sum_congr rfl fun k _ => congrArg (fun z : EReal => v (ix2 q k) * z) ?_)
  refine (View.ld_apply x4 _ _).trans (congrArg x4 ?_)
  funext d
  match d with
  | ⟨0, _⟩ => exact Fin.ext (show 0 + 1 * k.val = k.val by omega)
  | ⟨1, _⟩ => exact Fin.ext (show o + 1 * b.val = n.val by rw [show n.val = o + b.val from h1]; omega)

theorem out6_apply (x0 : Vec Ideal S512x1024 .f32) (x1 : Vec Ideal S1x1024 .f32) (x2 x3 : Vec Ideal S1x1x1024 .f32) (x4 : Vec Ideal S1024x3072 .bf16) (x5 : Vec Ideal S1024x128 .bf16) (q : Fin 512) (n : Fin 3072) :
    out0_6 x0 x1 x2 x3 x4 x5 (ix2 q n) = (∑ k, k0_pay6 x0 x1 x2 x3 (ix2 q k) * x4 (ix2 k n) : EReal) := by
  unfold_out out0_6
  simp (disch := decide) only [View.ld_unit_lit']
  canon_tiles x h using cover0_6 ..
  · exact piece _ x4 2560 _ q n x h0 h1
  · exact piece _ x4 2048 _ q n x h0 h1
  · exact piece _ x4 1536 _ q n x h0 h1
  · exact piece _ x4 1024 _ q n x h0 h1
  · exact piece _ x4 512 _ q n x h0 h1
  · exact piece _ x4 0 _ q n x h0 (h1.trans (Nat.zero_add _).symm)

variable (m : (ℓ : Loc nD τ sig) → Buf (Elt Ideal) ℓ)

/-- The weight's first columns, as the call takes them. -/
def wide (w : FVec Ideal S1024x3088 .f32) : FVec Ideal S1024x3072 .bf16 :=
  truncf .bf16 (extractStridedSlice S1024x3072 ![0, 0] w facts.slices_S1024x3088_S1024x3072_0_0) facts.bitsLt_bf16_f32

theorem wide_apply (w : FVec Ideal S1024x3088 .f32) (k : Fin 1024) (n : Fin 3072) : wide w (ix2 k n) = w (ix2 k (⟨n.val, by omega⟩ : Fin 3088)) := by
  pointwise [wide]

/-- Its last columns, written into a matrix of zeros. -/
def last (w : FVec Ideal S1024x3088 .f32) : FVec Ideal S1024x16 .f32 :=
  extractStridedSlice S1024x16 ![0, 3072] w facts.slices_S1024x3088_S1024x16_0_3072
def zeros : FVec Ideal S1024x128 .f32 := broadcastInDim S1024x128 ![] facts.bcast_S_S1024x128 (constant S_ .f32 0x00000000#32)
def start : IVec S1 32 := broadcastInDim S1 ![] facts.bcast_S_S1 (constantI S_ 32 0#32)
def placed (w : FVec Ideal S1024x3088 .f32) : FVec Ideal S1024x128 .f32 :=
  Host.scatter scatter_S1024x128_S1_S1024x16_01_n_1_0 (fun _ b => b) zeros start (last w)
def narrow (w : FVec Ideal S1024x3088 .f32) : FVec Ideal S1024x128 .bf16 :=
  truncf .bf16 (placed w) facts.bitsLt_bf16_f32

theorem last_apply (w : FVec Ideal S1024x3088 .f32) (k : Fin 1024) (n : Fin 16) : last w (ix2 k n) = w (ix2 k (⟨3072 + n.val, by omega⟩ : Fin 3088)) := by
  pointwise [last]
theorem zeros_apply (k : Fin 1024) (n : Fin 128) : zeros (ix2 k n) = (0 : EReal) := by
  pointwise [zeros]

theorem placed_eq (w : FVec Ideal S1024x3088 .f32) (k : Fin 1024) (n : Fin 128) :
    placed w (ValueIdx.ix2 k n) = if h : n.val < 16 then last w (ValueIdx.ix2 k ⟨n.val, h⟩) else zeros (ValueIdx.ix2 k n) := by
  unfold placed
  exact written _ rfl rfl rfl start (fun _ => rfl) zeros (last w) k n

theorem narrow_eq (w : FVec Ideal S1024x3088 .f32) (k : Fin 1024) (n : Fin 128) : narrow w (ix2 k n) = placed w (ix2 k n) := by
  pointwise [narrow]

theorem narrow_col (w : FVec Ideal S1024x3088 .f32) (k : Fin 1024) (n : Fin 128) :
    narrow w (ix2 k n) = if h : n.val < 16 then w (ix2 k (⟨3072 + n.val, by omega⟩ : Fin 3088)) else (0 : EReal) := by
  rw [narrow_eq, ix2_eq_valueIdx k n, placed_eq]
  by_cases h : n.val < 16
  · rw [dif_pos h, dif_pos h, ← ix2_eq_valueIdx]
    exact last_apply w k ⟨n.val, h⟩
  · rw [dif_neg h, dif_neg h, ← ix2_eq_valueIdx]
    exact zeros_apply k n

theorem entry_x (c : Dev nD) : V m c main_v0 = (shapeCast S32768x1024 (m ((c : Thread nD τ).loc main_arg0) : FVec Ideal S8x4096x1024 .f32) facts.shapeCasts_S8x4096x1024_S32768x1024 : FVec Ideal S32768x1024 .f32) := by
  dsimp only [V, hostOps0]
  after_results <;> rfl

/-- The gain as one row. -/
def gain (g : FVec Ideal S1024 .f32) : FVec Ideal S1x1024 .f32 := broadcastInDim S1x1024 ![1] facts.bcast_S1024_S1x1024_1 g

theorem gain_apply (g : FVec Ideal S1024 .f32) (k : Fin 1024) : gain g (ix2 0 k) = g (ix1 k) := by
  pointwise [gain]

theorem entry_gain (c : Dev nD) : V m c main_v6 = gain (m ((c : Thread nD τ).loc main_arg1)) := by
  dsimp only [V, hostOps0]
  after_results <;> rfl

theorem entry_wide (c : Dev nD) : V m c main_v8 = wide (m ((c : Thread nD τ).loc main_arg4)) := by
  dsimp only [V, hostOps0]
  after_results <;> rfl

theorem entry_narrow (c : Dev nD) : V m c main_v5 = narrow (m ((c : Thread nD τ).loc main_arg4)) := by
  dsimp only [V, hostOps0]
  after_results <;> rfl

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val / 8, 0, 0] := (by decide +kernel : ∀ t : Fin grid0.N, win0_2.index t = ![t.val / 8, 0, 0])
theorem index3 : ∀ t : Fin cfg0.N, win0_3.index t = ![t.val / 8, 0, 0] := (by decide +kernel : ∀ t : Fin grid0.N, win0_3.index t = ![t.val / 8, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem point_lt (t : Fin cfg0.N) : t.val < 64 := t.isLt

/-- A flattened row's entry of the residual stream. -/
theorem flat_apply (x : FVec Ideal S8x4096x1024 .f32) (b : Fin 8) (s : Fin 4096) (n : Fin 1024) :
    shapeCast S32768x1024 x facts.shapeCasts_S8x4096x1024_S32768x1024 (ix2 (⟨4096 * b.val + s.val, by omega⟩ : Fin 32768) n) = x (ix3 b s n) := by
  pointwise

theorem blk0 (c : Dev nD) (t : Fin cfg0.N) (q : Fin 512) (n : Fin 1024) :
    iblk m c 0 t (ix2 q n) = m ((c : Thread nD τ).loc main_arg0) (ix3 (⟨t.val / 8, by have := point_lt t; omega⟩ : Fin 8) (⟨t.val % 8 * 512 + q.val, by omega⟩ : Fin 4096) n) := by
  have ht := point_lt t
  refine Eq.trans ?_ (flat_apply (m ((c : Thread nD τ).loc main_arg0)) _ _ n)
  rw [ix2_eq_valueIdx, ix2_eq_valueIdx]
  blk_simp [iblk]
  refine (congrFun (entry_x m c) _).trans (congrArg (shapeCast S32768x1024 (m ((c : Thread nD τ).loc main_arg0) : FVec Ideal S8x4096x1024 .f32) facts.shapeCasts_S8x4096x1024_S32768x1024) ?_)
  blk_ext [index0]
  show t.val * 512 + q.val = 4096 * (t.val / 8) + (t.val % 8 * 512 + q.val)
  omega

theorem blk1 (c : Dev nD) (t : Fin cfg0.N) (k : Fin 1024) :
    iblk m c 1 t (ix2 0 k) = m ((c : Thread nD τ).loc main_arg1) (ix1 k) := by
  refine Eq.trans ?_ (gain_apply (m ((c : Thread nD τ).loc main_arg1)) k)
  rw [ix2_eq_valueIdx]
  blk_simp [iblk]
  refine (congrFun (entry_gain m c) _).trans (congrArg (gain (m ((c : Thread nD τ).loc main_arg1))) ?_)
  blk_ext [index1]

theorem blk2 (c : Dev nD) (t : Fin cfg0.N) (n : Fin 1024) :
    iblk m c 2 t (ix3 0 0 n) = m ((c : Thread nD τ).loc main_arg2) (ix3 (⟨t.val / 8, by have := point_lt t; omega⟩ : Fin 8) 0 n) := by
  rw [ix3_eq_valueIdx, ix3_eq_valueIdx]
  blk_simp [iblk]
  refine (congrFun (V_main_arg2 m c) _).trans (congrArg (m ((c : Thread nD τ).loc main_arg2)) ?_)
  blk_ext [index2]

theorem blk3 (c : Dev nD) (t : Fin cfg0.N) (n : Fin 1024) :
    iblk m c 3 t (ix3 0 0 n) = m ((c : Thread nD τ).loc main_arg3) (ix3 (⟨t.val / 8, by have := point_lt t; omega⟩ : Fin 8) 0 n) := by
  rw [ix3_eq_valueIdx, ix3_eq_valueIdx]
  blk_simp [iblk]
  refine (congrFun (V_main_arg3 m c) _).trans (congrArg (m ((c : Thread nD τ).loc main_arg3)) ?_)
  blk_ext [index3]

theorem blk4 (c : Dev nD) (t : Fin cfg0.N) (k : Fin 1024) (n : Fin 3072) :
    iblk m c 4 t (ix2 k n) = wide (m ((c : Thread nD τ).loc main_arg4)) (ix2 k n) := by
  rw [ix2_eq_valueIdx]
  blk_simp [iblk]
  refine (congrFun (entry_wide m c) _).trans (congrArg (wide (m ((c : Thread nD τ).loc main_arg4))) ?_)
  blk_ext [index4]

theorem blk5 (c : Dev nD) (t : Fin cfg0.N) (k : Fin 1024) (n : Fin 128) :
    iblk m c 5 t (ix2 k n) = narrow (m ((c : Thread nD τ).loc main_arg4)) (ix2 k n) := by
  rw [ix2_eq_valueIdx]
  blk_simp [iblk]
  refine (congrFun (entry_narrow m c) _).trans (congrArg (narrow (m ((c : Thread nD τ).loc main_arg4))) ?_)
  blk_ext [index5]

/-- A block's row is the reference's row. -/
theorem shared (c : Dev nD) (t : Fin cfg0.N) (q : Fin 512) (k : Fin 1024) :
    k0_pay6 (iblk m c 0 t) (iblk m c 1 t) (iblk m c 2 t) (iblk m c 3 t) (ix2 q k)
      = h (m ((c : Thread nD τ).loc main_arg0)) (m ((c : Thread nD τ).loc main_arg1)) (m ((c : Thread nD τ).loc main_arg2)) (m ((c : Thread nD τ).loc main_arg3)) (ix3 (⟨t.val / 8, by have := point_lt t; omega⟩ : Fin 8) (⟨t.val % 8 * 512 + q.val, by omega⟩ : Fin 4096) k) := by
  refine (row_apply _ _ _ _ q k).trans (Eq.trans ?_ (h_apply _ _ _ _ _ _ k).symm)
  simp only [blk0, blk1, blk2, blk3]

theorem row_eq (t : Fin cfg0.N) (q : Fin 512) : 4096 * (t.val / 8) + (t.val % 8 * 512 + q.val) = t.val * 512 + q.val := by omega

theorem final6 (c : Dev nD) : (dats m 0 c).arrAt 6 cfg0.N = main6 (prod (h (m ((c : Thread nD τ).loc main_arg0)) (m ((c : Thread nD τ).loc main_arg1)) (m ((c : Thread nD τ).loc main_arg2)) (m ((c : Thread nD τ).loc main_arg3))) (m ((c : Thread nD τ).loc main_arg4))) := by
  refine (dats m 0 c).arrAt_eq_of_covers 6 _ (by decide +kernel) fun t hf y => ?_
  blk_simp
  rw [after0_6]
  have hy : y = ix2 (⟨(y 0).val, (y 0).isLt⟩ : Fin 512) (⟨(y 1).val, (y 1).isLt⟩ : Fin 3072) := by
    rw [ix2_eq_valueIdx]
    blk_ext
  obtain ⟨q, n, rfl⟩ : ∃ (q : Fin 512) (n : Fin 3072), y = ix2 q n := ⟨_, _, hy⟩
  have ht := point_lt t
  refine (out6_apply _ _ _ _ _ _ q n).trans ?_
  have e := (main6_apply (prod (h (m ((c : Thread nD τ).loc main_arg0)) (m ((c : Thread nD τ).loc main_arg1)) (m ((c : Thread nD τ).loc main_arg2)) (m ((c : Thread nD τ).loc main_arg3))) (m ((c : Thread nD τ).loc main_arg4))) (⟨4096 * (t.val / 8) + (t.val % 8 * 512 + q.val), by omega⟩ : Fin 32768) n).trans
    (prod_apply (h (m ((c : Thread nD τ).loc main_arg0)) (m ((c : Thread nD τ).loc main_arg1)) (m ((c : Thread nD τ).loc main_arg2)) (m ((c : Thread nD τ).loc main_arg3))) (m ((c : Thread nD τ).loc main_arg4)) (⟨t.val / 8, by omega⟩ : Fin 8) (⟨t.val % 8 * 512 + q.val, by omega⟩ : Fin 4096) (⟨n.val, by omega⟩ : Fin 3088))
  refine Eq.trans ?_ (e.symm.trans (congrArg (main6 (prod (h (m ((c : Thread nD τ).loc main_arg0)) (m ((c : Thread nD τ).loc main_arg1)) (m ((c : Thread nD τ).loc main_arg2)) (m ((c : Thread nD τ).loc main_arg3))) (m ((c : Thread nD τ).loc main_arg4)))) ?_))
  · refine Finset.sum_congr rfl fun k _ => ?_
    rw [shared, blk4, wide_apply]
  · rw [ix2_eq_valueIdx, ix2_eq_valueIdx]
    blk_ext [index6]
    exact row_eq t q

theorem final7 (c : Dev nD) : (dats m 0 c).arrAt 7 cfg0.N = main7 (tail (prod (h (m ((c : Thread nD τ).loc main_arg0)) (m ((c : Thread nD τ).loc main_arg1)) (m ((c : Thread nD τ).loc main_arg2)) (m ((c : Thread nD τ).loc main_arg3))) (m ((c : Thread nD τ).loc main_arg4)))) := by
  refine (dats m 0 c).arrAt_eq_of_covers 7 _ (by decide +kernel) fun t hf y => ?_
  blk_simp
  rw [after0_7]
  unfold_out out0_7
  frame_out
  have hy : y = ix2 (⟨(y 0).val, (y 0).isLt⟩ : Fin 512) (⟨(y 1).val, (y 1).isLt⟩ : Fin 128) := by
    rw [ix2_eq_valueIdx]
    blk_ext
  obtain ⟨q, n, rfl⟩ : ∃ (q : Fin 512) (n : Fin 128), y = ix2 q n := ⟨_, _, hy⟩
  have ht := point_lt t
  refine (narrow_apply _ _ q n).trans ?_
  have e := main7_apply (tail (prod (h (m ((c : Thread nD τ).loc main_arg0)) (m ((c : Thread nD τ).loc main_arg1)) (m ((c : Thread nD τ).loc main_arg2)) (m ((c : Thread nD τ).loc main_arg3))) (m ((c : Thread nD τ).loc main_arg4)))) (⟨4096 * (t.val / 8) + (t.val % 8 * 512 + q.val), by omega⟩ : Fin 32768) n
  refine Eq.trans ?_ (e.symm.trans (congrArg (main7 (tail (prod (h (m ((c : Thread nD τ).loc main_arg0)) (m ((c : Thread nD τ).loc main_arg1)) (m ((c : Thread nD τ).loc main_arg2)) (m ((c : Thread nD τ).loc main_arg3))) (m ((c : Thread nD τ).loc main_arg4))))) ?_))
  · by_cases hn : n.val < 16
    · rw [dif_pos hn]
      refine Eq.trans ?_ ((tail_apply (prod (h (m ((c : Thread nD τ).loc main_arg0)) (m ((c : Thread nD τ).loc main_arg1)) (m ((c : Thread nD τ).loc main_arg2)) (m ((c : Thread nD τ).loc main_arg3))) (m ((c : Thread nD τ).loc main_arg4))) _ ⟨n.val, hn⟩).trans (prod_apply (h (m ((c : Thread nD τ).loc main_arg0)) (m ((c : Thread nD τ).loc main_arg1)) (m ((c : Thread nD τ).loc main_arg2)) (m ((c : Thread nD τ).loc main_arg3))) (m ((c : Thread nD τ).loc main_arg4)) (⟨t.val / 8, by omega⟩ : Fin 8) (⟨t.val % 8 * 512 + q.val, by omega⟩ : Fin 4096) (⟨3072 + n.val, by omega⟩ : Fin 3088))).symm
      refine Finset.sum_congr rfl fun k _ => ?_
      rw [shared, blk5, narrow_col, dif_pos hn]
    · rw [dif_neg hn]
      refine Finset.sum_eq_zero fun k _ => ?_
      rw [blk5, narrow_col, dif_neg hn]
      exact mul_zero _
  · rw [ix2_eq_valueIdx, ix2_eq_valueIdx]
    blk_ext [index7]
    exact row_eq t q

theorem frame_p : Cert.quiescent_OddIn (hOddIn := Cert.OddIn.Gen.facts) :=
  fun m g _ => Cert.OddIn.Gen.frame m g

theorem frame_pi : Cert.quiescent_OddInIdeal (hOddInIdeal := Cert.OddInIdeal.Gen.facts) :=
  fun m g _ => Cert.OddInIdeal.Gen.frame m g

theorem frame_ri : Cert.quiescent_OddInRefIdeal (hOddInRefIdeal := Cert.OddInRefIdeal.Gen.facts) :=
  fun m g _ => (θ_run _ _ _).mono (fun r h => ⟨fun c => (h c).2.2, sem_eq_zero_of_no_sems rfl r.2⟩) (Cert.OddInRefIdeal.Value.run m g)

theorem algebraic : Cert.algebraic_OddInIdeal_OddInRefIdeal (hOddInIdeal := Cert.OddInIdeal.Gen.facts) (hOddInRefIdeal := Cert.OddInRefIdeal.Gen.facts) := by
  intro m g m' g' hpre hargs
  refine ⟨fun c => (dats m 0 c).arrAt 6 cfg0.N, fun c => (dats m 0 c).arrAt 7 cfg0.N, Cert.OddInIdeal.Value.run_blocks m g, ?_⟩
  refine (θ_run _ _ _).mono (fun r h c => ⟨(h c).1.trans ?_, (h c).2.1.trans ?_, (h c).2.2⟩) (Cert.OddInRefIdeal.Value.run m' g')
  · obtain ⟨e0, e1, e2, e3, e4⟩ := hargs c
    refine Eq.trans ?_ (final6 m c).symm
    rw [e0, e1, e2, e3, e4]
    rfl
  · obtain ⟨e0, e1, e2, e3, e4⟩ := hargs c
    refine Eq.trans ?_ (final7 m c).symm
    rw [e0, e1, e2, e3, e4]
    rfl

end Cert.OddInVal

end
-- ==== Proof.EvenIn.lean ====
/-
The even layer's input projection: the kernel's two arrays are the reference's.
-/
module

public import proofs.«01_k».proof.Defs
public import proofs.«01_k».proof.Proof.Gen.EvenIn.Frame
public import proofs.«01_k».proof.Proof.Gen.EvenInIdeal.Value
public import proofs.«01_k».proof.Proof.Gen.EvenInRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit
public import proofs.«01_k».proof.Proof.Proj

@[expose] public section

set_option maxRecDepth 16384

noncomputable section

namespace Cert.EvenInVal

open Idealize.ShloMosaic Idealize.ShloMosaic.TcCoe Idealize.SL.Sem Idealize.ShloMosaic.Pipeline Cert.EvenInIdeal Cert.EvenInIdeal.Gen
open Idealize.ShloMosaic.StableHlo

open Cert.Proj

/-- The reference's normed, scaled and shifted rows. -/
def h (x : FVec Ideal S8x4096x1024 .f32) (g : FVec Ideal S1024 .f32) (sc sh : FVec Ideal S8x1x1024 .f32) : FVec Ideal S8x4096x1024 .f32 :=
  addf (mulf (mulf (mulf x (broadcastInDim S8x4096x1024 ![0, 1, 2] Cert.EvenInRefIdeal.Gen.facts.bcast_S8x4096x1_S8x4096x1024_0_1_2 (Host.rsqrt (addf (Host.divf (broadcastInDim Cert.EvenInRefIdeal.S8x4096x1 ![0, 1] Cert.EvenInRefIdeal.Gen.facts.bcast_S8x4096_S8x4096x1_0_1 (Host.reduceAdd (mulf x x) (constant Cert.EvenInRefIdeal.S_ .f32 0x00000000#32) Cert.EvenInRefIdeal.Gen.facts.reducesTo_S8x4096x1024_S8x4096_d2 Cert.EvenInRefIdeal.Gen.facts.h_S_)) (broadcastInDim Cert.EvenInRefIdeal.S8x4096x1 ![] Cert.EvenInRefIdeal.Gen.facts.bcast_S_S8x4096x1 (constant Cert.EvenInRefIdeal.S_ .f32 0x44800000#32))) (broadcastInDim Cert.EvenInRefIdeal.S8x4096x1 ![] Cert.EvenInRefIdeal.Gen.facts.bcast_S_S8x4096x1 (constant Cert.EvenInRefIdeal.S_ .f32 0x358637BD#32)))))) (broadcastInDim S8x4096x1024 ![0, 1, 2] Cert.EvenInRefIdeal.Gen.facts.bcast_S1x1x1024_S8x4096x1024_0_1_2 (broadcastInDim Cert.EvenInRefIdeal.S1x1x1024 ![2] Cert.EvenInRefIdeal.Gen.facts.bcast_S1024_S1x1x1024_2 g))) (broadcastInDim S8x4096x1024 ![0, 1, 2] Cert.EvenInRefIdeal.Gen.facts.bcast_S8x1x1024_S8x4096x1024_0_1_2 (addf (broadcastInDim Cert.EvenInRefIdeal.S8x1x1024 ![] Cert.EvenInRefIdeal.Gen.facts.bcast_S_S8x1x1024 (constant Cert.EvenInRefIdeal.S_ .f32 0x3F800000#32)) sc))) (broadcastInDim S8x4096x1024 ![0, 1, 2] Cert.EvenInRefIdeal.Gen.facts.bcast_S8x1x1024_S8x4096x1024_0_1_2 sh)

theorem h_apply (x : FVec Ideal S8x4096x1024 .f32) (g : FVec Ideal S1024 .f32) (sc sh : FVec Ideal S8x1x1024 .f32) (b : Fin 8) (s : Fin 4096) (k : Fin 1024) :
    h x g sc sh (ix3 b s k) = row (fun k => x (ix3 b s k)) (fun k => g (ix1 k)) (fun k => sc (ix3 b 0 k)) (fun k => sh (ix3 b 0 k)) k := by
  unfold row
  pointwise [h]

/-- The kernel's rows of one block. -/
theorem row_apply (x : FVec Ideal S512x1024 .f32) (g : FVec Ideal S1x1024 .f32) (sc sh : FVec Ideal S1x1x1024 .f32) (q : Fin 512) (k : Fin 1024) :
    k0_pay5 (F := Ideal) x g sc sh (ix2 q k) = (row (fun k => x (ix2 q k)) (fun k => g (ix2 0 k)) (fun k => sc (ix3 0 0 k)) (fun k => sh (ix3 0 0 k)) k : EReal) := by
  unfold row
  pointwise [k0_pay5]

/-- The reference's product with the whole weight. -/
def prod (h : FVec Ideal S8x4096x1024 .f32) (w : FVec Ideal S1024x2568 .f32) : FVec Ideal Cert.EvenInRefIdeal.S32768x2568 .f32 :=
  shapeCast _ (Host.dotGeneral Cert.EvenInRefIdeal.dot_S8x4096x1024_S1024x2568_S8x4096x2568_2_0_01_1_n_n none h w) Cert.EvenInRefIdeal.Gen.facts.shapeCasts_S8x4096x2568_S32768x2568

theorem prod_apply (h : FVec Ideal S8x4096x1024 .f32) (w : FVec Ideal S1024x2568 .f32) (b : Fin 8) (s : Fin 4096) (n : Fin 2568) :
    prod h w (ix2 (⟨4096 * b.val + s.val, by omega⟩ : Fin 32768) n) = (∑ k, h (ix3 b s k) * w (ix2 k n) : EReal) := by
  pointwise [prod]

/-- The reference's first array: the product's first columns. -/
def main6 (p : FVec Ideal Cert.EvenInRefIdeal.S32768x2568 .f32) : FVec Ideal S32768x2560 .bf16 :=
  truncf .bf16 (extractStridedSlice Cert.EvenInRefIdeal.S32768x2560 ![0, 0] p Cert.EvenInRefIdeal.Gen.facts.slices_S32768x2568_S32768x2560_0_0) Cert.EvenInRefIdeal.Gen.facts.bitsLt_bf16_f32

theorem main6_apply (p : FVec Ideal Cert.EvenInRefIdeal.S32768x2568 .f32) (r : Fin 32768) (n : Fin 2560) :
    main6 p (ix2 r n) = p (ix2 r (⟨n.val, by omega⟩ : Fin 2568)) := by
  pointwise [main6]

/-- The product's last columns. -/
def tail (p : FVec Ideal Cert.EvenInRefIdeal.S32768x2568 .f32) : FVec Ideal Cert.EvenInRefIdeal.S32768x8 .f32 :=
  extractStridedSlice Cert.EvenInRefIdeal.S32768x8 ![0, 2560] p Cert.EvenInRefIdeal.Gen.facts.slices_S32768x2568_S32768x8_0_2560

theorem tail_apply (p : FVec Ideal Cert.EvenInRefIdeal.S32768x2568 .f32) (r : Fin 32768) (n : Fin 8) :
    tail p (ix2 r n) = p (ix2 r (⟨2560 + n.val, by omega⟩ : Fin 2568)) := by
  pointwise [tail]

/-- The reference's second array: the product's last columns, in lanes of their own. -/
def main7 (p : FVec Ideal Cert.EvenInRefIdeal.S32768x8 .f32) : FVec Ideal S32768x128 .f32 :=
  pad Cert.EvenInRefIdeal.S32768x128 ![0, 0] ![0, 120] ![0, 0] p (sitofp .f32 (constantI Cert.EvenInRefIdeal.S_ 32 0#32)) Cert.EvenInRefIdeal.Gen.facts.pads_S32768x8_S32768x128_000_01200 Cert.EvenInRefIdeal.Gen.facts.h_S_

theorem main7_apply (p : FVec Ideal Cert.EvenInRefIdeal.S32768x8 .f32) (r : Fin 32768) (n : Fin 128) :
    main7 p (ix2 r n) = if h : n.val < 8 then p (ix2 r ⟨n.val, h⟩) else (0 : EReal) := by
  by_cases h : n.val < 8
  · rw [dif_pos h]
    pointwise [main7]
    rw [dif_pos h]
  · rw [dif_neg h]
    pointwise [main7]
    rw [dif_neg h]
    show (((0#32 : BitVec 32).toInt : ℝ) : EReal) = 0
    simp

theorem chunk_apply (v : FVec Ideal S512x1024 .bf16) (w : FVec Ideal S1024x512 .bf16) (q : Fin 512) (n : Fin 512) :
    k0_pay1 v w (ix2 q n) = (∑ k, v (ix2 q k) * w (ix2 k n) : EReal) := by
  pointwise [k0_pay1]

theorem narrow_apply (v : FVec Ideal S512x1024 .bf16) (w : FVec Ideal S1024x128 .bf16) (q : Fin 512) (n : Fin 128) :
    k0_pay4 v w (ix2 q n) = (∑ k, v (ix2 q k) * w (ix2 k n) : EReal) := by
  pointwise [k0_pay4]

/-- One chunk of 512 columns. -/
theorem piece (v : FVec Ideal S512x1024 .bf16) (x4 : Vec Ideal S1024x2560 .bf16) (o : Nat) (inb : ∀ a, (![0, o] : Fin 2 → Nat) a + S1024x512.size a ≤ S1024x2560.size a)
    (q : Fin 512) (n : Fin 2560) (x : S512x512.Idx) (h0 : q.val = (x 0).val) (h1 : n.val = o + (x 1).val) :
    k0_pay1 v (View.ld x4 (Rect.unit (s := S1024x2560) ![0, o] S1024x512.size inb)) x = (∑ k, v (ix2 q k) * x4 (ix2 k n) : EReal) := by
  obtain ⟨a, b, rfl⟩ : ∃ (a : Fin 512) (b : Fin 512), x = ix2 a b := ⟨_, _, (by rw [ix2_eq_valueIdx]; blk_ext : x = ix2 (⟨(x 0).val, (x 0).isLt⟩ : Fin 512) (⟨(x 1).val, (x 1).isLt⟩ : Fin 512))⟩
  obtain rfl : q = a := Fin.ext h0
  refine (chunk_apply _ _ q b).trans (Finset.sum_congr rfl fun k _ => congrArg (fun z : EReal => v (ix2 q k) * z) ?_)
  refine (View.ld_apply x4 _ _).trans (congrArg x4 ?_)
  funext d
  match d with
  | ⟨0, _⟩ => exact Fin.ext (show 0 + 1 * k.val = k.val by omega)
  | ⟨1, _⟩ => exact Fin.ext (show o + 1 * b.val = n.val by rw [show n.val = o + b.val from h1]; omega)

theorem out6_apply (x0 : Vec Ideal S512x1024 .f32) (x1 : Vec Ideal S1x1024 .f32) (x2 x3 : Vec Ideal S1x1x1024 .f32) (x4 : Vec Ideal S1024x2560 .bf16) (x5 : Vec Ideal S1024x128 .bf16) (q : Fin 512) (n : Fin 2560) :
    out0_6 x0 x1 x2 x3 x4 x5 (ix2 q n) = (∑ k, k0_pay5 x0 x1 x2 x3 (ix2 q k) * x4 (ix2 k n) : EReal) := by
  unfold_out out0_6
  simp (disch := decide) only [View.ld_unit_lit']
  canon_tiles x h using cover0_6 ..
  · exact piece _ x4 2048 _ q n x h0 h1
  · exact piece _ x4 1536 _ q n x h0 h1
  · exact piece _ x4 1024 _ q n x h0 h1
  · exact piece _ x4 512 _ q n x h0 h1
  · exact piece _ x4 0 _ q n x h0 (h1.trans (Nat.zero_add _).symm)

variable (m : (ℓ : Loc nD τ sig) → Buf (Elt Ideal) ℓ)

/-- The weight's first columns, as the call takes them. -/
def wide (w : FVec Ideal S1024x2568 .f32) : FVec Ideal S1024x2560 .bf16 :=
  truncf .bf16 (extractStridedSlice S1024x2560 ![0, 0] w facts.slices_S1024x2568_S1024x2560_0_0) facts.bitsLt_bf16_f32

theorem wide_apply (w : FVec Ideal S1024x2568 .f32) (k : Fin 1024) (n : Fin 2560) : wide w (ix2 k n) = w (ix2 k (⟨n.val, by omega⟩ : Fin 2568)) := by
  pointwise [wide]

/-- Its last columns, written into a matrix of zeros. -/
def last (w : FVec Ideal S1024x2568 .f32) : FVec Ideal S1024x8 .f32 :=
  extractStridedSlice S1024x8 ![0, 2560] w facts.slices_S1024x2568_S1024x8_0_2560
def zeros : FVec Ideal S1024x128 .f32 := broadcastInDim S1024x128 ![] facts.bcast_S_S1024x128 (constant S_ .f32 0x00000000#32)
def start : IVec S1 32 := broadcastInDim S1 ![] facts.bcast_S_S1 (constantI S_ 32 0#32)
def placed (w : FVec Ideal S1024x2568 .f32) : FVec Ideal S1024x128 .f32 :=
  Host.scatter scatter_S1024x128_S1_S1024x8_01_n_1_0 (fun _ b => b) zeros start (last w)
def narrow (w : FVec Ideal S1024x2568 .f32) : FVec Ideal S1024x128 .bf16 :=
  truncf .bf16 (placed w) facts.bitsLt_bf16_f32

theorem last_apply (w : FVec Ideal S1024x2568 .f32) (k : Fin 1024) (n : Fin 8) : last w (ix2 k n) = w (ix2 k (⟨2560 + n.val, by omega⟩ : Fin 2568)) := by
  pointwise [last]
theorem zeros_apply (k : Fin 1024) (n : Fin 128) : zeros (ix2 k n) = (0 : EReal) := by
  pointwise [zeros]

theorem placed_eq (w : FVec Ideal S1024x2568 .f32) (k : Fin 1024) (n : Fin 128) :
    placed w (ValueIdx.ix2 k n) = if h : n.val < 8 then last w (ValueIdx.ix2 k ⟨n.val, h⟩) else zeros (ValueIdx.ix2 k n) := by
  unfold placed
  exact written _ rfl rfl rfl start (fun _ => rfl) zeros (last w) k n

theorem narrow_eq (w : FVec Ideal S1024x2568 .f32) (k : Fin 1024) (n : Fin 128) : narrow w (ix2 k n) = placed w (ix2 k n) := by
  pointwise [narrow]

theorem narrow_col (w : FVec Ideal S1024x2568 .f32) (k : Fin 1024) (n : Fin 128) :
    narrow w (ix2 k n) = if h : n.val < 8 then w (ix2 k (⟨2560 + n.val, by omega⟩ : Fin 2568)) else (0 : EReal) := by
  rw [narrow_eq, ix2_eq_valueIdx k n, placed_eq]
  by_cases h : n.val < 8
  · rw [dif_pos h, dif_pos h, ← ix2_eq_valueIdx]
    exact last_apply w k ⟨n.val, h⟩
  · rw [dif_neg h, dif_neg h, ← ix2_eq_valueIdx]
    exact zeros_apply k n

theorem entry_x (c : Dev nD) : V m c main_v0 = (shapeCast S32768x1024 (m ((c : Thread nD τ).loc main_arg0) : FVec Ideal S8x4096x1024 .f32) facts.shapeCasts_S8x4096x1024_S32768x1024 : FVec Ideal S32768x1024 .f32) := by
  dsimp only [V, hostOps0]
  after_results <;> rfl

/-- The gain as one row. -/
def gain (g : FVec Ideal S1024 .f32) : FVec Ideal S1x1024 .f32 := broadcastInDim S1x1024 ![1] facts.bcast_S1024_S1x1024_1 g

theorem gain_apply (g : FVec Ideal S1024 .f32) (k : Fin 1024) : gain g (ix2 0 k) = g (ix1 k) := by
  pointwise [gain]

theorem entry_gain (c : Dev nD) : V m c main_v6 = gain (m ((c : Thread nD τ).loc main_arg1)) := by
  dsimp only [V, hostOps0]
  after_results <;> rfl

theorem entry_wide (c : Dev nD) : V m c main_v8 = wide (m ((c : Thread nD τ).loc main_arg4)) := by
  dsimp only [V, hostOps0]
  after_results <;> rfl

theorem entry_narrow (c : Dev nD) : V m c main_v5 = narrow (m ((c : Thread nD τ).loc main_arg4)) := by
  dsimp only [V, hostOps0]
  after_results <;> rfl

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val / 8, 0, 0] := (by decide +kernel : ∀ t : Fin grid0.N, win0_2.index t = ![t.val / 8, 0, 0])
theorem index3 : ∀ t : Fin cfg0.N, win0_3.index t = ![t.val / 8, 0, 0] := (by decide +kernel : ∀ t : Fin grid0.N, win0_3.index t = ![t.val / 8, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem point_lt (t : Fin cfg0.N) : t.val < 64 := t.isLt

/-- A flattened row's entry of the residual stream. -/
theorem flat_apply (x : FVec Ideal S8x4096x1024 .f32) (b : Fin 8) (s : Fin 4096) (n : Fin 1024) :
    shapeCast S32768x1024 x facts.shapeCasts_S8x4096x1024_S32768x1024 (ix2 (⟨4096 * b.val + s.val, by omega⟩ : Fin 32768) n) = x (ix3 b s n) := by
  pointwise

theorem blk0 (c : Dev nD) (t : Fin cfg0.N) (q : Fin 512) (n : Fin 1024) :
    iblk m c 0 t (ix2 q n) = m ((c : Thread nD τ).loc main_arg0) (ix3 (⟨t.val / 8, by have := point_lt t; omega⟩ : Fin 8) (⟨t.val % 8 * 512 + q.val, by omega⟩ : Fin 4096) n) := by
  have ht := point_lt t
  refine Eq.trans ?_ (flat_apply (m ((c : Thread nD τ).loc main_arg0)) _ _ n)
  rw [ix2_eq_valueIdx, ix2_eq_valueIdx]
  blk_simp [iblk]
  refine (congrFun (entry_x m c) _).trans (congrArg (shapeCast S32768x1024 (m ((c : Thread nD τ).loc main_arg0) : FVec Ideal S8x4096x1024 .f32) facts.shapeCasts_S8x4096x1024_S32768x1024) ?_)
  blk_ext [index0]
  show t.val * 512 + q.val = 4096 * (t.val / 8) + (t.val % 8 * 512 + q.val)
  omega

theorem blk1 (c : Dev nD) (t : Fin cfg0.N) (k : Fin 1024) :
    iblk m c 1 t (ix2 0 k) = m ((c : Thread nD τ).loc main_arg1) (ix1 k) := by
  refine Eq.trans ?_ (gain_apply (m ((c : Thread nD τ).loc main_arg1)) k)
  rw [ix2_eq_valueIdx]
  blk_simp [iblk]
  refine (congrFun (entry_gain m c) _).trans (congrArg (gain (m ((c : Thread nD τ).loc main_arg1))) ?_)
  blk_ext [index1]

theorem blk2 (c : Dev nD) (t : Fin cfg0.N) (n : Fin 1024) :
    iblk m c 2 t (ix3 0 0 n) = m ((c : Thread nD τ).loc main_arg2) (ix3 (⟨t.val / 8, by have := point_lt t; omega⟩ : Fin 8) 0 n) := by
  rw [ix3_eq_valueIdx, ix3_eq_valueIdx]
  blk_simp [iblk]
  refine (congrFun (V_main_arg2 m c) _).trans (congrArg (m ((c : Thread nD τ).loc main_arg2)) ?_)
  blk_ext [index2]

theorem blk3 (c : Dev nD) (t : Fin cfg0.N) (n : Fin 1024) :
    iblk m c 3 t (ix3 0 0 n) = m ((c : Thread nD τ).loc main_arg3) (ix3 (⟨t.val / 8, by have := point_lt t; omega⟩ : Fin 8) 0 n) := by
  rw [ix3_eq_valueIdx, ix3_eq_valueIdx]
  blk_simp [iblk]
  refine (congrFun (V_main_arg3 m c) _).trans (congrArg (m ((c : Thread nD τ).loc main_arg3)) ?_)
  blk_ext [index3]

theorem blk4 (c : Dev nD) (t : Fin cfg0.N) (k : Fin 1024) (n : Fin 2560) :
    iblk m c 4 t (ix2 k n) = wide (m ((c : Thread nD τ).loc main_arg4)) (ix2 k n) := by
  rw [ix2_eq_valueIdx]
  blk_simp [iblk]
  refine (congrFun (entry_wide m c) _).trans (congrArg (wide (m ((c : Thread nD τ).loc main_arg4))) ?_)
  blk_ext [index4]

theorem blk5 (c : Dev nD) (t : Fin cfg0.N) (k : Fin 1024) (n : Fin 128) :
    iblk m c 5 t (ix2 k n) = narrow (m ((c : Thread nD τ).loc main_arg4)) (ix2 k n) := by
  rw [ix2_eq_valueIdx]
  blk_simp [iblk]
  refine (congrFun (entry_narrow m c) _).trans (congrArg (narrow (m ((c : Thread nD τ).loc main_arg4))) ?_)
  blk_ext [index5]

/-- A block's row is the reference's row. -/
theorem shared (c : Dev nD) (t : Fin cfg0.N) (q : Fin 512) (k : Fin 1024) :
    k0_pay5 (iblk m c 0 t) (iblk m c 1 t) (iblk m c 2 t) (iblk m c 3 t) (ix2 q k)
      = h (m ((c : Thread nD τ).loc main_arg0)) (m ((c : Thread nD τ).loc main_arg1)) (m ((c : Thread nD τ).loc main_arg2)) (m ((c : Thread nD τ).loc main_arg3)) (ix3 (⟨t.val / 8, by have := point_lt t; omega⟩ : Fin 8) (⟨t.val % 8 * 512 + q.val, by omega⟩ : Fin 4096) k) := by
  refine (row_apply _ _ _ _ q k).trans (Eq.trans ?_ (h_apply _ _ _ _ _ _ k).symm)
  simp only [blk0, blk1, blk2, blk3]

theorem row_eq (t : Fin cfg0.N) (q : Fin 512) : 4096 * (t.val / 8) + (t.val % 8 * 512 + q.val) = t.val * 512 + q.val := by omega

theorem final6 (c : Dev nD) : (dats m 0 c).arrAt 6 cfg0.N = main6 (prod (h (m ((c : Thread nD τ).loc main_arg0)) (m ((c : Thread nD τ).loc main_arg1)) (m ((c : Thread nD τ).loc main_arg2)) (m ((c : Thread nD τ).loc main_arg3))) (m ((c : Thread nD τ).loc main_arg4))) := by
  refine (dats m 0 c).arrAt_eq_of_covers 6 _ (by decide +kernel) fun t hf y => ?_
  blk_simp
  rw [after0_6]
  have hy : y = ix2 (⟨(y 0).val, (y 0).isLt⟩ : Fin 512) (⟨(y 1).val, (y 1).isLt⟩ : Fin 2560) := by
    rw [ix2_eq_valueIdx]
    blk_ext
  obtain ⟨q, n, rfl⟩ : ∃ (q : Fin 512) (n : Fin 2560), y = ix2 q n := ⟨_, _, hy⟩
  have ht := point_lt t
  refine (out6_apply _ _ _ _ _ _ q n).trans ?_
  have e := (main6_apply (prod (h (m ((c : Thread nD τ).loc main_arg0)) (m ((c : Thread nD τ).loc main_arg1)) (m ((c : Thread nD τ).loc main_arg2)) (m ((c : Thread nD τ).loc main_arg3))) (m ((c : Thread nD τ).loc main_arg4))) (⟨4096 * (t.val / 8) + (t.val % 8 * 512 + q.val), by omega⟩ : Fin 32768) n).trans
    (prod_apply (h (m ((c : Thread nD τ).loc main_arg0)) (m ((c : Thread nD τ).loc main_arg1)) (m ((c : Thread nD τ).loc main_arg2)) (m ((c : Thread nD τ).loc main_arg3))) (m ((c : Thread nD τ).loc main_arg4)) (⟨t.val / 8, by omega⟩ : Fin 8) (⟨t.val % 8 * 512 + q.val, by omega⟩ : Fin 4096) (⟨n.val, by omega⟩ : Fin 2568))
  refine Eq.trans ?_ (e.symm.trans (congrArg (main6 (prod (h (m ((c : Thread nD τ).loc main_arg0)) (m ((c : Thread nD τ).loc main_arg1)) (m ((c : Thread nD τ).loc main_arg2)) (m ((c : Thread nD τ).loc main_arg3))) (m ((c : Thread nD τ).loc main_arg4)))) ?_))
  · refine Finset.sum_congr rfl fun k _ => ?_
    rw [shared, blk4, wide_apply]
  · rw [ix2_eq_valueIdx, ix2_eq_valueIdx]
    blk_ext [index6]
    exact row_eq t q

theorem final7 (c : Dev nD) : (dats m 0 c).arrAt 7 cfg0.N = main7 (tail (prod (h (m ((c : Thread nD τ).loc main_arg0)) (m ((c : Thread nD τ).loc main_arg1)) (m ((c : Thread nD τ).loc main_arg2)) (m ((c : Thread nD τ).loc main_arg3))) (m ((c : Thread nD τ).loc main_arg4)))) := by
  refine (dats m 0 c).arrAt_eq_of_covers 7 _ (by decide +kernel) fun t hf y => ?_
  blk_simp
  rw [after0_7]
  unfold_out out0_7
  frame_out
  have hy : y = ix2 (⟨(y 0).val, (y 0).isLt⟩ : Fin 512) (⟨(y 1).val, (y 1).isLt⟩ : Fin 128) := by
    rw [ix2_eq_valueIdx]
    blk_ext
  obtain ⟨q, n, rfl⟩ : ∃ (q : Fin 512) (n : Fin 128), y = ix2 q n := ⟨_, _, hy⟩
  have ht := point_lt t
  refine (narrow_apply _ _ q n).trans ?_
  have e := main7_apply (tail (prod (h (m ((c : Thread nD τ).loc main_arg0)) (m ((c : Thread nD τ).loc main_arg1)) (m ((c : Thread nD τ).loc main_arg2)) (m ((c : Thread nD τ).loc main_arg3))) (m ((c : Thread nD τ).loc main_arg4)))) (⟨4096 * (t.val / 8) + (t.val % 8 * 512 + q.val), by omega⟩ : Fin 32768) n
  refine Eq.trans ?_ (e.symm.trans (congrArg (main7 (tail (prod (h (m ((c : Thread nD τ).loc main_arg0)) (m ((c : Thread nD τ).loc main_arg1)) (m ((c : Thread nD τ).loc main_arg2)) (m ((c : Thread nD τ).loc main_arg3))) (m ((c : Thread nD τ).loc main_arg4))))) ?_))
  · by_cases hn : n.val < 8
    · rw [dif_pos hn]
      refine Eq.trans ?_ ((tail_apply (prod (h (m ((c : Thread nD τ).loc main_arg0)) (m ((c : Thread nD τ).loc main_arg1)) (m ((c : Thread nD τ).loc main_arg2)) (m ((c : Thread nD τ).loc main_arg3))) (m ((c : Thread nD τ).loc main_arg4))) _ ⟨n.val, hn⟩).trans (prod_apply (h (m ((c : Thread nD τ).loc main_arg0)) (m ((c : Thread nD τ).loc main_arg1)) (m ((c : Thread nD τ).loc main_arg2)) (m ((c : Thread nD τ).loc main_arg3))) (m ((c : Thread nD τ).loc main_arg4)) (⟨t.val / 8, by omega⟩ : Fin 8) (⟨t.val % 8 * 512 + q.val, by omega⟩ : Fin 4096) (⟨2560 + n.val, by omega⟩ : Fin 2568))).symm
      refine Finset.sum_congr rfl fun k _ => ?_
      rw [shared, blk5, narrow_col, dif_pos hn]
    · rw [dif_neg hn]
      refine Finset.sum_eq_zero fun k _ => ?_
      rw [blk5, narrow_col, dif_neg hn]
      exact mul_zero _
  · rw [ix2_eq_valueIdx, ix2_eq_valueIdx]
    blk_ext [index7]
    exact row_eq t q

theorem frame_p : Cert.quiescent_EvenIn (hEvenIn := Cert.EvenIn.Gen.facts) :=
  fun m g _ => Cert.EvenIn.Gen.frame m g

theorem frame_pi : Cert.quiescent_EvenInIdeal (hEvenInIdeal := Cert.EvenInIdeal.Gen.facts) :=
  fun m g _ => Cert.EvenInIdeal.Gen.frame m g

theorem frame_ri : Cert.quiescent_EvenInRefIdeal (hEvenInRefIdeal := Cert.EvenInRefIdeal.Gen.facts) :=
  fun m g _ => (θ_run _ _ _).mono (fun r h => ⟨fun c => (h c).2.2, sem_eq_zero_of_no_sems rfl r.2⟩) (Cert.EvenInRefIdeal.Value.run m g)

theorem algebraic : Cert.algebraic_EvenInIdeal_EvenInRefIdeal (hEvenInIdeal := Cert.EvenInIdeal.Gen.facts) (hEvenInRefIdeal := Cert.EvenInRefIdeal.Gen.facts) := by
  intro m g m' g' hpre hargs
  refine ⟨fun c => (dats m 0 c).arrAt 6 cfg0.N, fun c => (dats m 0 c).arrAt 7 cfg0.N, Cert.EvenInIdeal.Value.run_blocks m g, ?_⟩
  refine (θ_run _ _ _).mono (fun r h c => ⟨(h c).1.trans ?_, (h c).2.1.trans ?_, (h c).2.2⟩) (Cert.EvenInRefIdeal.Value.run m' g')
  · obtain ⟨e0, e1, e2, e3, e4⟩ := hargs c
    refine Eq.trans ?_ (final6 m c).symm
    rw [e0, e1, e2, e3, e4]
    rfl
  · obtain ⟨e0, e1, e2, e3, e4⟩ := hargs c
    refine Eq.trans ?_ (final7 m c).symm
    rw [e0, e1, e2, e3, e4]
    rfl

end Cert.EvenInVal

end
-- ==== Proof.Ada.lean ====
/-
The modulation vectors of both layers: the kernel's array is the reference's.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.AdaVal

open Idealize.ShloMosaic Idealize.ShloMosaic.TcCoe Idealize.SL.Sem Idealize.ShloMosaic.Pipeline Cert.AdaIdeal Cert.AdaIdeal.Gen
open Idealize.ShloMosaic.StableHlo

/-- The reference's `silu` of the conditioning vectors. -/
def silu (c : FVec Ideal S8x1024 .f32) : FVec Ideal S8x1024 .f32 :=
  mulf c (Host.divf (broadcastInDim S8x1024 ![] Cert.AdaRefIdeal.Gen.facts.bcast_S_S8x1024 (constant Cert.AdaRefIdeal.S_ .f32 0x3F800000#32)) (addf (broadcastInDim S8x1024 ![] Cert.AdaRefIdeal.Gen.facts.bcast_S_S8x1024 (constant Cert.AdaRefIdeal.S_ .f32 0x3F800000#32)) (Host.exp (Host.negf c))))

/-- The reference's vectors of the first layer … -/
def layer0 (c : FVec Ideal S8x1024 .f32) (w : FVec Ideal S2x1024x6144 .f32) (b : FVec Ideal S2x6144 .f32) : FVec Ideal Cert.AdaRefIdeal.S1x8x6144 .f32 :=
  broadcastInDim Cert.AdaRefIdeal.S1x8x6144 ![1, 2] Cert.AdaRefIdeal.Gen.facts.bcast_S8x6144_S1x8x6144_1_2 (addf (Host.dotGeneral Cert.AdaRefIdeal.dot_S8x1024_S1024x6144_S8x6144_1_0_0_1_n_n none (silu c) (shapeCast _ (extractStridedSlice Cert.AdaRefIdeal.S1x1024x6144 ![0, 0, 0] w Cert.AdaRefIdeal.Gen.facts.slices_S2x1024x6144_S1x1024x6144_0_0_0) Cert.AdaRefIdeal.Gen.facts.shapeCasts_S1x1024x6144_S1024x6144)) (broadcastInDim Cert.AdaRefIdeal.S8x6144 ![0, 1] Cert.AdaRefIdeal.Gen.facts.bcast_S1x6144_S8x6144_0_1 (broadcastInDim Cert.AdaRefIdeal.S1x6144 ![1] Cert.AdaRefIdeal.Gen.facts.bcast_S6144_S1x6144_1 (shapeCast _ (extractStridedSlice Cert.AdaRefIdeal.S1x6144 ![0, 0] b Cert.AdaRefIdeal.Gen.facts.slices_S2x6144_S1x6144_0_0) Cert.AdaRefIdeal.Gen.facts.shapeCasts_S1x6144_S6144))))

/-- … and of the second. -/
def layer1 (c : FVec Ideal S8x1024 .f32) (w : FVec Ideal S2x1024x6144 .f32) (b : FVec Ideal S2x6144 .f32) : FVec Ideal Cert.AdaRefIdeal.S1x8x6144 .f32 :=
  broadcastInDim Cert.AdaRefIdeal.S1x8x6144 ![1, 2] Cert.AdaRefIdeal.Gen.facts.bcast_S8x6144_S1x8x6144_1_2 (addf (Host.dotGeneral Cert.AdaRefIdeal.dot_S8x1024_S1024x6144_S8x6144_1_0_0_1_n_n none (silu c) (shapeCast _ (extractStridedSlice Cert.AdaRefIdeal.S1x1024x6144 ![1, 0, 0] w Cert.AdaRefIdeal.Gen.facts.slices_S2x1024x6144_S1x1024x6144_1_0_0) Cert.AdaRefIdeal.Gen.facts.shapeCasts_S1x1024x6144_S1024x6144)) (broadcastInDim Cert.AdaRefIdeal.S8x6144 ![0, 1] Cert.AdaRefIdeal.Gen.facts.bcast_S1x6144_S8x6144_0_1 (broadcastInDim Cert.AdaRefIdeal.S1x6144 ![1] Cert.AdaRefIdeal.Gen.facts.bcast_S6144_S1x6144_1 (shapeCast _ (extractStridedSlice Cert.AdaRefIdeal.S1x6144 ![1, 0] b Cert.AdaRefIdeal.Gen.facts.slices_S2x6144_S1x6144_1_0) Cert.AdaRefIdeal.Gen.facts.shapeCasts_S1x6144_S6144))))

/-- The reference's array of its arguments. -/
def res (c : FVec Ideal S8x1024 .f32) (w : FVec Ideal S2x1024x6144 .f32) (b : FVec Ideal S2x6144 .f32) : FVec Ideal S2x8x6144 .f32 :=
  concatenate S2x8x6144 0 [⟨Cert.AdaRefIdeal.S1x8x6144, layer0 c w b⟩, ⟨Cert.AdaRefIdeal.S1x8x6144, layer1 c w b⟩] Cert.AdaRefIdeal.Gen.facts.concatenates_S1x8x6144_S1x8x6144_S2x8x6144_d0

/-- `silu` of one number, as the reference divides. -/
def siluAt (x : EReal) : EReal := x * Ideal.div 1 (1 + Ideal.exp (-x))

theorem silu_apply (c : FVec Ideal S8x1024 .f32) (i : Fin 8) (k : Fin 1024) : silu c (ix2 i k) = siluAt (c (ix2 i k)) := by
  pointwise [silu]
  rfl

theorem layer0_apply (c : FVec Ideal S8x1024 .f32) (w : FVec Ideal S2x1024x6144 .f32) (b : FVec Ideal S2x6144 .f32) (i : Fin 8) (n : Fin 6144) :
    layer0 c w b (ix3 0 i n) = ((∑ k, siluAt (c (ix2 i k)) * w (ix3 0 k n)) + b (ix2 0 n) : EReal) := by
  pointwise [layer0]
  simp only [silu_apply]

theorem layer1_apply (c : FVec Ideal S8x1024 .f32) (w : FVec Ideal S2x1024x6144 .f32) (b : FVec Ideal S2x6144 .f32) (i : Fin 8) (n : Fin 6144) :
    layer1 c w b (ix3 0 i n) = ((∑ k, siluAt (c (ix2 i k)) * w (ix3 1 k n)) + b (ix2 1 n) : EReal) := by
  pointwise [layer1]
  simp only [silu_apply]

theorem res_apply (c : FVec Ideal S8x1024 .f32) (w : FVec Ideal S2x1024x6144 .f32) (b : FVec Ideal S2x6144 .f32) (l : Fin 2) (i : Fin 8) (n : Fin 6144) :
    res c w b (ix3 l i n) = ((∑ k, siluAt (c (ix2 i k)) * w (ix3 l k n)) + b (ix2 l n) : EReal) := by
  fin_cases l
  · refine Eq.trans ?_ (layer0_apply c w b i n)
    pointwise [res]
  · refine Eq.trans ?_ (layer1_apply c w b i n)
    pointwise [res]

theorem pay_apply (c : FVec Ideal S8x1024 .f32) (w : FVec Ideal S1x1024x1536 .f32) (b : FVec Ideal S1x1x1536 .f32) (i : Fin 8) (n : Fin 1536) :
    k0_pay1 (F := Ideal) c w b (ix3 0 i n) = ((∑ k, siluAt (c (ix2 i k)) * w (ix3 0 k n)) + b (ix3 0 0 n) : EReal) := by
  pointwise [k0_pay1]
  simp only [siluAt, zero_sub]

variable (m : (ℓ : Loc nD τ sig) → Buf (Elt Ideal) ℓ)

theorem entry_b (c : Dev nD) : V m c main_v0 = (shapeCast S2x1x6144 (m ((c : Thread nD τ).loc main_arg2) : FVec Ideal S2x6144 .f32) facts.shapeCasts_S2x6144_S2x1x6144 : FVec Ideal S2x1x6144 .f32) := by
  dsimp only [V, hostOps0]
  after_results <;> rfl

theorem index0 : ∀ t : Fin cfg0.N, win0_0.index t = ![0, 0] := (by decide +kernel : ∀ t : Fin grid0.N, win0_0.index t = ![0, 0])
theorem index1 : ∀ t : Fin cfg0.N, win0_1.index t = ![t.val / 4, 0, t.val % 4] := (by decide +kernel : ∀ t : Fin grid0.N, win0_1.index t = ![t.val / 4, 0, t.val % 4])
theorem index2 : ∀ t : Fin cfg0.N, win0_2.index t = ![t.val / 4, 0, t.val % 4] := (by decide +kernel : ∀ t : Fin grid0.N, win0_2.index t = ![t.val / 4, 0, t.val % 4])
theorem index3 : ∀ t : Fin cfg0.N, win0_3.index t = ![t.val / 4, 0, t.val % 4] := (by decide +kernel : ∀ t : Fin grid0.N, win0_3.index t = ![t.val / 4, 0, t.val % 4])

theorem point_lt (t : Fin cfg0.N) : t.val < 8 := t.isLt

theorem flat_apply (b : FVec Ideal S2x6144 .f32) (l : Fin 2) (n : Fin 6144) :
    shapeCast S2x1x6144 b facts.shapeCasts_S2x6144_S2x1x6144 (ix3 l 0 n) = b (ix2 l n) := by
  pointwise

theorem blk0 (c : Dev nD) (t : Fin cfg0.N) (i : Fin 8) (k : Fin 1024) :
    iblk m c 0 t (ix2 i k) = m ((c : Thread nD τ).loc main_arg0) (ix2 i k) := by
  rw [ix2_eq_valueIdx]
  blk_simp [iblk]
  refine (congrFun (V_main_arg0 m c) _).trans (congrArg (m ((c : Thread nD τ).loc main_arg0)) ?_)
  blk_ext [index0]

theorem blk1 (c : Dev nD) (t : Fin cfg0.N) (k : Fin 1024) (n : Fin 1536) :
    iblk m c 1 t (ix3 0 k n) = m ((c : Thread nD τ).loc main_arg1) (ix3 (⟨t.val / 4, by have := point_lt t; omega⟩ : Fin 2) k (⟨t.val % 4 * 1536 + n.val, by omega⟩ : Fin 6144)) := by
  rw [ix3_eq_valueIdx, ix3_eq_valueIdx]
  blk_simp [iblk]
  refine (congrFun (V_main_arg1 m c) _).trans (congrArg (m ((c : Thread nD τ).loc main_arg1)) ?_)
  blk_ext [index1]

theorem blk2 (c : Dev nD) (t : Fin cfg0.N) (n : Fin 1536) :
    iblk m c 2 t (ix3 0 0 n) = m ((c : Thread nD τ).loc main_arg2) (ix2 (⟨t.val / 4, by have := point_lt t; omega⟩ : Fin 2) (⟨t.val % 4 * 1536 + n.val, by omega⟩ : Fin 6144)) := by
  refine Eq.trans ?_ (flat_apply (m ((c : Thread nD τ).loc main_arg2)) _ _)
  rw [ix3_eq_valueIdx, ix3_eq_valueIdx]
  blk_simp [iblk]
  refine (congrFun (entry_b m c) _).trans (congrArg (shapeCast S2x1x6144 (m ((c : Thread nD τ).loc main_arg2) : FVec Ideal S2x6144 .f32) facts.shapeCasts_S2x6144_S2x1x6144) ?_)
  blk_ext [index2]

theorem final (c : Dev nD) : (dats m 0 c).arrAt 3 cfg0.N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hy : y = ix3 (0 : Fin 1) (⟨(y 1).val, (y 1).isLt⟩ : Fin 8) (⟨(y 2).val, (y 2).isLt⟩ : Fin 1536) := by
    rw [ix3_eq_valueIdx]
    blk_ext
  obtain ⟨i, n, rfl⟩ : ∃ (i : Fin 8) (n : Fin 1536), y = ix3 0 i n := ⟨_, _, hy⟩
  have ht := point_lt t
  refine (pay_apply _ _ _ i n).trans ?_
  rw [blk2]
  have e := res_apply (m ((c : Thread nD τ).loc main_arg0)) (m ((c : Thread nD τ).loc main_arg1)) (m ((c : Thread nD τ).loc main_arg2))
    (⟨t.val / 4, by omega⟩ : Fin 2) i (⟨t.val % 4 * 1536 + n.val, by omega⟩ : Fin 6144)
  refine Eq.trans ?_ (e.symm.trans (congrArg (res _ _ _) ?_))
  · congr 1
    refine Finset.sum_congr rfl fun k _ => ?_
    rw [blk0, blk1]
  · rw [ix3_eq_valueIdx, ix3_eq_valueIdx]
    blk_ext [index3]

theorem frame_p : Cert.quiescent_Ada (hAda := Cert.Ada.Gen.facts) :=
  fun m g _ => Cert.Ada.Gen.frame m g

theorem frame_pi : Cert.quiescent_AdaIdeal (hAdaIdeal := Cert.AdaIdeal.Gen.facts) :=
  fun m g _ => Cert.AdaIdeal.Gen.frame m g

theorem frame_ri : Cert.quiescent_AdaRefIdeal (hAdaRefIdeal := Cert.AdaRefIdeal.Gen.facts) :=
  fun m g _ => (θ_run _ _ _).mono (fun r h => ⟨fun c => (h c).2, sem_eq_zero_of_no_sems rfl r.2⟩) (Cert.AdaRefIdeal.Value.run m g)

theorem algebraic : Cert.algebraic_AdaIdeal_AdaRefIdeal (hAdaIdeal := Cert.AdaIdeal.Gen.facts) (hAdaRefIdeal := Cert.AdaRefIdeal.Gen.facts) := by
  intro m g m' g' hpre hargs
  refine ⟨fun c => (dats m 0 c).arrAt 3 cfg0.N, Cert.AdaIdeal.Value.run_blocks m g, ?_⟩
  refine (θ_run _ _ _).mono (fun r h c => ⟨(h c).1.trans ?_, (h c).2⟩) (Cert.AdaRefIdeal.Value.run m' g')
  obtain ⟨e0, e1, e2⟩ := hargs c
  refine Eq.trans ?_ (final m c).symm
  rw [e0, e1, e2]
  rfl

end Cert.AdaVal

end
-- ==== Proof.GlaCell.lean ====
/-
The gated linear attention kernel's body: what its sixteen cells (four chunks of four heads) store, over the
contents of the buffers it reads.
-/
module

public import proofs.«01_k».proof.Defs
public import proofs.«01_k».proof.Proof.Gen.GlaIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GlaVal

open Idealize.ShloMosaic Idealize.ShloMosaic.TcCoe Idealize.SL.Sem Idealize.ShloMosaic.Pipeline Cert.GlaIdeal Cert.GlaIdeal.Gen
open Idealize.ShloMosaic.StableHlo

/-- Every row plus the row `k` above it, where there is one. -/
def shiftAdd (k : BitVec 32) (x : FVec Ideal S64x128 .f32) : FVec Ideal S64x128 .f32 :=
  addf x (select (cmpi .sge (iota .tc S64x128 32 [0] iota_S64x128_d0_w32) (broadcast S64x128 k)) (dynamicRotate 0 k none x rotates_S64x128_d0) (broadcast S64x128 (Scalar.ofBits .f32 0x00000000#32)))

/-- The running sums down the rows of one chunk, by doubling. -/
def cumV (x : FVec Ideal S64x128 .f32) : FVec Ideal S64x128 .f32 :=
  shiftAdd 32#32 (shiftAdd 16#32 (shiftAdd 8#32 (shiftAdd 4#32 (shiftAdd 2#32 (shiftAdd 1#32 x)))))

/-- The sums of the whole chunk. -/
def lastV (x : FVec Ideal S64x128 .f32) : FVec Ideal S1x128 .f32 :=
  extractStridedSlice S1x128 ![63, 0] (cumV x) slices_S64x128_o63_0_S1x128

/-- The queries, scaled and decayed from the chunk's start. -/
def qV (x : FVec Ideal S64x128 .f32) (q : FVec Ideal S64x128 .bf16) : FVec Ideal S64x128 .bf16 :=
  truncf .bf16 (mulf (mulf (extf .f32 q bitsLt_bf16_f32) (broadcast S64x128 (Scalar.ofBits .f32 0x3DB504F3#32))) (exp (cumV x))) bitsLt_bf16_f32

/-- The keys, decayed back to the chunk's start. -/
def kV (x : FVec Ideal S64x128 .f32) (k : FVec Ideal S64x128 .bf16) : FVec Ideal S64x128 .bf16 :=
  truncf .bf16 (mulf (extf .f32 k bitsLt_bf16_f32) (exp (subf (broadcast S64x128 (Scalar.ofBits .f32 0x00000000#32)) (cumV x)))) bitsLt_bf16_f32

/-- The state after a chunk, of the state before it. -/
def stV (x : FVec Ideal S64x128 .f32) (k : FVec Ideal S64x128 .bf16) (v : FVec Ideal S64x256 .bf16) (s : FVec Ideal S1x256x128 .f32) : FVec Ideal S1x256x128 .f32 :=
  shapeCast S1x256x128 (addf (mulf (shapeCast S256x128 s shapeCasts_S1x256x128_S256x128) (broadcastTo S256x128 (exp (lastV x)) broadcasts_S1x128_S256x128)) (matmul dot_S64x256_S64x128_S256x128_0_0_1_1_n_n none v (truncf .bf16 (mulf (extf .f32 k bitsLt_bf16_f32) (exp (subf (broadcastTo S64x128 (lastV x) broadcasts_S1x128_S64x128) (cumV x)))) bitsLt_bf16_f32) (constant S256x128 .f32 0x00000000#32))) shapeCasts_S256x128_S1x256x128

/-- A chunk's rows before the norm: within the chunk, and from the state before it. -/
def oV (x : FVec Ideal S64x128 .f32) (q k : FVec Ideal S64x128 .bf16) (v : FVec Ideal S64x256 .bf16) (s : FVec Ideal S1x256x128 .f32) : FVec Ideal S64x256 .f32 :=
  addf (matmul dot_S64x64_S64x256_S64x256_1_0_0_1_n_n none (truncf .bf16 (select (cmpi .sle (iota .tc S64x64 32 [1] iota_S64x64_d1_w32) (iota .tc S64x64 32 [0] iota_S64x64_d0_w32)) (matmul dot_S64x128_S64x128_S64x64_1_1_0_0_n_n none (qV x q) (kV x k) (constant S64x64 .f32 0x00000000#32)) (broadcast S64x64 (Scalar.ofBits .f32 0x00000000#32))) bitsLt_bf16_f32) v (constant S64x256 .f32 0x00000000#32)) (matmul dot_S64x128_S256x128_S64x256_1_1_0_0_n_n none (qV x q) (truncf .bf16 (shapeCast S256x128 s shapeCasts_S1x256x128_S256x128) bitsLt_bf16_f32) (constant S64x256 .f32 0x00000000#32))

/-- The norm of the rows, with its gain. -/
def rmsV (o : FVec Ideal S64x256 .f32) (og : FVec Ideal S1x256 .f32) : FVec Ideal S64x256 .f32 :=
  mulf (mulf o (broadcastTo S64x256 (rsqrt (addf (divf (shapeCast S64x1 (multiReduction .add [1] S64 (mulf o o) 0x00000000#32 reduces_S64x256_S64 (.inl rfl) rfl) shapeCasts_S64_S64x1) (broadcast S64x1 (Scalar.ofBits .f32 0x43800000#32))) (broadcast S64x1 (Scalar.ofBits .f32 0x358637BD#32)))) broadcasts_S64x1_S64x256)) (broadcastTo S64x256 (shapeCast S1x256 og shapeCasts_S1x256_S1x256) broadcasts_S1x256_S64x256)

/-- The gate on the normed rows. -/
def gateV (o : FVec Ideal S64x256 .f32) (r : FVec Ideal S64x256 .bf16) : FVec Ideal S64x256 .bf16 :=
  truncf .bf16 (mulf o (mulf (extf .f32 r bitsLt_bf16_f32) (divf (broadcast S64x256 (Scalar.ofBits .f32 0x3F800000#32)) (addf (broadcast S64x256 (Scalar.ofBits .f32 0x3F800000#32)) (exp (subf (broadcast S64x256 (Scalar.ofBits .f32 0x00000000#32)) (extf .f32 r bitsLt_bf16_f32))))))) bitsLt_bf16_f32

theorem slices_ch (c h : Fin 4) : S256x512.Slices ![64 * c.val, 128 * h.val] S64x128 := by revert c h; decide
theorem inb_qk (c h : Fin 4) : ∀ a, (![64 * c.val, 128 * h.val] : Fin 2 → Nat) a + S64x128.size a ≤ S256x512.size a := by revert c h; decide
theorem inb_v (c h : Fin 4) : ∀ a, (![64 * c.val, 256 * h.val] : Fin 2 → Nat) a + S64x256.size a ≤ S256x1024.size a := by revert c h; decide
theorem inb_s (h : Fin 4) : ∀ a, (![h.val, 0, 0] : Fin 3 → Nat) a + S1x256x128.size a ≤ S4x256x128.size a := by revert h; decide

/-- The place of a cell's keys and queries in their blocks, … -/
abbrev rqk (c h : Fin 4) : Rect S256x512 := Rect.unit ![64 * c.val, 128 * h.val] S64x128.size (inb_qk c h)
/-- … of its values and its output, … -/
abbrev rv (c h : Fin 4) : Rect S256x1024 := Rect.unit ![64 * c.val, 256 * h.val] S64x256.size (inb_v c h)
/-- … and of a head's state. -/
abbrev rs (h : Fin 4) : Rect S4x256x128 := Rect.unit ![h.val, 0, 0] S1x256x128.size (inb_s h)

/-- A cell's part of the log gates. -/
def lgC (lg : FVec Ideal S256x512 .f32) (c h : Fin 4) : FVec Ideal S64x128 .f32 :=
  extractStridedSlice S64x128 ![64 * c.val, 128 * h.val] lg (slices_ch c h)

/-- The state after chunk `c`, of the state before it. -/
def stC (lg : FVec Ideal S256x512 .f32) (x1 : FVec Ideal S256x512 .bf16) (x2 : FVec Ideal S256x1024 .bf16) (h c : Fin 4) (s : FVec Ideal S1x256x128 .f32) : FVec Ideal S1x256x128 .f32 :=
  stV (lgC lg c h) (View.ld (Val := Elt Ideal) (e' := .bf16) x1 (rqk c h)) (View.ld (Val := Elt Ideal) (e' := .bf16) x2 (rv c h)) s

/-- What a cell stores, of the state before it. -/
def outC (lg : FVec Ideal S256x512 .f32) (x0 x1 : FVec Ideal S256x512 .bf16) (x2 x3 : FVec Ideal S256x1024 .bf16) (og : FVec Ideal S1x256 .f32) (c h : Fin 4) (s : FVec Ideal S1x256x128 .f32) : FVec Ideal S64x256 .bf16 :=
  gateV (rmsV (oV (lgC lg c h) (View.ld (Val := Elt Ideal) (e' := .bf16) x0 (rqk c h)) (View.ld (Val := Elt Ideal) (e' := .bf16) x1 (rqk c h)) (View.ld (Val := Elt Ideal) (e' := .bf16) x2 (rv c h)) s) og) (View.ld (Val := Elt Ideal) (e' := .bf16) x3 (rv c h))

/-- The states before the four chunks of a point. -/
def sts (f : Fin 4 → FVec Ideal S1x256x128 .f32 → FVec Ideal S1x256x128 .f32) (s : FVec Ideal S1x256x128 .f32) : Fin 4 → FVec Ideal S1x256x128 .f32 :=
  ![s, f 0 s, f 1 (f 0 s), f 2 (f 1 (f 0 s))]

/-- The piece a cell stores. -/
abbrev pcO (lg : FVec Ideal S256x512 .f32) (x0 x1 : FVec Ideal S256x512 .bf16) (x2 x3 : FVec Ideal S256x1024 .bf16) (og : FVec Ideal S1x256 .f32) (s : Fin 4 → FVec Ideal S1x256x128 .f32) (c h : Fin 4) : View.Piece (Elt Ideal) S256x1024 .bf16 :=
  ⟨rv c h, outC lg x0 x1 x2 x3 og c h (sts (stC lg x1 x2 h) (s h) c)⟩

/-- The pieces all sixteen store, the last first. -/
def pcsO (lg : FVec Ideal S256x512 .f32) (x0 x1 : FVec Ideal S256x512 .bf16) (x2 x3 : FVec Ideal S256x1024 .bf16) (og : FVec Ideal S1x256 .f32) (s : Fin 4 → FVec Ideal S1x256x128 .f32) : List (View.Piece (Elt Ideal) S256x1024 .bf16) :=
  let p := pcO lg x0 x1 x2 x3 og s
  [p 3 3, p 3 2, p 3 1, p 3 0, p 2 3, p 2 2, p 2 1, p 2 0, p 1 3, p 1 2, p 1 1, p 1 0, p 0 3, p 0 2, p 0 1, p 0 0]

/-- The piece of a head's state after a point. -/
abbrev pcS (lg : FVec Ideal S256x512 .f32) (x1 : FVec Ideal S256x512 .bf16) (x2 : FVec Ideal S256x1024 .bf16) (s : Fin 4 → FVec Ideal S1x256x128 .f32) (h : Fin 4) : View.Piece (Elt Ideal) S4x256x128 .f32 :=
  ⟨rs h, stC lg x1 x2 h 3 (sts (stC lg x1 x2 h) (s h) 3)⟩

section Pieces

variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S4x256x128 .f32) (harg11 : arg11.IsWhole)
  (x0 : Vec Ideal S256x512 .bf16) (x1 : Vec Ideal S256x512 .bf16) (x2 : Vec Ideal S256x1024 .bf16) (x3 : Vec Ideal S256x1024 .bf16) (x4 : Vec Ideal S256x128 .f32) (x5 : Vec Ideal S128x512 .bf16) (x6 : Vec Ideal S1x512 .f32) (x7 : Vec Ideal S1x256 .f32) (xs0 : Vec Ideal S4x256x128 .f32)

/-- What the body stores in the output's block, on a point that carries the state, … -/
theorem out_B (hc0 : ¬cond0_0 i) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).1
      = pcsO (k0_pay2 x4 x5 x6) x0 x1 x2 x3 x7 (fun h => View.ld (Val := Elt Ideal) (e' := .f32) xs0 (rs h)) := by
  unfold kernelRun0_B
  dsimp only
  simp (disch := first | rfl | decide) only [
    kernelRun0_B.sl.HS0_15, kernelRun0_B.sl.HS0_14, kernelRun0_B.sl.HS0_13, kernelRun0_B.sl.HS0_12, kernelRun0_B.sl.HS0_11, kernelRun0_B.sl.HS0_10, kernelRun0_B.sl.HS0_9, kernelRun0_B.sl.HS0_8, kernelRun0_B.sl.HS0_7,
    kernelRun0_B.sl.HS0_6, kernelRun0_B.sl.HS0_5, kernelRun0_B.sl.HS0_4, kernelRun0_B.sl.r_4, kernelRun0_B.sl.r_3, kernelRun0_B.sl.r_1, kernelRun0_B.sl.v29, kernelRun0_B.sl.r_2, kernelRun0_B.sl.r_13,
    kernelRun0_B.sl.v196, kernelRun0_B.sl.r_12, kernelRun0_B.sl.r_11, kernelRun0_B.sl.r_8, kernelRun0_B.sl.r, kernelRun0_B.sl.r_9, kernelRun0_B.sl.v301, kernelRun0_B.sl.r_18, kernelRun0_B.sl.r_17, kernelRun0_B.sl.r_15,
    kernelRun0_B.sl.r_16, kernelRun0_B.sl.v406, kernelRun0_B.sl.r_26, kernelRun0_B.sl.r_25, kernelRun0_B.sl.r_22, kernelRun0_B.sl.r_21, kernelRun0_B.sl.r_23, kernelRun0_B.sl.r_33, kernelRun0_B.sl.v511,
    kernelRun0_B.sl.r_31, kernelRun0_B.sl.v616, kernelRun0_B.sl.r_37, kernelRun0_B.sl.r_36, kernelRun0_B.sl.r_34, kernelRun0_B.sl.r_35, kernelRun0_B.sl.r_46, kernelRun0_B.sl.v721, kernelRun0_B.sl.r_45,
    kernelRun0_B.sl.r_44, kernelRun0_B.sl.r_41, kernelRun0_B.sl.r_42, kernelRun0_B.sl.v826, kernelRun0_B.sl.r_51, kernelRun0_B.sl.r_50, kernelRun0_B.sl.r_48, kernelRun0_B.sl.r_49, kernelRun0_B.sl.v931,
    kernelRun0_B.sl.r_59, kernelRun0_B.sl.r_58, kernelRun0_B.sl.r_55, kernelRun0_B.sl.r_54, kernelRun0_B.sl.r_56, kernelRun0_B.sl.r_66, kernelRun0_B.sl.v1036, kernelRun0_B.sl.r_64, kernelRun0_B.sl.v1141,
    kernelRun0_B.sl.r_70, kernelRun0_B.sl.r_69, kernelRun0_B.sl.r_67, kernelRun0_B.sl.r_68, kernelRun0_B.sl.r_79, kernelRun0_B.sl.v1246, kernelRun0_B.sl.r_78, kernelRun0_B.sl.r_77, kernelRun0_B.sl.r_74,
    kernelRun0_B.sl.r_75, kernelRun0_B.sl.v1351, kernelRun0_B.sl.r_84, kernelRun0_B.sl.r_83, kernelRun0_B.sl.r_81, kernelRun0_B.sl.r_82, kernelRun0_B.sl.v1456, kernelRun0_B.sl.r_92, kernelRun0_B.sl.r_91,
    kernelRun0_B.sl.r_88, kernelRun0_B.sl.r_87, kernelRun0_B.sl.r_89, kernelRun0_B.sl.r_99, kernelRun0_B.sl.v1561, kernelRun0_B.sl.r_97, kernelRun0_B.sl.v1666, kernelRun0_B.sl.r_103, kernelRun0_B.sl.r_102,
    kernelRun0_B.sl.r_100, kernelRun0_B.sl.r_101, kernelRun0_B.sl.r_7, kernelRun0_B.sl.r_6, kernelRun0_B.sl.r_5, kernelRun0_B.sl.v27, kernelRun0_B.sl.v26, kernelRun0_B.sl.r_14, kernelRun0_B.sl.r_10, kernelRun0_B.sl.r_20,
    kernelRun0_B.sl.r_19, kernelRun0_B.sl.r_30, kernelRun0_B.sl.r_29, kernelRun0_B.sl.r_28, kernelRun0_B.sl.r_27, kernelRun0_B.sl.r_24, kernelRun0_B.sl.r_32, kernelRun0_B.sl.r_40, kernelRun0_B.sl.r_39,
    kernelRun0_B.sl.r_38, kernelRun0_B.sl.r_47, kernelRun0_B.sl.r_43, kernelRun0_B.sl.r_53, kernelRun0_B.sl.r_52, kernelRun0_B.sl.r_63, kernelRun0_B.sl.r_62, kernelRun0_B.sl.r_61, kernelRun0_B.sl.r_60,
    kernelRun0_B.sl.r_57, kernelRun0_B.sl.r_65, kernelRun0_B.sl.r_73, kernelRun0_B.sl.r_72, kernelRun0_B.sl.r_71, kernelRun0_B.sl.r_80, kernelRun0_B.sl.r_76, kernelRun0_B.sl.r_86, kernelRun0_B.sl.r_85,
    kernelRun0_B.sl.cst_190, kernelRun0_B.sl.r_96, kernelRun0_B.sl.r_95, kernelRun0_B.sl.r_94, kernelRun0_B.sl.r_93, kernelRun0_B.sl.r_90, kernelRun0_B.sl.r_98, kernelRun0_B.sl.r_107, kernelRun0_B.sl.r_106,
    kernelRun0_B.sl.r_105, kernelRun0_B.sl.r_104,
    ↓View.readCov_skip, View.readCov_cons_toLoadRect, View.readAt_eq_ld, Memref.IsWhole.read_unread, View.ld_unit_lit']
  rfl

/-- … what it leaves in the state there, … -/
theorem state_B (hc0 : ¬cond0_0 i) : ∃ L,
    (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).2.1
      = [3, 2, 1, 0].map (pcS (k0_pay2 x4 x5 x6) x1 x2 (fun h => View.ld (Val := Elt Ideal) (e' := .f32) xs0 (rs h))) ++ L := by
  unfold kernelRun0_B
  dsimp only
  simp (disch := first | rfl | decide) only [
    kernelRun0_B.sl.HS0_15, kernelRun0_B.sl.HS0_14, kernelRun0_B.sl.HS0_13, kernelRun0_B.sl.HS0_12, kernelRun0_B.sl.HS0_11, kernelRun0_B.sl.HS0_10, kernelRun0_B.sl.HS0_9, kernelRun0_B.sl.HS0_8, kernelRun0_B.sl.HS0_7,
    kernelRun0_B.sl.HS0_6, kernelRun0_B.sl.HS0_5, kernelRun0_B.sl.HS0_4, kernelRun0_B.sl.r_4, kernelRun0_B.sl.r_3, kernelRun0_B.sl.r_1, kernelRun0_B.sl.v29, kernelRun0_B.sl.r_2, kernelRun0_B.sl.r_13,
    kernelRun0_B.sl.v196, kernelRun0_B.sl.r_12, kernelRun0_B.sl.r_11, kernelRun0_B.sl.r_8, kernelRun0_B.sl.r, kernelRun0_B.sl.r_9, kernelRun0_B.sl.v301, kernelRun0_B.sl.r_18, kernelRun0_B.sl.r_17, kernelRun0_B.sl.r_15,
    kernelRun0_B.sl.r_16, kernelRun0_B.sl.v406, kernelRun0_B.sl.r_26, kernelRun0_B.sl.r_25, kernelRun0_B.sl.r_22, kernelRun0_B.sl.r_21, kernelRun0_B.sl.r_23, kernelRun0_B.sl.r_33, kernelRun0_B.sl.v511,
    kernelRun0_B.sl.r_31, kernelRun0_B.sl.v616, kernelRun0_B.sl.r_37, kernelRun0_B.sl.r_36, kernelRun0_B.sl.r_34, kernelRun0_B.sl.r_35, kernelRun0_B.sl.r_46, kernelRun0_B.sl.v721, kernelRun0_B.sl.r_45,
    kernelRun0_B.sl.r_44, kernelRun0_B.sl.r_41, kernelRun0_B.sl.r_42, kernelRun0_B.sl.v826, kernelRun0_B.sl.r_51, kernelRun0_B.sl.r_50, kernelRun0_B.sl.r_48, kernelRun0_B.sl.r_49, kernelRun0_B.sl.v931,
    kernelRun0_B.sl.r_59, kernelRun0_B.sl.r_58, kernelRun0_B.sl.r_55, kernelRun0_B.sl.r_54, kernelRun0_B.sl.r_56, kernelRun0_B.sl.r_66, kernelRun0_B.sl.v1036, kernelRun0_B.sl.r_64, kernelRun0_B.sl.v1141,
    kernelRun0_B.sl.r_70, kernelRun0_B.sl.r_69, kernelRun0_B.sl.r_67, kernelRun0_B.sl.r_68, kernelRun0_B.sl.r_79, kernelRun0_B.sl.v1246, kernelRun0_B.sl.r_78, kernelRun0_B.sl.r_77, kernelRun0_B.sl.r_74,
    kernelRun0_B.sl.r_75, kernelRun0_B.sl.v1351, kernelRun0_B.sl.r_84, kernelRun0_B.sl.r_83, kernelRun0_B.sl.r_81, kernelRun0_B.sl.r_82, kernelRun0_B.sl.v1456, kernelRun0_B.sl.r_92, kernelRun0_B.sl.r_91,
    kernelRun0_B.sl.r_88, kernelRun0_B.sl.r_87, kernelRun0_B.sl.r_89, kernelRun0_B.sl.r_99, kernelRun0_B.sl.v1561, kernelRun0_B.sl.r_97, kernelRun0_B.sl.v1666, kernelRun0_B.sl.r_103, kernelRun0_B.sl.r_102,
    kernelRun0_B.sl.r_100, kernelRun0_B.sl.r_101, kernelRun0_B.sl.r_7, kernelRun0_B.sl.r_6, kernelRun0_B.sl.r_5, kernelRun0_B.sl.v27, kernelRun0_B.sl.v26, kernelRun0_B.sl.r_14, kernelRun0_B.sl.r_10, kernelRun0_B.sl.r_20,
    kernelRun0_B.sl.r_19, kernelRun0_B.sl.r_30, kernelRun0_B.sl.r_29, kernelRun0_B.sl.r_28, kernelRun0_B.sl.r_27, kernelRun0_B.sl.r_24, kernelRun0_B.sl.r_32, kernelRun0_B.sl.r_40, kernelRun0_B.sl.r_39,
    kernelRun0_B.sl.r_38, kernelRun0_B.sl.r_47, kernelRun0_B.sl.r_43, kernelRun0_B.sl.r_53, kernelRun0_B.sl.r_52, kernelRun0_B.sl.r_63, kernelRun0_B.sl.r_62, kernelRun0_B.sl.r_61, kernelRun0_B.sl.r_60,
    kernelRun0_B.sl.r_57, kernelRun0_B.sl.r_65, kernelRun0_B.sl.r_73, kernelRun0_B.sl.r_72, kernelRun0_B.sl.r_71, kernelRun0_B.sl.r_80, kernelRun0_B.sl.r_76, kernelRun0_B.sl.r_86, kernelRun0_B.sl.r_85,
    kernelRun0_B.sl.cst_190, kernelRun0_B.sl.r_96, kernelRun0_B.sl.r_95, kernelRun0_B.sl.r_94, kernelRun0_B.sl.r_93, kernelRun0_B.sl.r_90, kernelRun0_B.sl.r_98, kernelRun0_B.sl.r_107, kernelRun0_B.sl.r_106,
    kernelRun0_B.sl.r_105, kernelRun0_B.sl.r_104,
    ↓View.readCov_skip, View.readCov_cons_toLoadRect, View.readAt_eq_ld, Memref.IsWhole.read_unread, View.ld_unit_lit']
  exact ⟨_, rfl⟩

/-- … and both on a point that resets it. -/
theorem out_A (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).1
      = pcsO (k0_pay2 x4 x5 x6) x0 x1 x2 x3 x7 (fun h => View.ld (Val := Elt Ideal) (e' := .f32) (k0_pay1 (F := Ideal)) (rs h)) := by
  unfold kernelRun0_A
  dsimp only
  simp (disch := first | rfl | decide) only [
    kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, kernelRun0_A.sl.HS0_9, kernelRun0_A.sl.HS0_8,
    kernelRun0_A.sl.HS0_7, kernelRun0_A.sl.HS0_6, kernelRun0_A.sl.HS0_5, kernelRun0_A.sl.HS0_4, kernelRun0_A.sl.HS0_3, kernelRun0_A.sl.HS0_2, kernelRun0_A.sl.HS0_1, kernelRun0_A.sl.v91, kernelRun0_A.sl.r_4,
    kernelRun0_A.sl.r_3, kernelRun0_A.sl.r_1, kernelRun0_A.sl.v29, kernelRun0_A.sl.r_2, kernelRun0_A.sl.r_13, kernelRun0_A.sl.v196, kernelRun0_A.sl.r_12, kernelRun0_A.sl.r_11, kernelRun0_A.sl.r_8, kernelRun0_A.sl.r,
    kernelRun0_A.sl.r_9, kernelRun0_A.sl.v301, kernelRun0_A.sl.r_18, kernelRun0_A.sl.r_17, kernelRun0_A.sl.r_15, kernelRun0_A.sl.r_16, kernelRun0_A.sl.v406, kernelRun0_A.sl.r_26, kernelRun0_A.sl.r_25,
    kernelRun0_A.sl.r_22, kernelRun0_A.sl.r_21, kernelRun0_A.sl.r_23, kernelRun0_A.sl.r_33, kernelRun0_A.sl.v511, kernelRun0_A.sl.r_31, kernelRun0_A.sl.v616, kernelRun0_A.sl.r_37, kernelRun0_A.sl.r_36,
    kernelRun0_A.sl.r_34, kernelRun0_A.sl.r_35, kernelRun0_A.sl.r_46, kernelRun0_A.sl.v721, kernelRun0_A.sl.r_45, kernelRun0_A.sl.r_44, kernelRun0_A.sl.r_41, kernelRun0_A.sl.r_42, kernelRun0_A.sl.v826,
    kernelRun0_A.sl.r_51, kernelRun0_A.sl.r_50, kernelRun0_A.sl.r_48, kernelRun0_A.sl.r_49, kernelRun0_A.sl.v931, kernelRun0_A.sl.r_59, kernelRun0_A.sl.r_58, kernelRun0_A.sl.r_55, kernelRun0_A.sl.r_54,
    kernelRun0_A.sl.r_56, kernelRun0_A.sl.r_66, kernelRun0_A.sl.v1036, kernelRun0_A.sl.r_64, kernelRun0_A.sl.v1141, kernelRun0_A.sl.r_70, kernelRun0_A.sl.r_69, kernelRun0_A.sl.r_67, kernelRun0_A.sl.r_68,
    kernelRun0_A.sl.r_79, kernelRun0_A.sl.v1246, kernelRun0_A.sl.r_78, kernelRun0_A.sl.r_77, kernelRun0_A.sl.r_74, kernelRun0_A.sl.r_75, kernelRun0_A.sl.v1351, kernelRun0_A.sl.r_84, kernelRun0_A.sl.r_83,
    kernelRun0_A.sl.r_81, kernelRun0_A.sl.r_82, kernelRun0_A.sl.v1456, kernelRun0_A.sl.r_92, kernelRun0_A.sl.r_91, kernelRun0_A.sl.r_88, kernelRun0_A.sl.r_87, kernelRun0_A.sl.r_89, kernelRun0_A.sl.r_99,
    kernelRun0_A.sl.v1561, kernelRun0_A.sl.r_97, kernelRun0_A.sl.v1666, kernelRun0_A.sl.r_103, kernelRun0_A.sl.r_102, kernelRun0_A.sl.r_100, kernelRun0_A.sl.r_101, kernelRun0_A.sl.r_7, kernelRun0_A.sl.r_6,
    kernelRun0_A.sl.r_5, kernelRun0_A.sl.v27, kernelRun0_A.sl.v26, kernelRun0_A.sl.r_14, kernelRun0_A.sl.r_10, kernelRun0_A.sl.r_20, kernelRun0_A.sl.r_19, kernelRun0_A.sl.r_30, kernelRun0_A.sl.r_29, kernelRun0_A.sl.r_28,
    kernelRun0_A.sl.r_27, kernelRun0_A.sl.r_24, kernelRun0_A.sl.r_32, kernelRun0_A.sl.r_40, kernelRun0_A.sl.r_39, kernelRun0_A.sl.r_38, kernelRun0_A.sl.r_47, kernelRun0_A.sl.r_43, kernelRun0_A.sl.r_53,
    kernelRun0_A.sl.r_52, kernelRun0_A.sl.r_63, kernelRun0_A.sl.r_62, kernelRun0_A.sl.r_61, kernelRun0_A.sl.r_60, kernelRun0_A.sl.r_57, kernelRun0_A.sl.r_65, kernelRun0_A.sl.r_73, kernelRun0_A.sl.r_72,
    kernelRun0_A.sl.r_71, kernelRun0_A.sl.r_80, kernelRun0_A.sl.r_76, kernelRun0_A.sl.r_86, kernelRun0_A.sl.r_85, kernelRun0_A.sl.cst_190, kernelRun0_A.sl.r_96, kernelRun0_A.sl.r_95, kernelRun0_A.sl.r_94,
    kernelRun0_A.sl.r_93, kernelRun0_A.sl.r_90, kernelRun0_A.sl.r_98, kernelRun0_A.sl.r_107, kernelRun0_A.sl.r_106, kernelRun0_A.sl.r_105, kernelRun0_A.sl.r_104,
    ↓View.readCov_skip, View.readCov_cons_toLoadRect, View.readCov_fill, View.readAt_eq_ld, Memref.IsWhole.read_unread, View.ld_unit_lit']
  rfl

theorem state_A (hc0 : cond0_0 i) : ∃ L,
    (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).2.1
      = [3, 2, 1, 0].map (pcS (k0_pay2 x4 x5 x6) x1 x2 (fun h => View.ld (Val := Elt Ideal) (e' := .f32) (k0_pay1 (F := Ideal)) (rs h))) ++ L := by
  unfold kernelRun0_A
  dsimp only
  simp (disch := first | rfl | decide) only [
    kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, kernelRun0_A.sl.HS0_9, kernelRun0_A.sl.HS0_8,
    kernelRun0_A.sl.HS0_7, kernelRun0_A.sl.HS0_6, kernelRun0_A.sl.HS0_5, kernelRun0_A.sl.HS0_4, kernelRun0_A.sl.HS0_3, kernelRun0_A.sl.HS0_2, kernelRun0_A.sl.HS0_1, kernelRun0_A.sl.v91, kernelRun0_A.sl.r_4,
    kernelRun0_A.sl.r_3, kernelRun0_A.sl.r_1, kernelRun0_A.sl.v29, kernelRun0_A.sl.r_2, kernelRun0_A.sl.r_13, kernelRun0_A.sl.v196, kernelRun0_A.sl.r_12, kernelRun0_A.sl.r_11, kernelRun0_A.sl.r_8, kernelRun0_A.sl.r,
    kernelRun0_A.sl.r_9, kernelRun0_A.sl.v301, kernelRun0_A.sl.r_18, kernelRun0_A.sl.r_17, kernelRun0_A.sl.r_15, kernelRun0_A.sl.r_16, kernelRun0_A.sl.v406, kernelRun0_A.sl.r_26, kernelRun0_A.sl.r_25,
    kernelRun0_A.sl.r_22, kernelRun0_A.sl.r_21, kernelRun0_A.sl.r_23, kernelRun0_A.sl.r_33, kernelRun0_A.sl.v511, kernelRun0_A.sl.r_31, kernelRun0_A.sl.v616, kernelRun0_A.sl.r_37, kernelRun0_A.sl.r_36,
    kernelRun0_A.sl.r_34, kernelRun0_A.sl.r_35, kernelRun0_A.sl.r_46, kernelRun0_A.sl.v721, kernelRun0_A.sl.r_45, kernelRun0_A.sl.r_44, kernelRun0_A.sl.r_41, kernelRun0_A.sl.r_42, kernelRun0_A.sl.v826,
    kernelRun0_A.sl.r_51, kernelRun0_A.sl.r_50, kernelRun0_A.sl.r_48, kernelRun0_A.sl.r_49, kernelRun0_A.sl.v931, kernelRun0_A.sl.r_59, kernelRun0_A.sl.r_58, kernelRun0_A.sl.r_55, kernelRun0_A.sl.r_54,
    kernelRun0_A.sl.r_56, kernelRun0_A.sl.r_66, kernelRun0_A.sl.v1036, kernelRun0_A.sl.r_64, kernelRun0_A.sl.v1141, kernelRun0_A.sl.r_70, kernelRun0_A.sl.r_69, kernelRun0_A.sl.r_67, kernelRun0_A.sl.r_68,
    kernelRun0_A.sl.r_79, kernelRun0_A.sl.v1246, kernelRun0_A.sl.r_78, kernelRun0_A.sl.r_77, kernelRun0_A.sl.r_74, kernelRun0_A.sl.r_75, kernelRun0_A.sl.v1351, kernelRun0_A.sl.r_84, kernelRun0_A.sl.r_83,
    kernelRun0_A.sl.r_81, kernelRun0_A.sl.r_82, kernelRun0_A.sl.v1456, kernelRun0_A.sl.r_92, kernelRun0_A.sl.r_91, kernelRun0_A.sl.r_88, kernelRun0_A.sl.r_87, kernelRun0_A.sl.r_89, kernelRun0_A.sl.r_99,
    kernelRun0_A.sl.v1561, kernelRun0_A.sl.r_97, kernelRun0_A.sl.v1666, kernelRun0_A.sl.r_103, kernelRun0_A.sl.r_102, kernelRun0_A.sl.r_100, kernelRun0_A.sl.r_101, kernelRun0_A.sl.r_7, kernelRun0_A.sl.r_6,
    kernelRun0_A.sl.r_5, kernelRun0_A.sl.v27, kernelRun0_A.sl.v26, kernelRun0_A.sl.r_14, kernelRun0_A.sl.r_10, kernelRun0_A.sl.r_20, kernelRun0_A.sl.r_19, kernelRun0_A.sl.r_30, kernelRun0_A.sl.r_29, kernelRun0_A.sl.r_28,
    kernelRun0_A.sl.r_27, kernelRun0_A.sl.r_24, kernelRun0_A.sl.r_32, kernelRun0_A.sl.r_40, kernelRun0_A.sl.r_39, kernelRun0_A.sl.r_38, kernelRun0_A.sl.r_47, kernelRun0_A.sl.r_43, kernelRun0_A.sl.r_53,
    kernelRun0_A.sl.r_52, kernelRun0_A.sl.r_63, kernelRun0_A.sl.r_62, kernelRun0_A.sl.r_61, kernelRun0_A.sl.r_60, kernelRun0_A.sl.r_57, kernelRun0_A.sl.r_65, kernelRun0_A.sl.r_73, kernelRun0_A.sl.r_72,
    kernelRun0_A.sl.r_71, kernelRun0_A.sl.r_80, kernelRun0_A.sl.r_76, kernelRun0_A.sl.r_86, kernelRun0_A.sl.r_85, kernelRun0_A.sl.cst_190, kernelRun0_A.sl.r_96, kernelRun0_A.sl.r_95, kernelRun0_A.sl.r_94,
    kernelRun0_A.sl.r_93, kernelRun0_A.sl.r_90, kernelRun0_A.sl.r_98, kernelRun0_A.sl.r_107, kernelRun0_A.sl.r_106, kernelRun0_A.sl.r_105, kernelRun0_A.sl.r_104,
    ↓View.readCov_skip, View.readCov_cons_toLoadRect, View.readCov_fill, View.readAt_eq_ld, Memref.IsWhole.read_unread, View.ld_unit_lit']
  exact ⟨_, rfl⟩

end Pieces

end Cert.GlaVal
-- ==== Proof.GlaApply.lean ====
/-
The gated linear attention kernel's cells, entry by entry.
-/
module

public import proofs.«01_k».proof.Proof.GlaCell
public import Idealize.ShloMosaic.Lib.KernelVsHost

@[expose] public section

set_option maxRecDepth 16384

noncomputable section

namespace Cert.GlaVal

open Idealize.ShloMosaic Idealize.ShloMosaic.TcCoe Idealize.SL.Sem Idealize.ShloMosaic.Pipeline Cert.GlaIdeal Cert.GlaIdeal.Gen
open Idealize.ShloMosaic.StableHlo

/-- The sum of the `n` entries ending at `r`, those there are. -/
def tail (x : ℕ → EReal) (n r : ℕ) : EReal := ∑ j ∈ Finset.range n, if j ≤ r then x (r - j) else 0

theorem tail_one (x : ℕ → EReal) (r : ℕ) : tail x 1 r = x r := by
  unfold tail
  rw [Finset.sum_range_one, if_pos (Nat.zero_le r), Nat.sub_zero]

theorem tail_double (x : ℕ → EReal) (n r : ℕ) : (tail x n r + if n ≤ r then tail x n (r - n) else 0) = tail x (n + n) r := by
  unfold tail
  rw [Finset.sum_range_add]
  congr 1
  by_cases h : n ≤ r
  · rw [if_pos h]
    refine Finset.sum_congr rfl fun j hj => ?_
    rw [Nat.sub_sub]
    exact if_congr (by omega) rfl rfl
  · rw [if_neg h]
    exact (Finset.sum_eq_zero fun j hj => if_neg (by omega)).symm

/-- A column of a chunk, by row. -/
def col (x : FVec Ideal S64x128 .f32) (d : Fin 128) (r : ℕ) : EReal := if h : r < 64 then x (ix2 (⟨r, h⟩ : Fin 64) d) else 0

theorem shiftAdd_apply (n : ℕ) (hn : n < 64) (x : FVec Ideal S64x128 .f32) (r : Fin 64) (d : Fin 128) :
    shiftAdd (BitVec.ofNat 32 n) x (ix2 r d) = (x (ix2 r d) + if n ≤ r.val then col x d (r.val - n) else 0 : EReal) := by
  have hr := r.isLt
  have hk : (BitVec.ofNat 32 n).toNat = n := by rw [BitVec.toNat_ofNat, Nat.mod_eq_of_lt (by omega)]
  have e : IntOp.cmpi .sge (BitVec.ofNat 32 r.val) (BitVec.ofNat 32 n) = BitVec.ofBool (decide (n ≤ r.val)) :=
    WordCmp.cmpi_sge_ofNat (by omega) (by omega)
  pointwise [shiftAdd]
  rw [e]
  by_cases h : n ≤ r.val
  · rw [if_pos h, decide_eq_true h]
    have hi : (r.val + 64 - (BitVec.ofNat 32 n).toNat % 64) % 64 = r.val - n := by
      rw [hk, Nat.mod_eq_of_lt hn, show r.val + 64 - n = (r.val - n) + 64 by omega, Nat.add_mod_right, Nat.mod_eq_of_lt (by omega)]
    unfold col
    rw [dif_pos (by omega)]
    refine congrArg (fun z : EReal => (x (ix2 r d) + z : EReal)) ?_
    exact congrArg (fun i : Fin 64 => x (ix2 i d)) (Fin.ext hi)
  · rw [if_neg h, decide_eq_false h]
    rfl

theorem shiftAdd_tail (n : ℕ) (hn : n < 64) (x y : FVec Ideal S64x128 .f32) (d : Fin 128) (h : ∀ r : Fin 64, y (ix2 r d) = tail (col x d) n r.val) (r : Fin 64) :
    shiftAdd (BitVec.ofNat 32 n) y (ix2 r d) = tail (col x d) (n + n) r.val := by
  have hr := r.isLt
  rw [shiftAdd_apply n hn, h r, ← tail_double]
  refine congrArg (fun z : EReal => (tail (col x d) n r.val + z : EReal)) ?_
  by_cases hc : n ≤ r.val
  · rw [if_pos hc, if_pos hc, col, dif_pos (by omega)]
    exact h ⟨r.val - n, by omega⟩
  · rw [if_neg hc, if_neg hc]

/-- A row of running sums: the entries down to it. -/
def cumM (x : Fin 64 → EReal) (r : Fin 64) : EReal := ∑ j : Fin 64, if j.val ≤ r.val then x j else 0

theorem tail_col (x : FVec Ideal S64x128 .f32) (d : Fin 128) (r : Fin 64) : tail (col x d) 64 r.val = cumM (fun i => x (ix2 i d)) r := by
  have hr := r.isLt
  unfold tail cumM
  have e : ∀ j ∈ Finset.range 64, (if j ≤ r.val then col x d (r.val - j) else 0 : EReal) = if j ≤ r.val then col x d (r.val - j) else 0 := fun _ _ => rfl
  rw [← Finset.sum_filter, ← Finset.sum_filter]
  refine Finset.sum_bij' (fun j hj => (⟨r.val - j, by omega⟩ : Fin 64)) (fun i hi => r.val - i.val) ?_ ?_ ?_ ?_ ?_
  · intro j hj
    simp only [Finset.mem_filter, Finset.mem_univ, true_and]
    omega
  · intro i hi
    simp only [Finset.mem_filter, Finset.mem_univ, true_and] at hi
    simp only [Finset.mem_filter, Finset.mem_range]
    have := i.isLt
    omega
  · intro j hj
    simp only [Finset.mem_filter, Finset.mem_range] at hj
    show r.val - (r.val - j) = j
    omega
  · intro i hi
    simp only [Finset.mem_filter, Finset.mem_univ, true_and] at hi
    exact Fin.ext (show r.val - (r.val - i.val) = i.val by omega)
  · intro j hj
    exact dif_pos _

theorem cumV_apply (x : FVec Ideal S64x128 .f32) (r : Fin 64) (d : Fin 128) : cumV x (ix2 r d) = cumM (fun i => x (ix2 i d)) r := by
  have h0 : ∀ r : Fin 64, x (ix2 r d) = tail (col x d) 1 r.val := fun r => by
    rw [tail_one, col, dif_pos r.isLt]
  refine Eq.trans ?_ (tail_col x d r)
  exact shiftAdd_tail 32 (by decide) x _ d (shiftAdd_tail 16 (by decide) x _ d (shiftAdd_tail 8 (by decide) x _ d
    (shiftAdd_tail 4 (by decide) x _ d (shiftAdd_tail 2 (by decide) x _ d (shiftAdd_tail 1 (by decide) x _ d h0))))) r

theorem lastV_apply (x : FVec Ideal S64x128 .f32) (d : Fin 128) : lastV x (ix2 0 d) = cumM (fun i => x (ix2 i d)) 63 := by
  refine Eq.trans ?_ (cumV_apply x 63 d)
  pointwise [lastV]

theorem qV_apply (x : FVec Ideal S64x128 .f32) (q : FVec Ideal S64x128 .bf16) (r : Fin 64) (d : Fin 128) :
    qV x q (ix2 r d) = (q (ix2 r d) * Ideal.ofBits .f32 0x3DB504F3#32 * Ideal.exp (cumM (fun i => x (ix2 i d)) r) : EReal) := by
  pointwise [qV]
  rw [cumV_apply]

theorem kV_apply (x : FVec Ideal S64x128 .f32) (k : FVec Ideal S64x128 .bf16) (r : Fin 64) (d : Fin 128) :
    kV x k (ix2 r d) = (k (ix2 r d) * Ideal.exp (- cumM (fun i => x (ix2 i d)) r) : EReal) := by
  pointwise [kV]
  simp only [cumV_apply, zero_sub]

theorem stV_apply (x : FVec Ideal S64x128 .f32) (k : FVec Ideal S64x128 .bf16) (v : FVec Ideal S64x256 .bf16) (s : FVec Ideal S1x256x128 .f32) (e : Fin 256) (d : Fin 128) :
    stV x k v s (ix3 0 e d) = (s (ix3 0 e d) * Ideal.exp (cumM (fun i => x (ix2 i d)) 63) + ∑ r : Fin 64, v (ix2 r e) * (k (ix2 r d) * Ideal.exp (cumM (fun i => x (ix2 i d)) 63 - cumM (fun i => x (ix2 i d)) r)) : EReal) := by
  pointwise [stV]
  simp only [cumV_apply, lastV_apply]

theorem oV_apply (x : FVec Ideal S64x128 .f32) (q k : FVec Ideal S64x128 .bf16) (v : FVec Ideal S64x256 .bf16) (s : FVec Ideal S1x256x128 .f32) (r : Fin 64) (e : Fin 256) :
    oV x q k v s (ix2 r e) = ((∑ j : Fin 64, (if j.val ≤ r.val then ∑ d : Fin 128, qV x q (ix2 r d) * kV x k (ix2 j d) else 0) * v (ix2 j e)) + ∑ d : Fin 128, qV x q (ix2 r d) * s (ix3 0 e d) : EReal) := by
  have hr := r.isLt
  have w : ∀ j : Fin 64, IntOp.cmpi .sle (BitVec.ofNat 32 j.val) (BitVec.ofNat 32 r.val) = BitVec.ofBool (decide (j.val ≤ r.val)) :=
    fun j => WordCmp.cmpi_sle_ofNat (by have := j.isLt; omega) (by omega)
  pointwise [oV]
  refine congrArg (fun z : EReal => (z + ∑ d : Fin 128, qV x q (ix2 r d) * s (ix3 0 e d) : EReal)) ?_
  refine Finset.sum_congr rfl fun j _ => ?_
  rw [w j]
  by_cases h : j.val ≤ r.val
  · rw [if_pos h, decide_eq_true h]
    rfl
  · rw [if_neg h, decide_eq_false h, zero_mul]
    rfl

/-- A normed and gated entry of a row. -/
def fin (o : Fin 256 → EReal) (g r : EReal) (e : Fin 256) : EReal :=
  o e * Ideal.rsqrt (Ideal.div (∑ i : Fin 256, o i * o i) (Ideal.ofBits .f32 0x43800000#32) + Ideal.ofBits .f32 0x358637BD#32) * g * (r * Ideal.div 1 (1 + Ideal.exp (-r)))

theorem gateV_apply (o : FVec Ideal S64x256 .f32) (og : FVec Ideal S1x256 .f32) (g : FVec Ideal S64x256 .bf16) (r : Fin 64) (e : Fin 256) :
    gateV (rmsV o og) g (ix2 r e) = fin (fun i => o (ix2 r i)) (og (ix2 0 e)) (g (ix2 r e)) e := by
  pointwise [gateV, rmsV]
  unfold fin
  simp only [zero_sub]

/-- A log gate of the pre-activation. -/
def lgM (g : EReal) : EReal := - (max (-g) 0 + Ideal.log1p (Ideal.exp (-(FloatOps.absf (F := Ideal) (φ := .f32) (-g))))) * Ideal.ofBits .f32 0x3D800000#32

theorem lg_apply (gx : FVec Ideal S256x128 .f32) (w : FVec Ideal S128x512 .bf16) (b : FVec Ideal S1x512 .f32) (r : Fin 256) (n : Fin 512) :
    k0_pay2 (F := Ideal) gx w b (ix2 r n) = lgM ((∑ k : Fin 128, gx (ix2 r k) * w (ix2 k n)) + b (ix2 0 n)) := by
  pointwise [k0_pay2]
  unfold lgM
  simp only [zero_sub]

end Cert.GlaVal
-- ==== Proof.GlaSpec.lean ====
/-
Gated linear attention as the two programs compute it, of the projection's entries and the log gates: the running sums
within a chunk, the state before every chunk, and a result's entry.
-/
module

public import proofs.«01_k».proof.Proof.GlaApply

@[expose] public section

noncomputable section

namespace Cert.GlaVal

open Idealize.ShloMosaic

/-- A token's row. -/
def rowM (b : Fin 8) (n r : Fin 64) : Fin 32768 := ⟨b.val * 4096 + (n.val * 64 + r.val), by omega⟩
/-- A head's column, the keys' width … -/
def colK (h : Fin 4) (d : Fin 128) : Fin 512 := ⟨h.val * 128 + d.val, by omega⟩
/-- … and the values'. -/
def colV (h : Fin 4) (e : Fin 256) : Fin 1024 := ⟨h.val * 256 + e.val, by omega⟩
/-- Columns of the projection: the queries', … -/
def cQ (h : Fin 4) (d : Fin 128) : Fin 3072 := ⟨h.val * 128 + d.val, by omega⟩
/-- … the keys', … -/
def cK (h : Fin 4) (d : Fin 128) : Fin 3072 := ⟨512 + (h.val * 128 + d.val), by omega⟩
/-- … the values' … -/
def cV (h : Fin 4) (e : Fin 256) : Fin 3072 := ⟨1024 + (h.val * 256 + e.val), by omega⟩
/-- … and the gates'. -/
def cR (h : Fin 4) (e : Fin 256) : Fin 3072 := ⟨2048 + (h.val * 256 + e.val), by omega⟩

section Of

variable (P : Fin 32768 → Fin 3072 → EReal) (L : Fin 32768 → Fin 512 → EReal) (og : Fin 256 → EReal) (b : Fin 8) (h : Fin 4)

/-- The running sums of a chunk's log gates. -/
def cumP (n r : Fin 64) (d : Fin 128) : EReal := cumM (fun j => L (rowM b n j) (colK h d)) r
/-- The decayed queries … -/
def qP (n r : Fin 64) (d : Fin 128) : EReal := P (rowM b n r) (cQ h d) * Ideal.ofBits .f32 0x3DB504F3#32 * Ideal.exp (cumP L b h n r d)
/-- … and the keys, decayed back. -/
def kP (n r : Fin 64) (d : Fin 128) : EReal := P (rowM b n r) (cK h d) * Ideal.exp (-cumP L b h n r d)
/-- What a chunk adds to the state. -/
def kvP (n : Fin 64) (d : Fin 128) (e : Fin 256) : EReal :=
  ∑ r : Fin 64, P (rowM b n r) (cV h e) * (P (rowM b n r) (cK h d) * Ideal.exp (cumP L b h n 63 d - cumP L b h n r d))
/-- The state before chunk `k`. -/
def stP (d : Fin 128) (e : Fin 256) : ℕ → EReal
  | 0 => 0
  | k + 1 => if hk : k < 64 then stP d e k * Ideal.exp (cumP L b h ⟨k, hk⟩ 63 d) + kvP P L b h ⟨k, hk⟩ d e else 0
/-- A row before the norm. -/
def oP (n r : Fin 64) (e : Fin 256) : EReal :=
  (∑ j : Fin 64, (if j.val ≤ r.val then ∑ d : Fin 128, qP P L b h n r d * kP P L b h n j d else 0) * P (rowM b n j) (cV h e)) + ∑ d : Fin 128, qP P L b h n r d * stP P L b h d e n.val
/-- A result. -/
def resP (n r : Fin 64) (e : Fin 256) : EReal := fin (fun i => oP P L b h n r i) (og e) (P (rowM b n r) (cR h e)) e

end Of

end Cert.GlaVal
-- ==== Proof.GlaStep.lean ====
/-
One grid point of the gated linear attention: four chunks and four heads, of the states before them.
-/
module

public import proofs.«01_k».proof.Proof.GlaSpec
public import Idealize.ShloMosaic.Lib.Pipeline.ReadBack
public import Idealize.ShloMosaic.Lib.Pipeline.ValueKit

@[expose] public section

set_option maxRecDepth 16384

noncomputable section

namespace Cert.GlaVal

open Idealize.ShloMosaic Idealize.ShloMosaic.TcCoe Idealize.SL.Sem Idealize.ShloMosaic.Pipeline Cert.GlaIdeal Cert.GlaIdeal.Gen
open Idealize.ShloMosaic.StableHlo

/-- A chunk of a point. -/
def ch (j : Fin 16) (c : Fin 4) : Fin 64 := ⟨4 * j.val + c.val, by omega⟩
/-- A row of a point's blocks, … -/
def rB (c : Fin 4) (r : Fin 64) : Fin 256 := ⟨64 * c.val + r.val, by omega⟩
/-- … and a column, the keys' width … -/
def kB (h : Fin 4) (d : Fin 128) : Fin 512 := ⟨128 * h.val + d.val, by omega⟩
/-- … and the values'. -/
def vB (h : Fin 4) (e : Fin 256) : Fin 1024 := ⟨256 * h.val + e.val, by omega⟩

theorem emb_qk (c h : Fin 4) (r : Fin 64) (d : Fin 128) : (rqk c h).emb (ix2 r d) = ix2 (rB c r) (kB h d) := by
  funext a
  fin_cases a
  · exact Fin.ext (by show 64 * c.val + 1 * r.val = 64 * c.val + r.val; omega)
  · exact Fin.ext (by show 128 * h.val + 1 * d.val = 128 * h.val + d.val; omega)
theorem emb_v (c h : Fin 4) (r : Fin 64) (e : Fin 256) : (rv c h).emb (ix2 r e) = ix2 (rB c r) (vB h e) := by
  funext a
  fin_cases a
  · exact Fin.ext (by show 64 * c.val + 1 * r.val = 64 * c.val + r.val; omega)
  · exact Fin.ext (by show 256 * h.val + 1 * e.val = 256 * h.val + e.val; omega)
theorem emb_s (h : Fin 4) (e : Fin 256) (d : Fin 128) : (rs h).emb (ix3 0 e d) = ix3 h e d := by
  funext a
  fin_cases a
  · exact Fin.ext (by show h.val + 1 * 0 = h.val; omega)
  · exact Fin.ext (by show 0 + 1 * e.val = e.val; omega)
  · exact Fin.ext (by show 0 + 1 * d.val = d.val; omega)

theorem ld_qk (x : FVec Ideal S256x512 .bf16) (c h : Fin 4) (r : Fin 64) (d : Fin 128) : View.ld (Val := Elt Ideal) (e' := .bf16) x (rqk c h) (ix2 r d) = x (ix2 (rB c r) (kB h d)) :=
  congrArg x (emb_qk c h r d)
theorem ld_v (x : FVec Ideal S256x1024 .bf16) (c h : Fin 4) (r : Fin 64) (e : Fin 256) : View.ld (Val := Elt Ideal) (e' := .bf16) x (rv c h) (ix2 r e) = x (ix2 (rB c r) (vB h e)) :=
  congrArg x (emb_v c h r e)
theorem ld_s (x : FVec Ideal S4x256x128 .f32) (h : Fin 4) (e : Fin 256) (d : Fin 128) : View.ld (Val := Elt Ideal) (e' := .f32) x (rs h) (ix3 0 e d) = x (ix3 h e d) :=
  congrArg x (emb_s h e d)
theorem lgC_apply (lg : FVec Ideal S256x512 .f32) (c h : Fin 4) (r : Fin 64) (d : Fin 128) : lgC lg c h (ix2 r d) = lg (ix2 (rB c r) (kB h d)) := by
  unfold lgC
  pointwise
  rfl

/-- The results, by row and column. -/
def resAt (P : Fin 32768 → Fin 3072 → EReal) (L : Fin 32768 → Fin 512 → EReal) (og : Fin 256 → EReal) (R : Fin 32768) (C : Fin 1024) : EReal :=
  resP P L og (⟨R.val / 4096, by omega⟩ : Fin 8) (⟨C.val / 256, by omega⟩ : Fin 4) (⟨R.val % 4096 / 64, by omega⟩ : Fin 64) (⟨R.val % 64, by omega⟩ : Fin 64) (⟨C.val % 256, by omega⟩ : Fin 256)

theorem resAt_eq (P : Fin 32768 → Fin 3072 → EReal) (L : Fin 32768 → Fin 512 → EReal) (og : Fin 256 → EReal) (b : Fin 8) (h : Fin 4) (n r : Fin 64) (e : Fin 256) :
    resAt P L og (rowM b n r) (colV h e) = resP P L og b h n r e := by
  unfold resAt rowM colV
  congr 1
  · exact Fin.ext (by show (b.val * 4096 + (n.val * 64 + r.val)) / 4096 = b.val; omega)
  · exact Fin.ext (by show (h.val * 256 + e.val) / 256 = h.val; omega)
  · exact Fin.ext (by show (b.val * 4096 + (n.val * 64 + r.val)) % 4096 / 64 = n.val; omega)
  · exact Fin.ext (by show (b.val * 4096 + (n.val * 64 + r.val)) % 64 = r.val; omega)
  · exact Fin.ext (by show (h.val * 256 + e.val) % 256 = e.val; omega)

section Point

variable (P : Fin 32768 → Fin 3072 → EReal) (L : Fin 32768 → Fin 512 → EReal) (og : Fin 256 → EReal) (b : Fin 8) (j : Fin 16)

/-- The blocks a point reads, of the arguments. -/
structure Reads (lg : FVec Ideal S256x512 .f32) (x0 x1 : FVec Ideal S256x512 .bf16) (x2 x3 : FVec Ideal S256x1024 .bf16) (x7 : FVec Ideal S1x256 .f32) : Prop where
  lg : ∀ c h r d, lg (ix2 (rB c r) (kB h d)) = L (rowM b (ch j c) r) (colK h d)
  q : ∀ c h r d, x0 (ix2 (rB c r) (kB h d)) = P (rowM b (ch j c) r) (cQ h d)
  k : ∀ c h r d, x1 (ix2 (rB c r) (kB h d)) = P (rowM b (ch j c) r) (cK h d)
  v : ∀ c h r e, x2 (ix2 (rB c r) (vB h e)) = P (rowM b (ch j c) r) (cV h e)
  r : ∀ c h r e, x3 (ix2 (rB c r) (vB h e)) = P (rowM b (ch j c) r) (cR h e)
  og : ∀ e, x7 (ix2 0 e) = og e

variable {P L og b j} {lg : FVec Ideal S256x512 .f32} {x0 x1 : FVec Ideal S256x512 .bf16} {x2 x3 : FVec Ideal S256x1024 .bf16} {x7 : FVec Ideal S1x256 .f32} (H : Reads P L og b j lg x0 x1 x2 x3 x7)
include H

theorem cum_eq (c h : Fin 4) (r : Fin 64) (d : Fin 128) : cumM (fun i => lgC lg c h (ix2 i d)) r = cumP L b h (ch j c) r d := by
  unfold cumP
  exact congrArg (fun f => cumM f r) (funext fun i => (lgC_apply lg c h i d).trans (H.lg c h i d))

theorem stC_eq (c h : Fin 4) (s : FVec Ideal S1x256x128 .f32) (hs : ∀ e d, s (ix3 0 e d) = stP P L b h d e (ch j c).val) (e : Fin 256) (d : Fin 128) :
    stC lg x1 x2 h c s (ix3 0 e d) = stP P L b h d e ((ch j c).val + 1) := by
  unfold stC
  rw [stV_apply, hs, stP, dif_pos (ch j c).isLt, cum_eq H]
  unfold kvP
  refine congrArg₂ (fun y z : EReal => (y + z : EReal)) rfl (Finset.sum_congr rfl fun r _ => ?_)
  rw [ld_v, ld_qk, H.v, H.k, cum_eq H]

theorem sts_eq (h : Fin 4) (s : FVec Ideal S1x256x128 .f32) (hs : ∀ e d, s (ix3 0 e d) = stP P L b h d e (4 * j.val)) (c : Fin 4) (e : Fin 256) (d : Fin 128) :
    sts (stC lg x1 x2 h) s c (ix3 0 e d) = stP P L b h d e (ch j c).val := by
  have h1 := stC_eq H 0 h s hs
  have h2 := stC_eq H 1 h _ h1
  have h3 := stC_eq H 2 h _ h2
  fin_cases c
  · exact hs e d
  · exact h1 e d
  · exact h2 e d
  · exact h3 e d

theorem outC_eq (h : Fin 4) (s : FVec Ideal S1x256x128 .f32) (hs : ∀ e d, s (ix3 0 e d) = stP P L b h d e (4 * j.val)) (c : Fin 4) (r : Fin 64) (e : Fin 256) :
    outC lg x0 x1 x2 x3 x7 c h (sts (stC lg x1 x2 h) s c) (ix2 r e) = resP P L og b h (ch j c) r e := by
  unfold outC resP
  rw [gateV_apply, H.og, ld_v, H.r]
  refine congrArg (fun o => fin o (og e) _ e) (funext fun i => ?_)
  rw [oV_apply]
  unfold oP
  have hq : ∀ d, qV (lgC lg c h) (View.ld (Val := Elt Ideal) (e' := .bf16) x0 (rqk c h)) (ix2 r d) = qP P L b h (ch j c) r d := fun d => by
    rw [qV_apply, ld_qk, H.q, cum_eq H]
    rfl
  refine congrArg₂ (fun y z : EReal => (y + z : EReal)) (Finset.sum_congr rfl fun i' _ => ?_) (Finset.sum_congr rfl fun d _ => ?_)
  · rw [ld_v, H.v]
    refine congrArg (fun z : EReal => z * _) (if_congr Iff.rfl (Finset.sum_congr rfl fun d _ => ?_) rfl)
    rw [hq, kV_apply, ld_qk, H.k, cum_eq H]
    rfl
  · rw [hq, sts_eq H h s hs]

/-- What the pieces leave in the output's block. -/
theorem outs_eq (ss : Fin 4 → FVec Ideal S1x256x128 .f32) (hs : ∀ h e d, ss h (ix3 0 e d) = stP P L b h d e (4 * j.val)) (ρ : Fin 256) (γ : Fin 1024) :
    View.canon (Val := Elt Ideal) (pcsO lg x0 x1 x2 x3 x7 ss) (ix2 ρ γ) = resAt P L og ⟨b.val * 4096 + (256 * j.val + ρ.val), by omega⟩ γ := by
  let cells : List (Fin 4 × Fin 4) := [(3, 3), (3, 2), (3, 1), (3, 0), (2, 3), (2, 2), (2, 1), (2, 0), (1, 3), (1, 2), (1, 1), (1, 0), (0, 3), (0, 2), (0, 1), (0, 0)]
  have ep : pcsO lg x0 x1 x2 x3 x7 ss = cells.map (fun p => pcO lg x0 x1 x2 x3 x7 ss p.1 p.2) ++ [] := rfl
  rw [ep]
  refine (View.canon_append_of_pieces (Val := Elt Ideal) (e := .bf16)
    (fun y : S256x1024.Idx => resAt P L og ⟨b.val * 4096 + (256 * j.val + (y 0).val), by have : (y 0).val < 256 := (y 0).isLt; omega⟩ (⟨(y 1).val, (y 1).isLt⟩ : Fin 1024)) [] _ ?_ _ ?_).trans rfl
  · intro p hp
    obtain ⟨⟨c, h⟩, _, rfl⟩ := List.mem_map.mp hp
    intro y
    obtain ⟨r, e, rfl⟩ : ∃ (r : Fin 64) (e : Fin 256), y = ix2 r e := ⟨⟨(y 0).val, (y 0).isLt⟩, ⟨(y 1).val, (y 1).isLt⟩, by
      funext a
      fin_cases a <;> rfl⟩
    refine (outC_eq H h _ (hs h) c r e).trans ?_
    rw [← resAt_eq]
    show _ = resAt P L og ⟨b.val * 4096 + (256 * j.val + ((rv c h).emb (ix2 r e) 0).val), _⟩ ⟨((rv c h).emb (ix2 r e) 1).val, _⟩
    refine congrArg₂ (resAt P L og) (Fin.ext ?_) (Fin.ext ?_)
    · show b.val * 4096 + ((4 * j.val + c.val) * 64 + r.val) = b.val * 4096 + (256 * j.val + (64 * c.val + 1 * r.val))
      omega
    · show h.val * 256 + e.val = 256 * h.val + 1 * e.val
      omega
  · have hρ := ρ.isLt
    have hγ := γ.isLt
    refine ⟨pcO lg x0 x1 x2 x3 x7 ss (⟨ρ.val / 64, by omega⟩ : Fin 4) (⟨γ.val / 256, by omega⟩ : Fin 4), List.mem_map.mpr ⟨((⟨ρ.val / 64, by omega⟩ : Fin 4), (⟨γ.val / 256, by omega⟩ : Fin 4)), ?_, rfl⟩, ?_⟩
    · exact (by decide : ∀ c h : Fin 4, (c, h) ∈ ([(3, 3), (3, 2), (3, 1), (3, 0), (2, 3), (2, 2), (2, 1), (2, 0), (1, 3), (1, 2), (1, 1), (1, 0), (0, 3), (0, 2), (0, 1), (0, 0)] : List (Fin 4 × Fin 4))) _ _
    · refine (LoadRect.mem_set _).mpr fun a => ?_
      fin_cases a
      · exact ⟨ρ.val % 64, Nat.mod_lt _ (by decide), by show ρ.val = 64 * (ρ.val / 64) + 1 * (ρ.val % 64); omega⟩
      · exact ⟨γ.val % 256, Nat.mod_lt _ (by decide), by show γ.val = 256 * (γ.val / 256) + 1 * (γ.val % 256); omega⟩

/-- What they leave in the state. -/
theorem states_eq (ss : Fin 4 → FVec Ideal S1x256x128 .f32) (hs : ∀ h e d, ss h (ix3 0 e d) = stP P L b h d e (4 * j.val)) (M : List (View.Piece (Elt Ideal) S4x256x128 .f32)) (h : Fin 4) (e : Fin 256) (d : Fin 128) :
    View.canon (Val := Elt Ideal) ([3, 2, 1, 0].map (pcS lg x1 x2 ss) ++ M) (ix3 h e d) = stP P L b h d e (4 * j.val + 4) := by
  refine (View.canon_append_of_piecesOf (Val := Elt Ideal) (e := .f32) (fun y : S4x256x128.Idx => stP P L b (⟨(y 0).val, (y 0).isLt⟩ : Fin 4) (⟨(y 2).val, (y 2).isLt⟩ : Fin 128) (⟨(y 1).val, (y 1).isLt⟩ : Fin 256) (4 * j.val + 4)) M _ ?_ _ ?_).trans rfl
  · have one : ∀ (h : Fin 4) (y : (rs h).shape.Idx), stC lg x1 x2 h 3 (sts (stC lg x1 x2 h) (ss h) 3) y = stP P L b (⟨((rs h).emb y 0).val, ((rs h).emb y 0).isLt⟩ : Fin 4) (⟨((rs h).emb y 2).val, ((rs h).emb y 2).isLt⟩ : Fin 128) (⟨((rs h).emb y 1).val, ((rs h).emb y 1).isLt⟩ : Fin 256) (4 * j.val + 4) := fun h y => by
      obtain ⟨e, d, rfl⟩ : ∃ (e : Fin 256) (d : Fin 128), y = ix3 (0 : Fin 1) e d := ⟨⟨(y 1).val, (y 1).isLt⟩, ⟨(y 2).val, (y 2).isLt⟩, by
        funext a
        fin_cases a
        · exact Fin.ext (Nat.lt_one_iff.mp (y 0).isLt)
        · rfl
        · rfl⟩
      rw [emb_s]
      exact stC_eq H 3 h _ (sts_eq H h _ (hs h) 3) e d
    exact ⟨one 3, one 2, one 1, one 0, trivial⟩
  · refine ⟨pcS lg x1 x2 ss h, List.mem_map_of_mem (by revert h; decide), ?_⟩
    rw [← emb_s]
    exact (LoadRect.mem_set _).mpr (fun a => ⟨(ix3 (0 : Fin 1) e d a).val, (ix3 (0 : Fin 1) e d a).isLt, rfl⟩)

end Point

end Cert.GlaVal
-- ==== Proof.GlaRef.lean ====
/-
The reference of the gated linear attention, read off its program: what the buffers of @main hold at the loop's
entry and after it.
-/
module

public import Idealize.ShloMosaic.Lib.WordCmp
public import proofs.«01_k».proof.Defs
public import proofs.«01_k».proof.Proof.Gen.GlaRefIdeal.Run
public import Idealize.ShloMosaic.Lib.Pointwise

@[expose] public section

set_option maxRecDepth 16384

noncomputable section

namespace Cert.GlaRefVal

open Idealize.ShloMosaic Idealize.ShloMosaic.TcCoe Idealize.SL.Sem Cert.GlaRefIdeal Cert.GlaRefIdeal.Gen
open Idealize.ShloMosaic.StableHlo

/-- A float number in every entry. -/
def full (t : Shape) (h : S_.BroadcastsInDim t (![] : Fin 0 → Fin t.rank)) (b : BitVec 32) : FVec Ideal t .f32 := broadcastInDim t ![] h (constant S_ .f32 b)

/-- The projection by batch and token. -/
def pR (p : FVec Ideal S32768x3072 .bf16) : FVec Ideal S8x4096x3072 .f32 := shapeCast S8x4096x3072 (extf .f32 p bitsLt_bf16_f32) shapeCasts_S32768x3072_S8x4096x3072

/-- The gate's pre-activation. -/
def gR (gx : FVec Ideal S32768x128 .f32) (w : FVec Ideal S16x512 .f32) (b : FVec Ideal S512 .f32) : FVec Ideal S8x4096x512 .f32 :=
  addf (Host.dotGeneral dot_S8x4096x16_S16x512_S8x4096x512_2_0_01_1_n_n none (shapeCast S8x4096x16 (extractStridedSlice S32768x16 ![0, 0] gx slices_S32768x128_S32768x16_0_0) shapeCasts_S32768x16_S8x4096x16) w)
    (broadcastInDim S8x4096x512 ![0, 1, 2] bcast_S1x1x512_S8x4096x512_0_1_2 (broadcastInDim S1x1x512 ![2] bcast_S512_S1x1x512_2 b))

/-- `softplus`. -/
def spR (x : FVec Ideal S8x4096x512 .f32) : FVec Ideal S8x4096x512 .f32 :=
  select (cmpf .une (subf x (full _ bcast_S_S8x4096x512 0x00000000#32)) (subf x (full _ bcast_S_S8x4096x512 0x00000000#32))) (addf x (full _ bcast_S_S8x4096x512 0x00000000#32))
    (addf (maximumf x (full _ bcast_S_S8x4096x512 0x00000000#32)) (Host.log1p (Host.exp (Host.negf (Host.absf (subf x (full _ bcast_S_S8x4096x512 0x00000000#32)))))))

/-- The log gates. -/
def lgR (g : FVec Ideal S8x4096x512 .f32) : FVec Ideal S8x4096x512 .f32 :=
  Host.divf (Host.negf (spR (Host.negf g))) (full _ bcast_S_S8x4096x512 0x41800000#32)

/-- By batch, head and chunk, the keys' width … -/
def hdK (x : FVec Ideal S8x4096x512 .f32) : FVec Ideal S8x4x64x64x128 .f32 :=
  shapeCast S8x4x64x64x128 (transpose S8x4x4096x128 [0, 2, 1, 3] (shapeCast S8x4096x4x128 x shapeCasts_S8x4096x512_S8x4096x4x128) transposes_S8x4096x4x128_S8x4x4096x128_0_2_1_3) shapeCasts_S8x4x4096x128_S8x4x64x64x128

/-- … and the values' width. -/
def hdV (x : FVec Ideal S8x4096x1024 .f32) : FVec Ideal S8x4x64x64x256 .f32 :=
  shapeCast S8x4x64x64x256 (transpose S8x4x4096x256 [0, 2, 1, 3] (shapeCast S8x4096x4x256 x shapeCasts_S8x4096x1024_S8x4096x4x256) transposes_S8x4096x4x256_S8x4x4096x256_0_2_1_3) shapeCasts_S8x4x4096x256_S8x4x64x64x256

/-- The queries, keys, values and gates' rows of the projection. -/
def qA (p : FVec Ideal S8x4096x3072 .f32) : FVec Ideal S8x4096x512 .f32 := extractStridedSlice S8x4096x512 ![0, 0, 0] p slices_S8x4096x3072_S8x4096x512_0_0_0
def kA (p : FVec Ideal S8x4096x3072 .f32) : FVec Ideal S8x4096x512 .f32 := extractStridedSlice S8x4096x512 ![0, 0, 512] p slices_S8x4096x3072_S8x4096x512_0_0_512
def vA (p : FVec Ideal S8x4096x3072 .f32) : FVec Ideal S8x4096x1024 .f32 := extractStridedSlice S8x4096x1024 ![0, 0, 1024] p slices_S8x4096x3072_S8x4096x1024_0_0_1024
def rA (p : FVec Ideal S8x4096x3072 .f32) : FVec Ideal S8x4096x1024 .f32 := extractStridedSlice S8x4096x1024 ![0, 0, 2048] p slices_S8x4096x3072_S8x4096x1024_0_0_2048

/-- The running sums of the log gates in a chunk … -/
def cumR (x : FVec Ideal S8x4x64x64x128 .f32) : FVec Ideal S8x4x64x64x128 .f32 :=
  Host.reduceWindowAdd ![1, 1, 1, 64, 1] ![1, 1, 1, 1, 1] ![0, 0, 0, 63, 0] ![0, 0, 0, 0, 0] x (full S_ bcast_S_S_ 0x00000000#32) reduceWindows_S8x4x64x64x128_S8x4x64x64x128_w1s1p0_0_w1s1p0_0_w1s1p0_0_w64s1p63_0_w1s1p0_0 h_S_

/-- … and the whole chunk's. -/
def lastR (c : FVec Ideal S8x4x64x64x128 .f32) : FVec Ideal S8x4x64x1x128 .f32 :=
  extractStridedSlice S8x4x64x1x128 ![0, 0, 0, 63, 0] c slices_S8x4x64x64x128_S8x4x64x1x128_0_0_0_63_0

/-- The decayed queries, the keys decayed back, and the keys decayed to the chunk's end. -/
def qT (q c : FVec Ideal S8x4x64x64x128 .f32) : FVec Ideal S8x4x64x64x128 .f32 := mulf (mulf q (full _ bcast_S_S8x4x64x64x128 0x3DB504F3#32)) (Host.exp c)
def kT (k c : FVec Ideal S8x4x64x64x128 .f32) : FVec Ideal S8x4x64x64x128 .f32 := mulf k (Host.exp (Host.negf c))
def kE (k c : FVec Ideal S8x4x64x64x128 .f32) : FVec Ideal S8x4x64x64x128 .f32 :=
  mulf k (Host.exp (subf (broadcastInDim S8x4x64x64x128 ![0, 1, 2, 3, 4] bcast_S8x4x64x1x128_S8x4x64x64x128_0_1_2_3_4 (lastR c)) c))

/-- Where a chunk's row sees its column. -/
def triR : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

/-- The rows within a chunk. -/
def oR (q k c : FVec Ideal S8x4x64x64x128 .f32) (v : FVec Ideal S8x4x64x64x256 .f32) : FVec Ideal S8x4x64x64x256 .f32 :=
  Host.dotGeneral dot_S8x4x64x64x64_S8x4x64x64x256_S8x4x64x64x256_4_3_3_4_012_012 none
    (select (broadcastInDim S8x4x64x64x64 ![3, 4] bcast_S64x64_S8x4x64x64x64_3_4 triR) (Host.dotGeneral dot_S8x4x64x64x128_S8x4x64x64x128_S8x4x64x64x64_4_4_3_3_012_012 none (qT q c) (kT k c)) (full _ bcast_S_S8x4x64x64x64 0x00000000#32)) v

/-- What each chunk multiplies the state by, … -/
def dcR (c : FVec Ideal S8x4x64x64x128 .f32) : FVec Ideal S64x8x4x128 .f32 :=
  transpose S64x8x4x128 [2, 0, 1, 3] (Host.exp (shapeCast S8x4x64x128 (lastR c) shapeCasts_S8x4x64x1x128_S8x4x64x128)) transposes_S8x4x64x128_S64x8x4x128_2_0_1_3

/-- … and what it adds. -/
def kvR (k c : FVec Ideal S8x4x64x64x128 .f32) (v : FVec Ideal S8x4x64x64x256 .f32) : FVec Ideal S64x8x4x128x256 .f32 :=
  transpose S64x8x4x128x256 [2, 0, 1, 3, 4] (Host.dotGeneral dot_S8x4x64x64x128_S8x4x64x64x256_S8x4x64x128x256_3_3_4_4_012_012 none (kE k c) v) transposes_S8x4x64x128x256_S64x8x4x128x256_2_0_1_3_4

/-- The norm, gain and gate after the loop. -/
def postR (qt : FVec Ideal S8x4x64x64x128 .f32) (oi : FVec Ideal S8x4x64x64x256 .f32) (st : FVec Ideal S64x8x4x128x256 .f32) : FVec Ideal S8x4x4096x256 .f32 :=
  shapeCast S8x4x4096x256 (addf oi (Host.dotGeneral dot_S8x4x64x64x128_S8x4x64x128x256_S8x4x64x64x256_4_3_3_4_012_012 none qt (transpose S8x4x64x128x256 [1, 2, 0, 3, 4] st transposes_S64x8x4x128x256_S8x4x64x128x256_1_2_0_3_4))) shapeCasts_S8x4x64x64x256_S8x4x4096x256

def rmsR (o : FVec Ideal S8x4x4096x256 .f32) (og : FVec Ideal S256 .f32) : FVec Ideal S8x4x4096x256 .f32 :=
  mulf (mulf o (broadcastInDim S8x4x4096x256 ![0, 1, 2, 3] bcast_S8x4x4096x1_S8x4x4096x256_0_1_2_3 (Host.rsqrt (addf (Host.divf (broadcastInDim S8x4x4096x1 ![0, 1, 2] bcast_S8x4x4096_S8x4x4096x1_0_1_2 (Host.reduceAdd (mulf o o) (constant S_ .f32 0x00000000#32) reducesTo_S8x4x4096x256_S8x4x4096_d3 h_S_)) (full _ bcast_S_S8x4x4096x1 0x43800000#32)) (full _ bcast_S_S8x4x4096x1 0x358637BD#32)))))
    (broadcastInDim S8x4x4096x256 ![0, 1, 2, 3] bcast_S1x1x1x256_S8x4x4096x256_0_1_2_3 (broadcastInDim S1x1x1x256 ![3] bcast_S256_S1x1x1x256_3 og))

def siR (r : FVec Ideal S8x4096x1024 .f32) : FVec Ideal S8x4096x1024 .f32 :=
  mulf r (Host.divf (full _ bcast_S_S8x4096x1024 0x3F800000#32) (addf (full _ bcast_S_S8x4096x1024 0x3F800000#32) (Host.exp (Host.negf r))))

def resR (o : FVec Ideal S8x4x4096x256 .f32) (r : FVec Ideal S8x4096x1024 .f32) : FVec Ideal S32768x1024 .bf16 :=
  truncf .bf16 (shapeCast S32768x1024 (mulf (shapeCast S8x4096x1024 (transpose S8x4096x4x256 [0, 2, 1, 3] o transposes_S8x4x4096x256_S8x4096x4x256_0_2_1_3) shapeCasts_S8x4096x4x256_S8x4096x1024) r) shapeCasts_S8x4096x1024_S32768x1024) bitsLt_bf16_f32

section Entry

open Cert.GlaRefIdeal.Value

variable (m : (ℓ : Loc nD τ sig) → Buf (Elt Ideal) ℓ) (c : Dev nD)

abbrev P : FVec Ideal S32768x3072 .bf16 := m ((c.tc : Thread nD τ).loc main_arg0)
abbrev GX : FVec Ideal S32768x128 .f32 := m ((c.tc : Thread nD τ).loc main_arg1)
abbrev W2 : FVec Ideal S16x512 .f32 := m ((c.tc : Thread nD τ).loc main_arg2)
abbrev GB : FVec Ideal S512 .f32 := m ((c.tc : Thread nD τ).loc main_arg3)
abbrev OG : FVec Ideal S256 .f32 := m ((c.tc : Thread nD τ).loc main_arg4)

/-- The running sums, of the arguments. -/
abbrev CU : FVec Ideal S8x4x64x64x128 .f32 := cumR (hdK (lgR (gR (GX m c) (W2 m c) (GB m c))))

abbrev E0 : Valuation τ sig (Elt Ideal) := entryContents preI m c

theorem E_decay : E0 m c (Proc.devRef .tc main_v52_0) = dcR (CU m c) := by
  simp only [E0, entryContents, afterL_cons, afterL_nil]
  after_reads_simp
  rfl

theorem E_qt : E0 m c (Proc.devRef .tc main_v32) = qT (hdK (qA (pR (P m c)))) (CU m c) := by
  simp only [E0, entryContents, afterL_cons, afterL_nil]
  after_reads_simp
  rfl

theorem E_oi : E0 m c (Proc.devRef .tc main_v44) = oR (hdK (qA (pR (P m c)))) (hdK (kA (pR (P m c)))) (CU m c) (hdV (vA (pR (P m c)))) := by
  simp only [E0, entryContents, afterL_cons, afterL_nil]
  after_reads_simp
  rfl

theorem E_kv : E0 m c (Proc.devRef .tc main_v52_1) = kvR (hdK (kA (pR (P m c)))) (CU m c) (hdV (vA (pR (P m c)))) := by
  simp only [E0, entryContents, afterL_cons, afterL_nil]
  after_reads_simp
  rfl

theorem E_st : E0 m c (Proc.devRef .tc main_v52_3) = full S8x4x128x256 bcast_S_S8x4x128x256 0x00000000#32 := by
  simp only [E0, entryContents, afterL_cons, afterL_nil]
  after_reads_simp
  rfl

theorem E_r : E0 m c (Proc.devRef .tc main_v5) = rA (pR (P m c)) := by
  simp only [E0, entryContents, afterL_cons, afterL_nil]
  after_reads_simp
  rfl

theorem E_og : E0 m c (Proc.devRef .tc main_arg4) = OG m c := by
  simp only [E0, entryContents, afterL_cons, afterL_nil]
  after_reads_simp

theorem post_res (V : Valuation τ sig (Elt Ideal)) : afterL postI V (Proc.devRef .tc main_v75)
    = resR (rmsR (postR (V (Proc.devRef .tc main_v32)) (V (Proc.devRef .tc main_v44)) (V (Proc.devRef .tc main_v52_4))) (V (Proc.devRef .tc main_arg4))) (siR (V (Proc.devRef .tc main_v5))) := by
  simp only [afterL_cons, afterL_nil]
  after_reads_simp
  rfl

/-- A buffer the loop does not write keeps its contents through it. -/
theorem atK_keep (r : Ref sig .tc) (h : r ∉ condOps_W) (h0 : r ∉ while0Ops0_W) (h1 : r ∉ while0Ops0_1_W) (h2 : r ∉ while0Ops0_2_W) (h3 : r ∉ while0Ops0_3_W) (h4 : r ∉ while0Ops0_4_W) :
    ∀ k, atK m k c (Proc.devRef .tc r) = E0 m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0, after_of_writes_sub condOps _ condOps_writes h]
    exact atK_keep r h h0 h1 h2 h3 h4 k

/-- The stack of states the loop leaves. -/
abbrev ST : FVec Ideal S64x8x4x128x256 .f32 := atK m 64 c (Proc.devRef .tc main_v52_4)

theorem final_res : finalContents condOps preI bodyI postI 64 m c (Proc.devRef .tc main_v75)
    = resR (rmsR (postR (qT (hdK (qA (pR (P m c)))) (CU m c)) (oR (hdK (qA (pR (P m c)))) (hdK (kA (pR (P m c)))) (CU m c) (hdV (vA (pR (P m c))))) (ST m c)) (OG m c)) (siR (rA (pR (P m c)))) := by
  have hk : ∀ r : Ref sig .tc, r ∉ condOps_W → after condOps (atK m 64 c) (Proc.devRef .tc r) = atK m 64 c (Proc.devRef .tc r) :=
    fun r h => after_of_writes_sub condOps _ condOps_writes h
  refine (post_res (after condOps (atK m 64 c))).trans ?_
  rw [hk main_v32 (by decide), hk main_v44 (by decide), hk main_v52_4 (by decide), hk main_arg4 (by decide), hk main_v5 (by decide)]
  rw [atK_keep m c main_v32 (by decide) (by decide) (by decide) (by decide) (by decide) (by decide),
    atK_keep m c main_v44 (by decide) (by decide) (by decide) (by decide) (by decide) (by decide),
    atK_keep m c main_arg4 (by decide) (by decide) (by decide) (by decide) (by decide) (by decide),
    atK_keep m c main_v5 (by decide) (by decide) (by decide) (by decide) (by decide) (by decide), E_qt, E_oi, E_og, E_r]

theorem ix4_ext {p q r t : ℕ} {a a' : Fin p} {b b' : Fin q} {c c' : Fin r} {d d' : Fin t} (h0 : a.val = a'.val) (h1 : b.val = b'.val) (h2 : c.val = c'.val) (h3 : d.val = d'.val) :
    ix4 a b c d = ix4 a' b' c' d' := by rw [Fin.ext h0, Fin.ext h1, Fin.ext h2, Fin.ext h3]
theorem ix5_ext {p q r t u : ℕ} {a a' : Fin p} {b b' : Fin q} {c c' : Fin r} {d d' : Fin t} {e e' : Fin u} (h0 : a.val = a'.val) (h1 : b.val = b'.val) (h2 : c.val = c'.val) (h3 : d.val = d'.val)
    (h4 : e.val = e'.val) : ix5 a b c d e = ix5 a' b' c' d' e' := by rw [Fin.ext h0, Fin.ext h1, Fin.ext h2, Fin.ext h3, Fin.ext h4]

/-- The state of a batch and head before chunk `k`. -/
def stR (dc : FVec Ideal S64x8x4x128 .f32) (kv : FVec Ideal S64x8x4x128x256 .f32) (b : Fin 8) (h : Fin 4) (d : Fin 128) (e : Fin 256) : ℕ → EReal
  | 0 => 0
  | k + 1 => if hk : k < 64 then stR dc kv b h d e k * dc (ix4 ⟨k, hk⟩ b h d) + kv (ix5 ⟨k, hk⟩ b h d e) else 0

theorem carried (r : Ref sig .tc) (h : r ∈ carriedRefs) (k : ℕ) : atK m k c (Proc.devRef .tc r) = (STEP^[k] (E0 m c)) (Proc.devRef .tc r) := atK_agree m c k r h

theorem at_decay : ∀ k, (STEP^[k] (E0 m c)) (Proc.devRef .tc main_v52_0) = dcR (CU m c)
  | 0 => E_decay m c
  | k + 1 => by rw [Function.iterate_succ_apply', STEP_main_v52_0]; exact at_decay k
theorem at_kv : ∀ k, (STEP^[k] (E0 m c)) (Proc.devRef .tc main_v52_1) = kvR (hdK (kA (pR (P m c)))) (CU m c) (hdV (vA (pR (P m c))))
  | 0 => E_kv m c
  | k + 1 => by rw [Function.iterate_succ_apply', STEP_main_v52_1]; exact at_kv k
theorem at_ctr (k : ℕ) : (STEP^[k] (E0 m c)) (Proc.devRef .tc main_v52_2) = fun _ => Scf.iv 0#32 1#32 k := by
  rw [← carried m c main_v52_2 (by decide) k]
  exact atK_ctr m c k

theorem iv_toInt (k : ℕ) (h : k < 64) : (Scf.iv (0#32) 1#32 k).toInt = k := by
  have : ∀ k : Fin 64, (Scf.iv (0#32) 1#32 k.val).toInt = k.val := by decide
  exact this ⟨k, h⟩

theorem slices_dc (k : ℕ) (h : k < 64) : S64x8x4x128.Slices ![k, 0, 0, 0] S1x8x4x128 :=
  ⟨rfl, fun a => by fin_cases a <;> simp; omega⟩
theorem slices_kv (k : ℕ) (h : k < 64) : S64x8x4x128x256.Slices ![k, 0, 0, 0, 0] S1x8x4x128x256 :=
  ⟨rfl, fun a => by fin_cases a <;> simp; omega⟩
theorem start4 (k : ℕ) (h : k < 64) (a : Fin 4) : ((![fun _ => Scf.iv 0#32 1#32 k, constantI S_ 32 0#32, constantI S_ 32 0#32, constantI S_ 32 0#32] : Fin 4 → S_.Idx → BitVec 32) a (Shape.Idx.first h_S_)).toInt
    = ((![k, 0, 0, 0] : Fin 4 → ℕ) a : Int) := by
  fin_cases a
  · exact iv_toInt k h
  all_goals rfl
theorem start5 (k : ℕ) (h : k < 64) (a : Fin 5) : ((![fun _ => Scf.iv 0#32 1#32 k, constantI S_ 32 0#32, constantI S_ 32 0#32, constantI S_ 32 0#32, constantI S_ 32 0#32] : Fin 5 → S_.Idx → BitVec 32) a (Shape.Idx.first h_S_)).toInt
    = ((![k, 0, 0, 0, 0] : Fin 5 → ℕ) a : Int) := by
  fin_cases a
  · exact iv_toInt k h
  all_goals rfl

/-- One chunk's update of the state. -/
theorem step_st (s : FVec Ideal S8x4x128x256 .f32) (dc : FVec Ideal S64x8x4x128 .f32) (kv : FVec Ideal S64x8x4x128x256 .f32) (k : ℕ) (hk : k < 64) (f4 : Fin 4 → Int) (f5 : Fin 5 → Int)
    (h4 : ∀ a, f4 a = ((![k, 0, 0, 0] : Fin 4 → ℕ) a : Int)) (h5 : ∀ a, f5 a = ((![k, 0, 0, 0, 0] : Fin 5 → ℕ) a : Int)) (b : Fin 8) (h : Fin 4) (d : Fin 128) (e : Fin 256) :
    addf (mulf s (broadcastInDim S8x4x128x256 ![0, 1, 2, 3] bcast_S8x4x128x1_S8x4x128x256_0_1_2_3 (broadcastInDim S8x4x128x1 ![0, 1, 2] bcast_S8x4x128_S8x4x128x1_0_1_2
      (shapeCast S8x4x128 (Host.dynamicSlice S1x8x4x128 dc f4 sliceFits_S64x8x4x128_S1x8x4x128) shapeCasts_S1x8x4x128_S8x4x128))))
      (shapeCast S8x4x128x256 (Host.dynamicSlice S1x8x4x128x256 kv f5 sliceFits_S64x8x4x128x256_S1x8x4x128x256) shapeCasts_S1x8x4x128x256_S8x4x128x256) (ix4 b h d e)
    = s (ix4 b h d e) * dc (ix4 ⟨k, hk⟩ b h d) + kv (ix5 ⟨k, hk⟩ b h d e) := by
  rw [WordCmp.dynamicSlice_eq_extract _ dc _ _ ![k, 0, 0, 0] (slices_dc k hk) h4, WordCmp.dynamicSlice_eq_extract _ kv _ _ ![k, 0, 0, 0, 0] (slices_kv k hk) h5]
  pointwise

/-- One chunk's entry into the stack. -/
theorem step_stack (t : FVec Ideal S64x8x4x128x256 .f32) (s : FVec Ideal S8x4x128x256 .f32) (k : ℕ) (hk : k < 64) (f5 : Fin 5 → Int)
    (h5 : ∀ a, f5 a = ((![k, 0, 0, 0, 0] : Fin 5 → ℕ) a : Int)) (n : Fin 64) (b : Fin 8) (h : Fin 4) (d : Fin 128) (e : Fin 256) :
    Host.dynamicUpdateSlice t (broadcastInDim S1x8x4x128x256 ![1, 2, 3, 4] bcast_S8x4x128x256_S1x8x4x128x256_1_2_3_4 s) f5 updateFits_S64x8x4x128x256_S1x8x4x128x256 (ix5 n b h d e)
    = if n.val = k then s (ix4 b h d e) else t (ix5 n b h d e) := by
  rw [WordCmp.dynamicUpdateSlice_eq_update t _ _ _ ![k, 0, 0, 0, 0] (slices_kv k hk) h5, updateSlice_apply]
  by_cases hkn : n.val = k
  · rw [dif_pos (by
      intro a
      fin_cases a
      · exact ⟨hkn.ge, by show n.val < k + 1; omega⟩
      · exact ⟨Nat.zero_le _, by show b.val < 0 + 8; omega⟩
      · exact ⟨Nat.zero_le _, by show h.val < 0 + 4; omega⟩
      · exact ⟨Nat.zero_le _, by show d.val < 0 + 128; omega⟩
      · exact ⟨Nat.zero_le _, by show e.val < 0 + 256; omega⟩), if_pos hkn]
    pointwise
  · rw [dif_neg (fun hh => hkn (by
      have h0 : k ≤ n.val ∧ n.val < k + 1 := hh 0
      omega)), if_neg hkn]

/-- The carried state, entry by entry. -/
theorem at_st (b : Fin 8) (h : Fin 4) (d : Fin 128) (e : Fin 256) : ∀ k, k ≤ 64 →
    ((STEP^[k] (E0 m c)) (Proc.devRef .tc main_v52_3) : FVec Ideal S8x4x128x256 .f32) (ix4 b h d e)
      = stR (dcR (CU m c)) (kvR (hdK (kA (pR (P m c)))) (CU m c) (hdV (vA (pR (P m c))))) b h d e k
  | 0, _ => by
    show (E0 m c (Proc.devRef .tc main_v52_3) : FVec Ideal S8x4x128x256 .f32) (ix4 b h d e) = (0 : EReal)
    rw [E_st]
    pointwise [full]
  | k + 1, hk => by
    have ih := at_st b h d e k (by omega)
    rw [Function.iterate_succ_apply', STEP_main_v52_3, step_main_v52_3, at_ctr, at_decay, at_kv]
    unfold stR
    rw [dif_pos (by omega), ← ih]
    generalize ((STEP^[k] (E0 m c)) (Proc.devRef .tc main_v52_3) : FVec Ideal S8x4x128x256 .f32) = s
    generalize dcR (CU m c) = dc
    generalize kvR (hdK (kA (pR (P m c)))) (CU m c) (hdV (vA (pR (P m c)))) = kv
    simp only [id]
    exact step_st s dc kv k (by omega) _ _ (start4 k (by omega)) (start5 k (by omega)) b h d e

/-- The stack, entry by entry: the states before the chunks done. -/
theorem at_stack (n : Fin 64) (b : Fin 8) (h : Fin 4) (d : Fin 128) (e : Fin 256) : ∀ k, k ≤ 64 → n.val < k →
    ((STEP^[k] (E0 m c)) (Proc.devRef .tc main_v52_4) : FVec Ideal S64x8x4x128x256 .f32) (ix5 n b h d e)
      = stR (dcR (CU m c)) (kvR (hdK (kA (pR (P m c)))) (CU m c) (hdV (vA (pR (P m c))))) b h d e n.val
  | 0, _, h0 => absurd h0 (by omega)
  | k + 1, hk, hn => by
    have ih := at_stack n b h d e k (by omega)
    have hs := at_st m c b h d e k (by omega)
    rw [Function.iterate_succ_apply', STEP_main_v52_4, step_main_v52_4, at_ctr]
    generalize ((STEP^[k] (E0 m c)) (Proc.devRef .tc main_v52_3) : FVec Ideal S8x4x128x256 .f32) = s at hs ⊢
    generalize ((STEP^[k] (E0 m c)) (Proc.devRef .tc main_v52_4) : FVec Ideal S64x8x4x128x256 .f32) = t at ih ⊢
    simp only [id]
    refine (step_stack t s k (by omega) _ (start5 k (by omega)) n b h d e).trans ?_
    by_cases hkn : n.val = k
    · rw [if_pos hkn, hs, hkn]
    · rw [if_neg hkn]
      exact ih (by omega)

theorem ST_apply (n : Fin 64) (b : Fin 8) (h : Fin 4) (d : Fin 128) (e : Fin 256) :
    ST m c (ix5 n b h d e) = stR (dcR (CU m c)) (kvR (hdK (kA (pR (P m c)))) (CU m c) (hdV (vA (pR (P m c))))) b h d e n.val := by
  show (atK m 64 c (Proc.devRef .tc main_v52_4) : FVec Ideal S64x8x4x128x256 .f32) (ix5 n b h d e) = _
  rw [carried m c main_v52_4 (by decide) 64]
  exact at_stack m c n b h d e 64 (by omega) n.isLt

end Entry

end Cert.GlaRefVal
-- ==== Proof.GlaRefApply.lean ====
/-
The reference of the gated linear attention, entry by entry.
-/
module

public import proofs.«01_k».proof.Proof.GlaRef
public import proofs.«01_k».proof.Proof.GlaSpec

@[expose] public section

set_option maxRecDepth 16384

noncomputable section

namespace Cert.GlaRefVal

open Idealize.ShloMosaic Idealize.ShloMosaic.TcCoe Idealize.SL.Sem Cert.GlaRefIdeal Cert.GlaRefIdeal.Gen
open Idealize.ShloMosaic.StableHlo Cert.GlaVal

theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The window of a running sum. -/
abbrev W : Shape := ⟨5, ![1, 1, 1, 64, 1]⟩
theorem W_numel : W.numel = 64 := by decide
theorem W_three : ∀ n : Fin W.numel, (W.rowMajor.symm n 3).val = n.val := by decide +kernel
theorem W_other (n : Fin W.numel) (a : Fin 5) (h : a ≠ 3) : (W.rowMajor.symm n a).val = 0 := by
  have := (W.rowMajor.symm n a).isLt
  revert this
  fin_cases a <;> first | exact absurd rfl h | exact fun h => Nat.lt_one_iff.mp h

theorem cumR_apply (x : FVec Ideal S8x4x64x64x128 .f32) (b : Fin 8) (h : Fin 4) (n r : Fin 64) (d : Fin 128) :
    cumR x (ix5 b h n r d) = cumM (fun j => x (ix5 b h n j d)) r := by
  have e0 : cumR x (ix5 b h n r d) = (0 : EReal) + ∑ i : Fin W.numel, if 63 ≤ r.val + i.val then (if hi : r.val + i.val - 63 < 64 then x (ix5 b h n ⟨r.val + i.val - 63, hi⟩ d) else 0) else 0 := by
    rw [Fin.sum_univ_def, ← foldl_sum]
    have h0 : full S_ bcast_S_S_ 0x00000000#32 (Shape.Idx.first h_S_) = (0 : EReal) := by pointwise [full]
    unfold cumR Host.reduceWindowAdd
    rw [h0]
    simp only [Ideal.hostReduceWindowAdd_def, Ideal.hostReduceWindowAdd]
    unfold Host.reduceWindow
    refine congrArg (fun g => List.foldl g (0 : EReal) (List.finRange W.numel)) ?_
    funext y i
    refine congrArg (fun z : EReal => (y + z : EReal)) ?_
    have hi : i.val < 64 := i.isLt
    have hr := r.isLt
    by_cases hc : 63 ≤ r.val + i.val
    · have e1 : r.val + i.val - 63 < 64 := by omega
      rw [if_pos hc, dif_pos e1]
      refine (dif_pos ?_).trans (congrArg x ?_)
      rotate_left
      · funext a
        fin_cases a <;> refine Fin.ext ?_
        · show b.val * 1 + (W.rowMajor.symm i 0).val - 0 = b.val
          rw [W_other i 0 (by decide)]; omega
        · show h.val * 1 + (W.rowMajor.symm i 1).val - 0 = h.val
          rw [W_other i 1 (by decide)]; omega
        · show n.val * 1 + (W.rowMajor.symm i 2).val - 0 = n.val
          rw [W_other i 2 (by decide)]; omega
        · show r.val * 1 + (W.rowMajor.symm i 3).val - 63 = r.val + i.val - 63
          rw [W_three i]; omega
        · show d.val * 1 + (W.rowMajor.symm i 4).val - 0 = d.val
          rw [W_other i 4 (by decide)]; omega
      · intro a
        fin_cases a
        · show 0 ≤ b.val * 1 + (W.rowMajor.symm i 0).val ∧ b.val * 1 + (W.rowMajor.symm i 0).val - 0 < 8
          rw [W_other i 0 (by decide)]; omega
        · show 0 ≤ h.val * 1 + (W.rowMajor.symm i 1).val ∧ h.val * 1 + (W.rowMajor.symm i 1).val - 0 < 4
          rw [W_other i 1 (by decide)]; omega
        · show 0 ≤ n.val * 1 + (W.rowMajor.symm i 2).val ∧ n.val * 1 + (W.rowMajor.symm i 2).val - 0 < 64
          rw [W_other i 2 (by decide)]; omega
        · show 63 ≤ r.val * 1 + (W.rowMajor.symm i 3).val ∧ r.val * 1 + (W.rowMajor.symm i 3).val - 63 < 64
          rw [W_three i]; omega
        · show 0 ≤ d.val * 1 + (W.rowMajor.symm i 4).val ∧ d.val * 1 + (W.rowMajor.symm i 4).val - 0 < 128
          rw [W_other i 4 (by decide)]; omega
    · rw [if_neg hc, dif_neg]
      intro hh
      have h3 : 63 ≤ r.val * 1 + (W.rowMajor.symm i 3).val := (hh 3).1
      rw [W_three i] at h3
      omega
  rw [e0, zero_add]
  unfold cumM
  have hr := r.isLt
  show (∑ i : Fin 64, if 63 ≤ r.val + i.val then (if hi : r.val + i.val - 63 < 64 then x (ix5 b h n ⟨r.val + i.val - 63, hi⟩ d) else 0) else 0 : EReal) = _
  rw [← Finset.sum_filter, ← Finset.sum_filter]
  refine Finset.sum_bij' (fun i hi => (⟨r.val + i.val - 63, by have := i.isLt; omega⟩ : Fin 64)) (fun j hj => (⟨63 + j.val - r.val, by
    simp only [Finset.mem_filter, Finset.mem_univ, true_and] at hj
    omega⟩ : Fin 64)) ?_ ?_ ?_ ?_ ?_
  · intro i hi
    simp only [Finset.mem_filter, Finset.mem_univ, true_and] at hi ⊢
    have := i.isLt
    omega
  · intro j hj
    simp only [Finset.mem_filter, Finset.mem_univ, true_and] at hj ⊢
    omega
  · intro i hi
    simp only [Finset.mem_filter, Finset.mem_univ, true_and] at hi
    exact Fin.ext (show 63 + (r.val + i.val - 63) - r.val = i.val by omega)
  · intro j hj
    simp only [Finset.mem_filter, Finset.mem_univ, true_and] at hj
    exact Fin.ext (show r.val + (63 + j.val - r.val) - 63 = j.val by omega)
  · intro i hi
    have := i.isLt
    exact dif_pos (by omega)

theorem hdK_apply (x : FVec Ideal S8x4096x512 .f32) (b : Fin 8) (h : Fin 4) (n r : Fin 64) (d : Fin 128) :
    hdK x (ix5 b h n r d) = x (ix3 b ⟨n.val * 64 + r.val, by omega⟩ (colK h d)) := by
  pointwise [hdK]
  rfl
theorem hdV_apply (x : FVec Ideal S8x4096x1024 .f32) (b : Fin 8) (h : Fin 4) (n r : Fin 64) (d : Fin 256) :
    hdV x (ix5 b h n r d) = x (ix3 b ⟨n.val * 64 + r.val, by omega⟩ (colV h d)) := by
  pointwise [hdV]
  rfl
theorem qA_apply (p : FVec Ideal S32768x3072 .bf16) (b : Fin 8) (h : Fin 4) (n r : Fin 64) (d : Fin 128) :
    hdK (qA (pR p)) (ix5 b h n r d) = p (ix2 (rowM b n r) (cQ h d)) := by
  rw [hdK_apply]
  pointwise [qA, pR]
  rfl
theorem kA_apply (p : FVec Ideal S32768x3072 .bf16) (b : Fin 8) (h : Fin 4) (n r : Fin 64) (d : Fin 128) :
    hdK (kA (pR p)) (ix5 b h n r d) = p (ix2 (rowM b n r) (cK h d)) := by
  rw [hdK_apply]
  pointwise [kA, pR]
  rfl
theorem vA_apply (p : FVec Ideal S32768x3072 .bf16) (b : Fin 8) (h : Fin 4) (n r : Fin 64) (d : Fin 256) :
    hdV (vA (pR p)) (ix5 b h n r d) = p (ix2 (rowM b n r) (cV h d)) := by
  rw [hdV_apply]
  pointwise [vA, pR]
  rfl

/-- The log gates of a row and column. -/
def lgP (gx : FVec Ideal S32768x128 .f32) (w : FVec Ideal S16x512 .f32) (bb : FVec Ideal S512 .f32) (R : Fin 32768) (C : Fin 512) : EReal :=
  lgM ((∑ k : Fin 16, gx (ix2 R ⟨k.val, by omega⟩) * w (ix2 k C)) + bb (ix1 C))

theorem sixteenth (x : EReal) : Ideal.div x (Ideal.ofBits FTy.f32 0x41800000#32) = x * Ideal.ofBits FTy.f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = (((16 : ℝ)⁻¹ : ℝ) : EReal) := by
    simp [Ideal.ofBits, Ideal.ieee, -EReal.coe_mul]; norm_num
  rw [h1, h2, EReal.coe_inv]
  exact if_neg (by norm_num)

theorem lgR_apply (gx : FVec Ideal S32768x128 .f32) (w : FVec Ideal S16x512 .f32) (bb : FVec Ideal S512 .f32) (b : Fin 8) (h : Fin 4) (n r : Fin 64) (d : Fin 128) :
    hdK (lgR (gR gx w bb)) (ix5 b h n r d) = lgP gx w bb (rowM b n r) (colK h d) := by
  rw [hdK_apply]
  pointwise [lgR, spR, gR, full]
  rw [if_neg (fun hh => hh rfl), sixteenth]
  rfl

theorem qT_apply (q c : FVec Ideal S8x4x64x64x128 .f32) (b : Fin 8) (h : Fin 4) (n r : Fin 64) (d : Fin 128) :
    qT q c (ix5 b h n r d) = q (ix5 b h n r d) * Ideal.ofBits .f32 0x3DB504F3#32 * Ideal.exp (c (ix5 b h n r d)) := by
  pointwise [qT, full]

theorem oR_apply (q k c : FVec Ideal S8x4x64x64x128 .f32) (v : FVec Ideal S8x4x64x64x256 .f32) (b : Fin 8) (h : Fin 4) (n r : Fin 64) (e : Fin 256) :
    oR q k c v (ix5 b h n r e) = ∑ j : Fin 64, (if j.val ≤ r.val then ∑ d : Fin 128, q (ix5 b h n r d) * Ideal.ofBits .f32 0x3DB504F3#32 * Ideal.exp (c (ix5 b h n r d)) * (k (ix5 b h n j d) * Ideal.exp (-c (ix5 b h n j d))) else 0) * v (ix5 b h n j e) := by
  have hr := r.isLt
  have w : ∀ j : Fin 64, IntOp.cmpi .sge (IntOp.addi (BitVec.ofNat 32 r.val) 0#32) (BitVec.ofNat 32 j.val) = BitVec.ofBool (decide (j.val ≤ r.val)) := fun j => by
    rw [show IntOp.addi (BitVec.ofNat 32 r.val) 0#32 = BitVec.ofNat 32 r.val from BitVec.add_zero _]
    exact WordCmp.cmpi_sge_ofNat (by omega) (by have := j.isLt; omega)
  pointwise [oR, triR, qT, kT, full]
  refine Finset.sum_congr rfl fun j _ => ?_
  rw [w j]
  by_cases hj : j.val ≤ r.val
  · rw [if_pos hj, decide_eq_true hj]
    rfl
  · rw [if_neg hj, decide_eq_false hj, zero_mul]
    rfl

theorem dcR_apply (c : FVec Ideal S8x4x64x64x128 .f32) (b : Fin 8) (h : Fin 4) (n : Fin 64) (d : Fin 128) : dcR c (ix4 n b h d) = Ideal.exp (c (ix5 b h n 63 d)) := by
  pointwise [dcR, lastR, full]

theorem kvR_apply (k c : FVec Ideal S8x4x64x64x128 .f32) (v : FVec Ideal S8x4x64x64x256 .f32) (b : Fin 8) (h : Fin 4) (n : Fin 64) (d : Fin 128) (e : Fin 256) :
    kvR k c v (ix5 n b h d e) = ∑ r : Fin 64, v (ix5 b h n r e) * (k (ix5 b h n r d) * Ideal.exp (c (ix5 b h n 63 d) - c (ix5 b h n r d))) := by
  pointwise [kvR, lastR, kE, full]
  exact Finset.sum_congr rfl fun r _ => mul_comm (_ : EReal) _

theorem postR_apply (qt : FVec Ideal S8x4x64x64x128 .f32) (oi : FVec Ideal S8x4x64x64x256 .f32) (st : FVec Ideal S64x8x4x128x256 .f32) (b : Fin 8) (h : Fin 4) (n r : Fin 64) (e : Fin 256) :
    postR qt oi st (ix4 b h (⟨n.val * 64 + r.val, by omega⟩ : Fin 4096) e) = oi (ix5 b h n r e) + ∑ d : Fin 128, qt (ix5 b h n r d) * st (ix5 n b h d e) := by
  pointwise [postR]

theorem resR_apply (o : FVec Ideal S8x4x4096x256 .f32) (og : FVec Ideal S256 .f32) (p : FVec Ideal S32768x3072 .bf16) (b : Fin 8) (h : Fin 4) (n r : Fin 64) (e : Fin 256) :
    resR (rmsR o og) (siR (rA (pR p))) (ix2 (rowM b n r) (colV h e))
      = fin (fun i => o (ix4 b h (⟨n.val * 64 + r.val, by omega⟩ : Fin 4096) i)) (og (ix1 e)) (p (ix2 (rowM b n r) (cR h e))) e := by
  unfold rowM colV
  pointwise [resR, rmsR, siR, rA, pR, full]
  have e0 : (b.val * 4096 + (n.val * 64 + r.val)) % 4096 = n.val * 64 + r.val := by omega
  simp only [e0]
  rfl

section Result

variable (m : (ℓ : Loc nD τ sig) → Buf (Elt Ideal) ℓ) (c : Dev nD)

/-- The projection's entries and the log gates, of the arguments. -/
abbrev PM (R : Fin 32768) (C : Fin 3072) : EReal := P m c (ix2 R C)
abbrev LM (R : Fin 32768) (C : Fin 512) : EReal := lgP (GX m c) (W2 m c) (GB m c) R C

theorem CU_apply (b : Fin 8) (h : Fin 4) (n r : Fin 64) (d : Fin 128) : CU m c (ix5 b h n r d) = cumP (LM m c) b h n r d := by
  refine (cumR_apply _ b h n r d).trans ?_
  simp only [lgR_apply]
  rfl

theorem stR_eq (b : Fin 8) (h : Fin 4) (d : Fin 128) (e : Fin 256) : ∀ k, stR (dcR (CU m c)) (kvR (hdK (kA (pR (P m c)))) (CU m c) (hdV (vA (pR (P m c))))) b h d e k = stP (PM m c) (LM m c) b h d e k
  | 0 => rfl
  | k + 1 => by
    unfold stR stP
    by_cases hk : k < 64
    · rw [dif_pos hk, dif_pos hk, stR_eq b h d e k, dcR_apply, kvR_apply]
      simp only [CU_apply, kA_apply, vA_apply]
      rfl
    · rw [dif_neg hk, dif_neg hk]

/-- A row before the norm, entry by entry. -/
theorem post_apply (b : Fin 8) (h : Fin 4) (n r : Fin 64) (e : Fin 256) :
    postR (qT (hdK (qA (pR (P m c)))) (CU m c)) (oR (hdK (qA (pR (P m c)))) (hdK (kA (pR (P m c)))) (CU m c) (hdV (vA (pR (P m c))))) (ST m c) (ix4 b h (⟨n.val * 64 + r.val, by omega⟩ : Fin 4096) e)
      = oP (PM m c) (LM m c) b h n r e := by
  rw [postR_apply, oR_apply]
  unfold oP
  refine congrArg₂ (fun y z : EReal => (y + z : EReal)) (Finset.sum_congr rfl fun j _ => ?_) (Finset.sum_congr rfl fun d _ => ?_)
  · rw [vA_apply]
    refine congrArg (fun z : EReal => z * _) ?_
    refine if_congr Iff.rfl (Finset.sum_congr rfl fun d _ => ?_) rfl
    rw [qA_apply, kA_apply, CU_apply, CU_apply]
    rfl
  · rw [qT_apply, qA_apply, CU_apply, ST_apply, stR_eq]
    rfl

/-- The reference's result, entry by entry. -/
theorem res_apply (b : Fin 8) (h : Fin 4) (n r : Fin 64) (e : Fin 256) :
    resR (rmsR (postR (qT (hdK (qA (pR (P m c)))) (CU m c)) (oR (hdK (qA (pR (P m c)))) (hdK (kA (pR (P m c)))) (CU m c) (hdV (vA (pR (P m c))))) (ST m c)) (OG m c)) (siR (rA (pR (P m c)))) (ix2 (rowM b n r) (colV h e))
      = resP (PM m c) (LM m c) (fun i => OG m c (ix1 i)) b h n r e := by
  rw [resR_apply]
  unfold resP
  exact congrArg (fun o => fin o (OG m c (ix1 e)) (P m c (ix2 (rowM b n r) (cR h e))) e) (funext fun i => post_apply m c b h n r i)

end Result

end Cert.GlaRefVal
-- ==== Proof.Gla.lean ====
/-
Gated linear attention: the kernel's array is the reference's.
-/
module

public import proofs.«01_k».proof.Defs
public import proofs.«01_k».proof.Proof.Gen.Gla.Frame
public import proofs.«01_k».proof.Proof.Gen.GlaIdeal.Value
public import proofs.«01_k».proof.Proof.GlaStep
public import proofs.«01_k».proof.Proof.GlaRefApply
public import proofs.«01_k».proof.Proof.Proj
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.GlaVal

open Idealize.ShloMosaic Idealize.ShloMosaic.TcCoe Idealize.SL.Sem Idealize.ShloMosaic.Pipeline Cert.GlaIdeal Cert.GlaIdeal.Gen
open Idealize.ShloMosaic.StableHlo

theorem zero_state (h : Fin 4) (e : Fin 256) (d : Fin 128) : k0_pay1 (F := Ideal) (ix3 h e d) = (0 : EReal) := by
  pointwise [k0_pay1]

section Body

variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S4x256x128 .f32) (harg11 : arg11.IsWhole)
  (x0 : Vec Ideal S256x512 .bf16) (x1 : Vec Ideal S256x512 .bf16) (x2 : Vec Ideal S256x1024 .bf16) (x3 : Vec Ideal S256x1024 .bf16) (x4 : Vec Ideal S256x128 .f32) (x5 : Vec Ideal S128x512 .bf16) (x6 : Vec Ideal S1x512 .f32) (x7 : Vec Ideal S1x256 .f32) (xs0 : Vec Ideal S4x256x128 .f32)
variable {P : Fin 32768 → Fin 3072 → EReal} {L : Fin 32768 → Fin 512 → EReal} {og : Fin 256 → EReal} {b : Fin 8} {j : Fin 16}
  (H : Reads P L og b j (k0_pay2 x4 x5 x6) x0 x1 x2 x3 x7)
include H

theorem reset_eq (hj : j.val = 0) (h : Fin 4) (e : Fin 256) (d : Fin 128) :
    View.ld (Val := Elt Ideal) (e' := .f32) (k0_pay1 (F := Ideal)) (rs h) (ix3 0 e d) = stP P L b h d e (4 * j.val) := by
  rw [ld_s, zero_state, hj]
  rfl

/-- What a resetting point leaves in the state … -/
theorem left_A (hc0 : cond0_0 i) (hj : j.val = 0) (h : Fin 4) (e : Fin 256) (d : Fin 128) :
    sout0_A_0 (F := Ideal) c i arg2 harg2 arg3 harg3 arg4 harg4 arg5 harg5 arg6 harg6 arg7 harg7 arg8 harg8 arg9 harg9 arg10 harg10 arg11 harg11 hc0 x0 x1 x2 x3 x4 x5 x6 x7 (ix3 h e d) = stP P L b h d e (4 * j.val + 4) := by
  obtain ⟨M, hM⟩ := state_A c i arg2 harg2 arg3 harg3 arg4 harg4 arg5 harg5 arg6 harg6 arg7 harg7 arg8 harg8 arg9 harg9 arg10 harg10 arg11 harg11 x0 x1 x2 x3 x4 x5 x6 x7 hc0
  unfold sout0_A_0
  rw [View.read_writes_junk_eq_canon, hM]
  exact states_eq H _ (reset_eq x0 x1 x2 x3 x4 x5 x6 x7 H hj) M h e d

/-- … and in its block, … -/
theorem stored_A (hc0 : cond0_0 i) (hj : j.val = 0) (ρ : Fin 256) (γ : Fin 1024) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 x7 (ix2 ρ γ) = resAt P L og ⟨b.val * 4096 + (256 * j.val + ρ.val), by omega⟩ γ := by
  unfold out0_A_8
  rw [View.read_writes_junk_eq_canon, out_A]
  exact outs_eq H _ (reset_eq x0 x1 x2 x3 x4 x5 x6 x7 H hj) ρ γ

/-- … and a point that goes on. -/
theorem left_B (hc0 : ¬cond0_0 i) (hs : ∀ h e d, xs0 (ix3 h e d) = stP P L b h d e (4 * j.val)) (h : Fin 4) (e : Fin 256) (d : Fin 128) :
    sout0_B_0 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix3 h e d) = stP P L b h d e (4 * j.val + 4) := by
  obtain ⟨M, hM⟩ := state_B c i arg2 harg2 arg3 harg3 arg4 harg4 arg5 harg5 arg6 harg6 arg7 harg7 arg8 harg8 arg9 harg9 arg10 harg10 arg11 harg11 x0 x1 x2 x3 x4 x5 x6 x7 xs0 hc0
  unfold sout0_B_0
  rw [View.read_writes_junk_eq_canon, hM]
  exact states_eq H _ (fun h e d => (ld_s xs0 h e d).trans (hs h e d)) M h e d

theorem stored_B (hc0 : ¬cond0_0 i) (hs : ∀ h e d, xs0 (ix3 h e d) = stP P L b h d e (4 * j.val)) (ρ : Fin 256) (γ : Fin 1024) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 (ix2 ρ γ) = resAt P L og ⟨b.val * 4096 + (256 * j.val + ρ.val), by omega⟩ γ := by
  unfold out0_B_8
  rw [View.read_writes_junk_eq_canon, out_B]
  exact outs_eq H _ (fun h e d => (ld_s xs0 h e d).trans (hs h e d)) ρ γ

end Body

variable (m : (ℓ : Loc nD τ sig) → Buf (Elt Ideal) ℓ)

/-! ## What the region's arrays hold when it is entered -/

def zeroW : FVec Ideal S128x512 .f32 := broadcastInDim S128x512 ![] facts.bcast_S_S128x512 (constant S_ .f32 0x00000000#32)
def startW : IVec S1 32 := broadcastInDim S1 ![] facts.bcast_S_S1 (constantI S_ 32 0#32)
/-- The gate's second weight with zero rows below it. -/
def placedW (w : FVec Ideal S16x512 .f32) : FVec Ideal S128x512 .f32 :=
  Host.scatter scatter_S128x512_S1_S16x512_01_n_0_0 (fun _ b => b) zeroW startW w
def narrowW (w : FVec Ideal S16x512 .f32) : FVec Ideal S128x512 .bf16 :=
  truncf .bf16 (placedW w) facts.bitsLt_bf16_f32
def rowB (b : FVec Ideal S512 .f32) : FVec Ideal S1x512 .f32 := broadcastInDim S1x512 ![1] facts.bcast_S512_S1x512_1 b
def rowG (g : FVec Ideal S256 .f32) : FVec Ideal S1x256 .f32 := broadcastInDim S1x256 ![1] facts.bcast_S256_S1x256_1 g

theorem zeroW_apply (k : Fin 128) (n : Fin 512) : zeroW (ix2 k n) = (0 : EReal) := by
  pointwise [zeroW]
theorem rowB_apply (b : FVec Ideal S512 .f32) (n : Fin 512) : rowB b (ix2 0 n) = b (ix1 n) := by
  pointwise [rowB]
theorem rowG_apply (g : FVec Ideal S256 .f32) (n : Fin 256) : rowG g (ix2 0 n) = g (ix1 n) := by
  pointwise [rowG]

theorem placedW_eq (w : FVec Ideal S16x512 .f32) (k : Fin 128) (n : Fin 512) :
    placedW w (ValueIdx.ix2 k n) = if h : k.val < 16 then w (ValueIdx.ix2 ⟨k.val, h⟩ n) else zeroW (ValueIdx.ix2 k n) := by
  unfold placedW
  exact Proj.written_rows _ rfl rfl startW (fun _ => rfl) zeroW w k n

theorem narrowW_eq (w : FVec Ideal S16x512 .f32) (k : Fin 128) (n : Fin 512) : narrowW w (ix2 k n) = placedW w (ix2 k n) := by
  pointwise [narrowW]

theorem narrowW_row (w : FVec Ideal S16x512 .f32) (k : Fin 128) (n : Fin 512) :
    narrowW w (ix2 k n) = if h : k.val < 16 then w (ix2 ⟨k.val, h⟩ n) else (0 : EReal) := by
  rw [narrowW_eq, ix2_eq_valueIdx k n, placedW_eq]
  by_cases h : k.val < 16
  · rw [dif_pos h, dif_pos h, ← ix2_eq_valueIdx]
  · rw [dif_neg h, dif_neg h, ← ix2_eq_valueIdx]
    exact zeroW_apply k n

/-- The zero rows add nothing to the product. -/
theorem narrow_sum (x : Fin 128 → EReal) (w : FVec Ideal S16x512 .f32) (n : Fin 512) :
    (∑ k : Fin 128, x k * narrowW w (ix2 k n)) = ∑ k : Fin 16, x ⟨k.val, by omega⟩ * w (ix2 k n) := by
  refine (Fin.sum_univ_add (a := 16) (b := 112) (fun k : Fin (16 + 112) => x k * narrowW w (ix2 k n))).trans ?_
  rw [Finset.sum_eq_zero (fun k _ => by
    rw [narrowW_row, dif_neg (by show ¬16 + k.val < 16; omega), mul_zero] : ∀ k ∈ (Finset.univ : Finset (Fin 112)), x (Fin.natAdd 16 k) * narrowW w (ix2 (Fin.natAdd 16 k) n) = 0), add_zero]
  refine Finset.sum_congr rfl fun k _ => ?_
  rw [narrowW_row, dif_pos (show (Fin.castAdd 112 k).val < 16 from k.isLt)]
  rfl

theorem entry_w (c : Dev nD) : V m c main_v3 = narrowW (m ((c : Thread nD τ).loc main_arg2)) := by
  dsimp only [V, hostOps0]
  after_results <;> rfl
theorem entry_b (c : Dev nD) : V m c main_v4 = rowB (m ((c : Thread nD τ).loc main_arg3)) := by
  dsimp only [V, hostOps0]
  after_results <;> rfl
theorem entry_g (c : Dev nD) : V m c main_v5 = rowG (m ((c : Thread nD τ).loc main_arg4)) := by
  dsimp only [V, hostOps0]
  after_results <;> rfl

/-! ## The blocks of a point -/

theorem index0 : ∀ t : Fin cfg0.N, win0_0.index t = ![t.val, 0] := (by decide +kernel : ∀ t : Fin grid0.N, win0_0.index t = ![t.val, 0])
theorem index1 : ∀ t : Fin cfg0.N, win0_1.index t = ![t.val, 1] := (by decide +kernel : ∀ t : Fin grid0.N, win0_1.index t = ![t.val, 1])
theorem index2 : ∀ t : Fin cfg0.N, win0_2.index t = ![t.val, 1] := (by decide +kernel : ∀ t : Fin grid0.N, win0_2.index t = ![t.val, 1])
theorem index3 : ∀ t : Fin cfg0.N, win0_3.index t = ![t.val, 2] := (by decide +kernel : ∀ t : Fin grid0.N, win0_3.index t = ![t.val, 2])
theorem index4 : ∀ t : Fin cfg0.N, win0_4.index t = ![t.val, 0] := (by decide +kernel : ∀ t : Fin grid0.N, win0_4.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])

theorem point_lt (t : Fin cfg0.N) : t.val < 128 := t.isLt

theorem blk0 (c : Dev nD) (t : Fin cfg0.N) (q : Fin 256) (k : Fin 512) :
    iblk m c 0 t (ix2 q k) = m ((c : Thread nD τ).loc main_arg0) (ix2 (⟨t.val * 256 + q.val, by have := point_lt t; omega⟩ : Fin 32768) (⟨k.val, by omega⟩ : Fin 3072)) := by
  rw [ix2_eq_valueIdx, ix2_eq_valueIdx]
  blk_simp [iblk]
  refine (congrFun (V_main_arg0 m c) _).trans (congrArg (m ((c : Thread nD τ).loc main_arg0)) ?_)
  blk_ext [index0]

theorem blk1 (c : Dev nD) (t : Fin cfg0.N) (q : Fin 256) (k : Fin 512) :
    iblk m c 1 t (ix2 q k) = m ((c : Thread nD τ).loc main_arg0) (ix2 (⟨t.val * 256 + q.val, by have := point_lt t; omega⟩ : Fin 32768) (⟨512 + k.val, by omega⟩ : Fin 3072)) := by
  rw [ix2_eq_valueIdx, ix2_eq_valueIdx]
  blk_simp [iblk]
  refine (congrFun (V_main_arg0 m c) _).trans (congrArg (m ((c : Thread nD τ).loc main_arg0)) ?_)
  blk_ext [index1]

theorem blk2 (c : Dev nD) (t : Fin cfg0.N) (q : Fin 256) (k : Fin 1024) :
    iblk m c 2 t (ix2 q k) = m ((c : Thread nD τ).loc main_arg0) (ix2 (⟨t.val * 256 + q.val, by have := point_lt t; omega⟩ : Fin 32768) (⟨1024 + k.val, by omega⟩ : Fin 3072)) := by
  rw [ix2_eq_valueIdx, ix2_eq_valueIdx]
  blk_simp [iblk]
  refine (congrFun (V_main_arg0 m c) _).trans (congrArg (m ((c : Thread nD τ).loc main_arg0)) ?_)
  blk_ext [index2]

theorem blk3 (c : Dev nD) (t : Fin cfg0.N) (q : Fin 256) (k : Fin 1024) :
    iblk m c 3 t (ix2 q k) = m ((c : Thread nD τ).loc main_arg0) (ix2 (⟨t.val * 256 + q.val, by have := point_lt t; omega⟩ : Fin 32768) (⟨2048 + k.val, by omega⟩ : Fin 3072)) := by
  rw [ix2_eq_valueIdx, ix2_eq_valueIdx]
  blk_simp [iblk]
  refine (congrFun (V_main_arg0 m c) _).trans (congrArg (m ((c : Thread nD τ).loc main_arg0)) ?_)
  blk_ext [index3]

theorem blk4 (c : Dev nD) (t : Fin cfg0.N) (q : Fin 256) (k : Fin 128) :
    iblk m c 4 t (ix2 q k) = m ((c : Thread nD τ).loc main_arg1) (ix2 (⟨t.val * 256 + q.val, by have := point_lt t; omega⟩ : Fin 32768) k) := by
  rw [ix2_eq_valueIdx, ix2_eq_valueIdx]
  blk_simp [iblk]
  refine (congrFun (V_main_arg1 m c) _).trans (congrArg (m ((c : Thread nD τ).loc main_arg1)) ?_)
  blk_ext [index4]

theorem blk5 (c : Dev nD) (t : Fin cfg0.N) (k : Fin 128) (n : Fin 512) :
    iblk m c 5 t (ix2 k n) = narrowW (m ((c : Thread nD τ).loc main_arg2)) (ix2 k n) := by
  rw [ix2_eq_valueIdx]
  blk_simp [iblk]
  refine (congrFun (entry_w m c) _).trans (congrArg (narrowW (m ((c : Thread nD τ).loc main_arg2))) ?_)
  blk_ext [index5]

theorem blk6 (c : Dev nD) (t : Fin cfg0.N) (n : Fin 512) :
    iblk m c 6 t (ix2 0 n) = m ((c : Thread nD τ).loc main_arg3) (ix1 n) := by
  refine Eq.trans ?_ (rowB_apply _ n)
  rw [ix2_eq_valueIdx]
  blk_simp [iblk]
  refine (congrFun (entry_b m c) _).trans (congrArg (rowB (m ((c : Thread nD τ).loc main_arg3))) ?_)
  blk_ext [index6]

theorem blk7 (c : Dev nD) (t : Fin cfg0.N) (n : Fin 256) :
    iblk m c 7 t (ix2 0 n) = m ((c : Thread nD τ).loc main_arg4) (ix1 n) := by
  refine Eq.trans ?_ (rowG_apply _ n)
  rw [ix2_eq_valueIdx]
  blk_simp [iblk]
  refine (congrFun (entry_g m c) _).trans (congrArg (rowG (m ((c : Thread nD τ).loc main_arg4))) ?_)
  blk_ext [index7]

/-! ## The states and the array -/

/-- The projection's entries, of the arguments, … -/
def PK (c : Dev nD) (R : Fin 32768) (C : Fin 3072) : EReal := m ((c : Thread nD τ).loc main_arg0) (ix2 R C)
/-- … the log gates … -/
def LK (c : Dev nD) (R : Fin 32768) (C : Fin 512) : EReal :=
  Cert.GlaRefVal.lgP (m ((c : Thread nD τ).loc main_arg1)) (m ((c : Thread nD τ).loc main_arg2)) (m ((c : Thread nD τ).loc main_arg3)) R C
/-- … and the gain. -/
def GK (c : Dev nD) (i : Fin 256) : EReal := m ((c : Thread nD τ).loc main_arg4) (ix1 i)

/-- A point's batch … -/
def tb (t : Fin cfg0.N) : Fin 8 := ⟨t.val / 16, by have := point_lt t; omega⟩
/-- … and its place in the batch. -/
def tj (t : Fin cfg0.N) : Fin 16 := ⟨t.val % 16, by omega⟩

theorem row_eq (t : Fin cfg0.N) (k : Fin 4) (r : Fin 64) :
    (⟨t.val * 256 + (rB k r).val, by have := point_lt t; have := (rB k r).isLt; omega⟩ : Fin 32768) = rowM (tb t) (ch (tj t) k) r :=
  Fin.ext (by
    show t.val * 256 + (64 * k.val + r.val) = t.val / 16 * 4096 + ((4 * (t.val % 16) + k.val) * 64 + r.val)
    omega)

theorem reads (c : Dev nD) (t : Fin cfg0.N) :
    Reads (PK m c) (LK m c) (GK m c) (tb t) (tj t) (k0_pay2 (iblk m c 4 t) (iblk m c 5 t) (iblk m c 6 t)) (iblk m c 0 t) (iblk m c 1 t) (iblk m c 2 t) (iblk m c 3 t) (iblk m c 7 t) where
  lg k h r d := by
    rw [lg_apply, blk6]
    unfold LK Cert.GlaRefVal.lgP
    have ec : kB h d = colK h d := Fin.ext (by show 128 * h.val + d.val = h.val * 128 + d.val; omega)
    rw [ec]
    refine congrArg lgM (congrArg (fun z : EReal => z + _) ?_)
    refine Eq.trans (Finset.sum_congr rfl fun i _ => ?_) (narrow_sum (fun i => m ((c : Thread nD τ).loc main_arg1) (ix2 (rowM (tb t) (ch (tj t) k) r) i)) (m ((c : Thread nD τ).loc main_arg2)) (colK h d))
    rw [blk4, blk5, row_eq]
  q k h r d := by
    rw [blk0, row_eq]
    exact congrArg (PK m c _) (Fin.ext (by show 128 * h.val + d.val = h.val * 128 + d.val; omega))
  k k h r d := by
    rw [blk1, row_eq]
    exact congrArg (PK m c _) (Fin.ext (by show 512 + (128 * h.val + d.val) = 512 + (h.val * 128 + d.val); omega))
  v k h r e := by
    rw [blk2, row_eq]
    exact congrArg (PK m c _) (Fin.ext (by show 1024 + (256 * h.val + e.val) = 1024 + (h.val * 256 + e.val); omega))
  r k h r e := by
    rw [blk3, row_eq]
    exact congrArg (PK m c _) (Fin.ext (by show 2048 + (256 * h.val + e.val) = 2048 + (h.val * 256 + e.val); omega))
  og e := blk7 m c t e

theorem carry_A (c : Dev nD) (t : Fin cfg0.N) (h0 : t.val % 16 = 0) (h : Fin 4) (e : Fin 256) (d : Fin 128) :
    (outsAt0 m c t.val t.isLt).2 (ix3 h e d) = stP (PK m c) (LK m c) (tb t) h d e (4 * (tj t).val + 4) := by
  rw [outsAt0_A m c t h0]
  dsimp only
  exact left_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (iblk m c 7 t) (reads m c t) ((hcond0_0 t).mpr h0) h0 h e d

theorem carry_B (c : Dev nD) (t : Fin cfg0.N) (h0 : ¬t.val % 16 = 0)
    (hs : ∀ h e d, (outsAt0 m c (t.val - 1) (Nat.lt_of_le_of_lt (Nat.sub_le _ _) t.isLt)).2 (ix3 h e d) = stP (PK m c) (LK m c) (tb t) h d e (4 * (tj t).val)) (h : Fin 4) (e : Fin 256) (d : Fin 128) :
    (outsAt0 m c t.val t.isLt).2 (ix3 h e d) = stP (PK m c) (LK m c) (tb t) h d e (4 * (tj t).val + 4) := by
  rw [outsAt0_B m c t h0]
  dsimp only
  exact left_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (iblk m c 7 t) _ (reads m c t) (fun hc => h0 ((hcond0_0 t).mp hc)) hs h e d

/-- The place before a point that goes on. -/
theorem before (c : Dev nD) (t : Fin cfg0.N) (h0 : ¬t.val % 16 = 0) (n : ℕ) (hn : n < cfg0.N) (e : t.val = n + 1) (h : Fin 4) (x : Fin 256) (d : Fin 128) :
    stP (PK m c) (LK m c) (tb ⟨n, hn⟩) h d x (4 * (tj ⟨n, hn⟩).val + 4) = stP (PK m c) (LK m c) (tb t) h d x (4 * (tj t).val) := by
  have e1 : tb ⟨n, hn⟩ = tb t := Fin.ext (by show n / 16 = t.val / 16; omega)
  have e2 : 4 * (tj ⟨n, hn⟩).val + 4 = 4 * (tj t).val := by
    show 4 * (n % 16) + 4 = 4 * (t.val % 16)
    omega
  rw [e1, e2]

/-- The state after every point. -/
theorem carry (c : Dev nD) : ∀ (n : ℕ) (hn : n < cfg0.N) (h : Fin 4) (e : Fin 256) (d : Fin 128),
    (outsAt0 m c n hn).2 (ix3 h e d) = stP (PK m c) (LK m c) (tb ⟨n, hn⟩) h d e (4 * (tj ⟨n, hn⟩).val + 4)
  | 0, hn, h, e, d => carry_A m c ⟨0, hn⟩ rfl h e d
  | n + 1, hn, h, e, d => by
    by_cases h0 : (n + 1) % 16 = 0
    · exact carry_A m c ⟨n + 1, hn⟩ h0 h e d
    · exact carry_B m c ⟨n + 1, hn⟩ h0 (fun h e d => (carry c n (Nat.lt_of_succ_lt hn) h e d).trans (before m c ⟨n + 1, hn⟩ h0 n _ rfl h e d)) h e d

/-- What every point writes. -/
theorem written_eq (c : Dev nD) (t : Fin cfg0.N) (ρ : Fin 256) (γ : Fin 1024) :
    (outsAt0 m c t.val t.isLt).1 (ix2 ρ γ) = resAt (PK m c) (LK m c) (GK m c) ⟨(tb t).val * 4096 + (256 * (tj t).val + ρ.val), by have := (tb t).isLt; have := (tj t).isLt; omega⟩ γ := by
  by_cases h0 : t.val % 16 = 0
  · rw [outsAt0_A m c t h0]
    dsimp only
    exact stored_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (iblk m c 0 t) (iblk m c 1 t) (iblk m c 2 t) (iblk m c 3 t) (iblk m c 4 t) (iblk m c 5 t) (iblk m c 6 t) (iblk m c 7 t) (reads m c t) ((hcond0_0 t).mpr h0) h0 ρ γ
  · rw [outsAt0_B m c t h0]
    dsimp only
    exact stored_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (iblk m c 0 t) (iblk m c 1 t) (iblk m c 2 t) (iblk m c 3 t) (iblk m c 4 t) (iblk m c 5 t) (iblk m c 6 t) (iblk m c 7 t) _ (reads m c t) (fun hc => h0 ((hcond0_0 t).mp hc))
      (fun h e d => (carry m c (t.val - 1) _ h e d).trans (before m c t h0 (t.val - 1) _ (by omega) h e d)) ρ γ

/-- The reference's array, entry by entry. -/
def array (c : Dev nD) : FVec Ideal S32768x1024 .bf16 :=
  fun i => resAt (PK m c) (LK m c) (GK m c) (⟨(i 0).val, (i 0).isLt⟩ : Fin 32768) (⟨(i 1).val, (i 1).isLt⟩ : Fin 1024)

theorem final (c : Dev nD) : (dats m 0 c).arrAt 8 cfg0.N = array m c := by
  refine (dats m 0 c).arrAt_eq_of_covers 8 _ (by decide +kernel) fun t hf y => ?_
  blk_simp
  rw [after0_8]
  have hy : y = ix2 (⟨(y 0).val, (y 0).isLt⟩ : Fin 256) (⟨(y 1).val, (y 1).isLt⟩ : Fin 1024) := by
    rw [ix2_eq_valueIdx]
    blk_ext
  obtain ⟨ρ, γ, rfl⟩ : ∃ (ρ : Fin 256) (γ : Fin 1024), y = ix2 ρ γ := ⟨_, _, hy⟩
  refine (written_eq m c t ρ γ).trans ?_
  have ht := point_lt t
  have e := (show array m c (ix2 (⟨t.val * 256 + ρ.val, by omega⟩ : Fin 32768) γ) = resAt (PK m c) (LK m c) (GK m c) (⟨t.val * 256 + ρ.val, by omega⟩ : Fin 32768) γ from rfl)
  refine Eq.trans ?_ (e.symm.trans (congrArg (array m c) ?_))
  · refine congrArg (fun R => resAt (PK m c) (LK m c) (GK m c) R γ) (Fin.ext ?_)
    show t.val / 16 * 4096 + (256 * (t.val % 16) + ρ.val) = t.val * 256 + ρ.val
    omega
  · rw [ix2_eq_valueIdx, ix2_eq_valueIdx]
    blk_ext [index8]

/-! ## The reference's run -/

section Ref

open Cert.GlaRefIdeal.Value Cert.GlaRefVal

variable (m' : (ℓ : Loc Cert.GlaRefIdeal.nD Cert.GlaRefIdeal.τ Cert.GlaRefIdeal.sig) → Buf (Elt Ideal) ℓ)

/-- A buffer nothing writes keeps its contents. -/
theorem kept (c : Dev Cert.GlaRefIdeal.nD) (r : Ref Cert.GlaRefIdeal.sig .tc)
    (hb : r ∉ hostOps0_W ++ hostOps0_1_W ++ hostOps0_2_W ++ hostOps0_3_W ++ hostOps0_4_W ++ hostOps0_5_W ++ hostOps0_6_W ++ hostOps0_7_W ++ hostOps0_8_W)
    (hl : r ∉ condOps_W ++ while0Ops0_W ++ while0Ops0_1_W ++ while0Ops0_2_W ++ while0Ops0_3_W ++ while0Ops0_4_W)
    (ha : ∀ X : Valuation Cert.GlaRefIdeal.τ Cert.GlaRefIdeal.sig (Elt Ideal), afterL postI X (Proc.devRef .tc r) = X (Proc.devRef .tc r)) :
    finalContents condOps preI bodyI postI 64 m' c (Proc.devRef .tc r) = m' ((c.tc : Thread Cert.GlaRefIdeal.nD Cert.GlaRefIdeal.τ).loc r) := by
  simp only [List.mem_append, not_or] at hb hl
  obtain ⟨⟨⟨⟨⟨⟨⟨⟨b0, b1⟩, b2⟩, b3⟩, b4⟩, b5⟩, b6⟩, b7⟩, b8⟩ := hb
  obtain ⟨⟨⟨⟨⟨l0, l1⟩, l2⟩, l3⟩, l4⟩, l5⟩ := hl
  refine (ha (after condOps (atK m' 64 c))).trans ?_
  rw [after_of_writes_sub condOps _ condOps_writes l0, atK_keep m' c r l0 l1 l2 l3 l4 l5]
  simp only [E0, entryContents, afterL_cons, afterL_nil]
  rw [after_of_writes_sub Cert.GlaRefIdeal.Gen.hostOps0_8 _ hostOps0_8_writes b8, after_of_writes_sub Cert.GlaRefIdeal.Gen.hostOps0_7 _ hostOps0_7_writes b7, after_of_writes_sub Cert.GlaRefIdeal.Gen.hostOps0_6 _ hostOps0_6_writes b6,
    after_of_writes_sub Cert.GlaRefIdeal.Gen.hostOps0_5 _ hostOps0_5_writes b5, after_of_writes_sub Cert.GlaRefIdeal.Gen.hostOps0_4 _ hostOps0_4_writes b4, after_of_writes_sub Cert.GlaRefIdeal.Gen.hostOps0_3 _ hostOps0_3_writes b3,
    after_of_writes_sub Cert.GlaRefIdeal.Gen.hostOps0_2 _ hostOps0_2_writes b2, after_of_writes_sub Cert.GlaRefIdeal.Gen.hostOps0_1 _ hostOps0_1_writes b1, after_of_writes_sub Cert.GlaRefIdeal.Gen.hostOps0 _ hostOps0_writes b0]

theorem post_arg0 (X : Valuation Cert.GlaRefIdeal.τ Cert.GlaRefIdeal.sig (Elt Ideal)) : afterL postI X (Proc.devRef .tc Cert.GlaRefIdeal.main_arg0) = X (Proc.devRef .tc Cert.GlaRefIdeal.main_arg0) := by
  simp only [afterL_cons, afterL_nil]
  after_reads_simp
theorem post_arg1 (X : Valuation Cert.GlaRefIdeal.τ Cert.GlaRefIdeal.sig (Elt Ideal)) : afterL postI X (Proc.devRef .tc Cert.GlaRefIdeal.main_arg1) = X (Proc.devRef .tc Cert.GlaRefIdeal.main_arg1) := by
  simp only [afterL_cons, afterL_nil]
  after_reads_simp
theorem post_arg2 (X : Valuation Cert.GlaRefIdeal.τ Cert.GlaRefIdeal.sig (Elt Ideal)) : afterL postI X (Proc.devRef .tc Cert.GlaRefIdeal.main_arg2) = X (Proc.devRef .tc Cert.GlaRefIdeal.main_arg2) := by
  simp only [afterL_cons, afterL_nil]
  after_reads_simp
theorem post_arg3 (X : Valuation Cert.GlaRefIdeal.τ Cert.GlaRefIdeal.sig (Elt Ideal)) : afterL postI X (Proc.devRef .tc Cert.GlaRefIdeal.main_arg3) = X (Proc.devRef .tc Cert.GlaRefIdeal.main_arg3) := by
  simp only [afterL_cons, afterL_nil]
  after_reads_simp
theorem post_arg4 (X : Valuation Cert.GlaRefIdeal.τ Cert.GlaRefIdeal.sig (Elt Ideal)) : afterL postI X (Proc.devRef .tc Cert.GlaRefIdeal.main_arg4) = X (Proc.devRef .tc Cert.GlaRefIdeal.main_arg4) := by
  simp only [afterL_cons, afterL_nil]
  after_reads_simp

/-- The reference's run: its result named, its arguments as they were. -/
theorem ref_run (g' : Dev Cert.GlaRefIdeal.nD → PrngReg) :
    θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
      r.2.mem ((c.tc : Thread Cert.GlaRefIdeal.nD Cert.GlaRefIdeal.τ).loc Cert.GlaRefIdeal.main_v75) = finalContents condOps preI bodyI postI 64 m' c (Proc.devRef .tc Cert.GlaRefIdeal.main_v75)
      ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)) :=
  (θ_run _ _ _).mono (fun r h c => ⟨h c _ rfl,
    (h c _ rfl).trans (kept m' c _ (by decide) (by decide) post_arg0), (h c _ rfl).trans (kept m' c _ (by decide) (by decide) post_arg1),
    (h c _ rfl).trans (kept m' c _ (by decide) (by decide) post_arg2), (h c _ rfl).trans (kept m' c _ (by decide) (by decide) post_arg3),
    (h c _ rfl).trans (kept m' c _ (by decide) (by decide) post_arg4)⟩) (run_fold m' g')

/-- The reference's result, entry by entry. -/
theorem ref_array (c : Dev Cert.GlaRefIdeal.nD) :
    finalContents condOps preI bodyI postI 64 m' c (Proc.devRef .tc Cert.GlaRefIdeal.main_v75)
      = (fun i => resAt (PM m' c) (LM m' c) (fun k => OG m' c (ix1 k)) (⟨(i 0).val, (i 0).isLt⟩ : Fin 32768) (⟨(i 1).val, (i 1).isLt⟩ : Fin 1024) : FVec Ideal S32768x1024 .bf16) := by
  rw [final_res]
  funext i
  obtain ⟨R, C, rfl⟩ : ∃ (R : Fin 32768) (C : Fin 1024), i = ix2 R C := ⟨⟨(i 0).val, (i 0).isLt⟩, ⟨(i 1).val, (i 1).isLt⟩, by
    funext a
    fin_cases a <;> rfl⟩
  obtain ⟨b, n, r, rfl⟩ : ∃ (b : Fin 8) (n r : Fin 64), R = rowM b n r := ⟨⟨R.val / 4096, by omega⟩, ⟨R.val % 4096 / 64, by omega⟩, ⟨R.val % 64, by omega⟩, Fin.ext (by
    show R.val = R.val / 4096 * 4096 + (R.val % 4096 / 64 * 64 + R.val % 64)
    omega)⟩
  obtain ⟨h, e, rfl⟩ : ∃ (h : Fin 4) (e : Fin 256), C = colV h e := ⟨⟨C.val / 256, by omega⟩, ⟨C.val % 256, by omega⟩, Fin.ext (by
    show C.val = C.val / 256 * 256 + C.val % 256
    omega)⟩
  exact (res_apply m' c b h n r e).trans (resAt_eq (PM m' c) (LM m' c) (fun k => OG m' c (ix1 k)) b h n r e).symm

end Ref

/-! ## The claims -/

theorem frame_p : Cert.quiescent_Gla (hGla := Cert.Gla.Gen.facts) :=
  fun m g _ => Cert.Gla.Gen.frame m g

theorem frame_pi : Cert.quiescent_GlaIdeal (hGlaIdeal := Cert.GlaIdeal.Gen.facts) :=
  fun m g _ => Cert.GlaIdeal.Gen.frame m g

theorem frame_ri : Cert.quiescent_GlaRefIdeal (hGlaRefIdeal := Cert.GlaRefIdeal.Gen.facts) :=
  fun m g _ => (θ_run _ _ _).mono (fun r h => ⟨fun c => (h c).2, sem_eq_zero_of_no_sems rfl r.2⟩) (ref_run m g)

theorem algebraic : Cert.algebraic_GlaIdeal_GlaRefIdeal (hGlaIdeal := Cert.GlaIdeal.Gen.facts) (hGlaRefIdeal := Cert.GlaRefIdeal.Gen.facts) := by
  intro m g m' g' hpre hargs
  refine ⟨fun c => (dats m 0 c).arrAt 8 cfg0.N, Cert.GlaIdeal.Value.run_blocks m g, ?_⟩
  refine (θ_run _ _ _).mono (fun r h c => ⟨(h c).1.trans ?_, (h c).2⟩) (ref_run m' g')
  obtain ⟨e0, e1, e2, e3, e4⟩ := hargs c
  refine (ref_array m' c).trans (Eq.trans ?_ (final m c).symm)
  unfold array
  have ep : Cert.GlaRefVal.PM m' c = PK m c := funext fun R => funext fun C => congrFun e0 _
  have el : Cert.GlaRefVal.LM m' c = LK m c := funext fun R => funext fun C => by
    show Cert.GlaRefVal.lgP (Cert.GlaRefVal.GX m' c) (Cert.GlaRefVal.W2 m' c) (Cert.GlaRefVal.GB m' c) R C = _
    unfold Cert.GlaRefVal.GX Cert.GlaRefVal.W2 Cert.GlaRefVal.GB
    rw [e1, e2, e3]
    rfl
  have eg : (fun k => Cert.GlaRefVal.OG m' c (ix1 k)) = GK m c := funext fun k => congrFun e4 _
  rw [ep, el, eg]

end Cert.GlaVal

end
-- ==== Proof.PrepCell.lean ====
/-
The attention's preparation, the kernel's body: what a point computes from the contents of the buffers it reads.
-/
module

public import proofs.«01_k».proof.Defs
public import proofs.«01_k».proof.Proof.Gen.PrepIdeal.Value
public import proofs.«01_k».proof.Proof.GlaApply
public import Idealize.ShloMosaic.Lib.WordCmp
public import Idealize.ShloMosaic.Lib.Pointwise

@[expose] public section

set_option maxRecDepth 16384

noncomputable section

namespace Cert.PrepVal

open Idealize.ShloMosaic Idealize.ShloMosaic.TcCoe Idealize.SL.Sem Cert.PrepIdeal Cert.PrepIdeal.Gen
open Idealize.ShloMosaic.StableHlo
open Cert.GlaVal (tail tail_one tail_double)

/-! ## Running sums down a point's rows -/

/-- Every row plus the row `k` above it, where there is one. -/
def shiftAdd (k : BitVec 32) (x : FVec Ideal S256x128 .f32) : FVec Ideal S256x128 .f32 :=
  addf x (select (cmpi .sge (iota .tc S256x128 32 [0] iota_S256x128_d0_w32) (broadcast S256x128 k)) (dynamicRotate 0 k none x rotates_S256x128_d0) (broadcast S256x128 (Scalar.ofBits .f32 0x00000000#32)))

/-- The running sums down the rows, by doubling. -/
def cumV (x : FVec Ideal S256x128 .f32) : FVec Ideal S256x128 .f32 :=
  shiftAdd 128#32 (shiftAdd 64#32 (shiftAdd 32#32 (shiftAdd 16#32 (shiftAdd 8#32 (shiftAdd 4#32 (shiftAdd 2#32 (shiftAdd 1#32 x)))))))

/-- A column of a point's rows, by row. -/
def col (x : FVec Ideal S256x128 .f32) (d : Fin 128) (r : ℕ) : EReal := if h : r < 256 then x (ix2 (⟨r, h⟩ : Fin 256) d) else 0

theorem shiftAdd_apply (n : ℕ) (hn : n < 256) (x : FVec Ideal S256x128 .f32) (r : Fin 256) (d : Fin 128) :
    shiftAdd (BitVec.ofNat 32 n) x (ix2 r d) = (x (ix2 r d) + if n ≤ r.val then col x d (r.val - n) else 0 : EReal) := by
  have hr := r.isLt
  have hk : (BitVec.ofNat 32 n).toNat = n := by rw [BitVec.toNat_ofNat, Nat.mod_eq_of_lt (by omega)]
  have e : IntOp.cmpi .sge (BitVec.ofNat 32 r.val) (BitVec.ofNat 32 n) = BitVec.ofBool (decide (n ≤ r.val)) :=
    WordCmp.cmpi_sge_ofNat (by omega) (by omega)
  pointwise [shiftAdd]
  rw [e]
  by_cases h : n ≤ r.val
  · rw [if_pos h, decide_eq_true h]
    have hi : (r.val + 256 - (BitVec.ofNat 32 n).toNat % 256) % 256 = r.val - n := by
      rw [hk, Nat.mod_eq_of_lt hn, show r.val + 256 - n = (r.val - n) + 256 by omega, Nat.add_mod_right, Nat.mod_eq_of_lt (by omega)]
    unfold col
    rw [dif_pos (by omega)]
    refine congrArg (fun z : EReal => (x (ix2 r d) + z : EReal)) ?_
    exact congrArg (fun i : Fin 256 => x (ix2 i d)) (Fin.ext hi)
  · rw [if_neg h, decide_eq_false h]
    rfl

theorem shiftAdd_tail (n : ℕ) (hn : n < 256) (x y : FVec Ideal S256x128 .f32) (d : Fin 128) (h : ∀ r : Fin 256, y (ix2 r d) = tail (col x d) n r.val) (r : Fin 256) :
    shiftAdd (BitVec.ofNat 32 n) y (ix2 r d) = tail (col x d) (n + n) r.val := by
  have hr := r.isLt
  rw [shiftAdd_apply n hn, h r, ← tail_double]
  refine congrArg (fun z : EReal => (tail (col x d) n r.val + z : EReal)) ?_
  by_cases hc : n ≤ r.val
  · rw [if_pos hc, if_pos hc, col, dif_pos (by omega)]
    exact h ⟨r.val - n, by omega⟩
  · rw [if_neg hc, if_neg hc]

/-- All entries down to a row. -/
theorem tail_all (x : ℕ → EReal) (n r : ℕ) (h : r < n) : tail x n r = ∑ j ∈ Finset.range (r + 1), x j := by
  unfold tail
  rw [← Finset.sum_range_reflect x, ← Finset.sum_filter]
  refine Finset.sum_congr (Finset.ext fun j => ?_) fun j hj => ?_
  · simp only [Finset.mem_filter, Finset.mem_range]
    omega
  · simp only [Finset.mem_range] at hj
    exact congrArg x (by omega)

theorem cumV_apply (x : FVec Ideal S256x128 .f32) (r : Fin 256) (d : Fin 128) : cumV x (ix2 r d) = ∑ j ∈ Finset.range (r.val + 1), col x d j := by
  have h0 : ∀ r : Fin 256, x (ix2 r d) = tail (col x d) 1 r.val := fun r => by
    rw [tail_one, col, dif_pos r.isLt]
  refine Eq.trans ?_ (tail_all (col x d) 256 r.val r.isLt)
  exact shiftAdd_tail 128 (by decide) x _ d (shiftAdd_tail 64 (by decide) x _ d (shiftAdd_tail 32 (by decide) x _ d (shiftAdd_tail 16 (by decide) x _ d (shiftAdd_tail 8 (by decide) x _ d
    (shiftAdd_tail 4 (by decide) x _ d (shiftAdd_tail 2 (by decide) x _ d (shiftAdd_tail 1 (by decide) x _ d h0))))))) r

/-- A point's rows of the cumulative sums, on the sums carried in … -/
def sumsV (x : FVec Ideal S256x128 .f32) (s : FVec Ideal S1x128 .f32) : FVec Ideal S256x128 .f32 :=
  addf (cumV x) (broadcastTo S256x128 s broadcasts_S1x128_S256x128)

/-- … as the body computes them. -/
theorem pay1_eq (x : FVec Ideal S256x128 .f32) (s : FVec Ideal S1x128 .f32) :
    k0_pay1 (F := Ideal) (iota .tc S256x128 32 [0] iota_S256x128_d0_w32) (k0_pay11 x (iota .tc S256x128 32 [0] iota_S256x128_d0_w32) k0_pay10) (k0_pay12 x (iota .tc S256x128 32 [0] iota_S256x128_d0_w32) k0_pay10) s = sumsV x s := rfl

theorem sumsV_apply (x : FVec Ideal S256x128 .f32) (s : FVec Ideal S1x128 .f32) (r : Fin 256) (d : Fin 128) :
    sumsV x s (ix2 r d) = ((∑ j ∈ Finset.range (r.val + 1), col x d j) + s (ix2 0 d) : EReal) := by
  pointwise [sumsV]
  rw [cumV_apply]

theorem pay2_apply (v70 : IVec S256x128 32) (v106 v111 : FVec Ideal S256x128 .f32) (s : FVec Ideal S1x128 .f32) (d : Fin 128) :
    k0_pay2 (F := Ideal) v70 v106 v111 s (ix2 0 d) = k0_pay1 (F := Ideal) v70 v106 v111 s (ix2 255 d) := by
  pointwise [k0_pay2]

theorem pay3_apply (d : Fin 128) : k0_pay3 (F := Ideal) (ix2 0 d) = (0 : EReal) := by
  pointwise [k0_pay3]

/-! ## The log gates, the normed rows -/

/-- A log gate in base two. -/
def lgM (z : EReal) : EReal := -(max (-z) 0 + Ideal.log1p (Ideal.exp (-FloatOps.absf (F := Ideal) (φ := .f32) (-z)))) * Ideal.ofBits .f32 0x3FB8AA3B#32

theorem pay9_apply (x : FVec Ideal S256x128 .f32) (b : FVec Ideal S1x128 .f32) (r : Fin 256) (d : Fin 128) :
    k0_pay9 (F := Ideal) x b (ix2 r d) = lgM (x (ix2 r d) + b (ix2 0 d)) := by
  pointwise [k0_pay9]
  simp only [zero_sub]
  rfl

/-- A normed entry. -/
def nrm (x ms g : EReal) : EReal := x * Ideal.rsqrt (ms + Ideal.ofBits .f32 0x358637BD#32) * g

theorem pay4_apply (x : FVec Ideal S256x512 .bf16) (o : FVec Ideal S512x512 .bf16) (g : FVec Ideal S1x512 .f32) (e : Fin 512) (q : Fin 256) :
    k0_pay4 (F := Ideal) x o g (ix4 0 0 e q) = nrm (x (ix2 q e)) (∑ k : Fin 512, x (ix2 q k) * x (ix2 q k) * o (ix2 k e)) (g (ix2 0 e)) * Ideal.ofBits .f32 0x3E38AA3B#32 := by
  pointwise [k0_pay4]
  rfl

theorem pay7_apply (x : FVec Ideal S256x512 .bf16) (o : FVec Ideal S512x512 .bf16) (g : FVec Ideal S1x512 .f32) (e : Fin 512) (q : Fin 256) :
    k0_pay7 (F := Ideal) (k0_pay5 x) (k0_pay6 x o) g (ix2 q e) = nrm (x (ix2 q e)) (∑ k : Fin 512, x (ix2 q k) * x (ix2 q k) * o (ix2 k e)) (g (ix2 0 e)) := by
  pointwise [k0_pay7, k0_pay5, k0_pay6]
  rfl

theorem pay8_apply (x : FVec Ideal S256x512 .bf16) (e : Fin 512) (q : Fin 256) :
    k0_pay8 (F := Ideal) x (ix4 0 0 e q) = x (ix2 q e) := by
  pointwise [k0_pay8]

/-- The mean of 64 squares, as a sum over 512 columns of which one group of 64 counts. -/
theorem group_sum (x : Fin 512 → EReal) (o : Fin 512 → EReal) (h : Fin 8)
    (ho : ∀ k : Fin 512, o k = if k.val / 64 = h.val then Ideal.ofBits .bf16 0x3C80#16 else 0) :
    (∑ k : Fin 512, x k * x k * o k) = Ideal.div (∑ d : Fin 64, x ⟨h.val * 64 + d.val, by omega⟩ * x ⟨h.val * 64 + d.val, by omega⟩) (Ideal.ofBits .f32 0x42800000#32) := by
  have h1 : Ideal.ofBits .f32 0x42800000#32 = ((64 : ℝ) : EReal) := by
    simp [Ideal.ofBits, Ideal.ieee, -EReal.coe_mul]; norm_num
  have h2 : Ideal.ofBits .bf16 0x3C80#16 = (((64 : ℝ)⁻¹ : ℝ) : EReal) := by
    simp [Ideal.ofBits, Ideal.ieee, -EReal.coe_mul]; norm_num
  have hd : ∀ y : EReal, Ideal.div y ((64 : ℝ) : EReal) = y * (((64 : ℝ)⁻¹ : ℝ) : EReal) := fun y => by
    rw [EReal.coe_inv]
    exact if_neg (by norm_num)
  have hm : ∀ (s : Finset (Fin 64)) (f : Fin 64 → EReal), (∑ d ∈ s, f d) * (((64 : ℝ)⁻¹ : ℝ) : EReal) = ∑ d ∈ s, f d * (((64 : ℝ)⁻¹ : ℝ) : EReal) := fun s f => by
    induction s using Finset.induction_on with
    | empty => simp
    | insert a s ha ih => rw [Finset.sum_insert ha, Finset.sum_insert ha, ← ih, EReal.right_distrib_of_nonneg_of_ne_top (by norm_num) (EReal.coe_ne_top _)]
  rw [h1, hd, hm]
  simp only [ho, h2, mul_ite, mul_zero]
  rw [← Finset.sum_filter]
  refine Finset.sum_bij' (fun k hk => (⟨k.val % 64, by omega⟩ : Fin 64)) (fun d hd => (⟨h.val * 64 + d.val, by omega⟩ : Fin 512)) ?_ ?_ ?_ ?_ ?_
  · intro k hk
    exact Finset.mem_univ _
  · intro d hd
    simp only [Finset.mem_filter, Finset.mem_univ, true_and]
    omega
  · intro k hk
    simp only [Finset.mem_filter, Finset.mem_univ, true_and] at hk
    exact Fin.ext (show h.val * 64 + k.val % 64 = k.val by omega)
  · intro d hd
    exact Fin.ext (show (h.val * 64 + d.val) % 64 = d.val by omega)
  · intro k hk
    simp only [Finset.mem_filter, Finset.mem_univ, true_and] at hk
    have e : (⟨h.val * 64 + k.val % 64, by omega⟩ : Fin 512) = k := Fin.ext (show h.val * 64 + k.val % 64 = k.val by omega)
    rw [e]

end Cert.PrepVal

end
-- ==== Proof.PrepHost.lean ====
/-
The attention's preparation, what is built before the kernel: the groups' matrix, the gains across the heads, the gate's bias.
-/
module

public import proofs.«01_k».proof.Proof.PrepCell
public import proofs.«01_k».proof.Proof.Proj

@[expose] public section

set_option maxRecDepth 16384

noncomputable section

namespace Cert.PrepVal

open Idealize.ShloMosaic Idealize.ShloMosaic.TcCoe Idealize.SL.Sem Idealize.ShloMosaic.Routing Cert.PrepIdeal Cert.PrepIdeal.Gen
open Idealize.ShloMosaic.StableHlo

/-- An update of a stretch of the first row lands where it says. -/
theorem lands_row {C U : Nat} (d : ScatterDims (shape2 1 C) (shape1 2) (shape1 U)) (huw : d.updateWindowDims = [0]) (hiw : d.insertedWindowDims = [0])
    (idx : IVec (shape1 2) 32) (h0 : ∀ i, idx i = 0#32) (k : (shape1 U).Idx) (c : Fin C) :
    d.resultIdx? k idx = some (ValueIdx.ix2 0 c) ↔ (k 0).val = c.val := by
  have hk : d.sKept = [1] := by
    show (shape2 1 C).kept d.insertedWindowDims = _
    rw [hiw]
    rfl
  have hs : ∀ a, d.start k idx a = 0 := fun a => by
    unfold ScatterDims.start
    split
    · rw [h0]; rfl
    · rfl
  have hw0 : d.window k 0 = 0 := by
    unfold ScatterDims.window
    rw [dif_neg (by rw [hk]; simp)]
  have hw1 : d.window k 1 = (k 0).val := by
    unfold ScatterDims.window
    rw [dif_pos (by rw [hk]; simp)]
    refine congrArg (fun t => (k t).val) ?_
    simp [hk, huw]
  rw [resultIdx?_ix2, hs, hs, hw0, hw1]
  simp only [Fin.val_zero, Fin.isValue]
  omega

def zeroB : FVec Ideal S1x128 .f32 := broadcastInDim S1x128 ![] bcast_S_S1x128 (constant S_ .f32 0x00000000#32)
def startI : IVec S1 32 := broadcastInDim S1 ![] bcast_S_S1 (constantI S_ 32 0#32)
def startB : IVec S2 32 := concatenate S2 0 [⟨S1, startI⟩, ⟨S1, startI⟩] concatenates_S1_S1_S2_d0
/-- The bias of eight heads in a row of zeros. -/
def biasB (b : FVec Ideal S8 .f32) : FVec Ideal S1x128 .f32 := Host.scatter scatter_S1x128_S2_S8_0_0_01_0 (fun _ b => b) zeroB startB b

theorem startB_zero : ∀ i, startB i = 0#32 := by decide +kernel

theorem zeroB_apply (c : Fin 128) : zeroB (ix2 0 c) = (0 : EReal) := by
  pointwise [zeroB]

theorem biasB_apply (b : FVec Ideal S8 .f32) (c : Fin 128) : biasB b (ix2 0 c) = if h : c.val < 8 then b (ix1 ⟨c.val, h⟩) else (0 : EReal) := by
  by_cases h : c.val < 8
  · rw [dif_pos h]
    refine scatter_set_hit _ zeroB startB b _ _ (fun k hk => ?_) (ix1 (⟨c.val, h⟩ : Fin 8)) ((lands_row _ rfl rfl startB startB_zero _ c).2 rfl)
    have q := (lands_row _ rfl rfl startB startB_zero k c).1 hk
    refine congrArg b ?_
    funext a
    fin_cases a
    exact Fin.ext q
  · rw [dif_neg h]
    refine (scatter_set_miss _ zeroB startB b (ix2 0 c) fun k hk => h ?_).trans (zeroB_apply c)
    have q := (lands_row _ rfl rfl startB startB_zero k c).1 hk
    have : (k 0).val < 8 := (k 0).isLt
    omega

/-- A gain across the eight heads. -/
def tileG (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

theorem tileG_apply (g : FVec Ideal S64 .f32) (h : Fin 8) (d : Fin 64) : tileG g (ix2 0 (⟨h.val * 64 + d.val, by omega⟩ : Fin 512)) = g (ix1 d) := by
  pointwise [tileG]

def sixtyFour : IVec S_ 32 := constantI S_ 32 64#32
def acrossI (x : IVec S_ 32) : IVec S512 32 := broadcastInDim S512 ![] bcast_S_S512 x
/-- A column's head. -/
def headI : IVec S512 32 :=
  select (andi (cmpi .ne (signi (iotaInDim S512 32 0)) (acrossI (signi sixtyFour))) (cmpi .ne (Host.remsi (iotaInDim S512 32 0) (acrossI sixtyFour)) (acrossI (constantI S_ 32 0#32))))
    (subi (Host.divsi (iotaInDim S512 32 0) (acrossI sixtyFour)) (acrossI (constantI S_ 32 1#32))) (Host.divsi (iotaInDim S512 32 0) (acrossI sixtyFour))

theorem headI_apply : ∀ k : Fin 512, headI (ix1 k) = BitVec.ofNat 32 (k.val / 64) := by
  decide +kernel

/-- One over 64 where row and column are of one head. -/
def groupsB : FVec Ideal S512x512 .bf16 :=
  mulf (uitofp .bf16 (cmpi .eq (broadcastInDim S512x512 ![0, 1] bcast_S512x1_S512x512_0_1 (broadcastInDim S512x1 ![0] bcast_S512_S512x1_0 headI)) (broadcastInDim S512x512 ![0, 1] bcast_S1x512_S512x512_0_1 (broadcastInDim S1x512 ![1] bcast_S512_S1x512_1 headI))))
    (broadcastInDim S512x512 ![] bcast_S_S512x512 (constant S_ .bf16 0x3C80#16))

theorem groupsB_apply (k e : Fin 512) : groupsB (ix2 k e) = if k.val / 64 = e.val / 64 then Ideal.ofBits .bf16 0x3C80#16 else (0 : EReal) := by
  have w : IntOp.cmpi .eq (BitVec.ofNat 32 (k.val / 64)) (BitVec.ofNat 32 (e.val / 64)) = BitVec.ofBool (decide (k.val / 64 = e.val / 64)) :=
    WordCmp.cmpi_eq_ofNat (by omega) (by omega)
  have one : FloatOps.uitofp (F := Ideal) .bf16 (1#1) = (1 : EReal) := by
    show (((1#1 : BitVec 1).toNat : ℝ) : EReal) = 1
    simp
  have zero : FloatOps.uitofp (F := Ideal) .bf16 (0#1) = (0 : EReal) := by
    show (((0#1 : BitVec 1).toNat : ℝ) : EReal) = 0
    simp
  pointwise [groupsB]
  rw [headI_apply, headI_apply, w]
  by_cases h : k.val / 64 = e.val / 64
  · rw [if_pos h, decide_eq_true h]
    exact (congrArg (fun z : EReal => z * _) one).trans (one_mul _)
  · rw [if_neg h, decide_eq_false h]
    exact (congrArg (fun z : EReal => z * _) zero).trans (zero_mul _)

end Cert.PrepVal

end
-- ==== Proof.PrepRef.lean ====
/-
The reference of the attention's preparation, entry by entry.
-/
module

public import proofs.«01_k».proof.Defs
public import proofs.«01_k».proof.Proof.Gen.PrepRefIdeal.Run
public import proofs.«01_k».proof.Proof.GlaRefApply
public import proofs.«01_k».proof.Proof.PrepCell
public import Idealize.ShloMosaic.Lib.Pointwise

@[expose] public section

set_option maxRecDepth 16384

noncomputable section

namespace Cert.PrepRefVal

open Idealize.ShloMosaic Idealize.ShloMosaic.TcCoe Idealize.SL.Sem Cert.PrepRefIdeal Cert.PrepRefIdeal.Gen
open Idealize.ShloMosaic.StableHlo Cert.PrepVal
open Cert.GlaRefVal (foldl_sum)

def full (t : Shape) (h : S_.BroadcastsInDim t (![] : Fin 0 → Fin t.rank)) (b : BitVec 32) : FVec Ideal t .f32 := broadcastInDim t ![] h (constant S_ .f32 b)

/-- The projection by batch and token, and its third, fourth and fifth columns. -/
def pR (p : FVec Ideal S32768x2560 .bf16) : FVec Ideal S8x4096x2560 .f32 := shapeCast S8x4096x2560 (extf .f32 p bitsLt_bf16_f32) shapeCasts_S32768x2560_S8x4096x2560
def qR (p : FVec Ideal S32768x2560 .bf16) : FVec Ideal S8x4096x512 .f32 := extractStridedSlice S8x4096x512 ![0, 0, 1024] (pR p) slices_S8x4096x2560_S8x4096x512_0_0_1024
def kR (p : FVec Ideal S32768x2560 .bf16) : FVec Ideal S8x4096x512 .f32 := extractStridedSlice S8x4096x512 ![0, 0, 1536] (pR p) slices_S8x4096x2560_S8x4096x512_0_0_1536
def vR (p : FVec Ideal S32768x2560 .bf16) : FVec Ideal S8x4096x512 .f32 := extractStridedSlice S8x4096x512 ![0, 0, 2048] (pR p) slices_S8x4096x2560_S8x4096x512_0_0_2048
/-- By head. -/
def hd (x : FVec Ideal S8x4096x512 .f32) : FVec Ideal S8x4096x8x64 .f32 := shapeCast S8x4096x8x64 x shapeCasts_S8x4096x512_S8x4096x8x64

/-- Each head's row normed. -/
def nR (x : FVec Ideal S8x4096x8x64 .f32) (g : FVec Ideal S64 .f32) : FVec Ideal S8x4096x8x64 .f32 :=
  mulf (mulf x (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2
    (Host.reduceAdd (mulf x x) (constant S_ .f32 0x00000000#32) reducesTo_S8x4096x8x64_S8x4096x8_d3 h_S_)) (full _ bcast_S_S8x4096x8x1 0x42800000#32)) (full _ bcast_S_S8x4096x8x1 0x358637BD#32)))))
    (broadcastInDim S8x4096x8x64 ![0, 1, 2, 3] bcast_S1x1x1x64_S8x4096x8x64_0_1_2_3 (broadcastInDim S1x1x1x64 ![3] bcast_S64_S1x1x1x64_3 g))

/-- The four results. -/
def q4 (p : FVec Ideal S32768x2560 .bf16) (g : FVec Ideal S64 .f32) : FVec Ideal S8x16x512x256 .bf16 :=
  truncf .bf16 (transpose S8x16x512x256 [0, 1, 3, 2] (shapeCast S8x16x256x512 (mulf (nR (hd (qR p)) g) (full _ bcast_S_S8x4096x8x64 0x3E38AA3B#32)) shapeCasts_S8x4096x8x64_S8x16x256x512) transposes_S8x16x256x512_S8x16x512x256_0_1_3_2) bitsLt_bf16_f32
def k2 (p : FVec Ideal S32768x2560 .bf16) (g : FVec Ideal S64 .f32) : FVec Ideal S32768x512 .bf16 :=
  truncf .bf16 (shapeCast S32768x512 (nR (hd (kR p)) g) shapeCasts_S8x4096x8x64_S32768x512) bitsLt_bf16_f32
def v4 (p : FVec Ideal S32768x2560 .bf16) : FVec Ideal S8x16x512x256 .bf16 :=
  truncf .bf16 (transpose S8x16x512x256 [0, 1, 3, 2] (shapeCast S8x16x256x512 (vR p) shapeCasts_S8x4096x512_S8x16x256x512) transposes_S8x16x256x512_S8x16x512x256_0_1_3_2) bitsLt_bf16_f32

/-- The gate's pre-activation, `softplus`, the log gates in base two and their sums. -/
def zR (f : FVec Ideal S32768x128 .f32) (b : FVec Ideal S8 .f32) : FVec Ideal S8x4096x128 .f32 :=
  addf (shapeCast S8x4096x128 f shapeCasts_S32768x128_S8x4096x128) (broadcastInDim S8x4096x128 ![0, 1, 2] bcast_S1x1x128_S8x4096x128_0_1_2 (broadcastInDim S1x1x128 ![2] bcast_S128_S1x1x128_2
    (pad S128 ![0] ![120] ![0] b (sitofp .f32 (constantI S_ 32 0#32)) pads_S8_S128_01200 h_S_)))
def spR (x : FVec Ideal S8x4096x128 .f32) : FVec Ideal S8x4096x128 .f32 :=
  select (cmpf .une (subf x (full _ bcast_S_S8x4096x128 0x00000000#32)) (subf x (full _ bcast_S_S8x4096x128 0x00000000#32))) (addf x (full _ bcast_S_S8x4096x128 0x00000000#32))
    (addf (maximumf x (full _ bcast_S_S8x4096x128 0x00000000#32)) (Host.log1p (Host.exp (Host.negf (Host.absf (subf x (full _ bcast_S_S8x4096x128 0x00000000#32)))))))
def lgR (z : FVec Ideal S8x4096x128 .f32) : FVec Ideal S8x4096x128 .f32 := mulf (Host.negf (spR (Host.negf z))) (full _ bcast_S_S8x4096x128 0x3FB8AA3B#32)
def cumR (x : FVec Ideal S8x4096x128 .f32) : FVec Ideal S8x4096x128 .f32 :=
  Host.reduceWindowAdd ![1, 4096, 1] ![1, 1, 1] ![0, 4095, 0] ![0, 0, 0] x (full S_ bcast_S_S_ 0x00000000#32) reduceWindows_S8x4096x128_S8x4096x128_w1s1p0_0_w4096s1p4095_0_w1s1p0_0 h_S_
def c2 (f : FVec Ideal S32768x128 .f32) (b : FVec Ideal S8 .f32) : FVec Ideal S32768x128 .f32 := shapeCast S32768x128 (cumR (lgR (zR f b))) shapeCasts_S8x4096x128_S32768x128

/-! ## The entries -/

/-- A row of the projection. -/
def rowP (b : Fin 8) (s : Fin 4096) : Fin 32768 := ⟨b.val * 4096 + s.val, by omega⟩
/-- A column of the third, fourth or fifth block of 512. -/
def colP (o : Fin 3) (h : Fin 8) (d : Fin 64) : Fin 2560 := ⟨1024 + o.val * 512 + (h.val * 64 + d.val), by omega⟩

/-- A head's row normed, entry by entry. -/
def headN (x : Fin 64 → EReal) (g : EReal) (d : Fin 64) : EReal := nrm (x d) (Ideal.div (∑ k : Fin 64, x k * x k) (Ideal.ofBits .f32 0x42800000#32)) g

theorem hq_apply (p : FVec Ideal S32768x2560 .bf16) (b : Fin 8) (s : Fin 4096) (h : Fin 8) (d : Fin 64) : hd (qR p) (ix4 b s h d) = p (ix2 (rowP b s) (colP 0 h d)) := by
  pointwise [hd, qR, pR]
  rfl
theorem hk_apply (p : FVec Ideal S32768x2560 .bf16) (b : Fin 8) (s : Fin 4096) (h : Fin 8) (d : Fin 64) : hd (kR p) (ix4 b s h d) = p (ix2 (rowP b s) (colP 1 h d)) := by
  pointwise [hd, kR, pR]
  rfl

theorem nR_apply (x : FVec Ideal S8x4096x8x64 .f32) (g : FVec Ideal S64 .f32) (b : Fin 8) (s : Fin 4096) (h : Fin 8) (d : Fin 64) :
    nR x g (ix4 b s h d) = headN (fun k => x (ix4 b s h k)) (g (ix1 d)) d := by
  pointwise [nR, full]
  rfl

theorem q4_apply (p : FVec Ideal S32768x2560 .bf16) (g : FVec Ideal S64 .f32) (b : Fin 8) (j : Fin 16) (q : Fin 256) (h : Fin 8) (d : Fin 64) :
    q4 p g (ix4 b j (⟨h.val * 64 + d.val, by omega⟩ : Fin 512) q)
      = headN (fun k => p (ix2 (rowP b ⟨j.val * 256 + q.val, by omega⟩) (colP 0 h k))) (g (ix1 d)) d * Ideal.ofBits .f32 0x3E38AA3B#32 := by
  refine Eq.trans (b := mulf (nR (hd (qR p)) g) (full _ bcast_S_S8x4096x8x64 0x3E38AA3B#32) (ix4 b (⟨j.val * 256 + q.val, by omega⟩ : Fin 4096) h d)) ?_ ?_
  · pointwise [q4]
  · pointwise [full]
    rw [nR_apply]
    simp only [hq_apply]

theorem k2_apply (p : FVec Ideal S32768x2560 .bf16) (g : FVec Ideal S64 .f32) (b : Fin 8) (s : Fin 4096) (h : Fin 8) (d : Fin 64) :
    k2 p g (ix2 (rowP b s) (⟨h.val * 64 + d.val, by omega⟩ : Fin 512)) = headN (fun k => p (ix2 (rowP b s) (colP 1 h k))) (g (ix1 d)) d := by
  refine Eq.trans (b := nR (hd (kR p)) g (ix4 b s h d)) ?_ ?_
  · unfold rowP
    pointwise [k2]
  · rw [nR_apply]
    simp only [hk_apply]

theorem v4_apply (p : FVec Ideal S32768x2560 .bf16) (b : Fin 8) (j : Fin 16) (q : Fin 256) (h : Fin 8) (d : Fin 64) :
    v4 p (ix4 b j (⟨h.val * 64 + d.val, by omega⟩ : Fin 512) q) = p (ix2 (rowP b ⟨j.val * 256 + q.val, by omega⟩) (colP 2 h d)) := by
  pointwise [v4, vR, pR]
  rfl

/-- The bias of a lane. -/
def biasP (b : FVec Ideal S8 .f32) (c : Fin 128) : EReal := if h : c.val < 8 then b (ix1 ⟨c.val, h⟩) else 0

theorem lgR_apply (f : FVec Ideal S32768x128 .f32) (bb : FVec Ideal S8 .f32) (b : Fin 8) (s : Fin 4096) (c : Fin 128) :
    lgR (zR f bb) (ix3 b s c) = lgM (f (ix2 (rowP b s) c) + biasP bb c) := by
  have e : pad S128 ![0] ![120] ![0] bb (sitofp .f32 (constantI S_ 32 0#32)) pads_S8_S128_01200 h_S_ (ix1 c) = biasP bb c := by
    pointwise [biasP]
    have e0 : FloatOps.sitofp (F := Ideal) .f32 (0#32) = (0 : EReal) := by
      show (((0#32 : BitVec 32).toInt : ℝ) : EReal) = 0
      simp
    rw [e0]
  have ez : zR f bb (ix3 b s c) = (f (ix2 (rowP b s) c) + biasP bb c : EReal) := by
    rw [← e]
    pointwise [zR]
    rfl
  have el : ∀ z : FVec Ideal S8x4096x128 .f32, lgR z (ix3 b s c) = lgM (z (ix3 b s c)) := fun z => by
    pointwise [lgR, spR, full]
    rw [if_neg (fun hh => hh rfl)]
    rfl
  rw [el, ez]

/-! ## The running sums -/

/-- The window of a running sum. -/
abbrev W : Shape := ⟨3, ![1, 4096, 1]⟩
theorem W_numel : W.numel = 4096 := by decide
theorem W_end (n : Fin W.numel) (a : Fin 3) (h : a ≠ 1) : (W.rowMajor.symm n a).val = 0 := by
  have := (W.rowMajor.symm n a).isLt
  revert this
  fin_cases a <;> first | exact absurd rfl h | exact fun h => Nat.lt_one_iff.mp h
theorem W_mid (n : Fin W.numel) : (W.rowMajor.symm n 1).val = n.val := by
  have e := Shape.rowMajor_val_three (W.rowMajor.symm n)
  rw [Equiv.apply_symm_apply] at e
  have e0 := W_end n 0 (by decide)
  have e2 := W_end n 2 (by decide)
  rw [e0, e2] at e
  simp at e
  exact e.symm

/-- A batch's column, by token. -/
def lane (x : FVec Ideal S8x4096x128 .f32) (b : Fin 8) (c : Fin 128) (j : ℕ) : EReal := if h : j < 4096 then x (ix3 b (⟨j, h⟩ : Fin 4096) c) else 0

theorem cumR_apply (x : FVec Ideal S8x4096x128 .f32) (b : Fin 8) (s : Fin 4096) (c : Fin 128) :
    cumR x (ix3 b s c) = ∑ j ∈ Finset.range (s.val + 1), lane x b c j := by
  have e0 : cumR x (ix3 b s c) = (0 : EReal) + ∑ i : Fin W.numel, if 4095 ≤ s.val + i.val then lane x b c (s.val + i.val - 4095) else 0 := by
    rw [Fin.sum_univ_def, ← foldl_sum]
    have h0 : full S_ bcast_S_S_ 0x00000000#32 (Shape.Idx.first h_S_) = (0 : EReal) := by pointwise [full]
    unfold cumR Host.reduceWindowAdd
    rw [h0]
    simp only [Ideal.hostReduceWindowAdd_def, Ideal.hostReduceWindowAdd]
    unfold Host.reduceWindow
    refine congrArg (fun g => List.foldl g (0 : EReal) (List.finRange W.numel)) ?_
    funext y i
    refine congrArg (fun z : EReal => (y + z : EReal)) ?_
    have hi : i.val < 4096 := lt_of_lt_of_eq i.isLt W_numel
    have hr := s.isLt
    by_cases hc : 4095 ≤ s.val + i.val
    · have e1 : s.val + i.val - 4095 < 4096 := by omega
      rw [if_pos hc, lane, dif_pos e1]
      refine (dif_pos ?_).trans (congrArg x ?_)
      rotate_left
      · funext a
        fin_cases a <;> refine Fin.ext ?_
        · show b.val * 1 + (W.rowMajor.symm i 0).val - 0 = b.val
          rw [W_end i 0 (by decide)]; omega
        · show s.val * 1 + (W.rowMajor.symm i 1).val - 4095 = s.val + i.val - 4095
          rw [W_mid i]; omega
        · show c.val * 1 + (W.rowMajor.symm i 2).val - 0 = c.val
          rw [W_end i 2 (by decide)]; omega
      · intro a
        fin_cases a
        · show 0 ≤ b.val * 1 + (W.rowMajor.symm i 0).val ∧ b.val * 1 + (W.rowMajor.symm i 0).val - 0 < 8
          rw [W_end i 0 (by decide)]; omega
        · show 4095 ≤ s.val * 1 + (W.rowMajor.symm i 1).val ∧ s.val * 1 + (W.rowMajor.symm i 1).val - 4095 < 4096
          rw [W_mid i]; omega
        · show 0 ≤ c.val * 1 + (W.rowMajor.symm i 2).val ∧ c.val * 1 + (W.rowMajor.symm i 2).val - 0 < 128
          rw [W_end i 2 (by decide)]; omega
    · rw [if_neg hc, dif_neg]
      intro hh
      have h1 : 4095 ≤ s.val * 1 + (W.rowMajor.symm i 1).val := (hh 1).1
      rw [W_mid i] at h1
      omega
  rw [e0, zero_add]
  have hs := s.isLt
  rw [← Finset.sum_filter]
  refine Finset.sum_bij' (fun i hi => s.val + i.val - 4095) (fun j hj => (⟨4095 + j - s.val, by
    simp only [Finset.mem_range] at hj
    rw [W_numel]
    omega⟩ : Fin W.numel)) ?_ ?_ ?_ ?_ ?_
  · intro i hi
    simp only [Finset.mem_filter, Finset.mem_univ, true_and, Finset.mem_range] at hi ⊢
    have := lt_of_lt_of_eq i.isLt W_numel
    omega
  · intro j hj
    simp only [Finset.mem_filter, Finset.mem_univ, true_and, Finset.mem_range] at hj ⊢
    omega
  · intro i hi
    simp only [Finset.mem_filter, Finset.mem_univ, true_and] at hi
    exact Fin.ext (show 4095 + (s.val + i.val - 4095) - s.val = i.val by omega)
  · intro j hj
    simp only [Finset.mem_range] at hj
    show s.val + (4095 + j - s.val) - 4095 = j
    omega
  · intro i hi
    rfl

/-- The log gate of a lane, by token. -/
def gateP (f : FVec Ideal S32768x128 .f32) (bb : FVec Ideal S8 .f32) (b : Fin 8) (c : Fin 128) (j : ℕ) : EReal :=
  if h : j < 4096 then lgM (f (ix2 (rowP b ⟨j, h⟩) c) + biasP bb c) else 0

theorem c2_apply (f : FVec Ideal S32768x128 .f32) (bb : FVec Ideal S8 .f32) (b : Fin 8) (s : Fin 4096) (c : Fin 128) :
    c2 f bb (ix2 (rowP b s) c) = ∑ j ∈ Finset.range (s.val + 1), gateP f bb b c j := by
  refine Eq.trans (b := cumR (lgR (zR f bb)) (ix3 b s c)) ?_ ?_
  · unfold rowP
    pointwise [c2]
  · rw [cumR_apply]
    refine Finset.sum_congr rfl fun j _ => ?_
    unfold lane gateP
    by_cases h : j < 4096
    · rw [dif_pos h, dif_pos h, lgR_apply]
    · rw [dif_neg h, dif_neg h]

section Run

variable (m' : (ℓ : Loc nD τ sig) → Buf (Elt Ideal) ℓ)

/-- The reference's run: its four results named, its arguments as they were. -/
theorem ref_run (g' : Dev nD → PrngReg) :
    θ_run (defs (F := Ideal)) (onTc (τ := τ) (main (F := Ideal))) ⟨m', fun _ => 0, g'⟩ (fun r => ∀ c : Dev nD,
      r.2.mem ((c.tc : Thread nD τ).loc main_v48) = q4 (m' ((c.tc : Thread nD τ).loc main_arg0)) (m' ((c.tc : Thread nD τ).loc main_arg3))
      ∧ r.2.mem ((c.tc : Thread nD τ).loc main_v50) = k2 (m' ((c.tc : Thread nD τ).loc main_arg0)) (m' ((c.tc : Thread nD τ).loc main_arg4))
      ∧ r.2.mem ((c.tc : Thread nD τ).loc main_v53) = v4 (m' ((c.tc : Thread nD τ).loc main_arg0))
      ∧ r.2.mem ((c.tc : Thread nD τ).loc main_v54) = c2 (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run _ _ _).mono (fun r h c => ⟨(h c).1, (h c).2.1, (h c).2.2.1, (h c).2.2.2.1, (h c).2.2.2.2⟩) (Cert.PrepRefIdeal.Value.run m' g')

end Run

end Cert.PrepRefVal

end
-- ==== Proof.Prep.lean ====
/-
The attention's preparation: the kernel's four arrays are the reference's.
-/
module

public import proofs.«01_k».proof.Defs
public import proofs.«01_k».proof.Proof.Gen.Prep.Frame
public import proofs.«01_k».proof.Proof.PrepHost
public import proofs.«01_k».proof.Proof.PrepRef
public import Idealize.ShloMosaic.Adequacy
public import Idealize.ShloMosaic.Init
public import Idealize.ShloMosaic.Lib.Quiescent
public import Idealize.ShloMosaic.Lib.Pointwise
public import Idealize.ShloMosaic.Lib.Pipeline.ReadBack
public import Idealize.ShloMosaic.Lib.Pipeline.ValueKit

@[expose] public section

set_option maxRecDepth 16384

noncomputable section

namespace Cert.PrepVal

open Idealize.ShloMosaic Idealize.ShloMosaic.TcCoe Idealize.SL.Sem Idealize.ShloMosaic.Pipeline Cert.PrepIdeal Cert.PrepIdeal.Gen
open Idealize.ShloMosaic.StableHlo
open Cert.PrepRefVal (q4 k2 v4 c2 q4_apply k2_apply v4_apply c2_apply rowP colP headN biasP gateP)

variable (m : (ℓ : Loc nD τ sig) → Buf (Elt Ideal) ℓ)

/-! ## What a point leaves in its buffers -/

/-- The log gates of a point's rows. -/
abbrev gates (c : Dev nD) (t : Fin cfg0.N) : FVec Ideal S256x128 .f32 := k0_pay9 (F := Ideal) (iblk m c 3 t) (iblk m c 4 t)
/-- What the point before left in the scratch. -/
abbrev prior (c : Dev nD) (t : Fin cfg0.N) : FVec Ideal S1x128 .f32 := (outsAt0 m c (t.val - 1) (Nat.lt_of_le_of_lt (Nat.sub_le _ _) t.isLt)).2.2.2.2

theorem left8 (c : Dev nD) (t : Fin cfg0.N) : (outsAt0 m c t.val t.isLt).1 = k0_pay4 (F := Ideal) (iblk m c 0 t) (iblk m c 7 t) (iblk m c 5 t) := by
  by_cases h0 : t.val % 16 = 0
  · rw [outsAt0_A m c t h0]; frame_out
  · rw [outsAt0_B m c t h0]; frame_out
theorem left9 (c : Dev nD) (t : Fin cfg0.N) : (outsAt0 m c t.val t.isLt).2.1 = k0_pay7 (F := Ideal) (k0_pay5 (iblk m c 1 t)) (k0_pay6 (iblk m c 1 t) (iblk m c 7 t)) (iblk m c 6 t) := by
  by_cases h0 : t.val % 16 = 0
  · rw [outsAt0_A m c t h0]; frame_out
  · rw [outsAt0_B m c t h0]; frame_out
theorem left10 (c : Dev nD) (t : Fin cfg0.N) : (outsAt0 m c t.val t.isLt).2.2.1 = k0_pay8 (F := Ideal) (iblk m c 2 t) := by
  by_cases h0 : t.val % 16 = 0
  · rw [outsAt0_A m c t h0]; frame_out
  · rw [outsAt0_B m c t h0]; frame_out

theorem left11_A (c : Dev nD) (t : Fin cfg0.N) (h0 : t.val % 16 = 0) : (outsAt0 m c t.val t.isLt).2.2.2.1 = sumsV (gates m c t) (k0_pay3 (F := Ideal)) := by
  rw [outsAt0_A m c t h0]
  frame_out
  exact pay1_eq _ _
theorem left11_B (c : Dev nD) (t : Fin cfg0.N) (h0 : ¬t.val % 16 = 0) : (outsAt0 m c t.val t.isLt).2.2.2.1 = sumsV (gates m c t) (prior m c t) := by
  rw [outsAt0_B m c t h0]
  frame_out
  exact (pay1_eq _ _).trans (congrArg (sumsV (gates m c t)) ((Memref.isWhole_whole cc0_scratch0).read_unread _))
theorem scratch_A (c : Dev nD) (t : Fin cfg0.N) (h0 : t.val % 16 = 0) (d : Fin 128) : (outsAt0 m c t.val t.isLt).2.2.2.2 (ix2 0 d) = sumsV (gates m c t) (k0_pay3 (F := Ideal)) (ix2 255 d) := by
  rw [outsAt0_A m c t h0]
  frame_out
  rw [pay2_apply, pay1_eq]
theorem scratch_B (c : Dev nD) (t : Fin cfg0.N) (h0 : ¬t.val % 16 = 0) (d : Fin 128) : (outsAt0 m c t.val t.isLt).2.2.2.2 (ix2 0 d) = sumsV (gates m c t) (prior m c t) (ix2 255 d) := by
  rw [outsAt0_B m c t h0]
  frame_out
  rw [pay2_apply, pay1_eq]
  exact congrArg (fun s => sumsV (gates m c t) s (ix2 255 d)) ((Memref.isWhole_whole cc0_scratch0).read_unread _)

/-! ## The blocks of a point -/

theorem entry_b (c : Dev nD) : V m c main_v4 = biasB (m ((c : Thread nD τ).loc main_arg2)) := by
  dsimp only [V, hostOps0, hostOps0_1, hostOps0_2]
  simp only [List.flatten_cons, List.flatten_nil, List.append_nil, List.cons_append, List.nil_append, TRef.unary, TRef.binary, TRef.nullary, TRef.ternary, TRef.toBuf, TRef.ofBuf, cast_eq]
  after_results_simp <;> rfl
theorem entry_q (c : Dev nD) : V m c main_v8 = tileG (m ((c : Thread nD τ).loc main_arg3)) := by
  dsimp only [V, hostOps0, hostOps0_1, hostOps0_2]
  simp only [List.flatten_cons, List.flatten_nil, List.append_nil, List.cons_append, List.nil_append, TRef.unary, TRef.binary, TRef.nullary, TRef.ternary, TRef.toBuf, TRef.ofBuf, cast_eq]
  after_results_simp <;> rfl
theorem entry_k (c : Dev nD) : V m c main_v12 = tileG (m ((c : Thread nD τ).loc main_arg4)) := by
  dsimp only [V, hostOps0, hostOps0_1, hostOps0_2]
  simp only [List.flatten_cons, List.flatten_nil, List.append_nil, List.cons_append, List.nil_append, TRef.unary, TRef.binary, TRef.nullary, TRef.ternary, TRef.toBuf, TRef.ofBuf, cast_eq]
  after_results_simp <;> rfl
theorem entry_o (c : Dev nD) : V m c main_v22 = groupsB := by
  dsimp only [V, hostOps0, hostOps0_1, hostOps0_2]
  simp only [List.flatten_cons, List.flatten_nil, List.append_nil, List.cons_append, List.nil_append, TRef.unary, TRef.binary, TRef.nullary, TRef.ternary, TRef.toBuf, TRef.ofBuf, cast_eq]
  after_results_simp <;> rfl

theorem index0 : ∀ t : Fin cfg0.N, win0_0.index t = ![t.val, 2] := (by decide +kernel : ∀ t : Fin grid0.N, win0_0.index t = ![t.val, 2])
theorem index1 : ∀ t : Fin cfg0.N, win0_1.index t = ![t.val, 3] := (by decide +kernel : ∀ t : Fin grid0.N, win0_1.index t = ![t.val, 3])
theorem index2 : ∀ t : Fin cfg0.N, win0_2.index t = ![t.val, 4] := (by decide +kernel : ∀ t : Fin grid0.N, win0_2.index t = ![t.val, 4])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val / 16, t.val % 16, 0, 0] := (by decide +kernel : ∀ t : Fin grid0.N, win0_8.index t = ![t.val / 16, t.val % 16, 0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val / 16, t.val % 16, 0, 0] := (by decide +kernel : ∀ t : Fin grid0.N, win0_10.index t = ![t.val / 16, t.val % 16, 0, 0])
theorem index11 : ∀ t : Fin cfg0.N, win0_11.index t = ![t.val, 0] := (by decide +kernel : ∀ t : Fin grid0.N, win0_11.index t = ![t.val, 0])

theorem point_lt (t : Fin cfg0.N) : t.val < 128 := t.isLt

/-- A point's batch … -/
def tb (t : Fin cfg0.N) : Fin 8 := ⟨t.val / 16, by have := point_lt t; omega⟩
/-- … its place in the batch … -/
def tj (t : Fin cfg0.N) : Fin 16 := ⟨t.val % 16, by omega⟩
/-- … and the token of one of its rows. -/
def tok (t : Fin cfg0.N) (q : Fin 256) : Fin 4096 := ⟨(tj t).val * 256 + q.val, by have := (tj t).isLt; omega⟩

theorem row_eq (t : Fin cfg0.N) (q : Fin 256) : t.val * 256 + q.val = (rowP (tb t) (tok t q)).val := by
  show t.val * 256 + q.val = t.val / 16 * 4096 + (t.val % 16 * 256 + q.val)
  omega

theorem blk0 (c : Dev nD) (t : Fin cfg0.N) (q : Fin 256) (h : Fin 8) (d : Fin 64) :
    iblk m c 0 t (ix2 q (⟨h.val * 64 + d.val, by omega⟩ : Fin 512)) = m ((c : Thread nD τ).loc main_arg0) (ix2 (rowP (tb t) (tok t q)) (colP 0 h d)) := by
  have hr := row_eq t q
  rw [ix2_eq_valueIdx, ix2_eq_valueIdx]
  blk_simp [iblk]
  refine (congrFun (V_main_arg0 m c) _).trans (congrArg (m ((c : Thread nD τ).loc main_arg0)) ?_)
  blk_ext [index0, colP, hr]
theorem blk1 (c : Dev nD) (t : Fin cfg0.N) (q : Fin 256) (h : Fin 8) (d : Fin 64) :
    iblk m c 1 t (ix2 q (⟨h.val * 64 + d.val, by omega⟩ : Fin 512)) = m ((c : Thread nD τ).loc main_arg0) (ix2 (rowP (tb t) (tok t q)) (colP 1 h d)) := by
  have hr := row_eq t q
  rw [ix2_eq_valueIdx, ix2_eq_valueIdx]
  blk_simp [iblk]
  refine (congrFun (V_main_arg0 m c) _).trans (congrArg (m ((c : Thread nD τ).loc main_arg0)) ?_)
  blk_ext [index1, colP, hr]
theorem blk2 (c : Dev nD) (t : Fin cfg0.N) (q : Fin 256) (h : Fin 8) (d : Fin 64) :
    iblk m c 2 t (ix2 q (⟨h.val * 64 + d.val, by omega⟩ : Fin 512)) = m ((c : Thread nD τ).loc main_arg0) (ix2 (rowP (tb t) (tok t q)) (colP 2 h d)) := by
  have hr := row_eq t q
  rw [ix2_eq_valueIdx, ix2_eq_valueIdx]
  blk_simp [iblk]
  refine (congrFun (V_main_arg0 m c) _).trans (congrArg (m ((c : Thread nD τ).loc main_arg0)) ?_)
  blk_ext [index2, colP, hr]
theorem blk3 (c : Dev nD) (t : Fin cfg0.N) (q : Fin 256) (k : Fin 128) :
    iblk m c 3 t (ix2 q k) = m ((c : Thread nD τ).loc main_arg1) (ix2 (rowP (tb t) (tok t q)) k) := by
  have hr := row_eq t q
  rw [ix2_eq_valueIdx, ix2_eq_valueIdx]
  blk_simp [iblk]
  refine (congrFun (V_main_arg1 m c) _).trans (congrArg (m ((c : Thread nD τ).loc main_arg1)) ?_)
  blk_ext [index3, hr]
theorem blk4 (c : Dev nD) (t : Fin cfg0.N) (k : Fin 128) :
    iblk m c 4 t (ix2 0 k) = biasB (m ((c : Thread nD τ).loc main_arg2)) (ix2 0 k) := by
  rw [ix2_eq_valueIdx]
  blk_simp [iblk]
  refine (congrFun (entry_b m c) _).trans (congrArg (biasB (m ((c : Thread nD τ).loc main_arg2))) ?_)
  blk_ext [index4]
theorem blk5 (c : Dev nD) (t : Fin cfg0.N) (k : Fin 512) :
    iblk m c 5 t (ix2 0 k) = tileG (m ((c : Thread nD τ).loc main_arg3)) (ix2 0 k) := by
  rw [ix2_eq_valueIdx]
  blk_simp [iblk]
  refine (congrFun (entry_q m c) _).trans (congrArg (tileG (m ((c : Thread nD τ).loc main_arg3))) ?_)
  blk_ext [index5]
theorem blk6 (c : Dev nD) (t : Fin cfg0.N) (k : Fin 512) :
    iblk m c 6 t (ix2 0 k) = tileG (m ((c : Thread nD τ).loc main_arg4)) (ix2 0 k) := by
  rw [ix2_eq_valueIdx]
  blk_simp [iblk]
  refine (congrFun (entry_k m c) _).trans (congrArg (tileG (m ((c : Thread nD τ).loc main_arg4))) ?_)
  blk_ext [index6]
theorem blk7 (c : Dev nD) (t : Fin cfg0.N) (k e : Fin 512) :
    iblk m c 7 t (ix2 k e) = groupsB (ix2 k e) := by
  rw [ix2_eq_valueIdx]
  blk_simp [iblk]
  refine (congrFun (entry_o m c) _).trans (congrArg groupsB ?_)
  blk_ext [index7]

/-! ## The normed rows -/

theorem head_eq (X o : Fin 512 → EReal) (g : EReal) (h : Fin 8) (d : Fin 64)
    (ho : ∀ k : Fin 512, o k = if k.val / 64 = h.val then Ideal.ofBits .bf16 0x3C80#16 else 0) :
    nrm (X ⟨h.val * 64 + d.val, by omega⟩) (∑ k : Fin 512, X k * X k * o k) g = headN (fun k => X ⟨h.val * 64 + k.val, by omega⟩) g d := by
  unfold headN
  rw [group_sum X o h ho]

theorem groups_col (c : Dev nD) (t : Fin cfg0.N) (h : Fin 8) (d : Fin 64) (k : Fin 512) :
    iblk m c 7 t (ix2 k (⟨h.val * 64 + d.val, by omega⟩ : Fin 512)) = if k.val / 64 = h.val then Ideal.ofBits .bf16 0x3C80#16 else (0 : EReal) := by
  rw [blk7, groupsB_apply]
  exact if_congr (by
    show k.val / 64 = (h.val * 64 + d.val) / 64 ↔ k.val / 64 = h.val
    omega) rfl rfl

theorem entry8 (c : Dev nD) (t : Fin cfg0.N) (q : Fin 256) (h : Fin 8) (d : Fin 64) :
    (outsAt0 m c t.val t.isLt).1 (ix4 0 0 (⟨h.val * 64 + d.val, by omega⟩ : Fin 512) q)
      = q4 (m ((c : Thread nD τ).loc main_arg0)) (m ((c : Thread nD τ).loc main_arg3)) (ix4 (tb t) (tj t) (⟨h.val * 64 + d.val, by omega⟩ : Fin 512) q) := by
  rw [left8, pay4_apply, head_eq (fun k => iblk m c 0 t (ix2 q k)) _ _ h d (groups_col m c t h d), blk5, tileG_apply, q4_apply]
  simp only [blk0]
  rfl

theorem entry9 (c : Dev nD) (t : Fin cfg0.N) (q : Fin 256) (h : Fin 8) (d : Fin 64) :
    (outsAt0 m c t.val t.isLt).2.1 (ix2 q (⟨h.val * 64 + d.val, by omega⟩ : Fin 512))
      = k2 (m ((c : Thread nD τ).loc main_arg0)) (m ((c : Thread nD τ).loc main_arg4)) (ix2 (rowP (tb t) (tok t q)) (⟨h.val * 64 + d.val, by omega⟩ : Fin 512)) := by
  rw [left9, pay7_apply, head_eq (fun k => iblk m c 1 t (ix2 q k)) _ _ h d (groups_col m c t h d), blk6, tileG_apply, k2_apply]
  simp only [blk1]

theorem entry10 (c : Dev nD) (t : Fin cfg0.N) (q : Fin 256) (h : Fin 8) (d : Fin 64) :
    (outsAt0 m c t.val t.isLt).2.2.1 (ix4 0 0 (⟨h.val * 64 + d.val, by omega⟩ : Fin 512) q)
      = v4 (m ((c : Thread nD τ).loc main_arg0)) (ix4 (tb t) (tj t) (⟨h.val * 64 + d.val, by omega⟩ : Fin 512) q) := by
  rw [left10, pay8_apply, blk2, v4_apply]
  rfl

/-! ## The cumulative sums -/

/-- The log gate of a lane, by token. -/
abbrev gate (c : Dev nD) (b : Fin 8) (d : Fin 128) (j : ℕ) : EReal := gateP (m ((c : Thread nD τ).loc main_arg1)) (m ((c : Thread nD τ).loc main_arg2)) b d j

theorem col_eq (c : Dev nD) (t : Fin cfg0.N) (d : Fin 128) (r : ℕ) (hr : r < 256) :
    col (gates m c t) d r = gate m c (tb t) d ((tj t).val * 256 + r) := by
  have hj := (tj t).isLt
  unfold col gate gateP
  rw [dif_pos hr, dif_pos (by omega)]
  show k0_pay9 (F := Ideal) (iblk m c 3 t) (iblk m c 4 t) _ = _
  rw [pay9_apply, blk3, blk4, biasB_apply]
  rfl

/-- A point's rows of the sums, on the sums of the tokens before it. -/
theorem sums_eq (c : Dev nD) (t : Fin cfg0.N) (s : FVec Ideal S1x128 .f32) (d : Fin 128)
    (hs : s (ix2 0 d) = ∑ j ∈ Finset.range ((tj t).val * 256), gate m c (tb t) d j) (r : Fin 256) :
    sumsV (gates m c t) s (ix2 r d) = ∑ j ∈ Finset.range ((tj t).val * 256 + (r.val + 1)), gate m c (tb t) d j := by
  have hr := r.isLt
  rw [sumsV_apply, hs, add_comm, Finset.sum_range_add _ _ (r.val + 1)]
  refine congrArg (HAdd.hAdd (∑ j ∈ Finset.range ((tj t).val * 256), gate m c (tb t) d j)) (Finset.sum_congr rfl fun j hj => ?_)
  simp only [Finset.mem_range] at hj
  exact col_eq m c t d j (by omega)

theorem start_eq (c : Dev nD) (t : Fin cfg0.N) (h0 : t.val % 16 = 0) (d : Fin 128) :
    k0_pay3 (F := Ideal) (ix2 0 d) = ∑ j ∈ Finset.range ((tj t).val * 256), gate m c (tb t) d j := by
  have e : (tj t).val = 0 := h0
  rw [pay3_apply, e]
  rfl

/-- The place before a point that goes on. -/
theorem before (c : Dev nD) (t : Fin cfg0.N) (h0 : ¬t.val % 16 = 0) (n : ℕ) (hn : n < cfg0.N) (e : t.val = n + 1) (d : Fin 128) :
    (∑ j ∈ Finset.range ((tj ⟨n, hn⟩).val * 256 + 256), gate m c (tb ⟨n, hn⟩) d j) = ∑ j ∈ Finset.range ((tj t).val * 256), gate m c (tb t) d j := by
  have e1 : tb ⟨n, hn⟩ = tb t := Fin.ext (by show n / 16 = t.val / 16; omega)
  have e2 : (tj ⟨n, hn⟩).val * 256 + 256 = (tj t).val * 256 := by
    show n % 16 * 256 + 256 = t.val % 16 * 256
    omega
  rw [e1, e2]

/-- The carried sums after every point. -/
theorem carry (c : Dev nD) : ∀ (n : ℕ) (hn : n < cfg0.N) (d : Fin 128),
    (outsAt0 m c n hn).2.2.2.2 (ix2 0 d) = ∑ j ∈ Finset.range ((tj ⟨n, hn⟩).val * 256 + 256), gate m c (tb ⟨n, hn⟩) d j
  | 0, hn, d => (scratch_A m c ⟨0, hn⟩ rfl d).trans (sums_eq m c ⟨0, hn⟩ _ d (start_eq m c ⟨0, hn⟩ rfl d) 255)
  | n + 1, hn, d => by
    by_cases h0 : (n + 1) % 16 = 0
    · exact (scratch_A m c ⟨n + 1, hn⟩ h0 d).trans (sums_eq m c ⟨n + 1, hn⟩ _ d (start_eq m c ⟨n + 1, hn⟩ h0 d) 255)
    · exact (scratch_B m c ⟨n + 1, hn⟩ h0 d).trans (sums_eq m c ⟨n + 1, hn⟩ _ d ((carry c n (Nat.lt_of_succ_lt hn) d).trans (before m c ⟨n + 1, hn⟩ h0 n _ rfl d)) 255)

theorem entry11 (c : Dev nD) (t : Fin cfg0.N) (q : Fin 256) (d : Fin 128) :
    (outsAt0 m c t.val t.isLt).2.2.2.1 (ix2 q d)
      = c2 (m ((c : Thread nD τ).loc main_arg1)) (m ((c : Thread nD τ).loc main_arg2)) (ix2 (rowP (tb t) (tok t q)) d) := by
  rw [c2_apply]
  show _ = ∑ j ∈ Finset.range ((tj t).val * 256 + (q.val + 1)), gate m c (tb t) d j
  by_cases h0 : t.val % 16 = 0
  · rw [left11_A m c t h0]
    exact sums_eq m c t _ d (start_eq m c t h0 d) q
  · rw [left11_B m c t h0]
    exact sums_eq m c t _ d ((carry m c (t.val - 1) _ d).trans (before m c t h0 (t.val - 1) _ (by omega) d)) q

/-! ## The arrays -/

theorem split_col (e : Fin 512) : ∃ (h : Fin 8) (d : Fin 64), e = (⟨h.val * 64 + d.val, by omega⟩ : Fin 512) :=
  ⟨⟨e.val / 64, by omega⟩, ⟨e.val % 64, by omega⟩, Fin.ext (by show e.val = e.val / 64 * 64 + e.val % 64; omega)⟩

theorem split4 (y : S1x1x512x256.Idx) : ∃ (e : Fin 512) (q : Fin 256), y = ix4 0 0 e q :=
  ⟨⟨(y 2).val, (y 2).isLt⟩, ⟨(y 3).val, (y 3).isLt⟩, by
    funext a
    fin_cases a
    · exact Fin.ext (Nat.lt_one_iff.mp (y 0).isLt)
    · exact Fin.ext (Nat.lt_one_iff.mp (y 1).isLt)
    · rfl
    · rfl⟩
theorem split2 {C : ℕ} (y : (⟨2, ![256, C]⟩ : Shape).Idx) : ∃ (q : Fin 256) (e : Fin C), y = ix2 q e :=
  ⟨⟨(y 0).val, (y 0).isLt⟩, ⟨(y 1).val, (y 1).isLt⟩, by
    funext a
    fin_cases a <;> rfl⟩

theorem final8 (c : Dev nD) : (dats m 0 c).arrAt 8 cfg0.N = (q4 (m ((c : Thread nD τ).loc main_arg0)) (m ((c : Thread nD τ).loc main_arg3)) : FVec Ideal S8x16x512x256 .bf16) := by
  refine (dats m 0 c).arrAt_eq_of_covers 8 _ (by decide +kernel) fun t hf y => ?_
  blk_simp
  rw [after0_8]
  obtain ⟨e, q, rfl⟩ := split4 y
  obtain ⟨h, d, rfl⟩ := split_col e
  refine (entry8 m c t q h d).trans (congrArg (q4 (m ((c : Thread nD τ).loc main_arg0)) (m ((c : Thread nD τ).loc main_arg3))) ?_)
  rw [ix4_eq_valueIdx, ix4_eq_valueIdx]
  blk_ext [index8, tb, tj]

theorem final9 (c : Dev nD) : (dats m 0 c).arrAt 9 cfg0.N = (k2 (m ((c : Thread nD τ).loc main_arg0)) (m ((c : Thread nD τ).loc main_arg4)) : FVec Ideal S32768x512 .bf16) := by
  refine (dats m 0 c).arrAt_eq_of_covers 9 _ (by decide +kernel) fun t hf y => ?_
  blk_simp
  rw [after0_9]
  obtain ⟨q, e, rfl⟩ := split2 y
  obtain ⟨h, d, rfl⟩ := split_col e
  have hr := row_eq t q
  refine (entry9 m c t q h d).trans (congrArg (k2 (m ((c : Thread nD τ).loc main_arg0)) (m ((c : Thread nD τ).loc main_arg4))) ?_)
  rw [ix2_eq_valueIdx, ix2_eq_valueIdx]
  blk_ext [index9, hr]

theorem final10 (c : Dev nD) : (dats m 0 c).arrAt 10 cfg0.N = (v4 (m ((c : Thread nD τ).loc main_arg0)) : FVec Ideal S8x16x512x256 .bf16) := by
  refine (dats m 0 c).arrAt_eq_of_covers 10 _ (by decide +kernel) fun t hf y => ?_
  blk_simp
  rw [after0_10]
  obtain ⟨e, q, rfl⟩ := split4 y
  obtain ⟨h, d, rfl⟩ := split_col e
  refine (entry10 m c t q h d).trans (congrArg (v4 (m ((c : Thread nD τ).loc main_arg0))) ?_)
  rw [ix4_eq_valueIdx, ix4_eq_valueIdx]
  blk_ext [index10, tb, tj]

theorem final11 (c : Dev nD) : (dats m 0 c).arrAt 11 cfg0.N = (c2 (m ((c : Thread nD τ).loc main_arg1)) (m ((c : Thread nD τ).loc main_arg2)) : FVec Ideal S32768x128 .f32) := by
  refine (dats m 0 c).arrAt_eq_of_covers 11 _ (by decide +kernel) fun t hf y => ?_
  blk_simp
  rw [after0_11]
  obtain ⟨q, d, rfl⟩ := split2 y
  have hr := row_eq t q
  refine (entry11 m c t q d).trans (congrArg (c2 (m ((c : Thread nD τ).loc main_arg1)) (m ((c : Thread nD τ).loc main_arg2))) ?_)
  rw [ix2_eq_valueIdx, ix2_eq_valueIdx]
  blk_ext [index11, hr]

/-! ## The claims -/

theorem frame_p : Cert.quiescent_Prep (hPrep := Cert.Prep.Gen.facts) :=
  fun m g _ => Cert.Prep.Gen.frame m g

theorem frame_pi : Cert.quiescent_PrepIdeal (hPrepIdeal := Cert.PrepIdeal.Gen.facts) :=
  fun m g _ => Cert.PrepIdeal.Gen.frame m g

theorem frame_ri : Cert.quiescent_PrepRefIdeal (hPrepRefIdeal := Cert.PrepRefIdeal.Gen.facts) :=
  fun m g _ => (θ_run _ _ _).mono (fun r h => ⟨fun c => (h c).2.2.2.2, sem_eq_zero_of_no_sems rfl r.2⟩) (Cert.PrepRefVal.ref_run m g)

theorem algebraic : Cert.algebraic_PrepIdeal_PrepRefIdeal (hPrepIdeal := Cert.PrepIdeal.Gen.facts) (hPrepRefIdeal := Cert.PrepRefIdeal.Gen.facts) := by
  intro m g m' g' hpre hargs
  refine ⟨fun c => (dats m 0 c).arrAt 8 cfg0.N, fun c => (dats m 0 c).arrAt 9 cfg0.N, fun c => (dats m 0 c).arrAt 10 cfg0.N, fun c => (dats m 0 c).arrAt 11 cfg0.N, Cert.PrepIdeal.Value.run_blocks m g, ?_⟩
  refine (θ_run _ _ _).mono (fun r h c => ?_) (Cert.PrepRefVal.ref_run m' g')
  obtain ⟨e0, e1, e2, e3, e4⟩ := hargs c
  obtain ⟨h0, h1, h2, h3, hk⟩ := h c
  refine ⟨h0.trans ?_, h1.trans ?_, h2.trans ?_, h3.trans ?_, hk⟩
  · rw [e0, e3]
    exact (final8 m c).symm
  · rw [e0, e4]
    exact (final9 m c).symm
  · rw [e0]
    exact (final10 m c).symm
  · rw [e1, e2]
    exact (final11 m c).symm

end Cert.PrepVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Gla
public import proofs.«01_k».proof.Proof.Gen.Gla.Frame
public import proofs.«01_k».proof.Proof.Gen.GlaIdeal
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Claims
public import proofs.«01_k».proof.Proof.OddOut
public import proofs.«01_k».proof.Proof.EvenOut
public import proofs.«01_k».proof.Proof.OddIn
public import proofs.«01_k».proof.Proof.EvenIn
public import proofs.«01_k».proof.Proof.Ada
public import proofs.«01_k».proof.Proof.Gla
public import proofs.«01_k».proof.Proof.Prep
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.Ada.Gen.facts, Cert.AdaIdeal.Gen.facts, Cert.AdaRefIdeal.Gen.facts, Cert.Gla.Gen.facts, Cert.GlaIdeal.Gen.facts, Cert.GlaRefIdeal.Gen.facts, Cert.Prep.Gen.facts, Cert.PrepIdeal.Gen.facts, Cert.PrepRefIdeal.Gen.facts, AttnClaims.pre_facts,
    AttnClaims.frame_p, AttnClaims.frame_pi, AttnClaims.frame_pi_pre, AttnClaims.frame_ri, AttnClaims.frame_ri_pre,
    EvenInVal.frame_p, EvenInVal.frame_pi, EvenInVal.frame_ri,
    OddInVal.frame_p, OddInVal.frame_pi, OddInVal.frame_ri,
    EvenOutVal.frame_p, EvenOutVal.frame_pi, EvenOutVal.frame_ri,
    OddOutVal.frame_p, OddOutVal.frame_pi, OddOutVal.frame_ri,
    AdaVal.frame_p, AdaVal.frame_pi, AdaVal.frame_ri,
    GlaVal.frame_p, GlaVal.frame_pi, GlaVal.frame_ri,
    PrepVal.frame_p, PrepVal.frame_pi, PrepVal.frame_ri,
    AttnClaims.preserves, AttnClaims.algebraic,
    trivial, EvenInVal.algebraic,
    trivial, OddInVal.algebraic,
    trivial, EvenOutVal.algebraic,
    trivial, OddOutVal.algebraic,
    trivial, AdaVal.algebraic,
    trivial, GlaVal.algebraic,
    trivial, PrepVal.algebraic⟩

end Cert.Proof

end
